-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2 = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2 = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).1 = (fun _ => 1#1)
    ∧ (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).2 = (fun _ => 1#1)

def Pre_Later [hPre_routed : Cert.Pre_routed.Facts] (m : (ℓ : Loc Cert.Later.nD Cert.Later.τ Cert.Later.sig) → Buf (Elt Bits) ℓ) : Prop :=
  ∀ c : Dev Cert.Later.nD,
    (Cert.Pre_routed.fn (F := Bits) (m ((c.tc : Thread Cert.Later.nD Cert.Later.τ).loc Cert.Later.main_arg0)) (m ((c.tc : Thread Cert.Later.nD Cert.Later.τ).loc Cert.Later.main_arg1)) (m ((c.tc : Thread Cert.Later.nD Cert.Later.τ).loc Cert.Later.main_arg2)) (m ((c.tc : Thread Cert.Later.nD Cert.Later.τ).loc Cert.Later.main_arg3)) (m ((c.tc : Thread Cert.Later.nD Cert.Later.τ).loc Cert.Later.main_arg4)) (m ((c.tc : Thread Cert.Later.nD Cert.Later.τ).loc Cert.Later.main_arg5))).1 = (fun _ => 1#1)
    ∧ (Cert.Pre_routed.fn (F := Bits) (m ((c.tc : Thread Cert.Later.nD Cert.Later.τ).loc Cert.Later.main_arg0)) (m ((c.tc : Thread Cert.Later.nD Cert.Later.τ).loc Cert.Later.main_arg1)) (m ((c.tc : Thread Cert.Later.nD Cert.Later.τ).loc Cert.Later.main_arg2)) (m ((c.tc : Thread Cert.Later.nD Cert.Later.τ).loc Cert.Later.main_arg3)) (m ((c.tc : Thread Cert.Later.nD Cert.Later.τ).loc Cert.Later.main_arg4)) (m ((c.tc : Thread Cert.Later.nD Cert.Later.τ).loc Cert.Later.main_arg5))).2 = (fun _ => 1#1)

def Pre_LaterIdeal [hPre_routed : Cert.Pre_routed.Facts] (m : (ℓ : Loc Cert.LaterIdeal.nD Cert.LaterIdeal.τ Cert.LaterIdeal.sig) → Buf (Elt Ideal) ℓ) : Prop :=
  ∀ c : Dev Cert.LaterIdeal.nD,
    (Cert.Pre_routed.fn (F := Ideal) (m ((c.tc : Thread Cert.LaterIdeal.nD Cert.LaterIdeal.τ).loc Cert.LaterIdeal.main_arg0)) (m ((c.tc : Thread Cert.LaterIdeal.nD Cert.LaterIdeal.τ).loc Cert.LaterIdeal.main_arg1)) (m ((c.tc : Thread Cert.LaterIdeal.nD Cert.LaterIdeal.τ).loc Cert.LaterIdeal.main_arg2)) (m ((c.tc : Thread Cert.LaterIdeal.nD Cert.LaterIdeal.τ).loc Cert.LaterIdeal.main_arg3)) (m ((c.tc : Thread Cert.LaterIdeal.nD Cert.LaterIdeal.τ).loc Cert.LaterIdeal.main_arg4)) (m ((c.tc : Thread Cert.LaterIdeal.nD Cert.LaterIdeal.τ).loc Cert.LaterIdeal.main_arg5))).1 = (fun _ => 1#1)
    ∧ (Cert.Pre_routed.fn (F := Ideal) (m ((c.tc : Thread Cert.LaterIdeal.nD Cert.LaterIdeal.τ).loc Cert.LaterIdeal.main_arg0)) (m ((c.tc : Thread Cert.LaterIdeal.nD Cert.LaterIdeal.τ).loc Cert.LaterIdeal.main_arg1)) (m ((c.tc : Thread Cert.LaterIdeal.nD Cert.LaterIdeal.τ).loc Cert.LaterIdeal.main_arg2)) (m ((c.tc : Thread Cert.LaterIdeal.nD Cert.LaterIdeal.τ).loc Cert.LaterIdeal.main_arg3)) (m ((c.tc : Thread Cert.LaterIdeal.nD Cert.LaterIdeal.τ).loc Cert.LaterIdeal.main_arg4)) (m ((c.tc : Thread Cert.LaterIdeal.nD Cert.LaterIdeal.τ).loc Cert.LaterIdeal.main_arg5))).2 = (fun _ => 1#1)

def Pre_LaterReferenceIdeal (m : (ℓ : Loc Cert.LaterReferenceIdeal.nD Cert.LaterReferenceIdeal.τ Cert.LaterReferenceIdeal.sig) → Buf (Elt Ideal) ℓ) : Prop :=
  True

def Pre_LaterReferenceIdeal_routed [hPre_routed : Cert.Pre_routed.Facts] (m : (ℓ : Loc Cert.LaterReferenceIdeal.nD Cert.LaterReferenceIdeal.τ Cert.LaterReferenceIdeal.sig) → Buf (Elt Ideal) ℓ) : Prop :=
  ∀ c : Dev Cert.LaterReferenceIdeal.nD,
    (Cert.Pre_routed.fn (F := Ideal) (m ((c.tc : Thread Cert.LaterReferenceIdeal.nD Cert.LaterReferenceIdeal.τ).loc Cert.LaterReferenceIdeal.main_arg0)) (m ((c.tc : Thread Cert.LaterReferenceIdeal.nD Cert.LaterReferenceIdeal.τ).loc Cert.LaterReferenceIdeal.main_arg1)) (m ((c.tc : Thread Cert.LaterReferenceIdeal.nD Cert.LaterReferenceIdeal.τ).loc Cert.LaterReferenceIdeal.main_arg2)) (m ((c.tc : Thread Cert.LaterReferenceIdeal.nD Cert.LaterReferenceIdeal.τ).loc Cert.LaterReferenceIdeal.main_arg3)) (m ((c.tc : Thread Cert.LaterReferenceIdeal.nD Cert.LaterReferenceIdeal.τ).loc Cert.LaterReferenceIdeal.main_arg4)) (m ((c.tc : Thread Cert.LaterReferenceIdeal.nD Cert.LaterReferenceIdeal.τ).loc Cert.LaterReferenceIdeal.main_arg5))).1 = (fun _ => 1#1)
    ∧ (Cert.Pre_routed.fn (F := Ideal) (m ((c.tc : Thread Cert.LaterReferenceIdeal.nD Cert.LaterReferenceIdeal.τ).loc Cert.LaterReferenceIdeal.main_arg0)) (m ((c.tc : Thread Cert.LaterReferenceIdeal.nD Cert.LaterReferenceIdeal.τ).loc Cert.LaterReferenceIdeal.main_arg1)) (m ((c.tc : Thread Cert.LaterReferenceIdeal.nD Cert.LaterReferenceIdeal.τ).loc Cert.LaterReferenceIdeal.main_arg2)) (m ((c.tc : Thread Cert.LaterReferenceIdeal.nD Cert.LaterReferenceIdeal.τ).loc Cert.LaterReferenceIdeal.main_arg3)) (m ((c.tc : Thread Cert.LaterReferenceIdeal.nD Cert.LaterReferenceIdeal.τ).loc Cert.LaterReferenceIdeal.main_arg4)) (m ((c.tc : Thread Cert.LaterReferenceIdeal.nD Cert.LaterReferenceIdeal.τ).loc Cert.LaterReferenceIdeal.main_arg5))).2 = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_ConfIn (m : (ℓ : Loc Cert.ConfIn.nD Cert.ConfIn.τ Cert.ConfIn.sig) → Buf (Elt Bits) ℓ) : Prop :=
  True

def Pre_ConfInIdeal (m : (ℓ : Loc Cert.ConfInIdeal.nD Cert.ConfInIdeal.τ Cert.ConfInIdeal.sig) → Buf (Elt Ideal) ℓ) : Prop :=
  True

def Pre_ConfInReferenceIdeal (m : (ℓ : Loc Cert.ConfInReferenceIdeal.nD Cert.ConfInReferenceIdeal.τ Cert.ConfInReferenceIdeal.sig) → Buf (Elt Ideal) ℓ) : Prop :=
  True

def Pre_ConfOut (m : (ℓ : Loc Cert.ConfOut.nD Cert.ConfOut.τ Cert.ConfOut.sig) → Buf (Elt Bits) ℓ) : Prop :=
  True

def Pre_ConfOutIdeal (m : (ℓ : Loc Cert.ConfOutIdeal.nD Cert.ConfOutIdeal.τ Cert.ConfOutIdeal.sig) → Buf (Elt Ideal) ℓ) : Prop :=
  True

def Pre_ConfOutReferenceIdeal (m : (ℓ : Loc Cert.ConfOutReferenceIdeal.nD Cert.ConfOutReferenceIdeal.τ Cert.ConfOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Later [hLater : Cert.Later.Facts] [hPre_routed : Cert.Pre_routed.Facts] : Prop :=
  ∀ (m : (ℓ : Loc Cert.Later.nD Cert.Later.τ Cert.Later.sig) → Buf (Elt Bits) ℓ) (g : Dev Cert.Later.nD → PrngReg), Pre_Later m →
    θ_run (Cert.Later.defs (F := Bits)) (onTc (τ := Cert.Later.τ) (Cert.Later.main (F := Bits))) ⟨m, fun _ => 0, g⟩ (fun r => (∀ c : Dev Cert.Later.nD,
      r.2.mem ((c.tc : Thread Cert.Later.nD Cert.Later.τ).loc Cert.Later.main_arg0) = m ((c.tc : Thread Cert.Later.nD Cert.Later.τ).loc Cert.Later.main_arg0)
      ∧ r.2.mem ((c.tc : Thread Cert.Later.nD Cert.Later.τ).loc Cert.Later.main_arg1) = m ((c.tc : Thread Cert.Later.nD Cert.Later.τ).loc Cert.Later.main_arg1)
      ∧ r.2.mem ((c.tc : Thread Cert.Later.nD Cert.Later.τ).loc Cert.Later.main_arg2) = m ((c.tc : Thread Cert.Later.nD Cert.Later.τ).loc Cert.Later.main_arg2)
      ∧ r.2.mem ((c.tc : Thread Cert.Later.nD Cert.Later.τ).loc Cert.Later.main_arg3) = m ((c.tc : Thread Cert.Later.nD Cert.Later.τ).loc Cert.Later.main_arg3)
      ∧ r.2.mem ((c.tc : Thread Cert.Later.nD Cert.Later.τ).loc Cert.Later.main_arg4) = m ((c.tc : Thread Cert.Later.nD Cert.Later.τ).loc Cert.Later.main_arg4)
      ∧ r.2.mem ((c.tc : Thread Cert.Later.nD Cert.Later.τ).loc Cert.Later.main_arg5) = m ((c.tc : Thread Cert.Later.nD Cert.Later.τ).loc Cert.Later.main_arg5))
      ∧ r.2.sem = fun _ => 0)

def quiescent_LaterIdeal [hLaterIdeal : Cert.LaterIdeal.Facts] [hPre_routed : Cert.Pre_routed.Facts] : Prop :=
  ∀ (m : (ℓ : Loc Cert.LaterIdeal.nD Cert.LaterIdeal.τ Cert.LaterIdeal.sig) → Buf (Elt Ideal) ℓ) (g : Dev Cert.LaterIdeal.nD → PrngReg), Pre_LaterIdeal m →
    θ_run (Cert.LaterIdeal.defs (F := Ideal)) (onTc (τ := Cert.LaterIdeal.τ) (Cert.LaterIdeal.main (F := Ideal))) ⟨m, fun _ => 0, g⟩ (fun r => (∀ c : Dev Cert.LaterIdeal.nD,
      r.2.mem ((c.tc : Thread Cert.LaterIdeal.nD Cert.LaterIdeal.τ).loc Cert.LaterIdeal.main_arg0) = m ((c.tc : Thread Cert.LaterIdeal.nD Cert.LaterIdeal.τ).loc Cert.LaterIdeal.main_arg0)
      ∧ r.2.mem ((c.tc : Thread Cert.LaterIdeal.nD Cert.LaterIdeal.τ).loc Cert.LaterIdeal.main_arg1) = m ((c.tc : Thread Cert.LaterIdeal.nD Cert.LaterIdeal.τ).loc Cert.LaterIdeal.main_arg1)
      ∧ r.2.mem ((c.tc : Thread Cert.LaterIdeal.nD Cert.LaterIdeal.τ).loc Cert.LaterIdeal.main_arg2) = m ((c.tc : Thread Cert.LaterIdeal.nD Cert.LaterIdeal.τ).loc Cert.LaterIdeal.main_arg2)
      ∧ r.2.mem ((c.tc : Thread Cert.LaterIdeal.nD Cert.LaterIdeal.τ).loc Cert.LaterIdeal.main_arg3) = m ((c.tc : Thread Cert.LaterIdeal.nD Cert.LaterIdeal.τ).loc Cert.LaterIdeal.main_arg3)
      ∧ r.2.mem ((c.tc : Thread Cert.LaterIdeal.nD Cert.LaterIdeal.τ).loc Cert.LaterIdeal.main_arg4) = m ((c.tc : Thread Cert.LaterIdeal.nD Cert.LaterIdeal.τ).loc Cert.LaterIdeal.main_arg4)
      ∧ r.2.mem ((c.tc : Thread Cert.LaterIdeal.nD Cert.LaterIdeal.τ).loc Cert.LaterIdeal.main_arg5) = m ((c.tc : Thread Cert.LaterIdeal.nD Cert.LaterIdeal.τ).loc Cert.LaterIdeal.main_arg5))
      ∧ r.2.sem = fun _ => 0)

def quiescent_LaterReferenceIdeal [hLaterReferenceIdeal : Cert.LaterReferenceIdeal.Facts] : Prop :=
  ∀ (m : (ℓ : Loc Cert.LaterReferenceIdeal.nD Cert.LaterReferenceIdeal.τ Cert.LaterReferenceIdeal.sig) → Buf (Elt Ideal) ℓ) (g : Dev Cert.LaterReferenceIdeal.nD → PrngReg), Pre_LaterReferenceIdeal m →
    θ_run (Cert.LaterReferenceIdeal.defs (F := Ideal)) (onTc (τ := Cert.LaterReferenceIdeal.τ) (Cert.LaterReferenceIdeal.main (F := Ideal))) ⟨m, fun _ => 0, g⟩ (fun r => (∀ c : Dev Cert.LaterReferenceIdeal.nD,
      r.2.mem ((c.tc : Thread Cert.LaterReferenceIdeal.nD Cert.LaterReferenceIdeal.τ).loc Cert.LaterReferenceIdeal.main_arg0) = m ((c.tc : Thread Cert.LaterReferenceIdeal.nD Cert.LaterReferenceIdeal.τ).loc Cert.LaterReferenceIdeal.main_arg0)
      ∧ r.2.mem ((c.tc : Thread Cert.LaterReferenceIdeal.nD Cert.LaterReferenceIdeal.τ).loc Cert.LaterReferenceIdeal.main_arg1) = m ((c.tc : Thread Cert.LaterReferenceIdeal.nD Cert.LaterReferenceIdeal.τ).loc Cert.LaterReferenceIdeal.main_arg1)
      ∧ r.2.mem ((c.tc : Thread Cert.LaterReferenceIdeal.nD Cert.LaterReferenceIdeal.τ).loc Cert.LaterReferenceIdeal.main_arg2) = m ((c.tc : Thread Cert.LaterReferenceIdeal.nD Cert.LaterReferenceIdeal.τ).loc Cert.LaterReferenceIdeal.main_arg2)
      ∧ r.2.mem ((c.tc : Thread Cert.LaterReferenceIdeal.nD Cert.LaterReferenceIdeal.τ).loc Cert.LaterReferenceIdeal.main_arg3) = m ((c.tc : Thread Cert.LaterReferenceIdeal.nD Cert.LaterReferenceIdeal.τ).loc Cert.LaterReferenceIdeal.main_arg3)
      ∧ r.2.mem ((c.tc : Thread Cert.LaterReferenceIdeal.nD Cert.LaterReferenceIdeal.τ).loc Cert.LaterReferenceIdeal.main_arg4) = m ((c.tc : Thread Cert.LaterReferenceIdeal.nD Cert.LaterReferenceIdeal.τ).loc Cert.LaterReferenceIdeal.main_arg4)
      ∧ r.2.mem ((c.tc : Thread Cert.LaterReferenceIdeal.nD Cert.LaterReferenceIdeal.τ).loc Cert.LaterReferenceIdeal.main_arg5) = m ((c.tc : Thread Cert.LaterReferenceIdeal.nD Cert.LaterReferenceIdeal.τ).loc Cert.LaterReferenceIdeal.main_arg5))
      ∧ r.2.sem = fun _ => 0)

def quiescent_LaterReferenceIdeal_pre_routed [hLaterReferenceIdeal : Cert.LaterReferenceIdeal.Facts] [hPre_routed : Cert.Pre_routed.Facts] : Prop :=
  ∀ (m : (ℓ : Loc Cert.LaterReferenceIdeal.nD Cert.LaterReferenceIdeal.τ Cert.LaterReferenceIdeal.sig) → Buf (Elt Ideal) ℓ) (g : Dev Cert.LaterReferenceIdeal.nD → PrngReg), Pre_LaterReferenceIdeal_routed m →
    θ_run (Cert.LaterReferenceIdeal.defs (F := Ideal)) (onTc (τ := Cert.LaterReferenceIdeal.τ) (Cert.LaterReferenceIdeal.main (F := Ideal))) ⟨m, fun _ => 0, g⟩ (fun r => (∀ c : Dev Cert.LaterReferenceIdeal.nD,
      r.2.mem ((c.tc : Thread Cert.LaterReferenceIdeal.nD Cert.LaterReferenceIdeal.τ).loc Cert.LaterReferenceIdeal.main_arg0) = m ((c.tc : Thread Cert.LaterReferenceIdeal.nD Cert.LaterReferenceIdeal.τ).loc Cert.LaterReferenceIdeal.main_arg0)
      ∧ r.2.mem ((c.tc : Thread Cert.LaterReferenceIdeal.nD Cert.LaterReferenceIdeal.τ).loc Cert.LaterReferenceIdeal.main_arg1) = m ((c.tc : Thread Cert.LaterReferenceIdeal.nD Cert.LaterReferenceIdeal.τ).loc Cert.LaterReferenceIdeal.main_arg1)
      ∧ r.2.mem ((c.tc : Thread Cert.LaterReferenceIdeal.nD Cert.LaterReferenceIdeal.τ).loc Cert.LaterReferenceIdeal.main_arg2) = m ((c.tc : Thread Cert.LaterReferenceIdeal.nD Cert.LaterReferenceIdeal.τ).loc Cert.LaterReferenceIdeal.main_arg2)
      ∧ r.2.mem ((c.tc : Thread Cert.LaterReferenceIdeal.nD Cert.LaterReferenceIdeal.τ).loc Cert.LaterReferenceIdeal.main_arg3) = m ((c.tc : Thread Cert.LaterReferenceIdeal.nD Cert.LaterReferenceIdeal.τ).loc Cert.LaterReferenceIdeal.main_arg3)
      ∧ r.2.mem ((c.tc : Thread Cert.LaterReferenceIdeal.nD Cert.LaterReferenceIdeal.τ).loc Cert.LaterReferenceIdeal.main_arg4) = m ((c.tc : Thread Cert.LaterReferenceIdeal.nD Cert.LaterReferenceIdeal.τ).loc Cert.LaterReferenceIdeal.main_arg4)
      ∧ r.2.mem ((c.tc : Thread Cert.LaterReferenceIdeal.nD Cert.LaterReferenceIdeal.τ).loc Cert.LaterReferenceIdeal.main_arg5) = m ((c.tc : Thread Cert.LaterReferenceIdeal.nD Cert.LaterReferenceIdeal.τ).loc Cert.LaterReferenceIdeal.main_arg5))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_ConfIn [hConfIn : Cert.ConfIn.Facts] : Prop :=
  ∀ (m : (ℓ : Loc Cert.ConfIn.nD Cert.ConfIn.τ Cert.ConfIn.sig) → Buf (Elt Bits) ℓ) (g : Dev Cert.ConfIn.nD → PrngReg), Pre_ConfIn m →
    θ_run (Cert.ConfIn.defs (F := Bits)) (onTc (τ := Cert.ConfIn.τ) (Cert.ConfIn.main (F := Bits))) ⟨m, fun _ => 0, g⟩ (fun r => (∀ c : Dev Cert.ConfIn.nD,
      r.2.mem ((c.tc : Thread Cert.ConfIn.nD Cert.ConfIn.τ).loc Cert.ConfIn.main_arg0) = m ((c.tc : Thread Cert.ConfIn.nD Cert.ConfIn.τ).loc Cert.ConfIn.main_arg0)
      ∧ r.2.mem ((c.tc : Thread Cert.ConfIn.nD Cert.ConfIn.τ).loc Cert.ConfIn.main_arg1) = m ((c.tc : Thread Cert.ConfIn.nD Cert.ConfIn.τ).loc Cert.ConfIn.main_arg1)
      ∧ r.2.mem ((c.tc : Thread Cert.ConfIn.nD Cert.ConfIn.τ).loc Cert.ConfIn.main_arg2) = m ((c.tc : Thread Cert.ConfIn.nD Cert.ConfIn.τ).loc Cert.ConfIn.main_arg2)
      ∧ r.2.mem ((c.tc : Thread Cert.ConfIn.nD Cert.ConfIn.τ).loc Cert.ConfIn.main_arg3) = m ((c.tc : Thread Cert.ConfIn.nD Cert.ConfIn.τ).loc Cert.ConfIn.main_arg3)
      ∧ r.2.mem ((c.tc : Thread Cert.ConfIn.nD Cert.ConfIn.τ).loc Cert.ConfIn.main_arg4) = m ((c.tc : Thread Cert.ConfIn.nD Cert.ConfIn.τ).loc Cert.ConfIn.main_arg4)
      ∧ r.2.mem ((c.tc : Thread Cert.ConfIn.nD Cert.ConfIn.τ).loc Cert.ConfIn.main_arg5) = m ((c.tc : Thread Cert.ConfIn.nD Cert.ConfIn.τ).loc Cert.ConfIn.main_arg5))
      ∧ r.2.sem = fun _ => 0)

def quiescent_ConfInIdeal [hConfInIdeal : Cert.ConfInIdeal.Facts] : Prop :=
  ∀ (m : (ℓ : Loc Cert.ConfInIdeal.nD Cert.ConfInIdeal.τ Cert.ConfInIdeal.sig) → Buf (Elt Ideal) ℓ) (g : Dev Cert.ConfInIdeal.nD → PrngReg), Pre_ConfInIdeal m →
    θ_run (Cert.ConfInIdeal.defs (F := Ideal)) (onTc (τ := Cert.ConfInIdeal.τ) (Cert.ConfInIdeal.main (F := Ideal))) ⟨m, fun _ => 0, g⟩ (fun r => (∀ c : Dev Cert.ConfInIdeal.nD,
      r.2.mem ((c.tc : Thread Cert.ConfInIdeal.nD Cert.ConfInIdeal.τ).loc Cert.ConfInIdeal.main_arg0) = m ((c.tc : Thread Cert.ConfInIdeal.nD Cert.ConfInIdeal.τ).loc Cert.ConfInIdeal.main_arg0)
      ∧ r.2.mem ((c.tc : Thread Cert.ConfInIdeal.nD Cert.ConfInIdeal.τ).loc Cert.ConfInIdeal.main_arg1) = m ((c.tc : Thread Cert.ConfInIdeal.nD Cert.ConfInIdeal.τ).loc Cert.ConfInIdeal.main_arg1)
      ∧ r.2.mem ((c.tc : Thread Cert.ConfInIdeal.nD Cert.ConfInIdeal.τ).loc Cert.ConfInIdeal.main_arg2) = m ((c.tc : Thread Cert.ConfInIdeal.nD Cert.ConfInIdeal.τ).loc Cert.ConfInIdeal.main_arg2)
      ∧ r.2.mem ((c.tc : Thread Cert.ConfInIdeal.nD Cert.ConfInIdeal.τ).loc Cert.ConfInIdeal.main_arg3) = m ((c.tc : Thread Cert.ConfInIdeal.nD Cert.ConfInIdeal.τ).loc Cert.ConfInIdeal.main_arg3)
      ∧ r.2.mem ((c.tc : Thread Cert.ConfInIdeal.nD Cert.ConfInIdeal.τ).loc Cert.ConfInIdeal.main_arg4) = m ((c.tc : Thread Cert.ConfInIdeal.nD Cert.ConfInIdeal.τ).loc Cert.ConfInIdeal.main_arg4)
      ∧ r.2.mem ((c.tc : Thread Cert.ConfInIdeal.nD Cert.ConfInIdeal.τ).loc Cert.ConfInIdeal.main_arg5) = m ((c.tc : Thread Cert.ConfInIdeal.nD Cert.ConfInIdeal.τ).loc Cert.ConfInIdeal.main_arg5))
      ∧ r.2.sem = fun _ => 0)

def quiescent_ConfInReferenceIdeal [hConfInReferenceIdeal : Cert.ConfInReferenceIdeal.Facts] : Prop :=
  ∀ (m : (ℓ : Loc Cert.ConfInReferenceIdeal.nD Cert.ConfInReferenceIdeal.τ Cert.ConfInReferenceIdeal.sig) → Buf (Elt Ideal) ℓ) (g : Dev Cert.ConfInReferenceIdeal.nD → PrngReg), Pre_ConfInReferenceIdeal m →
    θ_run (Cert.ConfInReferenceIdeal.defs (F := Ideal)) (onTc (τ := Cert.ConfInReferenceIdeal.τ) (Cert.ConfInReferenceIdeal.main (F := Ideal))) ⟨m, fun _ => 0, g⟩ (fun r => (∀ c : Dev Cert.ConfInReferenceIdeal.nD,
      r.2.mem ((c.tc : Thread Cert.ConfInReferenceIdeal.nD Cert.ConfInReferenceIdeal.τ).loc Cert.ConfInReferenceIdeal.main_arg0) = m ((c.tc : Thread Cert.ConfInReferenceIdeal.nD Cert.ConfInReferenceIdeal.τ).loc Cert.ConfInReferenceIdeal.main_arg0)
      ∧ r.2.mem ((c.tc : Thread Cert.ConfInReferenceIdeal.nD Cert.ConfInReferenceIdeal.τ).loc Cert.ConfInReferenceIdeal.main_arg1) = m ((c.tc : Thread Cert.ConfInReferenceIdeal.nD Cert.ConfInReferenceIdeal.τ).loc Cert.ConfInReferenceIdeal.main_arg1)
      ∧ r.2.mem ((c.tc : Thread Cert.ConfInReferenceIdeal.nD Cert.ConfInReferenceIdeal.τ).loc Cert.ConfInReferenceIdeal.main_arg2) = m ((c.tc : Thread Cert.ConfInReferenceIdeal.nD Cert.ConfInReferenceIdeal.τ).loc Cert.ConfInReferenceIdeal.main_arg2)
      ∧ r.2.mem ((c.tc : Thread Cert.ConfInReferenceIdeal.nD Cert.ConfInReferenceIdeal.τ).loc Cert.ConfInReferenceIdeal.main_arg3) = m ((c.tc : Thread Cert.ConfInReferenceIdeal.nD Cert.ConfInReferenceIdeal.τ).loc Cert.ConfInReferenceIdeal.main_arg3)
      ∧ r.2.mem ((c.tc : Thread Cert.ConfInReferenceIdeal.nD Cert.ConfInReferenceIdeal.τ).loc Cert.ConfInReferenceIdeal.main_arg4) = m ((c.tc : Thread Cert.ConfInReferenceIdeal.nD Cert.ConfInReferenceIdeal.τ).loc Cert.ConfInReferenceIdeal.main_arg4)
      ∧ r.2.mem ((c.tc : Thread Cert.ConfInReferenceIdeal.nD Cert.ConfInReferenceIdeal.τ).loc Cert.ConfInReferenceIdeal.main_arg5) = m ((c.tc : Thread Cert.ConfInReferenceIdeal.nD Cert.ConfInReferenceIdeal.τ).loc Cert.ConfInReferenceIdeal.main_arg5))
      ∧ r.2.sem = fun _ => 0)

def quiescent_ConfOut [hConfOut : Cert.ConfOut.Facts] : Prop :=
  ∀ (m : (ℓ : Loc Cert.ConfOut.nD Cert.ConfOut.τ Cert.ConfOut.sig) → Buf (Elt Bits) ℓ) (g : Dev Cert.ConfOut.nD → PrngReg), Pre_ConfOut m →
    θ_run (Cert.ConfOut.defs (F := Bits)) (onTc (τ := Cert.ConfOut.τ) (Cert.ConfOut.main (F := Bits))) ⟨m, fun _ => 0, g⟩ (fun r => (∀ c : Dev Cert.ConfOut.nD,
      r.2.mem ((c.tc : Thread Cert.ConfOut.nD Cert.ConfOut.τ).loc Cert.ConfOut.main_arg0) = m ((c.tc : Thread Cert.ConfOut.nD Cert.ConfOut.τ).loc Cert.ConfOut.main_arg0)
      ∧ r.2.mem ((c.tc : Thread Cert.ConfOut.nD Cert.ConfOut.τ).loc Cert.ConfOut.main_arg1) = m ((c.tc : Thread Cert.ConfOut.nD Cert.ConfOut.τ).loc Cert.ConfOut.main_arg1)
      ∧ r.2.mem ((c.tc : Thread Cert.ConfOut.nD Cert.ConfOut.τ).loc Cert.ConfOut.main_arg2) = m ((c.tc : Thread Cert.ConfOut.nD Cert.ConfOut.τ).loc Cert.ConfOut.main_arg2)
      ∧ r.2.mem ((c.tc : Thread Cert.ConfOut.nD Cert.ConfOut.τ).loc Cert.ConfOut.main_arg3) = m ((c.tc : Thread Cert.ConfOut.nD Cert.ConfOut.τ).loc Cert.ConfOut.main_arg3)
      ∧ r.2.mem ((c.tc : Thread Cert.ConfOut.nD Cert.ConfOut.τ).loc Cert.ConfOut.main_arg4) = m ((c.tc : Thread Cert.ConfOut.nD Cert.ConfOut.τ).loc Cert.ConfOut.main_arg4)
      ∧ r.2.mem ((c.tc : Thread Cert.ConfOut.nD Cert.ConfOut.τ).loc Cert.ConfOut.main_arg5) = m ((c.tc : Thread Cert.ConfOut.nD Cert.ConfOut.τ).loc Cert.ConfOut.main_arg5)
      ∧ r.2.mem ((c.tc : Thread Cert.ConfOut.nD Cert.ConfOut.τ).loc Cert.ConfOut.main_arg6) = m ((c.tc : Thread Cert.ConfOut.nD Cert.ConfOut.τ).loc Cert.ConfOut.main_arg6))
      ∧ r.2.sem = fun _ => 0)

def quiescent_ConfOutIdeal [hConfOutIdeal : Cert.ConfOutIdeal.Facts] : Prop :=
  ∀ (m : (ℓ : Loc Cert.ConfOutIdeal.nD Cert.ConfOutIdeal.τ Cert.ConfOutIdeal.sig) → Buf (Elt Ideal) ℓ) (g : Dev Cert.ConfOutIdeal.nD → PrngReg), Pre_ConfOutIdeal m →
    θ_run (Cert.ConfOutIdeal.defs (F := Ideal)) (onTc (τ := Cert.ConfOutIdeal.τ) (Cert.ConfOutIdeal.main (F := Ideal))) ⟨m, fun _ => 0, g⟩ (fun r => (∀ c : Dev Cert.ConfOutIdeal.nD,
      r.2.mem ((c.tc : Thread Cert.ConfOutIdeal.nD Cert.ConfOutIdeal.τ).loc Cert.ConfOutIdeal.main_arg0) = m ((c.tc : Thread Cert.ConfOutIdeal.nD Cert.ConfOutIdeal.τ).loc Cert.ConfOutIdeal.main_arg0)
      ∧ r.2.mem ((c.tc : Thread Cert.ConfOutIdeal.nD Cert.ConfOutIdeal.τ).loc Cert.ConfOutIdeal.main_arg1) = m ((c.tc : Thread Cert.ConfOutIdeal.nD Cert.ConfOutIdeal.τ).loc Cert.ConfOutIdeal.main_arg1)
      ∧ r.2.mem ((c.tc : Thread Cert.ConfOutIdeal.nD Cert.ConfOutIdeal.τ).loc Cert.ConfOutIdeal.main_arg2) = m ((c.tc : Thread Cert.ConfOutIdeal.nD Cert.ConfOutIdeal.τ).loc Cert.ConfOutIdeal.main_arg2)
      ∧ r.2.mem ((c.tc : Thread Cert.ConfOutIdeal.nD Cert.ConfOutIdeal.τ).loc Cert.ConfOutIdeal.main_arg3) = m ((c.tc : Thread Cert.ConfOutIdeal.nD Cert.ConfOutIdeal.τ).loc Cert.ConfOutIdeal.main_arg3)
      ∧ r.2.mem ((c.tc : Thread Cert.ConfOutIdeal.nD Cert.ConfOutIdeal.τ).loc Cert.ConfOutIdeal.main_arg4) = m ((c.tc : Thread Cert.ConfOutIdeal.nD Cert.ConfOutIdeal.τ).loc Cert.ConfOutIdeal.main_arg4)
      ∧ r.2.mem ((c.tc : Thread Cert.ConfOutIdeal.nD Cert.ConfOutIdeal.τ).loc Cert.ConfOutIdeal.main_arg5) = m ((c.tc : Thread Cert.ConfOutIdeal.nD Cert.ConfOutIdeal.τ).loc Cert.ConfOutIdeal.main_arg5)
      ∧ r.2.mem ((c.tc : Thread Cert.ConfOutIdeal.nD Cert.ConfOutIdeal.τ).loc Cert.ConfOutIdeal.main_arg6) = m ((c.tc : Thread Cert.ConfOutIdeal.nD Cert.ConfOutIdeal.τ).loc Cert.ConfOutIdeal.main_arg6))
      ∧ r.2.sem = fun _ => 0)

def quiescent_ConfOutReferenceIdeal [hConfOutReferenceIdeal : Cert.ConfOutReferenceIdeal.Facts] : Prop :=
  ∀ (m : (ℓ : Loc Cert.ConfOutReferenceIdeal.nD Cert.ConfOutReferenceIdeal.τ Cert.ConfOutReferenceIdeal.sig) → Buf (Elt Ideal) ℓ) (g : Dev Cert.ConfOutReferenceIdeal.nD → PrngReg), Pre_ConfOutReferenceIdeal m →
    θ_run (Cert.ConfOutReferenceIdeal.defs (F := Ideal)) (onTc (τ := Cert.ConfOutReferenceIdeal.τ) (Cert.ConfOutReferenceIdeal.main (F := Ideal))) ⟨m, fun _ => 0, g⟩ (fun r => (∀ c : Dev Cert.ConfOutReferenceIdeal.nD,
      r.2.mem ((c.tc : Thread Cert.ConfOutReferenceIdeal.nD Cert.ConfOutReferenceIdeal.τ).loc Cert.ConfOutReferenceIdeal.main_arg0) = m ((c.tc : Thread Cert.ConfOutReferenceIdeal.nD Cert.ConfOutReferenceIdeal.τ).loc Cert.ConfOutReferenceIdeal.main_arg0)
      ∧ r.2.mem ((c.tc : Thread Cert.ConfOutReferenceIdeal.nD Cert.ConfOutReferenceIdeal.τ).loc Cert.ConfOutReferenceIdeal.main_arg1) = m ((c.tc : Thread Cert.ConfOutReferenceIdeal.nD Cert.ConfOutReferenceIdeal.τ).loc Cert.ConfOutReferenceIdeal.main_arg1)
      ∧ r.2.mem ((c.tc : Thread Cert.ConfOutReferenceIdeal.nD Cert.ConfOutReferenceIdeal.τ).loc Cert.ConfOutReferenceIdeal.main_arg2) = m ((c.tc : Thread Cert.ConfOutReferenceIdeal.nD Cert.ConfOutReferenceIdeal.τ).loc Cert.ConfOutReferenceIdeal.main_arg2)
      ∧ r.2.mem ((c.tc : Thread Cert.ConfOutReferenceIdeal.nD Cert.ConfOutReferenceIdeal.τ).loc Cert.ConfOutReferenceIdeal.main_arg3) = m ((c.tc : Thread Cert.ConfOutReferenceIdeal.nD Cert.ConfOutReferenceIdeal.τ).loc Cert.ConfOutReferenceIdeal.main_arg3)
      ∧ r.2.mem ((c.tc : Thread Cert.ConfOutReferenceIdeal.nD Cert.ConfOutReferenceIdeal.τ).loc Cert.ConfOutReferenceIdeal.main_arg4) = m ((c.tc : Thread Cert.ConfOutReferenceIdeal.nD Cert.ConfOutReferenceIdeal.τ).loc Cert.ConfOutReferenceIdeal.main_arg4)
      ∧ r.2.mem ((c.tc : Thread Cert.ConfOutReferenceIdeal.nD Cert.ConfOutReferenceIdeal.τ).loc Cert.ConfOutReferenceIdeal.main_arg5) = m ((c.tc : Thread Cert.ConfOutReferenceIdeal.nD Cert.ConfOutReferenceIdeal.τ).loc Cert.ConfOutReferenceIdeal.main_arg5)
      ∧ r.2.mem ((c.tc : Thread Cert.ConfOutReferenceIdeal.nD Cert.ConfOutReferenceIdeal.τ).loc Cert.ConfOutReferenceIdeal.main_arg6) = m ((c.tc : Thread Cert.ConfOutReferenceIdeal.nD Cert.ConfOutReferenceIdeal.τ).loc Cert.ConfOutReferenceIdeal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Experts_ExpertsIdeal : Prop :=
  True

def algebraic_ExpertsIdeal_ExpertsReferenceIdeal_on_in_use [hExpertsIdeal : Cert.ExpertsIdeal.Facts] [hExpertsReferenceIdeal : Cert.ExpertsReferenceIdeal.Facts] [hPre_routed : Cert.Pre_routed.Facts] [hOn_in_use : Cert.On_in_use.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![73728, 1024]⟩ : Shape).Idx, (Cert.On_in_use.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨2, ![73728, 1024]⟩ : Shape).Idx, (Cert.On_in_use.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsReferenceIdeal.nD Cert.ExpertsReferenceIdeal.τ).loc Cert.ExpertsReferenceIdeal.main_v26) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Later_LaterIdeal : Prop :=
  True

def algebraic_LaterIdeal_LaterReferenceIdeal_on_in_use [hLaterIdeal : Cert.LaterIdeal.Facts] [hLaterReferenceIdeal : Cert.LaterReferenceIdeal.Facts] [hPre_routed : Cert.Pre_routed.Facts] [hOn_in_use : Cert.On_in_use.Facts] : Prop :=
  ∀ (m : (ℓ : Loc Cert.LaterIdeal.nD Cert.LaterIdeal.τ Cert.LaterIdeal.sig) → Buf (Elt Ideal) ℓ) (g : Dev Cert.LaterIdeal.nD → PrngReg)
    (m' : (ℓ : Loc Cert.LaterReferenceIdeal.nD Cert.LaterReferenceIdeal.τ Cert.LaterReferenceIdeal.sig) → Buf (Elt Ideal) ℓ) (g' : Dev Cert.LaterReferenceIdeal.nD → PrngReg), Pre_LaterIdeal m →
    (∀ c : Dev Cert.LaterIdeal.nD,
      m' ((c.tc : Thread Cert.LaterReferenceIdeal.nD Cert.LaterReferenceIdeal.τ).loc Cert.LaterReferenceIdeal.main_arg0) = m ((c.tc : Thread Cert.LaterIdeal.nD Cert.LaterIdeal.τ).loc Cert.LaterIdeal.main_arg0)
      ∧ m' ((c.tc : Thread Cert.LaterReferenceIdeal.nD Cert.LaterReferenceIdeal.τ).loc Cert.LaterReferenceIdeal.main_arg1) = m ((c.tc : Thread Cert.LaterIdeal.nD Cert.LaterIdeal.τ).loc Cert.LaterIdeal.main_arg1)
      ∧ m' ((c.tc : Thread Cert.LaterReferenceIdeal.nD Cert.LaterReferenceIdeal.τ).loc Cert.LaterReferenceIdeal.main_arg2) = m ((c.tc : Thread Cert.LaterIdeal.nD Cert.LaterIdeal.τ).loc Cert.LaterIdeal.main_arg2)
      ∧ m' ((c.tc : Thread Cert.LaterReferenceIdeal.nD Cert.LaterReferenceIdeal.τ).loc Cert.LaterReferenceIdeal.main_arg3) = m ((c.tc : Thread Cert.LaterIdeal.nD Cert.LaterIdeal.τ).loc Cert.LaterIdeal.main_arg3)
      ∧ m' ((c.tc : Thread Cert.LaterReferenceIdeal.nD Cert.LaterReferenceIdeal.τ).loc Cert.LaterReferenceIdeal.main_arg4) = m ((c.tc : Thread Cert.LaterIdeal.nD Cert.LaterIdeal.τ).loc Cert.LaterIdeal.main_arg4)
      ∧ m' ((c.tc : Thread Cert.LaterReferenceIdeal.nD Cert.LaterReferenceIdeal.τ).loc Cert.LaterReferenceIdeal.main_arg5) = m ((c.tc : Thread Cert.LaterIdeal.nD Cert.LaterIdeal.τ).loc Cert.LaterIdeal.main_arg5)) →
    ∃ (v0 : (c : Dev Cert.LaterIdeal.nD) → Buf (Elt Ideal) ((c.tc : Thread Cert.LaterIdeal.nD Cert.LaterIdeal.τ).loc Cert.LaterIdeal.main_v0)),
      θ_run (Cert.LaterIdeal.defs (F := Ideal)) (onTc (τ := Cert.LaterIdeal.τ) (Cert.LaterIdeal.main (F := Ideal))) ⟨m, fun _ => 0, g⟩ (fun r => ∀ c : Dev Cert.LaterIdeal.nD,
          (∀ i : (⟨2, ![73728, 1024]⟩ : Shape).Idx, (Cert.On_in_use.fn (F := Ideal) (m ((c.tc : Thread Cert.LaterIdeal.nD Cert.LaterIdeal.τ).loc Cert.LaterIdeal.main_arg0)) (m ((c.tc : Thread Cert.LaterIdeal.nD Cert.LaterIdeal.τ).loc Cert.LaterIdeal.main_arg1)) (m ((c.tc : Thread Cert.LaterIdeal.nD Cert.LaterIdeal.τ).loc Cert.LaterIdeal.main_arg2)) (m ((c.tc : Thread Cert.LaterIdeal.nD Cert.LaterIdeal.τ).loc Cert.LaterIdeal.main_arg3)) (m ((c.tc : Thread Cert.LaterIdeal.nD Cert.LaterIdeal.τ).loc Cert.LaterIdeal.main_arg4)) (m ((c.tc : Thread Cert.LaterIdeal.nD Cert.LaterIdeal.τ).loc Cert.LaterIdeal.main_arg5))) i = 1#1 → r.2.mem ((c.tc : Thread Cert.LaterIdeal.nD Cert.LaterIdeal.τ).loc Cert.LaterIdeal.main_v0) i = v0 c i)
          ∧ r.2.mem ((c.tc : Thread Cert.LaterIdeal.nD Cert.LaterIdeal.τ).loc Cert.LaterIdeal.main_arg0) = m ((c.tc : Thread Cert.LaterIdeal.nD Cert.LaterIdeal.τ).loc Cert.LaterIdeal.main_arg0)
          ∧ r.2.mem ((c.tc : Thread Cert.LaterIdeal.nD Cert.LaterIdeal.τ).loc Cert.LaterIdeal.main_arg1) = m ((c.tc : Thread Cert.LaterIdeal.nD Cert.LaterIdeal.τ).loc Cert.LaterIdeal.main_arg1)
          ∧ r.2.mem ((c.tc : Thread Cert.LaterIdeal.nD Cert.LaterIdeal.τ).loc Cert.LaterIdeal.main_arg2) = m ((c.tc : Thread Cert.LaterIdeal.nD Cert.LaterIdeal.τ).loc Cert.LaterIdeal.main_arg2)
          ∧ r.2.mem ((c.tc : Thread Cert.LaterIdeal.nD Cert.LaterIdeal.τ).loc Cert.LaterIdeal.main_arg3) = m ((c.tc : Thread Cert.LaterIdeal.nD Cert.LaterIdeal.τ).loc Cert.LaterIdeal.main_arg3)
          ∧ r.2.mem ((c.tc : Thread Cert.LaterIdeal.nD Cert.LaterIdeal.τ).loc Cert.LaterIdeal.main_arg4) = m ((c.tc : Thread Cert.LaterIdeal.nD Cert.LaterIdeal.τ).loc Cert.LaterIdeal.main_arg4)
          ∧ r.2.mem ((c.tc : Thread Cert.LaterIdeal.nD Cert.LaterIdeal.τ).loc Cert.LaterIdeal.main_arg5) = m ((c.tc : Thread Cert.LaterIdeal.nD Cert.LaterIdeal.τ).loc Cert.LaterIdeal.main_arg5))
      ∧ θ_run (Cert.LaterReferenceIdeal.defs (F := Ideal)) (onTc (τ := Cert.LaterReferenceIdeal.τ) (Cert.LaterReferenceIdeal.main (F := Ideal))) ⟨m', fun _ => 0, g'⟩ (fun r => ∀ c : Dev Cert.LaterReferenceIdeal.nD,
          (∀ i : (⟨2, ![73728, 1024]⟩ : Shape).Idx, (Cert.On_in_use.fn (F := Ideal) (m ((c.tc : Thread Cert.LaterIdeal.nD Cert.LaterIdeal.τ).loc Cert.LaterIdeal.main_arg0)) (m ((c.tc : Thread Cert.LaterIdeal.nD Cert.LaterIdeal.τ).loc Cert.LaterIdeal.main_arg1)) (m ((c.tc : Thread Cert.LaterIdeal.nD Cert.LaterIdeal.τ).loc Cert.LaterIdeal.main_arg2)) (m ((c.tc : Thread Cert.LaterIdeal.nD Cert.LaterIdeal.τ).loc Cert.LaterIdeal.main_arg3)) (m ((c.tc : Thread Cert.LaterIdeal.nD Cert.LaterIdeal.τ).loc Cert.LaterIdeal.main_arg4)) (m ((c.tc : Thread Cert.LaterIdeal.nD Cert.LaterIdeal.τ).loc Cert.LaterIdeal.main_arg5))) i = 1#1 → r.2.mem ((c.tc : Thread Cert.LaterReferenceIdeal.nD Cert.LaterReferenceIdeal.τ).loc Cert.LaterReferenceIdeal.main_v26) i = v0 c i)
          ∧ r.2.mem ((c.tc : Thread Cert.LaterReferenceIdeal.nD Cert.LaterReferenceIdeal.τ).loc Cert.LaterReferenceIdeal.main_arg0) = m' ((c.tc : Thread Cert.LaterReferenceIdeal.nD Cert.LaterReferenceIdeal.τ).loc Cert.LaterReferenceIdeal.main_arg0)
          ∧ r.2.mem ((c.tc : Thread Cert.LaterReferenceIdeal.nD Cert.LaterReferenceIdeal.τ).loc Cert.LaterReferenceIdeal.main_arg1) = m' ((c.tc : Thread Cert.LaterReferenceIdeal.nD Cert.LaterReferenceIdeal.τ).loc Cert.LaterReferenceIdeal.main_arg1)
          ∧ r.2.mem ((c.tc : Thread Cert.LaterReferenceIdeal.nD Cert.LaterReferenceIdeal.τ).loc Cert.LaterReferenceIdeal.main_arg2) = m' ((c.tc : Thread Cert.LaterReferenceIdeal.nD Cert.LaterReferenceIdeal.τ).loc Cert.LaterReferenceIdeal.main_arg2)
          ∧ r.2.mem ((c.tc : Thread Cert.LaterReferenceIdeal.nD Cert.LaterReferenceIdeal.τ).loc Cert.LaterReferenceIdeal.main_arg3) = m' ((c.tc : Thread Cert.LaterReferenceIdeal.nD Cert.LaterReferenceIdeal.τ).loc Cert.LaterReferenceIdeal.main_arg3)
          ∧ r.2.mem ((c.tc : Thread Cert.LaterReferenceIdeal.nD Cert.LaterReferenceIdeal.τ).loc Cert.LaterReferenceIdeal.main_arg4) = m' ((c.tc : Thread Cert.LaterReferenceIdeal.nD Cert.LaterReferenceIdeal.τ).loc Cert.LaterReferenceIdeal.main_arg4)
          ∧ r.2.mem ((c.tc : Thread Cert.LaterReferenceIdeal.nD Cert.LaterReferenceIdeal.τ).loc Cert.LaterReferenceIdeal.main_arg5) = m' ((c.tc : Thread Cert.LaterReferenceIdeal.nD Cert.LaterReferenceIdeal.τ).loc Cert.LaterReferenceIdeal.main_arg5))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v26) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v54_0)) (v1 : (c : Dev Cert.InProjIdeal.nD) → Buf (Elt Ideal) ((c.tc : Thread Cert.InProjIdeal.nD Cert.InProjIdeal.τ).loc Cert.InProjIdeal.main_v54_1)) (v2 : (c : Dev Cert.InProjIdeal.nD) → Buf (Elt Ideal) ((c.tc : Thread Cert.InProjIdeal.nD Cert.InProjIdeal.τ).loc Cert.InProjIdeal.main_v54_2)) (v3 : (c : Dev Cert.InProjIdeal.nD) → Buf (Elt Ideal) ((c.tc : Thread Cert.InProjIdeal.nD Cert.InProjIdeal.τ).loc Cert.InProjIdeal.main_v54_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v54_0) = v0 c
          ∧ r.2.mem ((c.tc : Thread Cert.InProjIdeal.nD Cert.InProjIdeal.τ).loc Cert.InProjIdeal.main_v54_1) = v1 c
          ∧ r.2.mem ((c.tc : Thread Cert.InProjIdeal.nD Cert.InProjIdeal.τ).loc Cert.InProjIdeal.main_v54_2) = v2 c
          ∧ r.2.mem ((c.tc : Thread Cert.InProjIdeal.nD Cert.InProjIdeal.τ).loc Cert.InProjIdeal.main_v54_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v176) = v0 c
          ∧ r.2.mem ((c.tc : Thread Cert.InProjReferenceIdeal.nD Cert.InProjReferenceIdeal.τ).loc Cert.InProjReferenceIdeal.main_v177) = v1 c
          ∧ r.2.mem ((c.tc : Thread Cert.InProjReferenceIdeal.nD Cert.InProjReferenceIdeal.τ).loc Cert.InProjReferenceIdeal.main_v178) = v2 c
          ∧ r.2.mem ((c.tc : Thread Cert.InProjReferenceIdeal.nD Cert.InProjReferenceIdeal.τ).loc Cert.InProjReferenceIdeal.main_v175) = v3 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v11) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_ConfIn_ConfInIdeal : Prop :=
  True

def algebraic_ConfInIdeal_ConfInReferenceIdeal [hConfInIdeal : Cert.ConfInIdeal.Facts] [hConfInReferenceIdeal : Cert.ConfInReferenceIdeal.Facts] : Prop :=
  ∀ (m : (ℓ : Loc Cert.ConfInIdeal.nD Cert.ConfInIdeal.τ Cert.ConfInIdeal.sig) → Buf (Elt Ideal) ℓ) (g : Dev Cert.ConfInIdeal.nD → PrngReg)
    (m' : (ℓ : Loc Cert.ConfInReferenceIdeal.nD Cert.ConfInReferenceIdeal.τ Cert.ConfInReferenceIdeal.sig) → Buf (Elt Ideal) ℓ) (g' : Dev Cert.ConfInReferenceIdeal.nD → PrngReg), Pre_ConfInIdeal m →
    (∀ c : Dev Cert.ConfInIdeal.nD,
      m' ((c.tc : Thread Cert.ConfInReferenceIdeal.nD Cert.ConfInReferenceIdeal.τ).loc Cert.ConfInReferenceIdeal.main_arg0) = m ((c.tc : Thread Cert.ConfInIdeal.nD Cert.ConfInIdeal.τ).loc Cert.ConfInIdeal.main_arg0)
      ∧ m' ((c.tc : Thread Cert.ConfInReferenceIdeal.nD Cert.ConfInReferenceIdeal.τ).loc Cert.ConfInReferenceIdeal.main_arg1) = m ((c.tc : Thread Cert.ConfInIdeal.nD Cert.ConfInIdeal.τ).loc Cert.ConfInIdeal.main_arg1)
      ∧ m' ((c.tc : Thread Cert.ConfInReferenceIdeal.nD Cert.ConfInReferenceIdeal.τ).loc Cert.ConfInReferenceIdeal.main_arg2) = m ((c.tc : Thread Cert.ConfInIdeal.nD Cert.ConfInIdeal.τ).loc Cert.ConfInIdeal.main_arg2)
      ∧ m' ((c.tc : Thread Cert.ConfInReferenceIdeal.nD Cert.ConfInReferenceIdeal.τ).loc Cert.ConfInReferenceIdeal.main_arg3) = m ((c.tc : Thread Cert.ConfInIdeal.nD Cert.ConfInIdeal.τ).loc Cert.ConfInIdeal.main_arg3)
      ∧ m' ((c.tc : Thread Cert.ConfInReferenceIdeal.nD Cert.ConfInReferenceIdeal.τ).loc Cert.ConfInReferenceIdeal.main_arg4) = m ((c.tc : Thread Cert.ConfInIdeal.nD Cert.ConfInIdeal.τ).loc Cert.ConfInIdeal.main_arg4)
      ∧ m' ((c.tc : Thread Cert.ConfInReferenceIdeal.nD Cert.ConfInReferenceIdeal.τ).loc Cert.ConfInReferenceIdeal.main_arg5) = m ((c.tc : Thread Cert.ConfInIdeal.nD Cert.ConfInIdeal.τ).loc Cert.ConfInIdeal.main_arg5)) →
    ∃ (v0 : (c : Dev Cert.ConfInIdeal.nD) → Buf (Elt Ideal) ((c.tc : Thread Cert.ConfInIdeal.nD Cert.ConfInIdeal.τ).loc Cert.ConfInIdeal.main_v7)),
      θ_run (Cert.ConfInIdeal.defs (F := Ideal)) (onTc (τ := Cert.ConfInIdeal.τ) (Cert.ConfInIdeal.main (F := Ideal))) ⟨m, fun _ => 0, g⟩ (fun r => ∀ c : Dev Cert.ConfInIdeal.nD,
          r.2.mem ((c.tc : Thread Cert.ConfInIdeal.nD Cert.ConfInIdeal.τ).loc Cert.ConfInIdeal.main_v7) = v0 c
          ∧ r.2.mem ((c.tc : Thread Cert.ConfInIdeal.nD Cert.ConfInIdeal.τ).loc Cert.ConfInIdeal.main_arg0) = m ((c.tc : Thread Cert.ConfInIdeal.nD Cert.ConfInIdeal.τ).loc Cert.ConfInIdeal.main_arg0)
          ∧ r.2.mem ((c.tc : Thread Cert.ConfInIdeal.nD Cert.ConfInIdeal.τ).loc Cert.ConfInIdeal.main_arg1) = m ((c.tc : Thread Cert.ConfInIdeal.nD Cert.ConfInIdeal.τ).loc Cert.ConfInIdeal.main_arg1)
          ∧ r.2.mem ((c.tc : Thread Cert.ConfInIdeal.nD Cert.ConfInIdeal.τ).loc Cert.ConfInIdeal.main_arg2) = m ((c.tc : Thread Cert.ConfInIdeal.nD Cert.ConfInIdeal.τ).loc Cert.ConfInIdeal.main_arg2)
          ∧ r.2.mem ((c.tc : Thread Cert.ConfInIdeal.nD Cert.ConfInIdeal.τ).loc Cert.ConfInIdeal.main_arg3) = m ((c.tc : Thread Cert.ConfInIdeal.nD Cert.ConfInIdeal.τ).loc Cert.ConfInIdeal.main_arg3)
          ∧ r.2.mem ((c.tc : Thread Cert.ConfInIdeal.nD Cert.ConfInIdeal.τ).loc Cert.ConfInIdeal.main_arg4) = m ((c.tc : Thread Cert.ConfInIdeal.nD Cert.ConfInIdeal.τ).loc Cert.ConfInIdeal.main_arg4)
          ∧ r.2.mem ((c.tc : Thread Cert.ConfInIdeal.nD Cert.ConfInIdeal.τ).loc Cert.ConfInIdeal.main_arg5) = m ((c.tc : Thread Cert.ConfInIdeal.nD Cert.ConfInIdeal.τ).loc Cert.ConfInIdeal.main_arg5))
      ∧ θ_run (Cert.ConfInReferenceIdeal.defs (F := Ideal)) (onTc (τ := Cert.ConfInReferenceIdeal.τ) (Cert.ConfInReferenceIdeal.main (F := Ideal))) ⟨m', fun _ => 0, g'⟩ (fun r => ∀ c : Dev Cert.ConfInReferenceIdeal.nD,
          r.2.mem ((c.tc : Thread Cert.ConfInReferenceIdeal.nD Cert.ConfInReferenceIdeal.τ).loc Cert.ConfInReferenceIdeal.main_v37) = v0 c
          ∧ r.2.mem ((c.tc : Thread Cert.ConfInReferenceIdeal.nD Cert.ConfInReferenceIdeal.τ).loc Cert.ConfInReferenceIdeal.main_arg0) = m' ((c.tc : Thread Cert.ConfInReferenceIdeal.nD Cert.ConfInReferenceIdeal.τ).loc Cert.ConfInReferenceIdeal.main_arg0)
          ∧ r.2.mem ((c.tc : Thread Cert.ConfInReferenceIdeal.nD Cert.ConfInReferenceIdeal.τ).loc Cert.ConfInReferenceIdeal.main_arg1) = m' ((c.tc : Thread Cert.ConfInReferenceIdeal.nD Cert.ConfInReferenceIdeal.τ).loc Cert.ConfInReferenceIdeal.main_arg1)
          ∧ r.2.mem ((c.tc : Thread Cert.ConfInReferenceIdeal.nD Cert.ConfInReferenceIdeal.τ).loc Cert.ConfInReferenceIdeal.main_arg2) = m' ((c.tc : Thread Cert.ConfInReferenceIdeal.nD Cert.ConfInReferenceIdeal.τ).loc Cert.ConfInReferenceIdeal.main_arg2)
          ∧ r.2.mem ((c.tc : Thread Cert.ConfInReferenceIdeal.nD Cert.ConfInReferenceIdeal.τ).loc Cert.ConfInReferenceIdeal.main_arg3) = m' ((c.tc : Thread Cert.ConfInReferenceIdeal.nD Cert.ConfInReferenceIdeal.τ).loc Cert.ConfInReferenceIdeal.main_arg3)
          ∧ r.2.mem ((c.tc : Thread Cert.ConfInReferenceIdeal.nD Cert.ConfInReferenceIdeal.τ).loc Cert.ConfInReferenceIdeal.main_arg4) = m' ((c.tc : Thread Cert.ConfInReferenceIdeal.nD Cert.ConfInReferenceIdeal.τ).loc Cert.ConfInReferenceIdeal.main_arg4)
          ∧ r.2.mem ((c.tc : Thread Cert.ConfInReferenceIdeal.nD Cert.ConfInReferenceIdeal.τ).loc Cert.ConfInReferenceIdeal.main_arg5) = m' ((c.tc : Thread Cert.ConfInReferenceIdeal.nD Cert.ConfInReferenceIdeal.τ).loc Cert.ConfInReferenceIdeal.main_arg5))

def preserves_ConfOut_ConfOutIdeal : Prop :=
  True

def algebraic_ConfOutIdeal_ConfOutReferenceIdeal [hConfOutIdeal : Cert.ConfOutIdeal.Facts] [hConfOutReferenceIdeal : Cert.ConfOutReferenceIdeal.Facts] : Prop :=
  ∀ (m : (ℓ : Loc Cert.ConfOutIdeal.nD Cert.ConfOutIdeal.τ Cert.ConfOutIdeal.sig) → Buf (Elt Ideal) ℓ) (g : Dev Cert.ConfOutIdeal.nD → PrngReg)
    (m' : (ℓ : Loc Cert.ConfOutReferenceIdeal.nD Cert.ConfOutReferenceIdeal.τ Cert.ConfOutReferenceIdeal.sig) → Buf (Elt Ideal) ℓ) (g' : Dev Cert.ConfOutReferenceIdeal.nD → PrngReg), Pre_ConfOutIdeal m →
    (∀ c : Dev Cert.ConfOutIdeal.nD,
      m' ((c.tc : Thread Cert.ConfOutReferenceIdeal.nD Cert.ConfOutReferenceIdeal.τ).loc Cert.ConfOutReferenceIdeal.main_arg0) = m ((c.tc : Thread Cert.ConfOutIdeal.nD Cert.ConfOutIdeal.τ).loc Cert.ConfOutIdeal.main_arg0)
      ∧ m' ((c.tc : Thread Cert.ConfOutReferenceIdeal.nD Cert.ConfOutReferenceIdeal.τ).loc Cert.ConfOutReferenceIdeal.main_arg1) = m ((c.tc : Thread Cert.ConfOutIdeal.nD Cert.ConfOutIdeal.τ).loc Cert.ConfOutIdeal.main_arg1)
      ∧ m' ((c.tc : Thread Cert.ConfOutReferenceIdeal.nD Cert.ConfOutReferenceIdeal.τ).loc Cert.ConfOutReferenceIdeal.main_arg2) = m ((c.tc : Thread Cert.ConfOutIdeal.nD Cert.ConfOutIdeal.τ).loc Cert.ConfOutIdeal.main_arg2)
      ∧ m' ((c.tc : Thread Cert.ConfOutReferenceIdeal.nD Cert.ConfOutReferenceIdeal.τ).loc Cert.ConfOutReferenceIdeal.main_arg3) = m ((c.tc : Thread Cert.ConfOutIdeal.nD Cert.ConfOutIdeal.τ).loc Cert.ConfOutIdeal.main_arg3)
      ∧ m' ((c.tc : Thread Cert.ConfOutReferenceIdeal.nD Cert.ConfOutReferenceIdeal.τ).loc Cert.ConfOutReferenceIdeal.main_arg4) = m ((c.tc : Thread Cert.ConfOutIdeal.nD Cert.ConfOutIdeal.τ).loc Cert.ConfOutIdeal.main_arg4)
      ∧ m' ((c.tc : Thread Cert.ConfOutReferenceIdeal.nD Cert.ConfOutReferenceIdeal.τ).loc Cert.ConfOutReferenceIdeal.main_arg5) = m ((c.tc : Thread Cert.ConfOutIdeal.nD Cert.ConfOutIdeal.τ).loc Cert.ConfOutIdeal.main_arg5)
      ∧ m' ((c.tc : Thread Cert.ConfOutReferenceIdeal.nD Cert.ConfOutReferenceIdeal.τ).loc Cert.ConfOutReferenceIdeal.main_arg6) = m ((c.tc : Thread Cert.ConfOutIdeal.nD Cert.ConfOutIdeal.τ).loc Cert.ConfOutIdeal.main_arg6)) →
    ∃ (v0 : (c : Dev Cert.ConfOutIdeal.nD) → Buf (Elt Ideal) ((c.tc : Thread Cert.ConfOutIdeal.nD Cert.ConfOutIdeal.τ).loc Cert.ConfOutIdeal.main_v8)),
      θ_run (Cert.ConfOutIdeal.defs (F := Ideal)) (onTc (τ := Cert.ConfOutIdeal.τ) (Cert.ConfOutIdeal.main (F := Ideal))) ⟨m, fun _ => 0, g⟩ (fun r => ∀ c : Dev Cert.ConfOutIdeal.nD,
          r.2.mem ((c.tc : Thread Cert.ConfOutIdeal.nD Cert.ConfOutIdeal.τ).loc Cert.ConfOutIdeal.main_v8) = v0 c
          ∧ r.2.mem ((c.tc : Thread Cert.ConfOutIdeal.nD Cert.ConfOutIdeal.τ).loc Cert.ConfOutIdeal.main_arg0) = m ((c.tc : Thread Cert.ConfOutIdeal.nD Cert.ConfOutIdeal.τ).loc Cert.ConfOutIdeal.main_arg0)
          ∧ r.2.mem ((c.tc : Thread Cert.ConfOutIdeal.nD Cert.ConfOutIdeal.τ).loc Cert.ConfOutIdeal.main_arg1) = m ((c.tc : Thread Cert.ConfOutIdeal.nD Cert.ConfOutIdeal.τ).loc Cert.ConfOutIdeal.main_arg1)
          ∧ r.2.mem ((c.tc : Thread Cert.ConfOutIdeal.nD Cert.ConfOutIdeal.τ).loc Cert.ConfOutIdeal.main_arg2) = m ((c.tc : Thread Cert.ConfOutIdeal.nD Cert.ConfOutIdeal.τ).loc Cert.ConfOutIdeal.main_arg2)
          ∧ r.2.mem ((c.tc : Thread Cert.ConfOutIdeal.nD Cert.ConfOutIdeal.τ).loc Cert.ConfOutIdeal.main_arg3) = m ((c.tc : Thread Cert.ConfOutIdeal.nD Cert.ConfOutIdeal.τ).loc Cert.ConfOutIdeal.main_arg3)
          ∧ r.2.mem ((c.tc : Thread Cert.ConfOutIdeal.nD Cert.ConfOutIdeal.τ).loc Cert.ConfOutIdeal.main_arg4) = m ((c.tc : Thread Cert.ConfOutIdeal.nD Cert.ConfOutIdeal.τ).loc Cert.ConfOutIdeal.main_arg4)
          ∧ r.2.mem ((c.tc : Thread Cert.ConfOutIdeal.nD Cert.ConfOutIdeal.τ).loc Cert.ConfOutIdeal.main_arg5) = m ((c.tc : Thread Cert.ConfOutIdeal.nD Cert.ConfOutIdeal.τ).loc Cert.ConfOutIdeal.main_arg5)
          ∧ r.2.mem ((c.tc : Thread Cert.ConfOutIdeal.nD Cert.ConfOutIdeal.τ).loc Cert.ConfOutIdeal.main_arg6) = m ((c.tc : Thread Cert.ConfOutIdeal.nD Cert.ConfOutIdeal.τ).loc Cert.ConfOutIdeal.main_arg6))
      ∧ θ_run (Cert.ConfOutReferenceIdeal.defs (F := Ideal)) (onTc (τ := Cert.ConfOutReferenceIdeal.τ) (Cert.ConfOutReferenceIdeal.main (F := Ideal))) ⟨m', fun _ => 0, g'⟩ (fun r => ∀ c : Dev Cert.ConfOutReferenceIdeal.nD,
          r.2.mem ((c.tc : Thread Cert.ConfOutReferenceIdeal.nD Cert.ConfOutReferenceIdeal.τ).loc Cert.ConfOutReferenceIdeal.main_v38) = v0 c
          ∧ r.2.mem ((c.tc : Thread Cert.ConfOutReferenceIdeal.nD Cert.ConfOutReferenceIdeal.τ).loc Cert.ConfOutReferenceIdeal.main_arg0) = m' ((c.tc : Thread Cert.ConfOutReferenceIdeal.nD Cert.ConfOutReferenceIdeal.τ).loc Cert.ConfOutReferenceIdeal.main_arg0)
          ∧ r.2.mem ((c.tc : Thread Cert.ConfOutReferenceIdeal.nD Cert.ConfOutReferenceIdeal.τ).loc Cert.ConfOutReferenceIdeal.main_arg1) = m' ((c.tc : Thread Cert.ConfOutReferenceIdeal.nD Cert.ConfOutReferenceIdeal.τ).loc Cert.ConfOutReferenceIdeal.main_arg1)
          ∧ r.2.mem ((c.tc : Thread Cert.ConfOutReferenceIdeal.nD Cert.ConfOutReferenceIdeal.τ).loc Cert.ConfOutReferenceIdeal.main_arg2) = m' ((c.tc : Thread Cert.ConfOutReferenceIdeal.nD Cert.ConfOutReferenceIdeal.τ).loc Cert.ConfOutReferenceIdeal.main_arg2)
          ∧ r.2.mem ((c.tc : Thread Cert.ConfOutReferenceIdeal.nD Cert.ConfOutReferenceIdeal.τ).loc Cert.ConfOutReferenceIdeal.main_arg3) = m' ((c.tc : Thread Cert.ConfOutReferenceIdeal.nD Cert.ConfOutReferenceIdeal.τ).loc Cert.ConfOutReferenceIdeal.main_arg3)
          ∧ r.2.mem ((c.tc : Thread Cert.ConfOutReferenceIdeal.nD Cert.ConfOutReferenceIdeal.τ).loc Cert.ConfOutReferenceIdeal.main_arg4) = m' ((c.tc : Thread Cert.ConfOutReferenceIdeal.nD Cert.ConfOutReferenceIdeal.τ).loc Cert.ConfOutReferenceIdeal.main_arg4)
          ∧ r.2.mem ((c.tc : Thread Cert.ConfOutReferenceIdeal.nD Cert.ConfOutReferenceIdeal.τ).loc Cert.ConfOutReferenceIdeal.main_arg5) = m' ((c.tc : Thread Cert.ConfOutReferenceIdeal.nD Cert.ConfOutReferenceIdeal.τ).loc Cert.ConfOutReferenceIdeal.main_arg5)
          ∧ r.2.mem ((c.tc : Thread Cert.ConfOutReferenceIdeal.nD Cert.ConfOutReferenceIdeal.τ).loc Cert.ConfOutReferenceIdeal.main_arg6) = m' ((c.tc : Thread Cert.ConfOutReferenceIdeal.nD Cert.ConfOutReferenceIdeal.τ).loc Cert.ConfOutReferenceIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hLater : Cert.Later.Facts) (hLaterIdeal : Cert.LaterIdeal.Facts) (hLaterReferenceIdeal : Cert.LaterReferenceIdeal.Facts) (hCombine : Cert.Combine.Facts) (hCombineIdeal : Cert.CombineIdeal.Facts) (hCombineReferenceIdeal : Cert.CombineReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hConfIn : Cert.ConfIn.Facts) (hConfInIdeal : Cert.ConfInIdeal.Facts) (hConfInReferenceIdeal : Cert.ConfInReferenceIdeal.Facts) (hConfOut : Cert.ConfOut.Facts) (hConfOutIdeal : Cert.ConfOutIdeal.Facts) (hConfOutReferenceIdeal : Cert.ConfOutReferenceIdeal.Facts) (hPre_finite_scores : Cert.Pre_finite_scores.Facts) (hPre_routed : Cert.Pre_routed.Facts) (hOn_in_use : Cert.On_in_use.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Experts (hExperts := hExperts) (hPre_routed := hPre_routed)
    ∧ quiescent_ExpertsIdeal (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ quiescent_Later (hLater := hLater) (hPre_routed := hPre_routed)
    ∧ quiescent_LaterIdeal (hLaterIdeal := hLaterIdeal) (hPre_routed := hPre_routed)
    ∧ quiescent_LaterReferenceIdeal (hLaterReferenceIdeal := hLaterReferenceIdeal)
    ∧ quiescent_LaterReferenceIdeal_pre_routed (hLaterReferenceIdeal := hLaterReferenceIdeal) (hPre_routed := hPre_routed)
    ∧ quiescent_Combine (hCombine := hCombine)
    ∧ quiescent_CombineIdeal (hCombineIdeal := hCombineIdeal)
    ∧ quiescent_CombineReferenceIdeal (hCombineReferenceIdeal := hCombineReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_ConfIn (hConfIn := hConfIn)
    ∧ quiescent_ConfInIdeal (hConfInIdeal := hConfInIdeal)
    ∧ quiescent_ConfInReferenceIdeal (hConfInReferenceIdeal := hConfInReferenceIdeal)
    ∧ quiescent_ConfOut (hConfOut := hConfOut)
    ∧ quiescent_ConfOutIdeal (hConfOutIdeal := hConfOutIdeal)
    ∧ quiescent_ConfOutReferenceIdeal (hConfOutReferenceIdeal := hConfOutReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Experts_ExpertsIdeal
    ∧ algebraic_ExpertsIdeal_ExpertsReferenceIdeal_on_in_use (hExpertsIdeal := hExpertsIdeal) (hExpertsReferenceIdeal := hExpertsReferenceIdeal) (hPre_routed := hPre_routed) (hOn_in_use := hOn_in_use)
    ∧ preserves_Later_LaterIdeal
    ∧ algebraic_LaterIdeal_LaterReferenceIdeal_on_in_use (hLaterIdeal := hLaterIdeal) (hLaterReferenceIdeal := hLaterReferenceIdeal) (hPre_routed := hPre_routed) (hOn_in_use := hOn_in_use)
    ∧ preserves_Combine_CombineIdeal
    ∧ algebraic_CombineIdeal_CombineReferenceIdeal (hCombineIdeal := hCombineIdeal) (hCombineReferenceIdeal := hCombineReferenceIdeal)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_ConfIn_ConfInIdeal
    ∧ algebraic_ConfInIdeal_ConfInReferenceIdeal (hConfInIdeal := hConfInIdeal) (hConfInReferenceIdeal := hConfInReferenceIdeal)
    ∧ preserves_ConfOut_ConfOutIdeal
    ∧ algebraic_ConfOutIdeal_ConfOutReferenceIdeal (hConfOutIdeal := hConfOutIdeal) (hConfOutReferenceIdeal := hConfOutReferenceIdeal)
-- ==== On_in_use.lean ====
abbrev S73728x1024 : Shape := ⟨2, ![73728, 1024]⟩
abbrev S288 : Shape := ⟨1, ![288]⟩
abbrev S1 : Shape := ⟨1, ![1]⟩
abbrev S64x1024x512 : Shape := ⟨3, ![64, 1024, 512]⟩
abbrev S64x512x1024 : Shape := ⟨3, ![64, 512, 1024]⟩
abbrev S_ : Shape := ⟨0, ![]⟩

class Facts : Prop where
  bcast_S_S73728x1024 : S_.BroadcastsInDim S73728x1024 (![] : Fin 0 → Fin S73728x1024.rank)
  shapeCasts_S1_S_ : S1.ShapeCasts S_

variable [Facts]

def fn_where {F : FTy → Type} [FloatOps F] (arg0 : IVec S73728x1024 1) (arg1 : IVec S73728x1024 32) (arg2 : IVec S73728x1024 32) : IVec S73728x1024 32 :=
  let v0 : IVec S73728x1024 32 := select arg0 arg1 arg2
  v0

def fn_floor_divide {F : FTy → Type} [FloatOps F] (arg0 : IVec S73728x1024 32) (arg1 : IVec S_ 32) : IVec S73728x1024 32 :=
  let v0 : IVec S_ 32 := id arg1
  let v1 : IVec S73728x1024 32 := broadcastInDim S73728x1024 ![] bcast_S_S73728x1024 v0
  let v2 : IVec S73728x1024 32 := Host.divsi arg0 v1
  let v3 : IVec S73728x1024 32 := signi arg0
  let v4 : IVec S_ 32 := signi v0
  let v5 : IVec S73728x1024 32 := broadcastInDim S73728x1024 ![] bcast_S_S73728x1024 v4
  let v6 : IVec S73728x1024 1 := cmpi .ne v3 v5
  let v7 : IVec S73728x1024 32 := broadcastInDim S73728x1024 ![] bcast_S_S73728x1024 v0
  let v8 : IVec S73728x1024 32 := Host.remsi arg0 v7
  let c : IVec S_ 32 := constantI S_ 32 0#32
  let v9 : IVec S73728x1024 32 := broadcastInDim S73728x1024 ![] bcast_S_S73728x1024 c
  let v10 : IVec S73728x1024 1 := cmpi .ne v8 v9
  let v11 : IVec S73728x1024 1 := andi v6 v10
  let c_0 : IVec S_ 32 := constantI S_ 32 1#32
  let v12 : IVec S73728x1024 32 := broadcastInDim S73728x1024 ![] bcast_S_S73728x1024 c_0
  let v13 : IVec S73728x1024 32 := subi v2 v12
  let v14 : IVec S73728x1024 32 := fn_where (F := F) v11 v13 v2
  v14

def fn {F : FTy → Type} [FloatOps F] (main_arg0 : FVec F S73728x1024 .bf16) (main_arg1 : IVec S288 32) (main_arg2 : IVec S1 32) (main_arg3 : FVec F S64x1024x512 .f32) (main_arg4 : FVec F S64x1024x512 .f32) (main_arg5 : FVec F S64x512x1024 .f32) : IVec S73728x1024 1 :=
  let main_v0 : IVec S73728x1024 32 := iotaInDim S73728x1024 32 0
  let main_c : IVec S_ 32 := constantI S_ 32 256#32
  let main_v1 : IVec S73728x1024 32 := fn_floor_divide (F := F) main_v0 main_c
  let main_v2 : IVec S_ 32 := shapeCast S_ main_arg2 shapeCasts_S1_S_
  let main_v3 : IVec S73728x1024 32 := broadcastInDim S73728x1024 ![] bcast_S_S73728x1024 main_v2
  let main_v4 : IVec S73728x1024 1 := cmpi .slt main_v1 main_v3
  main_v4
-- ==== Pre_finite_scores.lean ====
abbrev S32768x512 : Shape := ⟨2, ![32768, 512]⟩
abbrev S2048x512 : Shape := ⟨2, ![2048, 512]⟩
abbrev S1x64 : Shape := ⟨2, ![1, 64]⟩
abbrev S1x128 : Shape := ⟨2, ![1, 128]⟩
abbrev S_ : Shape := ⟨0, ![]⟩

class Facts : Prop where
  bcast_S_S32768x512 : S_.BroadcastsInDim S32768x512 (![] : Fin 0 → Fin S32768x512.rank)
  bcast_S_S2048x512 : S_.BroadcastsInDim S2048x512 (![] : Fin 0 → Fin S2048x512.rank)

variable [Facts]

def fn {F : FTy → Type} [FloatOps F] (main_arg0 : FVec F S32768x512 .f32) (main_arg1 : FVec F S32768x512 .f32) (main_arg2 : FVec F S32768x512 .f32) (main_arg3 : FVec F S2048x512 .f32) (main_arg4 : FVec F S2048x512 .f32) (main_arg5 : FVec F S1x64 .f32) (main_arg6 : FVec F S1x64 .f32) (main_arg7 : FVec F S1x64 .f32) (main_arg8 : FVec F S1x64 .f32) (main_arg9 : FVec F S1x128 .f32) : IVec S32768x512 1 × IVec S32768x512 1 × IVec S2048x512 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_v3 : FVec F S32768x512 .f32 := Host.absf main_arg1
  let main_cst_0 : FVec F S_ .f32 := constant S_ .f32 0x7F800000#32
  let main_v4 : FVec F S32768x512 .f32 := broadcastInDim S32768x512 ![] bcast_S_S32768x512 main_cst_0
  let main_v5 : IVec S32768x512 1 := cmpf .olt main_v3 main_v4
  let main_v6 : FVec F S2048x512 .f32 := Host.absf main_arg3
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  (main_v2, main_v5, main_v8)
-- ==== Pre_routed.lean ====
abbrev S73728x1024 : Shape := ⟨2, ![73728, 1024]⟩
abbrev S288 : Shape := ⟨1, ![288]⟩
abbrev S1 : Shape := ⟨1, ![1]⟩
abbrev S64x1024x512 : Shape := ⟨3, ![64, 1024, 512]⟩
abbrev S64x512x1024 : Shape := ⟨3, ![64, 512, 1024]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)

variable [Facts]

def fn {F : FTy → Type} [FloatOps F] (main_arg0 : FVec F S73728x1024 .bf16) (main_arg1 : IVec S288 32) (main_arg2 : IVec S1 32) (main_arg3 : FVec F S64x1024x512 .f32) (main_arg4 : FVec F S64x1024x512 .f32) (main_arg5 : FVec F S64x512x1024 .f32) : IVec S288 1 × IVec S1 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 31#32
  let main_v2 : IVec S288 32 := broadcastInDim S288 ![] bcast_S_S288 main_c_0
  let main_v3 : IVec S288 1 := cmpi .sle main_arg1 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  let main_c_2 : IVec S_ 32 := constantI S_ 32 288#32
  let main_v7 : IVec S1 32 := broadcastInDim S1 ![] bcast_S_S1 main_c_2
  let main_v8 : IVec S1 1 := cmpi .sle main_arg2 main_v7
  let main_v9 : IVec S1 1 := andi main_v6 main_v8
  (main_v4, main_v9)
-- ==== Kernel.lean ====
abbrev S32768x512 : Shape := ⟨2, ![32768, 512]⟩
abbrev S2048x512 : Shape := ⟨2, ![2048, 512]⟩
abbrev S1x64 : Shape := ⟨2, ![1, 64]⟩
abbrev S1x128 : Shape := ⟨2, ![1, 128]⟩
abbrev S_ : Shape := ⟨0, ![]⟩
abbrev S64 : Shape := ⟨1, ![64]⟩
abbrev S4x64 : Shape := ⟨2, ![4, 64]⟩
abbrev S8x256x512 : Shape := ⟨3, ![8, 256, 512]⟩
abbrev S8x4096x512 : Shape := ⟨3, ![8, 4096, 512]⟩
abbrev S8x4352x512 : Shape := ⟨3, ![8, 4352, 512]⟩
abbrev S8x512x4352 : Shape := ⟨3, ![8, 512, 4352]⟩
abbrev S128 : Shape := ⟨1, ![128]⟩
abbrev S512x256 : Shape := ⟨2, ![512, 256]⟩
abbrev S1x256x4352 : Shape := ⟨3, ![1, 256, 4352]⟩
abbrev S1x4352x256 : Shape := ⟨3, ![1, 4352, 256]⟩
abbrev S1 : Shape := ⟨1, ![1]⟩
abbrev S1x1 : Shape := ⟨2, ![1, 1]⟩
abbrev S512x128 : Shape := ⟨2, ![512, 128]⟩
abbrev S1x128x4352 : Shape := ⟨3, ![1, 128, 4352]⟩
abbrev S128x4352 : Shape := ⟨2, ![128, 4352]⟩
abbrev S512x4352 : Shape := ⟨2, ![512, 4352]⟩
abbrev S512 : Shape := ⟨1, ![512]⟩
abbrev S512x1 : Shape := ⟨2, ![512, 1]⟩
abbrev S1x4352x128 : Shape := ⟨3, ![1, 4352, 128]⟩
abbrev S4352x128 : Shape := ⟨2, ![4352, 128]⟩

abbrev nBuf : Space → Nat
  | .hbm => 37
  | .vmem => 10
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S2048x512, .f32⟩
  | .hbm, ⟨4, _⟩ => ⟨S2048x512, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S_, .f32⟩
  | .hbm, ⟨11, _⟩ => ⟨S32768x512, .f32⟩
  | .hbm, ⟨12, _⟩ => ⟨S32768x512, .f32⟩
  | .hbm, ⟨13, _⟩ => ⟨S32768x512, .bf16⟩
  | .hbm, ⟨14, _⟩ => ⟨S32768x512, .bf16⟩
  | .hbm, ⟨15, _⟩ => ⟨S32768x512, .bf16⟩
  | .hbm, ⟨16, _⟩ => ⟨S2048x512, .bf16⟩
  | .hbm, ⟨17, _⟩ => ⟨S2048x512, .bf16⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S4x64, .f32⟩
  | .hbm, ⟨27, _⟩ => ⟨S8x256x512, .bf16⟩
  | .hbm, ⟨28, _⟩ => ⟨S8x4096x512, .bf16⟩
  | .hbm, ⟨29, _⟩ => ⟨S8x4352x512, .bf16⟩
  | .hbm, ⟨30, _⟩ => ⟨S8x256x512, .bf16⟩
  | .hbm, ⟨31, _⟩ => ⟨S8x4096x512, .bf16⟩
  | .hbm, ⟨32, _⟩ => ⟨S8x4352x512, .bf16⟩
  | .hbm, ⟨33, _⟩ => ⟨S8x512x4352, .bf16⟩
  | .hbm, ⟨34, _⟩ => ⟨S128, .f32⟩
  | .hbm, ⟨35, _⟩ => ⟨S1x128, .f32⟩
  | .hbm, ⟨36, _⟩ => ⟨S32768x512, .f32⟩
  | .local _ .vmem, ⟨0, _⟩ => ⟨S4x64, .f32⟩
  | .local _ .vmem, ⟨1, _⟩ => ⟨S1x128, .f32⟩
  | .local _ .vmem, ⟨2, _⟩ => ⟨S512x256, .bf16⟩
  | .local _ .vmem, ⟨3, _⟩ => ⟨S512x256, .bf16⟩
  | .local _ .vmem, ⟨4, _⟩ => ⟨S1x256x4352, .bf16⟩
  | .local _ .vmem, ⟨5, _⟩ => ⟨S1x256x4352, .bf16⟩
  | .local _ .vmem, ⟨6, _⟩ => ⟨S1x4352x256, .bf16⟩
  | .local _ .vmem, ⟨7, _⟩ => ⟨S1x4352x256, .bf16⟩
  | .local _ .vmem, ⟨8, _⟩ => ⟨S512x256, .f32⟩
  | .local _ .vmem, ⟨9, _⟩ => ⟨S512x256, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x4352 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4352x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S32768x512 : Shape := ⟨2, ![32768, 512]⟩
abbrev S2048x512 : Shape := ⟨2, ![2048, 512]⟩
abbrev S1x64 : Shape := ⟨2, ![1, 64]⟩
abbrev S1x128 : Shape := ⟨2, ![1, 128]⟩
abbrev S64 : Shape := ⟨1, ![64]⟩
abbrev S_ : Shape := ⟨0, ![]⟩
abbrev S8x4096x512 : Shape := ⟨3, ![8, 4096, 512]⟩
abbrev S8x4096x8x64 : Shape := ⟨4, ![8, 4096, 8, 64]⟩
abbrev S8x8x4096x64 : Shape := ⟨4, ![8, 8, 4096, 64]⟩
abbrev S8x256x512 : Shape := ⟨3, ![8, 256, 512]⟩
abbrev S8x256x8x64 : Shape := ⟨4, ![8, 256, 8, 64]⟩
abbrev S8x8x256x64 : Shape := ⟨4, ![8, 8, 256, 64]⟩
abbrev S8x8x4352x64 : Shape := ⟨4, ![8, 8, 4352, 64]⟩
abbrev S8x256x4x128 : Shape := ⟨4, ![8, 256, 4, 128]⟩
abbrev S8x4x256x128 : Shape := ⟨4, ![8, 4, 256, 128]⟩
abbrev S8x4096x4x128 : Shape := ⟨4, ![8, 4096, 4, 128]⟩
abbrev S8x4x4096x128 : Shape := ⟨4, ![8, 4, 4096, 128]⟩
abbrev S8x4x4352x128 : Shape := ⟨4, ![8, 4, 4352, 128]⟩
abbrev S8x8x4096x4352 : Shape := ⟨4, ![8, 8, 4096, 4352]⟩
abbrev S8x8x4096 : Shape := ⟨3, ![8, 8, 4096]⟩
abbrev S8x8x4096x1 : Shape := ⟨4, ![8, 8, 4096, 1]⟩
abbrev S8x4x2x4096x4352 : Shape := ⟨5, ![8, 4, 2, 4096, 4352]⟩
abbrev S8x4x1x4096x4352 : Shape := ⟨5, ![8, 4, 1, 4096, 4352]⟩
abbrev S8x4x4096x4352 : Shape := ⟨4, ![8, 4, 4096, 4352]⟩
abbrev S128 : Shape := ⟨1, ![128]⟩
abbrev S8x4x4096 : Shape := ⟨3, ![8, 4, 4096]⟩
abbrev S8x4x4096x1 : Shape := ⟨4, ![8, 4, 4096, 1]⟩
abbrev S1x1x1x128 : Shape := ⟨4, ![1, 1, 1, 128]⟩

abbrev nBuf : Space → Nat
  | .hbm => 91
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S2048x512, .f32⟩
  | .hbm, ⟨4, _⟩ => ⟨S2048x512, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x4096x512, .f32⟩
  | .hbm, ⟨26, _⟩ => ⟨S8x4096x8x64, .f32⟩
  | .hbm, ⟨27, _⟩ => ⟨S8x8x4096x64, .f32⟩
  | .hbm, ⟨28, _⟩ => ⟨S8x256x512, .f32⟩
  | .hbm, ⟨29, _⟩ => ⟨S8x256x8x64, .f32⟩
  | .hbm, ⟨30, _⟩ => ⟨S8x8x256x64, .f32⟩
  | .hbm, ⟨31, _⟩ => ⟨S8x4096x512, .f32⟩
  | .hbm, ⟨32, _⟩ => ⟨S8x4096x8x64, .f32⟩
  | .hbm, ⟨33, _⟩ => ⟨S8x8x4096x64, .f32⟩
  | .hbm, ⟨34, _⟩ => ⟨S8x8x4352x64, .f32⟩
  | .hbm, ⟨35, _⟩ => ⟨S8x256x512, .f32⟩
  | .hbm, ⟨36, _⟩ => ⟨S8x256x4x128, .f32⟩
  | .hbm, ⟨37, _⟩ => ⟨S8x4x256x128, .f32⟩
  | .hbm, ⟨38, _⟩ => ⟨S8x4096x512, .f32⟩
  | .hbm, ⟨39, _⟩ => ⟨S8x4096x4x128, .f32⟩
  | .hbm, ⟨40, _⟩ => ⟨S8x4x4096x128, .f32⟩
  | .hbm, ⟨41, _⟩ => ⟨S8x4x4352x128, .f32⟩
  | .hbm, ⟨42, _⟩ => ⟨S8x8x4096x4352, .f32⟩
  | .hbm, ⟨43, _⟩ => ⟨S_, .f32⟩
  | .hbm, ⟨44, _⟩ => ⟨S8x8x4096x4352, .f32⟩
  | .hbm, ⟨45, _⟩ => ⟨S8x8x4096x4352, .f32⟩
  | .hbm, ⟨46, _⟩ => ⟨S_, .f32⟩
  | .hbm, ⟨47, _⟩ => ⟨S8x8x4096, .f32⟩
  | .hbm, ⟨48, _⟩ => ⟨S_, .f32⟩
  | .hbm, ⟨49, _⟩ => ⟨S8x8x4096, .f32⟩
  | .hbm, ⟨50, _⟩ => ⟨S8x8x4096, .f32⟩
  | .hbm, ⟨51, _⟩ => ⟨S8x8x4096x1, .f32⟩
  | .hbm, ⟨52, _⟩ => ⟨S8x8x4096x4352, .f32⟩
  | .hbm, ⟨53, _⟩ => ⟨S8x8x4096x4352, .f32⟩
  | .hbm, ⟨54, _⟩ => ⟨S8x8x4096x4352, .f32⟩
  | .hbm, ⟨55, _⟩ => ⟨S_, .f32⟩
  | .hbm, ⟨56, _⟩ => ⟨S8x8x4096, .f32⟩
  | .hbm, ⟨57, _⟩ => ⟨S8x8x4096x1, .f32⟩
  | .hbm, ⟨58, _⟩ => ⟨S8x8x4096x4352, .f32⟩
  | .hbm, ⟨59, _⟩ => ⟨S8x8x4096x4352, .f32⟩
  | .hbm, ⟨60, _⟩ => ⟨S8x4x2x4096x4352, .f32⟩
  | .hbm, ⟨61, _⟩ => ⟨S8x4x1x4096x4352, .f32⟩
  | .hbm, ⟨62, _⟩ => ⟨S8x4x4096x4352, .f32⟩
  | .hbm, ⟨63, _⟩ => ⟨S8x4x1x4096x4352, .f32⟩
  | .hbm, ⟨64, _⟩ => ⟨S8x4x4096x4352, .f32⟩
  | .hbm, ⟨65, _⟩ => ⟨S8x4x4096x4352, .f32⟩
  | .hbm, ⟨66, _⟩ => ⟨S8x4x4096x4352, .f32⟩
  | .hbm, ⟨67, _⟩ => ⟨S8x4x4096x4352, .f32⟩
  | .hbm, ⟨68, _⟩ => ⟨S8x4x4096x128, .f32⟩
  | .hbm, ⟨69, _⟩ => ⟨S128, .f32⟩
  | .hbm, ⟨70, _⟩ => ⟨S8x4x4096x128, .f32⟩
  | .hbm, ⟨71, _⟩ => ⟨S_, .f32⟩
  | .hbm, ⟨72, _⟩ => ⟨S8x4x4096, .f32⟩
  | .hbm, ⟨73, _⟩ => ⟨S8x4x4096x1, .f32⟩
  | .hbm, ⟨74, _⟩ => ⟨S_, .f32⟩
  | .hbm, ⟨75, _⟩ => ⟨S8x4x4096x1, .f32⟩
  | .hbm, ⟨76, _⟩ => ⟨S8x4x4096x1, .f32⟩
  | .hbm, ⟨77, _⟩ => ⟨S_, .f32⟩
  | .hbm, ⟨78, _⟩ => ⟨S8x4x4096x1, .f32⟩
  | .hbm, ⟨79, _⟩ => ⟨S8x4x4096x1, .f32⟩
  | .hbm, ⟨80, _⟩ => ⟨S8x4x4096x1, .f32⟩
  | .hbm, ⟨81, _⟩ => ⟨S8x4x4096x128, .f32⟩
  | .hbm, ⟨82, _⟩ => ⟨S8x4x4096x128, .f32⟩
  | .hbm, ⟨83, _⟩ => ⟨S1x1x1x128, .f32⟩
  | .hbm, ⟨84, _⟩ => ⟨S8x4x4096x128, .f32⟩
  | .hbm, ⟨85, _⟩ => ⟨S8x4x4096x128, .f32⟩
  | .hbm, ⟨86, _⟩ => ⟨S_, .f32⟩
  | .hbm, ⟨87, _⟩ => ⟨S8x4x4096x128, .f32⟩
  | .hbm, ⟨88, _⟩ => ⟨S8x4x4096x128, .f32⟩
  | .hbm, ⟨89, _⟩ => ⟨S8x4096x4x128, .f32⟩
  | .hbm, ⟨90, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Experts.lean ====
abbrev S73728x1024 : Shape := ⟨2, ![73728, 1024]⟩
abbrev S288 : Shape := ⟨1, ![288]⟩
abbrev S1 : Shape := ⟨1, ![1]⟩
abbrev S64x1024x512 : Shape := ⟨3, ![64, 1024, 512]⟩
abbrev S64x512x1024 : Shape := ⟨3, ![64, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S73728x1024, .bf16⟩
  | .hbm, ⟨1, _⟩ => ⟨S64x1024x512, .f32⟩
  | .hbm, ⟨2, _⟩ => ⟨S64x1024x512, .f32⟩
  | .hbm, ⟨3, _⟩ => ⟨S64x512x1024, .f32⟩
  | .hbm, ⟨4, _⟩ => ⟨S73728x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .bf16⟩
  | .local _ .vmem, ⟨9, _⟩ => ⟨S256x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S288, .i32⟩
  | .local _ .smem, ⟨1, _⟩ => ⟨S1, .i32⟩
  | _, _ => ⟨S73728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S73728x1024 : Shape := ⟨2, ![73728, 1024]⟩
abbrev S288 : Shape := ⟨1, ![288]⟩
abbrev S1 : Shape := ⟨1, ![1]⟩
abbrev S64x1024x512 : Shape := ⟨3, ![64, 1024, 512]⟩
abbrev S64x512x1024 : Shape := ⟨3, ![64, 512, 1024]⟩
abbrev S2x32x1024x512 : Shape := ⟨4, ![2, 32, 1024, 512]⟩
abbrev S1x32x1024x512 : Shape := ⟨4, ![1, 32, 1024, 512]⟩
abbrev S32x1024x512 : Shape := ⟨3, ![32, 1024, 512]⟩
abbrev S2x32x512x1024 : Shape := ⟨4, ![2, 32, 512, 1024]⟩
abbrev S1x32x512x1024 : Shape := ⟨4, ![1, 32, 512, 1024]⟩
abbrev S32x512x1024 : Shape := ⟨3, ![32, 512, 1024]⟩
abbrev S288x1 : Shape := ⟨2, ![288, 1]⟩
abbrev S288x256 : Shape := ⟨2, ![288, 256]⟩
abbrev S73728 : Shape := ⟨1, ![73728]⟩
abbrev S73728x1 : Shape := ⟨2, ![73728, 1]⟩
abbrev S1x32 : Shape := ⟨2, ![1, 32]⟩
abbrev S73728x32 : Shape := ⟨2, ![73728, 32]⟩
abbrev S32x512x73728 : Shape := ⟨3, ![32, 512, 73728]⟩
abbrev S32x73728x512 : Shape := ⟨3, ![32, 73728, 512]⟩
abbrev S_ : Shape := ⟨0, ![]⟩
abbrev S32x73728 : Shape := ⟨2, ![32, 73728]⟩
abbrev S32x73728x1 : Shape := ⟨3, ![32, 73728, 1]⟩
abbrev S32x73728x1024 : Shape := ⟨3, ![32, 73728, 1024]⟩

abbrev nBuf : Space → Nat
  | .hbm => 47
  | .vmem => 0
  | .smem => 0
  | _ => 0

abbrev bufTy : (tb : Table) → Fin (tcTables nBuf tb) → BufTy
  | .hbm, ⟨0, _⟩ => ⟨S73728x1024, .bf16⟩
  | .hbm, ⟨1, _⟩ => ⟨S288, .i32⟩
  | .hbm, ⟨2, _⟩ => ⟨S1, .i32⟩
  | .hbm, ⟨3, _⟩ => ⟨S64x1024x512, .f32⟩
  | .hbm, ⟨4, _⟩ => ⟨S64x1024x512, .f32⟩
  | .hbm, ⟨5, _⟩ => ⟨S64x512x1024, .f32⟩
  | .hbm, ⟨6, _⟩ => ⟨S2x32x1024x512, .f32⟩
  | .hbm, ⟨7, _⟩ => ⟨S1x32x1024x512, .f32⟩
  | .hbm, ⟨8, _⟩ => ⟨S32x1024x512, .f32⟩
  | .hbm, ⟨9, _⟩ => ⟨S2x32x1024x512, .f32⟩
  | .hbm, ⟨10, _⟩ => ⟨S1x32x1024x512, .f32⟩
  | .hbm, ⟨11, _⟩ => ⟨S32x1024x512, .f32⟩
  | .hbm, ⟨12, _⟩ => ⟨S2x32x512x1024, .f32⟩
  | .hbm, ⟨13, _⟩ => ⟨S1x32x512x1024, .f32⟩
  | .hbm, ⟨14, _⟩ => ⟨S32x512x1024, .f32⟩
  | .hbm, ⟨15, _⟩ => ⟨S73728x1024, .f32⟩
  | .hbm, ⟨16, _⟩ => ⟨S288x1, .i32⟩
  | .hbm, ⟨17, _⟩ => ⟨S288x256, .i32⟩
  | .hbm, ⟨18, _⟩ => ⟨S73728, .i32⟩
  | .hbm, ⟨19, _⟩ => ⟨S73728x1, .i32⟩
  | .hbm, ⟨20, _⟩ => ⟨S1x32, .i32⟩
  | .hbm, ⟨21, _⟩ => ⟨S73728x32, .i32⟩
  | .hbm, ⟨22, _⟩ => ⟨S73728x32, .i32⟩
  | .hbm, ⟨23, _⟩ => ⟨S73728x32, .i1⟩
  | .hbm, ⟨24, _⟩ => ⟨S73728x32, .f32⟩
  | .hbm, ⟨25, _⟩ => ⟨S32x512x73728, .f32⟩
  | .hbm, ⟨26, _⟩ => ⟨S32x73728x512, .f32⟩
  | .hbm, ⟨27, _⟩ => ⟨S32x73728x512, .f32⟩
  | .hbm, ⟨28, _⟩ => ⟨S32x73728x512, .f32⟩
  | .hbm, ⟨29, _⟩ => ⟨S_, .f32⟩
  | .hbm, ⟨30, _⟩ => ⟨S32x73728x512, .f32⟩
  | .hbm, ⟨31, _⟩ => ⟨S32x73728x512, .f32⟩
  | .hbm, ⟨32, _⟩ => ⟨S_, .f32⟩
  | .hbm, ⟨33, _⟩ => ⟨S32x73728x512, .f32⟩
  | .hbm, ⟨34, _⟩ => ⟨S32x73728x512, .f32⟩
  | .hbm, ⟨35, _⟩ => ⟨S32x73728x512, .f32⟩
  | .hbm, ⟨36, _⟩ => ⟨S32x512x73728, .f32⟩
  | .hbm, ⟨37, _⟩ => ⟨S32x73728x512, .f32⟩
  | .hbm, ⟨38, _⟩ => ⟨S32x73728x512, .f32⟩
  | .hbm, ⟨39, _⟩ => ⟨S32x73728, .f32⟩
  | .hbm, ⟨40, _⟩ => ⟨S32x73728x1, .f32⟩
  | .hbm, ⟨41, _⟩ => ⟨S32x73728x1024, .f32⟩
  | .hbm, ⟨42, _⟩ => ⟨S32x73728x1024, .f32⟩
  | .hbm, ⟨43, _⟩ => ⟨S32x73728x1024, .f32⟩
  | .hbm, ⟨44, _⟩ => ⟨S_, .f32⟩
  | .hbm, ⟨45, _⟩ => ⟨S73728x1024, .f32⟩
  | .hbm, ⟨46, _⟩ => ⟨S73728x1024, .bf16⟩
  | _, _ => ⟨S73728x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Later.lean ====
abbrev S73728x1024 : Shape := ⟨2, ![73728, 1024]⟩
abbrev S288 : Shape := ⟨1, ![288]⟩
abbrev S1 : Shape := ⟨1, ![1]⟩
abbrev S64x1024x512 : Shape := ⟨3, ![64, 1024, 512]⟩
abbrev S64x512x1024 : Shape := ⟨3, ![64, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S73728x1024, .bf16⟩
  | .hbm, ⟨1, _⟩ => ⟨S64x1024x512, .f32⟩
  | .hbm, ⟨2, _⟩ => ⟨S64x1024x512, .f32⟩
  | .hbm, ⟨3, _⟩ => ⟨S64x512x1024, .f32⟩
  | .hbm, ⟨4, _⟩ => ⟨S73728x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .bf16⟩
  | .local _ .vmem, ⟨9, _⟩ => ⟨S256x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S288, .i32⟩
  | .local _ .smem, ⟨1, _⟩ => ⟨S1, .i32⟩
  | _, _ => ⟨S73728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LaterReferenceIdeal.lean ====
abbrev S73728x1024 : Shape := ⟨2, ![73728, 1024]⟩
abbrev S288 : Shape := ⟨1, ![288]⟩
abbrev S1 : Shape := ⟨1, ![1]⟩
abbrev S64x1024x512 : Shape := ⟨3, ![64, 1024, 512]⟩
abbrev S64x512x1024 : Shape := ⟨3, ![64, 512, 1024]⟩
abbrev S2x32x1024x512 : Shape := ⟨4, ![2, 32, 1024, 512]⟩
abbrev S1x32x1024x512 : Shape := ⟨4, ![1, 32, 1024, 512]⟩
abbrev S32x1024x512 : Shape := ⟨3, ![32, 1024, 512]⟩
abbrev S2x32x512x1024 : Shape := ⟨4, ![2, 32, 512, 1024]⟩
abbrev S1x32x512x1024 : Shape := ⟨4, ![1, 32, 512, 1024]⟩
abbrev S32x512x1024 : Shape := ⟨3, ![32, 512, 1024]⟩
abbrev S288x1 : Shape := ⟨2, ![288, 1]⟩
abbrev S288x256 : Shape := ⟨2, ![288, 256]⟩
abbrev S73728 : Shape := ⟨1, ![73728]⟩
abbrev S73728x1 : Shape := ⟨2, ![73728, 1]⟩
abbrev S1x32 : Shape := ⟨2, ![1, 32]⟩
abbrev S73728x32 : Shape := ⟨2, ![73728, 32]⟩
abbrev S32x512x73728 : Shape := ⟨3, ![32, 512, 73728]⟩
abbrev S32x73728x512 : Shape := ⟨3, ![32, 73728, 512]⟩
abbrev S_ : Shape := ⟨0, ![]⟩
abbrev S32x73728 : Shape := ⟨2, ![32, 73728]⟩
abbrev S32x73728x1 : Shape := ⟨3, ![32, 73728, 1]⟩
abbrev S32x73728x1024 : Shape := ⟨3, ![32, 73728, 1024]⟩

abbrev nBuf : Space → Nat
  | .hbm => 47
  | .vmem => 0
  | .smem => 0
  | _ => 0

abbrev bufTy : (tb : Table) → Fin (tcTables nBuf tb) → BufTy
  | .hbm, ⟨0, _⟩ => ⟨S73728x1024, .bf16⟩
  | .hbm, ⟨1, _⟩ => ⟨S288, .i32⟩
  | .hbm, ⟨2, _⟩ => ⟨S1, .i32⟩
  | .hbm, ⟨3, _⟩ => ⟨S64x1024x512, .f32⟩
  | .hbm, ⟨4, _⟩ => ⟨S64x1024x512, .f32⟩
  | .hbm, ⟨5, _⟩ => ⟨S64x512x1024, .f32⟩
  | .hbm, ⟨6, _⟩ => ⟨S2x32x1024x512, .f32⟩
  | .hbm, ⟨7, _⟩ => ⟨S1x32x1024x512, .f32⟩
  | .hbm, ⟨8, _⟩ => ⟨S32x1024x512, .f32⟩
  | .hbm, ⟨9, _⟩ => ⟨S2x32x1024x512, .f32⟩
  | .hbm, ⟨10, _⟩ => ⟨S1x32x1024x512, .f32⟩
  | .hbm, ⟨11, _⟩ => ⟨S32x1024x512, .f32⟩
  | .hbm, ⟨12, _⟩ => ⟨S2x32x512x1024, .f32⟩
  | .hbm, ⟨13, _⟩ => ⟨S1x32x512x1024, .f32⟩
  | .hbm, ⟨14, _⟩ => ⟨S32x512x1024, .f32⟩
  | .hbm, ⟨15, _⟩ => ⟨S73728x1024, .f32⟩
  | .hbm, ⟨16, _⟩ => ⟨S288x1, .i32⟩
  | .hbm, ⟨17, _⟩ => ⟨S288x256, .i32⟩
  | .hbm, ⟨18, _⟩ => ⟨S73728, .i32⟩
  | .hbm, ⟨19, _⟩ => ⟨S73728x1, .i32⟩
  | .hbm, ⟨20, _⟩ => ⟨S1x32, .i32⟩
  | .hbm, ⟨21, _⟩ => ⟨S73728x32, .i32⟩
  | .hbm, ⟨22, _⟩ => ⟨S73728x32, .i32⟩
  | .hbm, ⟨23, _⟩ => ⟨S73728x32, .i1⟩
  | .hbm, ⟨24, _⟩ => ⟨S73728x32, .f32⟩
  | .hbm, ⟨25, _⟩ => ⟨S32x512x73728, .f32⟩
  | .hbm, ⟨26, _⟩ => ⟨S32x73728x512, .f32⟩
  | .hbm, ⟨27, _⟩ => ⟨S32x73728x512, .f32⟩
  | .hbm, ⟨28, _⟩ => ⟨S32x73728x512, .f32⟩
  | .hbm, ⟨29, _⟩ => ⟨S_, .f32⟩
  | .hbm, ⟨30, _⟩ => ⟨S32x73728x512, .f32⟩
  | .hbm, ⟨31, _⟩ => ⟨S32x73728x512, .f32⟩
  | .hbm, ⟨32, _⟩ => ⟨S_, .f32⟩
  | .hbm, ⟨33, _⟩ => ⟨S32x73728x512, .f32⟩
  | .hbm, ⟨34, _⟩ => ⟨S32x73728x512, .f32⟩
  | .hbm, ⟨35, _⟩ => ⟨S32x73728x512, .f32⟩
  | .hbm, ⟨36, _⟩ => ⟨S32x512x73728, .f32⟩
  | .hbm, ⟨37, _⟩ => ⟨S32x73728x512, .f32⟩
  | .hbm, ⟨38, _⟩ => ⟨S32x73728x512, .f32⟩
  | .hbm, ⟨39, _⟩ => ⟨S32x73728, .f32⟩
  | .hbm, ⟨40, _⟩ => ⟨S32x73728x1, .f32⟩
  | .hbm, ⟨41, _⟩ => ⟨S32x73728x1024, .f32⟩
  | .hbm, ⟨42, _⟩ => ⟨S32x73728x1024, .f32⟩
  | .hbm, ⟨43, _⟩ => ⟨S32x73728x1024, .f32⟩
  | .hbm, ⟨44, _⟩ => ⟨S_, .f32⟩
  | .hbm, ⟨45, _⟩ => ⟨S73728x1024, .f32⟩
  | .hbm, ⟨46, _⟩ => ⟨S73728x1024, .bf16⟩
  | _, _ => ⟨S73728x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Combine.lean ====
abbrev S32768x1024 : Shape := ⟨2, ![32768, 1024]⟩
abbrev S8x1x1024 : Shape := ⟨3, ![8, 1, 1024]⟩
abbrev S32768x128 : Shape := ⟨2, ![32768, 128]⟩
abbrev S65536x1024 : Shape := ⟨2, ![65536, 1024]⟩
abbrev S1024 : Shape := ⟨1, ![1024]⟩
abbrev S1x1024 : Shape := ⟨2, ![1, 1024]⟩
abbrev S512x1024 : Shape := ⟨2, ![512, 1024]⟩
abbrev S1x1x1024 : Shape := ⟨3, ![1, 1, 1024]⟩
abbrev S512x128 : Shape := ⟨2, ![512, 128]⟩
abbrev S512x1 : Shape := ⟨2, ![512, 1]⟩
abbrev S512 : Shape := ⟨1, ![512]⟩

abbrev nBuf : Space → Nat
  | .hbm => 7
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S32768x128, .f32⟩
  | .hbm, ⟨3, _⟩ => ⟨S65536x1024, .bf16⟩
  | .hbm, ⟨4, _⟩ => ⟨S1024, .f32⟩
  | .hbm, ⟨5, _⟩ => ⟨S1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineReferenceIdeal.lean ====
abbrev S32768x1024 : Shape := ⟨2, ![32768, 1024]⟩
abbrev S8x1x1024 : Shape := ⟨3, ![8, 1, 1024]⟩
abbrev S32768x128 : Shape := ⟨2, ![32768, 128]⟩
abbrev S65536x1024 : Shape := ⟨2, ![65536, 1024]⟩
abbrev S1024 : Shape := ⟨1, ![1024]⟩
abbrev S32768x2 : Shape := ⟨2, ![32768, 2]⟩
abbrev S2x32768 : Shape := ⟨2, ![2, 32768]⟩
abbrev S2x32768x1 : Shape := ⟨3, ![2, 32768, 1]⟩
abbrev S2x32768x1024 : Shape := ⟨3, ![2, 32768, 1024]⟩
abbrev S_ : Shape := ⟨0, ![]⟩
abbrev S8x4096x1024 : Shape := ⟨3, ![8, 4096, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S32768x128, .f32⟩
  | .hbm, ⟨3, _⟩ => ⟨S65536x1024, .bf16⟩
  | .hbm, ⟨4, _⟩ => ⟨S1024, .f32⟩
  | .hbm, ⟨5, _⟩ => ⟨S32768x2, .f32⟩
  | .hbm, ⟨6, _⟩ => ⟨S2x32768, .f32⟩
  | .hbm, ⟨7, _⟩ => ⟨S2x32768x1, .f32⟩
  | .hbm, ⟨8, _⟩ => ⟨S2x32768x1024, .bf16⟩
  | .hbm, ⟨9, _⟩ => ⟨S2x32768x1024, .f32⟩
  | .hbm, ⟨10, _⟩ => ⟨S2x32768x1024, .f32⟩
  | .hbm, ⟨11, _⟩ => ⟨S2x32768x1024, .f32⟩
  | .hbm, ⟨12, _⟩ => ⟨S_, .f32⟩
  | .hbm, ⟨13, _⟩ => ⟨S32768x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== InProj.lean ====
abbrev S32768x1024 : Shape := ⟨2, ![32768, 1024]⟩
abbrev S2x1024 : Shape := ⟨2, ![2, 1024]⟩
abbrev S8x1x1024 : Shape := ⟨3, ![8, 1, 1024]⟩
abbrev S1x1024x3072 : Shape := ⟨3, ![1, 1024, 3072]⟩
abbrev S4096 : Shape := ⟨1, ![4096]⟩
abbrev S_ : Shape := ⟨0, ![]⟩
abbrev S16 : Shape := ⟨1, ![16]⟩
abbrev S64 : Shape := ⟨1, ![64]⟩
abbrev S1x64 : Shape := ⟨2, ![1, 64]⟩
abbrev S4096x1 : Shape := ⟨2, ![4096, 1]⟩
abbrev S4096x64 : Shape := ⟨2, ![4096, 64]⟩
abbrev S64x1 : Shape := ⟨2, ![64, 1]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S1x1024 : Shape := ⟨2, ![1, 1024]⟩
abbrev S1024 : Shape := ⟨1, ![1024]⟩
abbrev S1024x3072 : Shape := ⟨2, ![1024, 3072]⟩
abbrev S32768x512 : Shape := ⟨2, ![32768, 512]⟩
abbrev S32768x1536 : Shape := ⟨2, ![32768, 1536]⟩
abbrev S512x1024 : Shape := ⟨2, ![512, 1024]⟩
abbrev S1x1x1024 : Shape := ⟨3, ![1, 1, 1024]⟩
abbrev S512x256 : Shape := ⟨2, ![512, 256]⟩
abbrev S512x512 : Shape := ⟨2, ![512, 512]⟩
abbrev S512x1536 : Shape := ⟨2, ![512, 1536]⟩
abbrev S512 : Shape := ⟨1, ![512]⟩
abbrev S512x1 : Shape := ⟨2, ![512, 1]⟩
abbrev S1024x256 : Shape := ⟨2, ![1024, 256]⟩
abbrev S1024x512 : Shape := ⟨2, ![1024, 512]⟩

abbrev nBuf : Space → Nat
  | .hbm => 158
  | .vmem => 20
  | .smem => 0
  | _ => 0

abbrev hbmTy0_0 (i : Nat) : BufTy := match i % 128 with
  | 0 => ⟨S32768x1024, .f32⟩
  | 1 => ⟨S2x1024, .f32⟩
  | 2 => ⟨S8x1x1024, .f32⟩
  | 3 => ⟨S8x1x1024, .f32⟩
  | 4 => ⟨S1x1024x3072, .f32⟩
  | 5 => ⟨S4096, .i32⟩
  | 6 => ⟨S_, .i32⟩
  | 7 => ⟨S_, .i32⟩
  | 8 => ⟨S4096, .i32⟩
  | 9 => ⟨S4096, .i32⟩
  | 10 => ⟨S4096, .i32⟩
  | 11 => ⟨S_, .i32⟩
  | 12 => ⟨S4096, .i32⟩
  | 13 => ⟨S4096, .i1⟩
  | 14 => ⟨S4096, .i32⟩
  | 15 => ⟨S4096, .i32⟩
  | 16 => ⟨S_, .i32⟩
  | 17 => ⟨S4096, .i32⟩
  | 18 => ⟨S4096, .i1⟩
  | 19 => ⟨S4096, .i1⟩
  | 20 => ⟨S_, .i32⟩
  | 21 => ⟨S4096, .i32⟩
  | 22 => ⟨S4096, .i32⟩
  | 23 => ⟨S4096, .i32⟩
  | 24 => ⟨S4096, .f32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S4096, .i32⟩
  | 32 => ⟨S4096, .i32⟩
  | 33 => ⟨S_, .i32⟩
  | 34 => ⟨S4096, .i32⟩
  | 35 => ⟨S4096, .i1⟩
  | 36 => ⟨S_, .i32⟩
  | 37 => ⟨S4096, .i32⟩
  | 38 => ⟨S4096, .i1⟩
  | 39 => ⟨S_, .i32⟩
  | 40 => ⟨S_, .i1⟩
  | 41 => ⟨S4096, .i1⟩
  | 42 => ⟨S4096, .i1⟩
  | 43 => ⟨S4096, .i1⟩
  | 44 => ⟨S4096, .i32⟩
  | 45 => ⟨S4096, .i32⟩
  | 46 => ⟨S4096, .i32⟩
  | 47 => ⟨S4096, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S64, .i32⟩
  | 63 => ⟨S_, .i32⟩
  | 64 => ⟨S64, .i32⟩
  | 65 => ⟨S64, .i1⟩
  | 66 => ⟨S1x64, .i1⟩
  | 67 => ⟨S4096x1, .f32⟩
  | 68 => ⟨S4096x1, .f32⟩
  | 69 => ⟨S4096x64, .i1⟩
  | 70 => ⟨S4096x64, .f32⟩
  | 71 => ⟨S4096x64, .f32⟩
  | 72 => ⟨S4096x64, .f32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S64, .i32⟩
  | 80 => ⟨S64, .i32⟩
  | 81 => ⟨S_, .i32⟩
  | 82 => ⟨S64, .i32⟩
  | 83 => ⟨S64, .i1⟩
  | 84 => ⟨S_, .i32⟩
  | 85 => ⟨S64, .i32⟩
  | 86 => ⟨S64, .i1⟩
  | 87 => ⟨S_, .i32⟩
  | 88 => ⟨S_, .i1⟩
  | 89 => ⟨S64, .i1⟩
  | 90 => ⟨S64, .i1⟩
  | 91 => ⟨S64, .i1⟩
  | 92 => ⟨S64, .i32⟩
  | 93 => ⟨S64, .i32⟩
  | 94 => ⟨S64, .i32⟩
  | 95 => ⟨S_, .i32⟩
  | 96 => ⟨S64, .i32⟩
  | 97 => ⟨S64, .i1⟩
  | 98 => ⟨S_, .i32⟩
  | 99 => ⟨S64, .i32⟩
  | 100 => ⟨S64, .i32⟩
  | 101 => ⟨S64, .i32⟩
  | 102 => ⟨S64x1, .i32⟩
  | 103 => ⟨S64, .f32⟩
  | 104 => ⟨S1x64, .f32⟩
  | 105 => ⟨S4096x64, .f32⟩
  | 106 => ⟨S4096x64, .f32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S64, .i32⟩
  | 114 => ⟨S64, .i32⟩
  | 115 => ⟨S_, .i32⟩
  | 116 => ⟨S64, .i32⟩
  | 117 => ⟨S64, .i1⟩
  | 118 => ⟨S_, .i32⟩
  | 119 => ⟨S64, .i32⟩
  | 120 => ⟨S64, .i1⟩
  | 121 => ⟨S_, .i32⟩
  | 122 => ⟨S_, .i1⟩
  | 123 => ⟨S64, .i1⟩
  | 124 => ⟨S64, .i1⟩
  | 125 => ⟨S64, .i1⟩
  | 126 => ⟨S64, .i32⟩
  | 127 => ⟨S64, .i32⟩
  | _ => ⟨S32768x1024, .f32⟩

abbrev hbmTy0_1 (i : Nat) : BufTy := match i % 128 with
  | 0 => ⟨S64, .i32⟩
  | 1 => ⟨S_, .i32⟩
  | 2 => ⟨S64, .i32⟩
  | 3 => ⟨S64, .i1⟩
  | 4 => ⟨S_, .f32⟩
  | 5 => ⟨S_, .f32⟩
  | 6 => ⟨S64, .f32⟩
  | 7 => ⟨S64, .f32⟩
  | 8 => ⟨S64, .f32⟩
  | 9 => ⟨S1x64, .f32⟩
  | 10 => ⟨S4096x64, .f32⟩
  | 11 => ⟨S1x4096x1x64, .f32⟩
  | 12 => ⟨S1x4096x4x64, .f32⟩
  | 13 => ⟨S4096x256, .f32⟩
  | 14 => ⟨S4096x64, .f32⟩
  | 15 => ⟨S1x64, .f32⟩
  | 16 => ⟨S4096x64, .f32⟩
  | 17 => ⟨S4096x64, .f32⟩
  | 18 => ⟨S1x4096x1x64, .f32⟩
  | 19 => ⟨S1x4096x4x64, .f32⟩
  | 20 => ⟨S4096x256, .f32⟩
  | 21 => ⟨S1x1024, .f32⟩
  | 22 => ⟨S1024, .f32⟩
  | 23 => ⟨S1x1024, .f32⟩
  | 24 => ⟨S1024x3072, .f32⟩
  | 25 => ⟨S1024x3072, .bf16⟩
  | 26 => ⟨S32768x512, .bf16⟩
  | 27 => ⟨S32768x512, .bf16⟩
  | 28 => ⟨S32768x512, .bf16⟩
  | 29 => ⟨S32768x1536, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S1024x3072, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x1536, .f32⟩
  | .local _ .vmem, ⟨19, _⟩ => ⟨S512x1536, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_cst : Ref sig .tc := ⟨.hbm, 49, rfl⟩
abbrev main_v6 : Ref sig .tc := ⟨.hbm, 50, rfl⟩
abbrev main_v7 : Ref sig .tc := ⟨.hbm, 51, rfl⟩
abbrev main_cst_1 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_cst_2 : Ref sig .tc := ⟨.hbm, 56, rfl⟩
abbrev main_v11 : Ref sig .tc := ⟨.hbm, 57, rfl⟩
abbrev main_v12 : Ref sig .tc := ⟨.hbm, 58, rfl⟩
abbrev main_cst_3 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_c_4 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v21 : Ref sig .tc := ⟨.hbm, 72, rfl⟩
abbrev main_c_5 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v22 : Ref sig .tc := ⟨.hbm, 94, rfl⟩
abbrev main_c_6 : Ref sig .tc := ⟨.hbm, 95, rfl⟩
abbrev main_v23 : Ref sig .tc := ⟨.hbm, 96, rfl⟩
abbrev main_v24 : Ref sig .tc := ⟨.hbm, 97, rfl⟩
abbrev main_c_7 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_c_8 : Ref sig .tc := ⟨.hbm, 107, rfl⟩
abbrev main_call4_v0 : Ref sig .tc := ⟨.hbm, 108, rfl⟩
abbrev main_call4_c : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_c_1 : Ref sig .tc := ⟨.hbm, 115, rfl⟩
abbrev main_call4_v5 : Ref sig .tc := ⟨.hbm, 116, rfl⟩
abbrev main_call4_v6 : Ref sig .tc := ⟨.hbm, 117, rfl⟩
abbrev main_call4_c_2 : Ref sig .tc := ⟨.hbm, 118, rfl⟩
abbrev main_call4_v7 : Ref sig .tc := ⟨.hbm, 119, rfl⟩
abbrev main_call4_v8 : Ref sig .tc := ⟨.hbm, 120, rfl⟩
abbrev main_call4_c_3 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_v33 : Ref sig .tc := ⟨.hbm, 128, rfl⟩
abbrev main_c_9 : Ref sig .tc := ⟨.hbm, 129, rfl⟩
abbrev main_v34 : Ref sig .tc := ⟨.hbm, 130, rfl⟩
abbrev main_v35 : Ref sig .tc := ⟨.hbm, 131, rfl⟩
abbrev main_cst_10 : Ref sig .tc := ⟨.hbm, 132, rfl⟩
abbrev main_cst_11 : Ref sig .tc := ⟨.hbm, 133, rfl⟩
abbrev main_call5_v0 : Ref sig .tc := ⟨.hbm, 134, rfl⟩
abbrev main_call5_v1 : Ref sig .tc := ⟨.hbm, 135, rfl⟩
abbrev main_v36 : Ref sig .tc := ⟨.hbm, 136, rfl⟩
abbrev main_v37 : Ref sig .tc := ⟨.hbm, 137, rfl⟩
abbrev main_v38 : Ref sig .tc := ⟨.hbm, 138, rfl⟩
abbrev main_v39 : Ref sig .tc := ⟨.hbm, 139, rfl⟩
abbrev main_v40 : Ref sig .tc := ⟨.hbm, 140, rfl⟩
abbrev main_v41 : Ref sig .tc := ⟨.hbm, 141, rfl⟩
abbrev main_v42 : Ref sig .tc := ⟨.hbm, 142, rfl⟩
abbrev main_v43 : Ref sig .tc := ⟨.hbm, 143, rfl⟩
abbrev main_v44 : Ref sig .tc := ⟨.hbm, 144, rfl⟩
abbrev main_v45 : Ref sig .tc := ⟨.hbm, 145, rfl⟩
abbrev main_v46 : Ref sig .tc := ⟨.hbm, 146, rfl⟩
abbrev main_v47 : Ref sig .tc := ⟨.hbm, 147, rfl⟩
abbrev main_v48 : Ref sig .tc := ⟨.hbm, 148, rfl⟩
abbrev main_v49 : Ref sig .tc := ⟨.hbm, 149, rfl⟩
abbrev main_v50 : Ref sig .tc := ⟨.hbm, 150, rfl⟩
abbrev main_v51 : Ref sig .tc := ⟨.hbm, 151, rfl⟩
abbrev main_v52 : Ref sig .tc := ⟨.hbm, 152, rfl⟩
abbrev main_v53 : Ref sig .tc := ⟨.hbm, 153, rfl⟩
abbrev main_v54_0 : Ref sig .tc := ⟨.hbm, 154, rfl⟩
abbrev main_v54_1 : Ref sig .tc := ⟨.hbm, 155, rfl⟩
abbrev main_v54_2 : Ref sig .tc := ⟨.hbm, 156, rfl⟩
abbrev main_v54_3 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjReferenceIdeal.lean ====
abbrev S32768x1024 : Shape := ⟨2, ![32768, 1024]⟩
abbrev S2x1024 : Shape := ⟨2, ![2, 1024]⟩
abbrev S8x1x1024 : Shape := ⟨3, ![8, 1, 1024]⟩
abbrev S1x1024x3072 : Shape := ⟨3, ![1, 1024, 3072]⟩
abbrev S8x4096x1024 : Shape := ⟨3, ![8, 4096, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x3072 : Shape := ⟨2, ![1024, 3072]⟩
abbrev S8x4096x3072 : Shape := ⟨3, ![8, 4096, 3072]⟩
abbrev S8x4096x512 : Shape := ⟨3, ![8, 4096, 512]⟩
abbrev S8x4096x8x64 : Shape := ⟨4, ![8, 4096, 8, 64]⟩
abbrev S8x8x4096x64 : Shape := ⟨4, ![8, 8, 4096, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S8x8x4096x32 : Shape := ⟨4, ![8, 8, 4096, 32]⟩
abbrev S4096x1 : Shape := ⟨2, ![4096, 1]⟩
abbrev S1x16 : Shape := ⟨2, ![1, 16]⟩
abbrev S4096x16 : Shape := ⟨2, ![4096, 16]⟩
abbrev S8x8x4096x16 : Shape := ⟨4, ![8, 8, 4096, 16]⟩
abbrev S1x1x4096x16 : Shape := ⟨4, ![1, 1, 4096, 16]⟩
abbrev S32768x512 : Shape := ⟨2, ![32768, 512]⟩
abbrev S8x4096x1536 : Shape := ⟨3, ![8, 4096, 1536]⟩
abbrev S32768x1536 : Shape := ⟨2, ![32768, 1536]⟩

abbrev nBuf : Space → Nat
  | .hbm => 197
  | .vmem => 0
  | .smem => 0
  | _ => 0

abbrev hbmTy0_0 (i : Nat) : BufTy := match i % 128 with
  | 0 => ⟨S32768x1024, .f32⟩
  | 1 => ⟨S2x1024, .f32⟩
  | 2 => ⟨S8x1x1024, .f32⟩
  | 3 => ⟨S8x1x1024, .f32⟩
  | 4 => ⟨S1x1024x3072, .f32⟩
  | 5 => ⟨S8x4096x1024, .f32⟩
  | 6 => ⟨S1x1024, .f32⟩
  | 7 => ⟨S1024, .f32⟩
  | 8 => ⟨S8x4096x1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x1024, .f32⟩
  | 20 => ⟨S8x4096x1024, .f32⟩
  | 21 => ⟨S1x1x1024, .f32⟩
  | 22 => ⟨S8x4096x1024, .f32⟩
  | 23 => ⟨S8x4096x1024, .f32⟩
  | 24 => ⟨S_, .f32⟩
  | 25 => ⟨S8x1x1024, .f32⟩
  | 26 => ⟨S8x1x1024, .f32⟩
  | 27 => ⟨S8x4096x1024, .f32⟩
  | 28 => ⟨S8x4096x1024, .f32⟩
  | 29 => ⟨S8x4096x1024, .f32⟩
  | 30 => ⟨S8x4096x1024, .f32⟩
  | 31 => ⟨S1024x3072, .f32⟩
  | 32 => ⟨S8x4096x3072, .f32⟩
  | 33 => ⟨S8x4096x512, .f32⟩
  | 34 => ⟨S8x4096x8x64, .f32⟩
  | 35 => ⟨S8x8x4096x64, .f32⟩
  | 36 => ⟨S64, .f32⟩
  | 37 => ⟨S64x64, .f32⟩
  | 38 => ⟨S4096, .f32⟩
  | 39 => ⟨S64, .f32⟩
  | 40 => ⟨S1x64, .f32⟩
  | 41 => ⟨S64x64, .f32⟩
  | 42 => ⟨S4096, .f32⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S8x8x4096x32, .f32⟩
  | 58 => ⟨S4096x1, .f32⟩
  | 59 => ⟨S1x16, .f32⟩
  | 60 => ⟨S4096x16, .f32⟩
  | 61 => ⟨S4096x16, .f32⟩
  | 62 => ⟨S4096x16, .f32⟩
  | 63 => ⟨S4096x16, .f32⟩
  | 64 => ⟨S4096x16, .f32⟩
  | 65 => ⟨S8x8x4096x16, .f32⟩
  | 66 => ⟨S8x8x4096x16, .f32⟩
  | 67 => ⟨S1x1x4096x16, .f32⟩
  | 68 => ⟨S8x8x4096x16, .f32⟩
  | 69 => ⟨S8x8x4096x16, .f32⟩
  | 70 => ⟨S1x1x4096x16, .f32⟩
  | 71 => ⟨S8x8x4096x16, .f32⟩
  | 72 => ⟨S8x8x4096x16, .f32⟩
  | 73 => ⟨S8x8x4096x16, .f32⟩
  | 74 => ⟨S1x1x4096x16, .f32⟩
  | 75 => ⟨S8x8x4096x16, .f32⟩
  | 76 => ⟨S8x8x4096x16, .f32⟩
  | 77 => ⟨S1x1x4096x16, .f32⟩
  | 78 => ⟨S8x8x4096x16, .f32⟩
  | 79 => ⟨S8x8x4096x16, .f32⟩
  | 80 => ⟨S8x8x4096x16, .f32⟩
  | 81 => ⟨S8x8x4096x32, .f32⟩
  | 82 => ⟨S8x8x4096x32, .f32⟩
  | 83 => ⟨S4096x1, .f32⟩
  | 84 => ⟨S1x16, .f32⟩
  | 85 => ⟨S4096x16, .f32⟩
  | 86 => ⟨S4096x16, .f32⟩
  | 87 => ⟨S4096x16, .f32⟩
  | 88 => ⟨S4096x16, .f32⟩
  | 89 => ⟨S4096x16, .f32⟩
  | 90 => ⟨S8x8x4096x16, .f32⟩
  | 91 => ⟨S8x8x4096x16, .f32⟩
  | 92 => ⟨S1x1x4096x16, .f32⟩
  | 93 => ⟨S8x8x4096x16, .f32⟩
  | 94 => ⟨S8x8x4096x16, .f32⟩
  | 95 => ⟨S1x1x4096x16, .f32⟩
  | 96 => ⟨S8x8x4096x16, .f32⟩
  | 97 => ⟨S8x8x4096x16, .f32⟩
  | 98 => ⟨S8x8x4096x16, .f32⟩
  | 99 => ⟨S1x1x4096x16, .f32⟩
  | 100 => ⟨S8x8x4096x16, .f32⟩
  | 101 => ⟨S8x8x4096x16, .f32⟩
  | 102 => ⟨S1x1x4096x16, .f32⟩
  | 103 => ⟨S8x8x4096x16, .f32⟩
  | 104 => ⟨S8x8x4096x16, .f32⟩
  | 105 => ⟨S8x8x4096x16, .f32⟩
  | 106 => ⟨S8x8x4096x32, .f32⟩
  | 107 => ⟨S8x8x4096x64, .f32⟩
  | 108 => ⟨S8x4096x8x64, .f32⟩
  | 109 => ⟨S32768x512, .f32⟩
  | 110 => ⟨S_, .f32⟩
  | 111 => ⟨S32768x512, .f32⟩
  | 112 => ⟨S32768x512, .f32⟩
  | 113 => ⟨S8x4096x512, .f32⟩
  | 114 => ⟨S8x4096x8x64, .f32⟩
  | 115 => ⟨S8x8x4096x64, .f32⟩
  | 116 => ⟨S64, .f32⟩
  | 117 => ⟨S64x64, .f32⟩
  | 118 => ⟨S4096, .f32⟩
  | 119 => ⟨S64, .f32⟩
  | 120 => ⟨S1x64, .f32⟩
  | 121 => ⟨S64x64, .f32⟩
  | 122 => ⟨S4096, .f32⟩
  | 123 => ⟨S16, .f32⟩
  | 124 => ⟨S_, .f32⟩
  | 125 => ⟨S16, .f32⟩
  | 126 => ⟨S16, .f32⟩
  | 127 => ⟨S_, .f32⟩
  | _ => ⟨S32768x1024, .f32⟩

abbrev hbmTy0_1 (i : Nat) : BufTy := match i % 128 with
  | 0 => ⟨S16, .f32⟩
  | 1 => ⟨S16, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S8x8x4096x32, .f32⟩
  | 10 => ⟨S4096x1, .f32⟩
  | 11 => ⟨S1x16, .f32⟩
  | 12 => ⟨S4096x16, .f32⟩
  | 13 => ⟨S4096x16, .f32⟩
  | 14 => ⟨S4096x16, .f32⟩
  | 15 => ⟨S4096x16, .f32⟩
  | 16 => ⟨S4096x16, .f32⟩
  | 17 => ⟨S8x8x4096x16, .f32⟩
  | 18 => ⟨S8x8x4096x16, .f32⟩
  | 19 => ⟨S1x1x4096x16, .f32⟩
  | 20 => ⟨S8x8x4096x16, .f32⟩
  | 21 => ⟨S8x8x4096x16, .f32⟩
  | 22 => ⟨S1x1x4096x16, .f32⟩
  | 23 => ⟨S8x8x4096x16, .f32⟩
  | 24 => ⟨S8x8x4096x16, .f32⟩
  | 25 => ⟨S8x8x4096x16, .f32⟩
  | 26 => ⟨S1x1x4096x16, .f32⟩
  | 27 => ⟨S8x8x4096x16, .f32⟩
  | 28 => ⟨S8x8x4096x16, .f32⟩
  | 29 => ⟨S1x1x4096x16, .f32⟩
  | 30 => ⟨S8x8x4096x16, .f32⟩
  | 31 => ⟨S8x8x4096x16, .f32⟩
  | 32 => ⟨S8x8x4096x16, .f32⟩
  | 33 => ⟨S8x8x4096x32, .f32⟩
  | 34 => ⟨S8x8x4096x32, .f32⟩
  | 35 => ⟨S4096x1, .f32⟩
  | 36 => ⟨S1x16, .f32⟩
  | 37 => ⟨S4096x16, .f32⟩
  | 38 => ⟨S4096x16, .f32⟩
  | 39 => ⟨S4096x16, .f32⟩
  | 40 => ⟨S4096x16, .f32⟩
  | 41 => ⟨S4096x16, .f32⟩
  | 42 => ⟨S8x8x4096x16, .f32⟩
  | 43 => ⟨S8x8x4096x16, .f32⟩
  | 44 => ⟨S1x1x4096x16, .f32⟩
  | 45 => ⟨S8x8x4096x16, .f32⟩
  | 46 => ⟨S8x8x4096x16, .f32⟩
  | 47 => ⟨S1x1x4096x16, .f32⟩
  | 48 => ⟨S8x8x4096x16, .f32⟩
  | 49 => ⟨S8x8x4096x16, .f32⟩
  | 50 => ⟨S8x8x4096x16, .f32⟩
  | 51 => ⟨S1x1x4096x16, .f32⟩
  | 52 => ⟨S8x8x4096x16, .f32⟩
  | 53 => ⟨S8x8x4096x16, .f32⟩
  | 54 => ⟨S1x1x4096x16, .f32⟩
  | 55 => ⟨S8x8x4096x16, .f32⟩
  | 56 => ⟨S8x8x4096x16, .f32⟩
  | 57 => ⟨S8x8x4096x16, .f32⟩
  | 58 => ⟨S8x8x4096x32, .f32⟩
  | 59 => ⟨S8x8x4096x64, .f32⟩
  | 60 => ⟨S8x4096x8x64, .f32⟩
  | 61 => ⟨S32768x512, .f32⟩
  | 62 => ⟨S8x4096x512, .f32⟩
  | 63 => ⟨S32768x512, .f32⟩
  | 64 => ⟨S8x4096x1536, .f32⟩
  | 65 => ⟨S32768x1536, .f32⟩
  | 66 => ⟨S32768x512, .bf16⟩
  | 67 => ⟨S32768x512, .bf16⟩
  | 68 => ⟨S32768x512, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_7 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_cst_8 : Ref sig .tc := ⟨.hbm, 124, rfl⟩
abbrev main_v110 : Ref sig .tc := ⟨.hbm, 125, rfl⟩
abbrev main_v111 : Ref sig .tc := ⟨.hbm, 126, rfl⟩
abbrev main_cst_9 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_cst_10 : Ref sig .tc := ⟨.hbm, 131, rfl⟩
abbrev main_v115 : Ref sig .tc := ⟨.hbm, 132, rfl⟩
abbrev main_v116 : Ref sig .tc := ⟨.hbm, 133, rfl⟩
abbrev main_cst_11 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩

abbrev nD : Nat := 1
abbrev τ : Topo := Topo.v7x

variable {F : FTy → Type} [FloatOps F]
-- ==== OutProj.lean ====
abbrev S32768x1024 : Shape := ⟨2, ![32768, 1024]⟩
abbrev S8x1x1024 : Shape := ⟨3, ![8, 1, 1024]⟩
abbrev S32768x512 : Shape := ⟨2, ![32768, 512]⟩
abbrev S64x32x64x128 : Shape := ⟨4, ![64, 32, 64, 128]⟩
abbrev S1x1024x1024 : Shape := ⟨3, ![1, 1024, 1024]⟩
abbrev S1024x1024 : Shape := ⟨2, ![1024, 1024]⟩
abbrev S512x1024 : Shape := ⟨2, ![512, 1024]⟩
abbrev S1x1x1024 : Shape := ⟨3, ![1, 1, 1024]⟩
abbrev S512x512 : Shape := ⟨2, ![512, 512]⟩
abbrev S64x4x8x128 : Shape := ⟨4, ![64, 4, 8, 128]⟩
abbrev S64x1x8x128 : Shape := ⟨4, ![64, 1, 8, 128]⟩
abbrev S64x8x128 : Shape := ⟨3, ![64, 8, 128]⟩
abbrev S512x128 : Shape := ⟨2, ![512, 128]⟩
abbrev S128x512 : Shape := ⟨2, ![128, 512]⟩
abbrev S128x1024 : Shape := ⟨2, ![128, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S32768x512, .f32⟩
  | .hbm, ⟨3, _⟩ => ⟨S64x32x64x128, .f32⟩
  | .hbm, ⟨4, _⟩ => ⟨S1x1024x1024, .f32⟩
  | .hbm, ⟨5, _⟩ => ⟨S1024x1024, .f32⟩
  | .hbm, ⟨6, _⟩ => ⟨S1024x1024, .bf16⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x512, .f32⟩
  | .local _ .vmem, ⟨5, _⟩ => ⟨S512x512, .f32⟩
  | .local _ .vmem, ⟨6, _⟩ => ⟨S64x4x8x128, .f32⟩
  | .local _ .vmem, ⟨7, _⟩ => ⟨S64x4x8x128, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![c0_i32_10.toNat, v9.toNat, v26.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjReferenceIdeal.lean ====
abbrev S32768x1024 : Shape := ⟨2, ![32768, 1024]⟩
abbrev S8x1x1024 : Shape := ⟨3, ![8, 1, 1024]⟩
abbrev S32768x512 : Shape := ⟨2, ![32768, 512]⟩
abbrev S64x32x64x128 : Shape := ⟨4, ![64, 32, 64, 128]⟩
abbrev S1x1024x1024 : Shape := ⟨3, ![1, 1024, 1024]⟩
abbrev S8x4096x512 : Shape := ⟨3, ![8, 4096, 512]⟩
abbrev S64x32x8x8x128 : Shape := ⟨5, ![64, 32, 8, 8, 128]⟩
abbrev S8x32x128x64x8 : Shape := ⟨5, ![8, 32, 128, 64, 8]⟩
abbrev S8x4096x1024 : Shape := ⟨3, ![8, 4096, 1024]⟩
abbrev S1024x1024 : Shape := ⟨2, ![1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S32768x512, .f32⟩
  | .hbm, ⟨3, _⟩ => ⟨S64x32x64x128, .f32⟩
  | .hbm, ⟨4, _⟩ => ⟨S1x1024x1024, .f32⟩
  | .hbm, ⟨5, _⟩ => ⟨S8x4096x512, .f32⟩
  | .hbm, ⟨6, _⟩ => ⟨S64x32x8x8x128, .f32⟩
  | .hbm, ⟨7, _⟩ => ⟨S8x32x128x64x8, .f32⟩
  | .hbm, ⟨8, _⟩ => ⟨S8x4096x512, .f32⟩
  | .hbm, ⟨9, _⟩ => ⟨S8x4096x1024, .f32⟩
  | .hbm, ⟨10, _⟩ => ⟨S8x4096x1024, .f32⟩
  | .hbm, ⟨11, _⟩ => ⟨S1024x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== ConfIn.lean ====
abbrev S32768x1024 : Shape := ⟨2, ![32768, 1024]⟩
abbrev S2x1024 : Shape := ⟨2, ![2, 1024]⟩
abbrev S8x1x1024 : Shape := ⟨3, ![8, 1, 1024]⟩
abbrev S1x1024x2048 : Shape := ⟨3, ![1, 1024, 2048]⟩
abbrev S1x2048 : Shape := ⟨2, ![1, 2048]⟩
abbrev S1x1024 : Shape := ⟨2, ![1, 1024]⟩
abbrev S1024 : Shape := ⟨1, ![1024]⟩
abbrev S1024x2048 : Shape := ⟨2, ![1024, 2048]⟩
abbrev S2048 : Shape := ⟨1, ![2048]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 14
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S8x1x1024, .f32⟩
  | .hbm, ⟨3, _⟩ => ⟨S8x1x1024, .f32⟩
  | .hbm, ⟨4, _⟩ => ⟨S1x1024x2048, .f32⟩
  | .hbm, ⟨5, _⟩ => ⟨S1x2048, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024x2048, .f32⟩
  | .hbm, ⟨10, _⟩ => ⟨S1024x2048, .bf16⟩
  | .hbm, ⟨11, _⟩ => ⟨S2048, .f32⟩
  | .hbm, ⟨12, _⟩ => ⟨S1x2048, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConfInReferenceIdeal.lean ====
abbrev S32768x1024 : Shape := ⟨2, ![32768, 1024]⟩
abbrev S2x1024 : Shape := ⟨2, ![2, 1024]⟩
abbrev S8x1x1024 : Shape := ⟨3, ![8, 1, 1024]⟩
abbrev S1x1024x2048 : Shape := ⟨3, ![1, 1024, 2048]⟩
abbrev S1x2048 : Shape := ⟨2, ![1, 2048]⟩
abbrev S8x4096x1024 : Shape := ⟨3, ![8, 4096, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2048 : Shape := ⟨2, ![1024, 2048]⟩
abbrev S8x4096x2048 : Shape := ⟨3, ![8, 4096, 2048]⟩
abbrev S2048 : Shape := ⟨1, ![2048]⟩
abbrev S1x1x2048 : Shape := ⟨3, ![1, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S8x1x1024, .f32⟩
  | .hbm, ⟨3, _⟩ => ⟨S8x1x1024, .f32⟩
  | .hbm, ⟨4, _⟩ => ⟨S1x1024x2048, .f32⟩
  | .hbm, ⟨5, _⟩ => ⟨S1x2048, .f32⟩
  | .hbm, ⟨6, _⟩ => ⟨S8x4096x1024, .f32⟩
  | .hbm, ⟨7, _⟩ => ⟨S1x1024, .f32⟩
  | .hbm, ⟨8, _⟩ => ⟨S1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S1024x2048, .f32⟩
  | .hbm, ⟨33, _⟩ => ⟨S8x4096x2048, .f32⟩
  | .hbm, ⟨34, _⟩ => ⟨S2048, .f32⟩
  | .hbm, ⟨35, _⟩ => ⟨S1x1x2048, .f32⟩
  | .hbm, ⟨36, _⟩ => ⟨S8x4096x2048, .f32⟩
  | .hbm, ⟨37, _⟩ => ⟨S8x4096x2048, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== ConfOut.lean ====
abbrev S32768x1024 : Shape := ⟨2, ![32768, 1024]⟩
abbrev S8x1x1024 : Shape := ⟨3, ![8, 1, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 16
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S32768x1024, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S1x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConfOutReferenceIdeal.lean ====
abbrev S32768x1024 : Shape := ⟨2, ![32768, 1024]⟩
abbrev S8x1x1024 : Shape := ⟨3, ![8, 1, 1024]⟩
abbrev S1x1024 : Shape := ⟨2, ![1, 1024]⟩
abbrev S1x1024x1024 : Shape := ⟨3, ![1, 1024, 1024]⟩
abbrev S8x4096x1024 : Shape := ⟨3, ![8, 4096, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x1024 : Shape := ⟨2, ![1024, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S32768x1024, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S1x1024, .f32⟩
  | .hbm, ⟨7, _⟩ => ⟨S8x4096x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096x1024, .f32⟩
  | .hbm, ⟨43, _⟩ => ⟨S8x4096x1024, .f32⟩
  | .hbm, ⟨44, _⟩ => ⟨S_, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S1024x1024, .f32⟩
  | .hbm, ⟨50, _⟩ => ⟨S8x4096x1024, .f32⟩
  | .hbm, ⟨51, _⟩ => ⟨S1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Proof.Attn.Row.lean ====
/- One query row of the attention: two rows of scores, their softmaxes, the weighted difference and the norm,
   on plain functions of extended reals, and the equality of the two ways to divide. -/
module

public import Idealize.ShloMosaic.Lib.Pointwise
public import Idealize.ShloMosaic.Lib.IdealHost

@[expose] public section

noncomputable section

namespace Cert.Attn

open Idealize.ShloMosaic

/-- A row's largest score, as a fold from minus infinity. -/
def top (s : Fin 4352 → EReal) : EReal := Finset.univ.fold max (Ideal.ofBits .f32 0xFF800000#32) s

/-- A score less the row's largest, exponentiated. -/
def ex (s : Fin 4352 → EReal) (n : Fin 4352) : EReal := Ideal.exp (s n - top s)

/-- The weights as the kernel forms them: each row's exponentials times one quotient. -/
def mixK (s1 s2 : Fin 4352 → EReal) (lam : EReal) (n : Fin 4352) : EReal :=
  ex s1 n * Ideal.div 1 (∑ k, ex s1 k) - ex s2 n * Ideal.div lam (∑ k, ex s2 k)

/-- The weights as the reference forms them: the first softmax less `lam` times the second. -/
def mixR (s1 s2 : Fin 4352 → EReal) (lam : EReal) (n : Fin 4352) : EReal :=
  Ideal.div (ex s1 n) (∑ k, ex s1 k) - lam * Ideal.div (ex s2 n) (∑ k, ex s2 k)

/-- A head's values normed by their root mean square, gained and scaled. -/
def normed (y g : Fin 128 → EReal) (d : Fin 128) : EReal :=
  y d * Ideal.rsqrt (Ideal.div (∑ k, y k * y k) (Ideal.ofBits .f32 0x43000000#32) + Ideal.ofBits .f32 0x358637BD#32)
    * g d * Ideal.ofBits .f32 0x3F4CCCCD#32

/-- The word of the folds' starting value reads as minus infinity. -/
theorem ofBits_bot : Ideal.ofBits .f32 0xFF800000#32 = ⊥ := by
  simp [Ideal.ofBits, Ideal.ieee]

/-- The word of the scores' scale reads as one eighth. -/
theorem ofBits_eighth : Ideal.ofBits .f32 0x3E000000#32 = (((1 : ℝ) / 8 : ℝ) : EReal) := by
  simp [Ideal.ofBits, Ideal.ieee, -EReal.coe_mul]
  norm_num

/-- The largest score is at least the fold's start, so comparing with it again changes nothing. -/
theorem max_top (s : Fin 4352 → EReal) : max (Ideal.ofBits .f32 0xFF800000#32) (top s) = top s := by
  rw [ofBits_bot]; exact max_eq_right bot_le

/-- With every score below plus infinity, so is the largest. -/
theorem top_ne_top (s : Fin 4352 → EReal) (hs : ∀ n, s n ≠ ⊤) : top s ≠ ⊤ := by
  have : top s < ⊤ := by
    unfold top
    rw [Finset.fold_max_lt]
    exact ⟨by rw [ofBits_bot]; exact bot_lt_top, fun n _ => lt_top_iff_ne_top.2 (hs n)⟩
  exact this.ne

/-- An exponential is at least zero. -/
theorem exp_nonneg (x : EReal) : 0 ≤ Ideal.exp x := by
  induction x using EReal.rec with
  | bot => simp
  | coe r => rw [Ideal.exp_coe]; exact_mod_cast (Real.exp_pos r).le
  | top => simp

/-- An exponential is zero only at minus infinity. -/
theorem exp_ne_zero (x : EReal) (hx : x ≠ ⊥) : Ideal.exp x ≠ 0 := by
  induction x using EReal.rec with
  | bot => exact absurd rfl hx
  | coe r => rw [Ideal.exp_coe]; exact_mod_cast (Real.exp_pos r).ne'
  | top => simp

/-- A row of finite scores has a nonzero sum of exponentials. -/
theorem sum_ne_zero (s : Fin 4352 → EReal) (ht : ∀ n, s n ≠ ⊤) (hb : ∀ n, s n ≠ ⊥) : ∑ k, ex s k ≠ 0 := by
  have h0 : ex s 0 ≠ 0 := by
    refine exp_ne_zero _ ?_
    rw [sub_eq_add_neg]
    intro h
    rcases EReal.add_eq_bot_iff.1 h with h | h
    · exact hb 0 h
    · exact top_ne_top s ht (by simpa using h)
  intro h
  exact h0 ((Finset.sum_eq_zero_iff_of_nonneg fun k _ => exp_nonneg _).1 h 0 (Finset.mem_univ _))

/-- The two ways to divide agree on rows of finite scores. -/
theorem mix_eq (s1 s2 : Fin 4352 → EReal) (lam : EReal) (n : Fin 4352)
    (t1 : ∀ n, s1 n ≠ ⊤) (b1 : ∀ n, s1 n ≠ ⊥) (t2 : ∀ n, s2 n ≠ ⊤) (b2 : ∀ n, s2 n ≠ ⊥) :
    mixK s1 s2 lam n = mixR s1 s2 lam n := by
  unfold mixK mixR Ideal.div
  rw [if_neg (sum_ne_zero s1 t1 b1), if_neg (sum_ne_zero s2 t2 b2), if_neg (sum_ne_zero s1 t1 b1), if_neg (sum_ne_zero s2 t2 b2),
    one_mul, mul_left_comm]

/-- The dot of one head's 64 columns, scaled afterwards. -/
def score (q k : Fin 64 → EReal) : EReal := (∑ d, q d * k d) * Ideal.ofBits .f32 0x3E000000#32

/-- A finite sum of reals, read as extended reals. -/
theorem coe_sum {n : ℕ} (f : Fin n → ℝ) : ((∑ d, f d : ℝ) : EReal) = ∑ d, (f d : EReal) := by
  induction n with
  | zero => simp
  | succ n ih => rw [Fin.sum_univ_succ, Fin.sum_univ_succ, EReal.coe_add, ih]

/-- Scaling the queries first gives the same score, on finite queries and keys. -/
theorem score_scaled (q k : Fin 64 → EReal) (hq : ∀ d, q d ≠ ⊤ ∧ q d ≠ ⊥) (hk : ∀ d, k d ≠ ⊤ ∧ k d ≠ ⊥) :
    ∑ d, q d * Ideal.ofBits .f32 0x3E000000#32 * k d = score q k := by
  obtain ⟨q', rfl⟩ : ∃ q' : Fin 64 → ℝ, q = fun d => (q' d : EReal) :=
    ⟨fun d => (q d).toReal, funext fun d => (EReal.coe_toReal (hq d).1 (hq d).2).symm⟩
  obtain ⟨k', rfl⟩ : ∃ k' : Fin 64 → ℝ, k = fun d => (k' d : EReal) :=
    ⟨fun d => (k d).toReal, funext fun d => (EReal.coe_toReal (hk d).1 (hk d).2).symm⟩
  unfold score
  rw [ofBits_eighth]
  simp only [← EReal.coe_mul]
  rw [← coe_sum, ← coe_sum, ← EReal.coe_mul, Finset.sum_mul]
  exact congrArg _ (Finset.sum_congr rfl fun d _ => by ring)

/-- A score of finite queries and keys is finite. -/
theorem score_finite (q k : Fin 64 → EReal) (hq : ∀ d, q d ≠ ⊤ ∧ q d ≠ ⊥) (hk : ∀ d, k d ≠ ⊤ ∧ k d ≠ ⊥) :
    score q k ≠ ⊤ ∧ score q k ≠ ⊥ := by
  obtain ⟨q', rfl⟩ : ∃ q' : Fin 64 → ℝ, q = fun d => (q' d : EReal) :=
    ⟨fun d => (q d).toReal, funext fun d => (EReal.coe_toReal (hq d).1 (hq d).2).symm⟩
  obtain ⟨k', rfl⟩ : ∃ k' : Fin 64 → ℝ, k = fun d => (k' d : EReal) :=
    ⟨fun d => (k d).toReal, funext fun d => (EReal.coe_toReal (hk d).1 (hk d).2).symm⟩
  unfold score
  rw [ofBits_eighth]
  simp only [← EReal.coe_mul]
  rw [← coe_sum, ← EReal.coe_mul]
  exact ⟨EReal.coe_ne_top _, EReal.coe_ne_bot _⟩

/-- The first 64 columns pass the mask `column < 64`. -/
theorem low_mask (d : Fin 64) (x y : EReal) : Scalar.select (IntOp.cmpi .slt (BitVec.ofNat 32 d) 64#32) x y = x := by
  have : IntOp.cmpi .slt (BitVec.ofNat 32 d) 64#32 = 1#1 := by revert d; decide
  rw [this]; rfl

/-- The last 64 columns fail it. -/
theorem high_mask (d : Fin 64) (x y : EReal) : Scalar.select (IntOp.cmpi .slt (BitVec.ofNat 32 (64 + d)) 64#32) x y = y := by
  have : IntOp.cmpi .slt (BitVec.ofNat 32 (64 + d)) 64#32 = 0#1 := by revert d; decide
  rw [this]; rfl

/-- The first 64 columns fail the mask `column ≥ 64`. -/
theorem low_mask' (d : Fin 64) (x y : EReal) : Scalar.select (IntOp.cmpi .sge (BitVec.ofNat 32 d) 64#32) x y = y := by
  have : IntOp.cmpi .sge (BitVec.ofNat 32 d) 64#32 = 0#1 := by revert d; decide
  rw [this]; rfl

/-- The last 64 columns pass it. -/
theorem high_mask' (d : Fin 64) (x y : EReal) : Scalar.select (IntOp.cmpi .sge (BitVec.ofNat 32 (64 + d)) 64#32) x y = x := by
  have : IntOp.cmpi .sge (BitVec.ofNat 32 (64 + d)) 64#32 = 1#1 := by revert d; decide
  rw [this]; rfl

/-- A dot over 128 columns with the last 64 masked out is the dot over the first 64. -/
theorem masked_low (f : Fin 128 → EReal) :
    (∑ x : Fin 128, Scalar.select (IntOp.cmpi .slt (BitVec.ofNat 32 x) 64#32) (f x) 0)
      = ∑ d : Fin 64, f ⟨d, by omega⟩ := by
  rw [Fin.sum_univ_two_halves 64 64 rfl]
  simp only [low_mask, high_mask]
  simp

/-- A dot over 128 columns with the first 64 masked out is the dot over the last 64. -/
theorem masked_high (f : Fin 128 → EReal) :
    (∑ x : Fin 128, Scalar.select (IntOp.cmpi .sge (BitVec.ofNat 32 x) 64#32) (f x) 0)
      = ∑ d : Fin 64, f ⟨64 + d, by omega⟩ := by
  rw [Fin.sum_univ_two_halves 64 64 rfl]
  simp only [low_mask', high_mask']
  simp

/-- The array of 32768 rows (8 batches of 4096 positions) of 512 columns. -/
abbrev SeqS : Shape := ⟨2, ![32768, 512]⟩

/-- The context's array of 2048 rows (8 batches of 256 positions) of 512 columns. -/
abbrev CtxS : Shape := ⟨2, ![2048, 512]⟩

/-- Keys or values of one batch: the context's 256 positions, then the sequence's 4096. -/
def rowAt (X : FVec Ideal SeqS .f32) (C : FVec Ideal CtxS .f32) (b : Fin 8) (n : Fin 4352) (col : Fin 512) : EReal :=
  if _ : (n : ℕ) < 256 then C (ix2 (⟨b * 256 + n, by omega⟩ : Fin 2048) col)
  else X (ix2 (⟨b * 4096 + (n - 256), by omega⟩ : Fin 32768) col)

/-- The scores of head `h` at query `i` of batch `b`. -/
def sc (X0 X1 : FVec Ideal SeqS .f32) (X3 : FVec Ideal CtxS .f32) (b h : Fin 8) (i : Fin 4096) (n : Fin 4352) : EReal :=
  score (fun d => X0 (ix2 (⟨b * 4096 + i, by omega⟩ : Fin 32768) (⟨h * 64 + d, by omega⟩ : Fin 512)))
    (fun d => rowAt X1 X3 b n (⟨h * 64 + d, by omega⟩ : Fin 512))

/-- The attention's result at batch `b`, pair of heads `p`, query `i` and column `d` of the pair. -/
def outAt (X0 X1 X2 : FVec Ideal SeqS .f32) (X3 X4 : FVec Ideal CtxS .f32) (lam : EReal) (g : Fin 128 → EReal)
    (b : Fin 8) (p : Fin 4) (i : Fin 4096) (d : Fin 128) : EReal :=
  normed (fun d => ∑ n : Fin 4352, mixR (sc X0 X1 X3 b ⟨p * 2, by omega⟩ i) (sc X0 X1 X3 b ⟨p * 2 + 1, by omega⟩ i) lam n
    * rowAt X2 X4 b n (⟨p * 128 + d, by omega⟩ : Fin 512)) g d

/-- The second softmax's weight, from its four vectors. -/
def lamOf (a b c d : Fin 64 → EReal) : EReal :=
  Ideal.exp (∑ x, a x * b x) - Ideal.exp (∑ x, c x * d x) + Ideal.ofBits .f32 0x3E4CCCCD#32

/-- The scores of finite queries and keys are finite. -/
theorem sc_finite (X0 X1 : FVec Ideal SeqS .f32) (X3 : FVec Ideal CtxS .f32) (h0 : ∀ i, X0 i ≠ ⊤ ∧ X0 i ≠ ⊥)
    (h1 : ∀ i, X1 i ≠ ⊤ ∧ X1 i ≠ ⊥) (h3 : ∀ i, X3 i ≠ ⊤ ∧ X3 i ≠ ⊥) (b h : Fin 8) (i : Fin 4096) (n : Fin 4352) :
    sc X0 X1 X3 b h i n ≠ ⊤ ∧ sc X0 X1 X3 b h i n ≠ ⊥ := by
  refine score_finite _ _ (fun d => h0 _) (fun d => ?_)
  unfold rowAt
  by_cases hn : (n : ℕ) < 256
  · rw [dif_pos hn]; exact h3 _
  · rw [dif_neg hn]; exact h1 _

/-- The dot of scaled queries with keys is the score. -/
theorem sc_scaled (X0 X1 : FVec Ideal SeqS .f32) (X3 : FVec Ideal CtxS .f32) (h0 : ∀ i, X0 i ≠ ⊤ ∧ X0 i ≠ ⊥)
    (h1 : ∀ i, X1 i ≠ ⊤ ∧ X1 i ≠ ⊥) (h3 : ∀ i, X3 i ≠ ⊤ ∧ X3 i ≠ ⊥) (b h : Fin 8) (i : Fin 4096) (n : Fin 4352) :
    ∑ d : Fin 64, X0 (ix2 (⟨b * 4096 + i, by omega⟩ : Fin 32768) (⟨h * 64 + d, by omega⟩ : Fin 512)) * Ideal.ofBits .f32 0x3E000000#32
      * rowAt X1 X3 b n (⟨h * 64 + d, by omega⟩ : Fin 512) = sc X0 X1 X3 b h i n := by
  refine score_scaled _ _ (fun d => h0 _) (fun d => ?_)
  unfold rowAt
  by_cases hn : (n : ℕ) < 256
  · rw [dif_pos hn]; exact h3 _
  · rw [dif_neg hn]; exact h1 _

end Cert.Attn

end
-- ==== Proof.Attn.Kernel.lean ====
/- What one block of the attention kernel stores, read at one index: the two score rows of a pair of heads,
   their weighted difference over the values, and the norm. -/
module

public import proofs.«01_k».proof.Proof.Gen.KernelIdeal
public import proofs.«01_k».proof.Proof.Gen.KernelIdeal.Skeleton
public import proofs.«01_k».proof.Proof.Attn.Row

@[expose] public section

set_option maxRecDepth 16384

noncomputable section

namespace Cert.Attn.Kern

open Cert.KernelIdeal Cert.KernelIdeal.Gen Idealize.ShloMosaic Idealize.ShloMosaic.TcCoe Idealize.SL.Sem

/-- The weight of the second softmax, from the four stacked vectors. -/
theorem lam_at (x : FVec Ideal S4x64 .f32) :
    k0_pay2 (F := Ideal) x (ix2 (0 : Fin 1) (0 : Fin 1)) = Ideal.exp (∑ k : Fin 64, x (ix2 (0 : Fin 4) k) * x (ix2 (1 : Fin 4) k))
      - Ideal.exp (∑ k : Fin 64, x (ix2 (2 : Fin 4) k) * x (ix2 (3 : Fin 4) k)) + Ideal.ofBits .f32 0x3E4CCCCD#32 := by
  pointwise [k0_pay2]

/-- The first pair's first scores: the dot over the pair's first 64 columns. -/
theorem pay6_at (q : FVec Ideal S512x128 .bf16) (kt : FVec Ideal S1x128x4352 .bf16) (r : Fin 512) (n : Fin 4352) :
    k0_pay6 (F := Ideal) q kt (ix2 r n) = ∑ d : Fin 64, q (ix2 r (⟨d, by omega⟩ : Fin 128)) * kt (ix3 (0 : Fin 1) (⟨d, by omega⟩ : Fin 128) n) := by
  pointwise [k0_pay6, k0_pay3, k0_pay4, k0_pay5]
  exact masked_low fun x => q (ix2 r x) * kt (ix3 (0 : Fin 1) x n)

/-- The first pair's second scores: the dot over the pair's last 64 columns. -/
theorem pay7_at (q : FVec Ideal S512x128 .bf16) (kt : FVec Ideal S1x128x4352 .bf16) (r : Fin 512) (n : Fin 4352) :
    k0_pay7 (F := Ideal) q kt (ix2 r n) = ∑ d : Fin 64, q (ix2 r (⟨64 + d, by omega⟩ : Fin 128)) * kt (ix3 (0 : Fin 1) (⟨64 + d, by omega⟩ : Fin 128) n) := by
  pointwise [k0_pay7, k0_pay3, k0_pay4, k0_pay5]
  exact masked_high fun x => q (ix2 r x) * kt (ix3 (0 : Fin 1) x n)

/-- The second pair's first scores. -/
theorem pay11_at (q : FVec Ideal S512x128 .bf16) (kt : FVec Ideal S1x128x4352 .bf16) (r : Fin 512) (n : Fin 4352) :
    k0_pay11 (F := Ideal) (k0_pay8 q) (iota .tc S512x128 32 [1] iota_S512x128_d1_w32) k0_pay9 kt (ix2 r n)
      = ∑ d : Fin 64, q (ix2 r (⟨d, by omega⟩ : Fin 128)) * kt (ix3 (0 : Fin 1) (⟨d, by omega⟩ : Fin 128) n) := by
  pointwise [k0_pay11, k0_pay8, k0_pay9, k0_pay10]
  exact masked_low fun x => q (ix2 r x) * kt (ix3 (0 : Fin 1) x n)

/-- The second pair's second scores. -/
theorem pay12_at (q : FVec Ideal S512x128 .bf16) (kt : FVec Ideal S1x128x4352 .bf16) (r : Fin 512) (n : Fin 4352) :
    k0_pay12 (F := Ideal) (k0_pay8 q) (iota .tc S512x128 32 [1] iota_S512x128_d1_w32) k0_pay9 kt (ix2 r n)
      = ∑ d : Fin 64, q (ix2 r (⟨64 + d, by omega⟩ : Fin 128)) * kt (ix3 (0 : Fin 1) (⟨64 + d, by omega⟩ : Fin 128) n) := by
  pointwise [k0_pay12, k0_pay8, k0_pay9, k0_pay10]
  exact masked_high fun x => q (ix2 r x) * kt (ix3 (0 : Fin 1) x n)

/-- The first pair's attended values. -/
theorem pay13_at (l : FVec Ideal S1x1 .f32) (s1 s2 : FVec Ideal S512x4352 .f32) (v : FVec Ideal S1x4352x128 .bf16) (r : Fin 512) (d : Fin 128) :
    k0_pay13 (F := Ideal) l s1 s2 v (ix2 r d)
      = ∑ n : Fin 4352, mixK (fun n => s1 (ix2 r n)) (fun n => s2 (ix2 r n)) (l (ix2 (0 : Fin 1) (0 : Fin 1))) n * v (ix3 (0 : Fin 1) n d) := by
  pointwise [k0_pay13, mixK, ex, top]

/-- The second pair's attended values. -/
theorem pay16_at (l : FVec Ideal S1x1 .f32) (s1 s2 : FVec Ideal S512x4352 .f32) (v : FVec Ideal S1x4352x128 .bf16) (r : Fin 512) (d : Fin 128) :
    k0_pay16 (F := Ideal) l s1 s2 v (ix2 r d)
      = ∑ n : Fin 4352, mixK (fun n => s1 (ix2 r n)) (fun n => s2 (ix2 r n)) (l (ix2 (0 : Fin 1) (0 : Fin 1))) n * v (ix3 (0 : Fin 1) n d) := by
  pointwise [k0_pay16, mixK, ex, top]

/-- The first pair's stored entry. -/
theorem pay15_at (l : FVec Ideal S1x1 .f32) (s1 s2 : FVec Ideal S512x4352 .f32) (v : FVec Ideal S1x4352x128 .bf16) (g : FVec Ideal S1x128 .f32) (r : Fin 512) (d : Fin 128) :
    k0_pay15 (F := Ideal) (k0_pay13 l s1 s2 v) (k0_pay14 l s1 s2 v) g (ix2 r d)
      = normed (fun d => k0_pay13 (F := Ideal) l s1 s2 v (ix2 r d)) (fun d => g (ix2 (0 : Fin 1) d)) d := by
  pointwise [k0_pay15, k0_pay14, normed]

/-- The second pair's stored entry. -/
theorem pay1_at (l : FVec Ideal S1x1 .f32) (s1 s2 : FVec Ideal S512x4352 .f32) (v : FVec Ideal S1x4352x128 .bf16) (g : FVec Ideal S1x128 .f32) (r : Fin 512) (d : Fin 128) :
    k0_pay1 (F := Ideal) (k0_pay16 l s1 s2 v) (k0_pay17 l s1 s2 v) k0_pay18 g (ix2 r d)
      = normed (fun d => k0_pay16 (F := Ideal) l s1 s2 v (ix2 r d)) (fun d => g (ix2 (0 : Fin 1) d)) d := by
  pointwise [k0_pay1, k0_pay17, k0_pay18, normed]

section Core

variable (X0 X1 X2 : FVec Ideal SeqS .f32) (X3 X4 : FVec Ideal CtxS .f32)
  (f0 : ∀ i, X0 i ≠ ⊤ ∧ X0 i ≠ ⊥) (f1 : ∀ i, X1 i ≠ ⊤ ∧ X1 i ≠ ⊥) (f3 : ∀ i, X3 i ≠ ⊤ ∧ X3 i ≠ ⊥)
  (q : FVec Ideal S512x128 .bf16) (kt : FVec Ideal S1x128x4352 .bf16) (v : FVec Ideal S1x4352x128 .bf16)
  (l : FVec Ideal S1x1 .f32) (g : FVec Ideal S1x128 .f32) (lam : EReal) (g' : Fin 128 → EReal)
  (b : Fin 8) (p : Fin 4) (i : Fin 4096) (r : Fin 512)
  (hq : ∀ (d : Fin 128) (R : Fin 32768) (l : Fin 512), (R : ℕ) = b * 4096 + i → (l : ℕ) = p * 128 + d →
    q (ix2 r d) = X0 (ix2 R l) * Ideal.ofBits .f32 0x3E000000#32)
  (hk : ∀ (d : Fin 128) (n : Fin 4352) (l : Fin 512), (l : ℕ) = p * 128 + d → kt (ix3 (0 : Fin 1) d n) = rowAt X1 X3 b n l)
  (hv : ∀ (n : Fin 4352) (d : Fin 128) (l : Fin 512), (l : ℕ) = p * 128 + d → v (ix3 (0 : Fin 1) n d) = rowAt X2 X4 b n l)
  (hl : l (ix2 (0 : Fin 1) (0 : Fin 1)) = lam) (hg : ∀ d : Fin 128, g (ix2 (0 : Fin 1) d) = g' d)

include f0 f1 f3 hq hk

/-- The dot over a pair's first 64 columns is the first head's score. -/
theorem low_score (n : Fin 4352) :
    ∑ d : Fin 64, q (ix2 r (⟨d, by omega⟩ : Fin 128)) * kt (ix3 (0 : Fin 1) (⟨d, by omega⟩ : Fin 128) n) = sc X0 X1 X3 b ⟨p * 2, by omega⟩ i n := by
  rw [← sc_scaled X0 X1 X3 f0 f1 f3]
  refine Finset.sum_congr rfl fun d _ => ?_
  rw [hq _ (⟨b * 4096 + i, by omega⟩ : Fin 32768) ⟨(p : ℕ) * 2 * 64 + (d : ℕ), by omega⟩ rfl (show (p : ℕ) * 2 * 64 + (d : ℕ) = (p : ℕ) * 128 + d by omega),
    hk _ n ⟨(p : ℕ) * 2 * 64 + (d : ℕ), by omega⟩ (show (p : ℕ) * 2 * 64 + (d : ℕ) = (p : ℕ) * 128 + d by omega)]

/-- The dot over a pair's last 64 columns is the second head's score. -/
theorem high_score (n : Fin 4352) :
    ∑ d : Fin 64, q (ix2 r (⟨64 + d, by omega⟩ : Fin 128)) * kt (ix3 (0 : Fin 1) (⟨64 + d, by omega⟩ : Fin 128) n) = sc X0 X1 X3 b ⟨p * 2 + 1, by omega⟩ i n := by
  rw [← sc_scaled X0 X1 X3 f0 f1 f3]
  refine Finset.sum_congr rfl fun d _ => ?_
  rw [hq _ (⟨b * 4096 + i, by omega⟩ : Fin 32768) ⟨((p : ℕ) * 2 + 1) * 64 + (d : ℕ), by omega⟩ rfl (show ((p : ℕ) * 2 + 1) * 64 + (d : ℕ) = (p : ℕ) * 128 + (64 + d) by omega),
    hk _ n ⟨((p : ℕ) * 2 + 1) * 64 + (d : ℕ), by omega⟩ (show ((p : ℕ) * 2 + 1) * 64 + (d : ℕ) = (p : ℕ) * 128 + (64 + d) by omega)]

/-- The weights formed from a block's scores are the reference's. -/
theorem mix_scores (s1 s2 : FVec Ideal S512x4352 .f32)
    (h1 : ∀ n : Fin 4352, s1 (ix2 r n) = ∑ d : Fin 64, q (ix2 r (⟨d, by omega⟩ : Fin 128)) * kt (ix3 (0 : Fin 1) (⟨d, by omega⟩ : Fin 128) n))
    (h2 : ∀ n : Fin 4352, s2 (ix2 r n) = ∑ d : Fin 64, q (ix2 r (⟨64 + d, by omega⟩ : Fin 128)) * kt (ix3 (0 : Fin 1) (⟨64 + d, by omega⟩ : Fin 128) n))
    (n : Fin 4352) :
    mixK (fun n => s1 (ix2 r n)) (fun n => s2 (ix2 r n)) lam n
      = mixR (sc X0 X1 X3 b ⟨p * 2, by omega⟩ i) (sc X0 X1 X3 b ⟨p * 2 + 1, by omega⟩ i) lam n := by
  have e1 : (fun n => s1 (ix2 r n)) = sc X0 X1 X3 b ⟨p * 2, by omega⟩ i := funext fun n =>
    (h1 n).trans (low_score X0 X1 X3 f0 f1 f3 q kt b p i r hq hk n)
  have e2 : (fun n => s2 (ix2 r n)) = sc X0 X1 X3 b ⟨p * 2 + 1, by omega⟩ i := funext fun n =>
    (h2 n).trans (high_score X0 X1 X3 f0 f1 f3 q kt b p i r hq hk n)
  rw [e1, e2]
  exact mix_eq _ _ _ _ (fun n => (sc_finite X0 X1 X3 f0 f1 f3 _ _ _ _).1) (fun n => (sc_finite X0 X1 X3 f0 f1 f3 _ _ _ _).2)
    (fun n => (sc_finite X0 X1 X3 f0 f1 f3 _ _ _ _).1) (fun n => (sc_finite X0 X1 X3 f0 f1 f3 _ _ _ _).2)

include hv hl hg

/-- THE FIRST PAIR of a block: what is stored is the specification's entry. -/
theorem core_first (d : Fin 128) :
    k0_pay15 (F := Ideal) (k0_pay13 l (k0_pay6 q kt) (k0_pay7 q kt) v) (k0_pay14 l (k0_pay6 q kt) (k0_pay7 q kt) v) g (ix2 r d)
      = outAt X0 X1 X2 X3 X4 lam g' b p i d := by
  rw [pay15_at, show (fun d : Fin 128 => g (ix2 (0 : Fin 1) d)) = g' from funext hg]
  unfold outAt
  refine congrArg (fun y => normed y g' d) (funext fun d => ?_)
  rw [pay13_at, hl]
  refine Finset.sum_congr rfl fun n _ => ?_
  rw [mix_scores X0 X1 X3 f0 f1 f3 q kt lam b p i r hq hk _ _ (pay6_at q kt r) (pay7_at q kt r), hv n d ⟨p * 128 + d, by omega⟩ rfl]

/-- THE SECOND PAIR of a block. -/
theorem core_second (d : Fin 128) :
    k0_pay1 (F := Ideal)
        (k0_pay16 l (k0_pay11 (k0_pay8 q) (iota .tc S512x128 32 [1] iota_S512x128_d1_w32) k0_pay9 kt) (k0_pay12 (k0_pay8 q) (iota .tc S512x128 32 [1] iota_S512x128_d1_w32) k0_pay9 kt) v)
        (k0_pay17 l (k0_pay11 (k0_pay8 q) (iota .tc S512x128 32 [1] iota_S512x128_d1_w32) k0_pay9 kt) (k0_pay12 (k0_pay8 q) (iota .tc S512x128 32 [1] iota_S512x128_d1_w32) k0_pay9 kt) v)
        k0_pay18 g (ix2 r d)
      = outAt X0 X1 X2 X3 X4 lam g' b p i d := by
  rw [pay1_at, show (fun d : Fin 128 => g (ix2 (0 : Fin 1) d)) = g' from funext hg]
  unfold outAt
  refine congrArg (fun y => normed y g' d) (funext fun d => ?_)
  rw [pay16_at, hl]
  refine Finset.sum_congr rfl fun n _ => ?_
  rw [mix_scores X0 X1 X3 f0 f1 f3 q kt lam b p i r hq hk _ _ (pay11_at q kt r) (pay12_at q kt r), hv n d ⟨p * 128 + d, by omega⟩ rfl]

end Core

end Cert.Attn.Kern

end
-- ==== Proof.Attn.Value.lean ====
/- The attention kernel's result array: block by block, every entry is the specification's. -/
module

public import proofs.«01_k».proof.Proof.Gen.KernelIdeal.Frame
public import proofs.«01_k».proof.Proof.Gen.KernelIdeal.Value
public import proofs.«01_k».proof.Proof.Attn.Kernel
public import Idealize.ShloMosaic.Lib.Pipeline.ValueKit
public import Idealize.ShloMosaic.Lib.Claim

@[expose] public section

set_option maxRecDepth 16384

noncomputable section

namespace Cert.Attn.Kern

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The windows' block indices at every grid point: batch `t / 16`, half of the columns `t / 8 % 2`, rows `t % 8`. -/
theorem idx : ∀ t : Fin cfg0.N, win0_0.index t = ![0, 0] ∧ win0_1.index t = ![0, 0]
    ∧ win0_2.index t = ![t.val / 16 * 8 + t.val % 8, t.val / 8 % 2] ∧ win0_3.index t = ![t.val / 16, t.val / 8 % 2, 0]
    ∧ win0_4.index t = ![t.val / 16, 0, t.val / 8 % 2] ∧ win0_5.index t = ![t.val / 16 * 8 + t.val % 8, t.val / 8 % 2] :=
  (by decide +kernel : ∀ t : Fin grid0.N, _)

/-- The kernel's first operand holds the queries, scaled. -/
theorem V_q (c : Dev nD) (r : Fin 32768) (l : Fin 512) :
    V m c main_v2 (ix2 r l) = (show EReal from m ((c : Thread nD τ).loc main_arg0) (ix2 r l)) * Ideal.ofBits .f32 0x3E000000#32 := by
  entry_read
  pointwise

/-- The kernel's keys: the context's, then the sequence's, transposed. -/
theorem V_kt (c : Dev nD) (b : Fin 8) (col : Fin 512) (n : Fin 4352) :
    V m c main_v22 (ix3 b col n) = rowAt (m ((c : Thread nD τ).loc main_arg1)) (m ((c : Thread nD τ).loc main_arg3)) b n col := by
  entry_read
  pointwise
  rfl

/-- The kernel's values: the context's, then the sequence's. -/
theorem V_v (c : Dev nD) (b : Fin 8) (n : Fin 4352) (col : Fin 512) :
    V m c main_v21 (ix3 b n col) = rowAt (m ((c : Thread nD τ).loc main_arg2)) (m ((c : Thread nD τ).loc main_arg4)) b n col := by
  entry_read
  pointwise
  rfl

/-- The gain reaches the kernel as it is. -/
theorem V_g (c : Dev nD) (d : Fin 128) :
    V m c main_v24 (ix2 (0 : Fin 1) d) = m ((c : Thread nD τ).loc main_arg9) (ix2 (0 : Fin 1) d) := by
  entry_read
  pointwise

/-- A query block's entry. -/
theorem q_blk (c : Dev nD) (t : Fin cfg0.N) (r : Fin 512) (l : Fin 256) (r' : Fin 32768) (l' : Fin 512)
    (hr : (r' : ℕ) = (t.val / 16 * 8 + t.val % 8) * 512 + r) (hl : (l' : ℕ) = t.val / 8 % 2 * 256 + l) :
    iblk m c 2 t (ix2 r l) = V m c main_v2 (ix2 r' l') := by
  blk_simp [iblk, idx t]
  blk_ext [idx t]

/-- A key block's entry. -/
theorem kt_blk (c : Dev nD) (t : Fin cfg0.N) (l : Fin 256) (n : Fin 4352) (b : Fin 8) (l' : Fin 512)
    (hb : (b : ℕ) = t.val / 16) (hl : (l' : ℕ) = t.val / 8 % 2 * 256 + l) :
    iblk m c 3 t (ix3 (0 : Fin 1) l n) = V m c main_v22 (ix3 b l' n) := by
  blk_simp [iblk, idx t]
  blk_ext [idx t]

/-- A value block's entry. -/
theorem v_blk (c : Dev nD) (t : Fin cfg0.N) (l : Fin 256) (n : Fin 4352) (b : Fin 8) (l' : Fin 512)
    (hb : (b : ℕ) = t.val / 16) (hl : (l' : ℕ) = t.val / 8 % 2 * 256 + l) :
    iblk m c 4 t (ix3 (0 : Fin 1) n l) = V m c main_v21 (ix3 b n l') := by
  blk_simp [iblk, idx t]
  blk_ext [idx t]

/-- The gain's block is the gain. -/
theorem g_blk (c : Dev nD) (t : Fin cfg0.N) (d : Fin 128) :
    iblk m c 1 t (ix2 (0 : Fin 1) d) = V m c main_v24 (ix2 (0 : Fin 1) d) := by
  blk_simp [iblk, idx t]
  blk_ext [idx t]

/-- The weights' block is the stacked vectors. -/
theorem lam_blk (c : Dev nD) (t : Fin cfg0.N) (r : Fin 4) (l : Fin 64) :
    iblk m c 0 t (ix2 r l) = V m c main_v15 (ix2 r l) := by
  blk_simp [iblk, idx t]
  blk_ext [idx t]

/-- The stacked vectors: the four vectors one below another. -/
theorem V_lam (c : Dev nD) :
    V m c main_v15 = concatenate S4x64 0 [⟨S1x64, broadcastInDim S1x64 ![1] bcast_S64_S1x64_1 (shapeCast S64 (m ((c : Thread nD τ).loc main_arg5)) shapeCasts_S1x64_S64)⟩,
      ⟨S1x64, broadcastInDim S1x64 ![1] bcast_S64_S1x64_1 (shapeCast S64 (m ((c : Thread nD τ).loc main_arg6)) shapeCasts_S1x64_S64)⟩,
      ⟨S1x64, broadcastInDim S1x64 ![1] bcast_S64_S1x64_1 (shapeCast S64 (m ((c : Thread nD τ).loc main_arg7)) shapeCasts_S1x64_S64)⟩,
      ⟨S1x64, broadcastInDim S1x64 ![1] bcast_S64_S1x64_1 (shapeCast S64 (m ((c : Thread nD τ).loc main_arg8)) shapeCasts_S1x64_S64)⟩] concatenates_S1x64_S1x64_S1x64_S1x64_S4x64_d0 := by
  rfl

/-- The stack of four vectors, read row by row. -/
theorem stack_at (A B C D : FVec Ideal S1x64 .f32) (k : Fin 4) (l : Fin 64) :
    concatenate S4x64 0 [⟨S1x64, broadcastInDim S1x64 ![1] bcast_S64_S1x64_1 (shapeCast S64 A shapeCasts_S1x64_S64)⟩,
      ⟨S1x64, broadcastInDim S1x64 ![1] bcast_S64_S1x64_1 (shapeCast S64 B shapeCasts_S1x64_S64)⟩,
      ⟨S1x64, broadcastInDim S1x64 ![1] bcast_S64_S1x64_1 (shapeCast S64 C shapeCasts_S1x64_S64)⟩,
      ⟨S1x64, broadcastInDim S1x64 ![1] bcast_S64_S1x64_1 (shapeCast S64 D shapeCasts_S1x64_S64)⟩] concatenates_S1x64_S1x64_S1x64_S1x64_S4x64_d0 (ix2 k l)
      = (![A, B, C, D] k) (ix2 (0 : Fin 1) l) := by
  fin_cases k <;> pointwise <;> rfl

/-- The weight computed from four stacked vectors. -/
theorem lam_of (l : FVec Ideal S4x64 .f32) (A B C D : FVec Ideal S1x64 .f32)
    (h : ∀ (k : Fin 4) (x : Fin 64), l (ix2 k x) = (![A, B, C, D] k) (ix2 (0 : Fin 1) x)) :
    k0_pay2 (F := Ideal) l (ix2 (0 : Fin 1) (0 : Fin 1))
      = lamOf (fun x => A (ix2 (0 : Fin 1) x)) (fun x => B (ix2 (0 : Fin 1) x)) (fun x => C (ix2 (0 : Fin 1) x)) (fun x => D (ix2 (0 : Fin 1) x)) := by
  rw [lam_at]
  simp only [h]
  rfl

/-- The whole result as one function of the arguments. -/
def G (c : Dev nD) : FVec Ideal S32768x512 .f32 := fun j =>
  outAt (m ((c : Thread nD τ).loc main_arg0)) (m ((c : Thread nD τ).loc main_arg1)) (m ((c : Thread nD τ).loc main_arg2))
    (m ((c : Thread nD τ).loc main_arg3)) (m ((c : Thread nD τ).loc main_arg4))
    (lamOf (fun x => m ((c : Thread nD τ).loc main_arg5) (ix2 (0 : Fin 1) x)) (fun x => m ((c : Thread nD τ).loc main_arg6) (ix2 (0 : Fin 1) x))
          (fun x => m ((c : Thread nD τ).loc main_arg7) (ix2 (0 : Fin 1) x)) (fun x => m ((c : Thread nD τ).loc main_arg8) (ix2 (0 : Fin 1) x)))
    (fun d => m ((c : Thread nD τ).loc main_arg9) (ix2 (0 : Fin 1) d))
    ⟨(j 0 : ℕ) / 4096, Nat.div_lt_of_lt_mul (j 0).isLt⟩ ⟨(j 1 : ℕ) / 128, Nat.div_lt_of_lt_mul (j 1).isLt⟩
    ⟨(j 0 : ℕ) % 4096, Nat.mod_lt _ (by decide)⟩ ⟨(j 1 : ℕ) % 128, Nat.mod_lt _ (by decide)⟩

/-- The specification at an array index given by its batch, pair of heads, row and column. -/
theorem G_at (c : Dev nD) (j : S32768x512.Idx) (b : Fin 8) (p : Fin 4) (i : Fin 4096) (d : Fin 128)
    (h0 : (j 0 : ℕ) = b * 4096 + i) (h1 : (j 1 : ℕ) = p * 128 + d) :
    G m c j = outAt (m ((c : Thread nD τ).loc main_arg0)) (m ((c : Thread nD τ).loc main_arg1)) (m ((c : Thread nD τ).loc main_arg2))
      (m ((c : Thread nD τ).loc main_arg3)) (m ((c : Thread nD τ).loc main_arg4))
      (lamOf (fun x => m ((c : Thread nD τ).loc main_arg5) (ix2 (0 : Fin 1) x)) (fun x => m ((c : Thread nD τ).loc main_arg6) (ix2 (0 : Fin 1) x))
          (fun x => m ((c : Thread nD τ).loc main_arg7) (ix2 (0 : Fin 1) x)) (fun x => m ((c : Thread nD τ).loc main_arg8) (ix2 (0 : Fin 1) x)))
      (fun d => m ((c : Thread nD τ).loc main_arg9) (ix2 (0 : Fin 1) d)) b p i d := by
  have e1 : (⟨(j 0 : ℕ) / 4096, Nat.div_lt_of_lt_mul (j 0).isLt⟩ : Fin 8) = b := Fin.ext (show (j 0 : ℕ) / 4096 = b by omega)
  have e2 : (⟨(j 1 : ℕ) / 128, Nat.div_lt_of_lt_mul (j 1).isLt⟩ : Fin 4) = p := Fin.ext (show (j 1 : ℕ) / 128 = p by omega)
  have e3 : (⟨(j 0 : ℕ) % 4096, Nat.mod_lt _ (by decide)⟩ : Fin 4096) = i := Fin.ext (show (j 0 : ℕ) % 4096 = i by omega)
  have e4 : (⟨(j 1 : ℕ) % 128, Nat.mod_lt _ (by decide)⟩ : Fin 128) = d := Fin.ext (show (j 1 : ℕ) % 128 = d by omega)
  unfold G
  rw [e1, e2, e3, e4]

/-- Where a block index of the result sits in the whole array. -/
theorem emb5 (t : Fin cfg0.N) (y : S512x256.Idx) :
    ((((cfg0.win 5).blk t).view.emb y 0 : Fin 32768) : ℕ) = (t.val / 16 * 8 + t.val % 8) * 512 + (y 0 : ℕ)
      ∧ ((((cfg0.win 5).blk t).view.emb y 1 : Fin 512) : ℕ) = t.val / 8 % 2 * 256 + (y 1 : ℕ) := by
  obtain ⟨-, -, -, -, -, h⟩ := idx t
  have h0 : win0_5.index t 0 = t.val / 16 * 8 + t.val % 8 := congrFun h 0
  have h1 : win0_5.index t 1 = t.val / 8 % 2 := congrFun h 1
  rw [← h0, ← h1]
  constructor
  · show win0_5.index t 0 * 512 + 1 * (y 0 : ℕ) = _
    rw [one_mul]
  · show win0_5.index t 1 * 256 + 1 * (y 1 : ℕ) = _
    rw [one_mul]

/-- The loads of a point, entry by entry: its weights' vectors and gain whole, and either half of its queries, keys and values. -/
theorem ld_lam (x : Vec Ideal S4x64 .f32) (k : Fin 4) (l : Fin 64) : (View.ld x r0_0 : Vec Ideal S4x64 .f32) (ix2 k l) = x (ix2 k l) := by
  pointwise [r0_0]

/-- The gain, whole. -/
theorem ld_g (x : Vec Ideal S1x128 .f32) (d : Fin 128) : (View.ld x r0_6 : Vec Ideal S1x128 .f32) (ix2 (0 : Fin 1) d) = x (ix2 (0 : Fin 1) d) := by
  pointwise [r0_6]

/-- The queries' first half. -/
theorem ld_q0 (x : Vec Ideal S512x256 .bf16) (r : Fin 512) (d : Fin 128) : (View.ld x r0_1 : Vec Ideal S512x128 .bf16) (ix2 r d) = x (ix2 r (⟨d, by omega⟩ : Fin 256)) := by
  pointwise [r0_1]

/-- The queries' second half. -/
theorem ld_q1 (x : Vec Ideal S512x256 .bf16) (r : Fin 512) (d : Fin 128) : (View.ld x r0_3 : Vec Ideal S512x128 .bf16) (ix2 r d) = x (ix2 r (⟨128 + d, by omega⟩ : Fin 256)) := by
  pointwise [r0_3]

/-- The keys' first half. -/
theorem ld_k0 (x : Vec Ideal S1x256x4352 .bf16) (d : Fin 128) (n : Fin 4352) : (View.ld x r0_2 : Vec Ideal S1x128x4352 .bf16) (ix3 (0 : Fin 1) d n) = x (ix3 (0 : Fin 1) (⟨d, by omega⟩ : Fin 256) n) := by
  pointwise [r0_2]

/-- The keys' second half. -/
theorem ld_k1 (x : Vec Ideal S1x256x4352 .bf16) (d : Fin 128) (n : Fin 4352) : (View.ld x r0_4 : Vec Ideal S1x128x4352 .bf16) (ix3 (0 : Fin 1) d n) = x (ix3 (0 : Fin 1) (⟨128 + d, by omega⟩ : Fin 256) n) := by
  pointwise [r0_4]

/-- The values' first half. -/
theorem ld_v0 (x : Vec Ideal S1x4352x256 .bf16) (n : Fin 4352) (d : Fin 128) : (View.ld x r0_5 : Vec Ideal S1x4352x128 .bf16) (ix3 (0 : Fin 1) n d) = x (ix3 (0 : Fin 1) n (⟨d, by omega⟩ : Fin 256)) := by
  pointwise [r0_5]

/-- The values' second half. -/
theorem ld_v1 (x : Vec Ideal S1x4352x256 .bf16) (n : Fin 4352) (d : Fin 128) : (View.ld x r0_7 : Vec Ideal S1x4352x128 .bf16) (ix3 (0 : Fin 1) n d) = x (ix3 (0 : Fin 1) n (⟨128 + d, by omega⟩ : Fin 256)) := by
  pointwise [r0_7]

/-- POINT: what the body stores at block index `y` of point `t` is the specification at the array index `y` sits at. -/
theorem point (c : Dev nD) (f0 : ∀ i, m ((c : Thread nD τ).loc main_arg0) i ≠ (⊤ : EReal) ∧ m ((c : Thread nD τ).loc main_arg0) i ≠ (⊥ : EReal))
    (f1 : ∀ i, m ((c : Thread nD τ).loc main_arg1) i ≠ (⊤ : EReal) ∧ m ((c : Thread nD τ).loc main_arg1) i ≠ (⊥ : EReal))
    (f3 : ∀ i, m ((c : Thread nD τ).loc main_arg3) i ≠ (⊤ : EReal) ∧ m ((c : Thread nD τ).loc main_arg3) i ≠ (⊥ : EReal))
    (t : Fin cfg0.N) (y : S512x256.Idx) :
    out0_5 (iblk m c 0 t) (iblk m c 1 t) (iblk m c 2 t) (iblk m c 3 t) (iblk m c 4 t) y = G m c (((cfg0.win 5).blk t).view.emb y) := by
  have ht : t.val < 128 := t.isLt
  obtain ⟨e0, e1⟩ := emb5 t y
  unfold_out out0_5
  canon_tiles x h
  all_goals obtain ⟨r, d, rfl⟩ : ∃ (r : Fin 512) (d : Fin 128), x = ix2 r d := ⟨x 0, x 1, by funext a; fin_cases a <;> rfl⟩
  all_goals have hr := r.isLt
  all_goals have hd := d.isLt
  all_goals replace h0 : ((y 0 : Fin 512) : ℕ) = r := h0
  · replace h1 : ((y 1 : Fin 256) : ℕ) = 128 + d := h1
    rw [G_at m c (((cfg0.win 5).blk t).view.emb y) ⟨t.val / 16, by omega⟩ ⟨t.val / 8 % 2 * 2 + 1, by omega⟩ ⟨t.val % 8 * 512 + (r : ℕ), by omega⟩ d
      (by rw [e0, h0]; show _ = t.val / 16 * 4096 + (t.val % 8 * 512 + (r : ℕ)); omega)
      (by rw [e1, h1]; show _ = (t.val / 8 % 2 * 2 + 1) * 128 + (d : ℕ); omega)]
    refine core_second _ _ _ _ _ f0 f1 f3 _ _ _ _ _ _ _ _ _ _ r (fun d R l hR hl => ?_) (fun d n l hl => ?_) (fun n d l hl => ?_) ?_ (fun d => ?_) d
    · replace hR : (R : ℕ) = t.val / 16 * 4096 + (t.val % 8 * 512 + (r : ℕ)) := hR
      replace hl : (l : ℕ) = (t.val / 8 % 2 * 2 + 1) * 128 + (d : ℕ) := hl
      exact (ld_q1 _ r d).trans ((q_blk m c t r _ R l (by omega) (by show (l : ℕ) = t.val / 8 % 2 * 256 + (128 + (d : ℕ)); omega)).trans (V_q m c R l))
    · replace hl : (l : ℕ) = (t.val / 8 % 2 * 2 + 1) * 128 + (d : ℕ) := hl
      exact (ld_k1 _ d n).trans ((kt_blk m c t _ n ⟨t.val / 16, by omega⟩ l rfl (by show (l : ℕ) = t.val / 8 % 2 * 256 + (128 + (d : ℕ)); omega)).trans (V_kt m c _ l n))
    · replace hl : (l : ℕ) = (t.val / 8 % 2 * 2 + 1) * 128 + (d : ℕ) := hl
      exact (ld_v1 _ n d).trans ((v_blk m c t _ n ⟨t.val / 16, by omega⟩ l rfl (by show (l : ℕ) = t.val / 8 % 2 * 256 + (128 + (d : ℕ)); omega)).trans (V_v m c _ n l))
    · refine lam_of _ _ _ _ _ fun k x => (ld_lam _ k x).trans ((lam_blk m c t k x).trans ?_)
      rw [V_lam, stack_at]
    · exact (ld_g _ d).trans ((g_blk m c t d).trans (V_g m c d))
  · replace h1 : ((y 1 : Fin 256) : ℕ) = d := h1
    rw [G_at m c (((cfg0.win 5).blk t).view.emb y) ⟨t.val / 16, by omega⟩ ⟨t.val / 8 % 2 * 2, by omega⟩ ⟨t.val % 8 * 512 + (r : ℕ), by omega⟩ d
      (by rw [e0, h0]; show _ = t.val / 16 * 4096 + (t.val % 8 * 512 + (r : ℕ)); omega)
      (by rw [e1, h1]; show _ = (t.val / 8 % 2 * 2) * 128 + (d : ℕ); omega)]
    refine core_first _ _ _ _ _ f0 f1 f3 _ _ _ _ _ _ _ _ _ _ r (fun d R l hR hl => ?_) (fun d n l hl => ?_) (fun n d l hl => ?_) ?_ (fun d => ?_) d
    · replace hR : (R : ℕ) = t.val / 16 * 4096 + (t.val % 8 * 512 + (r : ℕ)) := hR
      replace hl : (l : ℕ) = (t.val / 8 % 2 * 2) * 128 + (d : ℕ) := hl
      exact (ld_q0 _ r d).trans ((q_blk m c t r _ R l (by omega) (by show (l : ℕ) = t.val / 8 % 2 * 256 + ((d : ℕ)); omega)).trans (V_q m c R l))
    · replace hl : (l : ℕ) = (t.val / 8 % 2 * 2) * 128 + (d : ℕ) := hl
      exact (ld_k0 _ d n).trans ((kt_blk m c t _ n ⟨t.val / 16, by omega⟩ l rfl (by show (l : ℕ) = t.val / 8 % 2 * 256 + ((d : ℕ)); omega)).trans (V_kt m c _ l n))
    · replace hl : (l : ℕ) = (t.val / 8 % 2 * 2) * 128 + (d : ℕ) := hl
      exact (ld_v0 _ n d).trans ((v_blk m c t _ n ⟨t.val / 16, by omega⟩ l rfl (by show (l : ℕ) = t.val / 8 % 2 * 256 + ((d : ℕ)); omega)).trans (V_v m c _ n l))
    · refine lam_of _ _ _ _ _ fun k x => (ld_lam _ k x).trans ((lam_blk m c t k x).trans ?_)
      rw [V_lam, stack_at]
    · exact (ld_g _ d).trans ((g_blk m c t d).trans (V_g m c d))

/-- FINAL: the result array after the last grid point. -/
theorem final (c : Dev nD) (f0 : ∀ i, m ((c : Thread nD τ).loc main_arg0) i ≠ (⊤ : EReal) ∧ m ((c : Thread nD τ).loc main_arg0) i ≠ (⊥ : EReal))
    (f1 : ∀ i, m ((c : Thread nD τ).loc main_arg1) i ≠ (⊤ : EReal) ∧ m ((c : Thread nD τ).loc main_arg1) i ≠ (⊥ : EReal))
    (f3 : ∀ i, m ((c : Thread nD τ).loc main_arg3) i ≠ (⊤ : EReal) ∧ m ((c : Thread nD τ).loc main_arg3) i ≠ (⊥ : EReal)) :
    (dats m 0 c).arrAt 5 cfg0.N = G m c := by
  refine (dats m 0 c).arrAt_eq_of_covers 5 _ (by decide +kernel) fun t _ y => ?_
  rw [after0_5]
  exact point m c f0 f1 f3 t y

end Cert.Attn.Kern

end
-- ==== Proof.Attn.Reference.lean ====
/- What the reference's attention computes, read at one index: the composed term of its run is cut into
   stages (scores, row maxima, softmax, weights, attended values), each read as plain sums and maxima. -/
module

public import proofs.«01_k».proof.Proof.Gen.ReferenceIdeal
public import proofs.«01_k».proof.Proof.Gen.ReferenceIdeal.Run
public import proofs.«01_k».proof.Proof.Attn.Row

@[expose] public section

set_option maxRecDepth 16384

noncomputable section

namespace Cert.Attn.Ref

open Cert.ReferenceIdeal Cert.ReferenceIdeal.Gen Idealize.ShloMosaic Idealize.ShloMosaic.TcCoe Idealize.SL.Sem

/-- The query heads: eight heads of 64 columns. -/
def qh (X0 : FVec Ideal S32768x512 .f32) : FVec Ideal S8x8x4096x64 .f32 :=
  transpose S8x8x4096x64 [0, 2, 1, 3] (shapeCast _ (shapeCast _ X0 shapeCasts_S32768x512_S8x4096x512) shapeCasts_S8x4096x512_S8x4096x8x64) transposes_S8x4096x8x64_S8x8x4096x64_0_2_1_3

/-- The context's key heads. -/
def kch (X3 : FVec Ideal S2048x512 .f32) : FVec Ideal S8x8x256x64 .f32 :=
  transpose S8x8x256x64 [0, 2, 1, 3] (shapeCast _ (shapeCast _ X3 shapeCasts_S2048x512_S8x256x512) shapeCasts_S8x256x512_S8x256x8x64) transposes_S8x256x8x64_S8x8x256x64_0_2_1_3

/-- The key heads: the context's keys, then the sequence's. -/
def kh (X1 : FVec Ideal S32768x512 .f32) (X3 : FVec Ideal S2048x512 .f32) : FVec Ideal S8x8x4352x64 .f32 :=
  concatenate S8x8x4352x64 2 [⟨S8x8x256x64, kch X3⟩, ⟨S8x8x4096x64, qh X1⟩] concatenates_S8x8x256x64_S8x8x4096x64_S8x8x4352x64_d2

/-- The scaled scores of every query against every key. -/
def scores (X0 X1 : FVec Ideal S32768x512 .f32) (X3 : FVec Ideal S2048x512 .f32) : FVec Ideal S8x8x4096x4352 .f32 :=
  mulf (Host.dotGeneral dot_S8x8x4096x64_S8x8x4352x64_S8x8x4096x4352_3_3_2_2_01_01 none (qh X0) (kh X1 X3)) (broadcastInDim S8x8x4096x4352 ![] bcast_S_S8x8x4096x4352 (constant S_ .f32 0x3E000000#32))

/-- Each row's largest score. -/
def rowMax (s : FVec Ideal S8x8x4096x4352 .f32) : FVec Ideal S8x8x4096 .f32 :=
  Host.reduce FloatOps.maximumf s (constant S_ .f32 0xFF800000#32) reducesTo_S8x8x4096x4352_S8x8x4096_d3 h_S_

/-- The same, compared once more with minus infinity. -/
def rowTop (M : FVec Ideal S8x8x4096 .f32) : FVec Ideal S8x8x4096 .f32 :=
  maximumf (broadcastInDim S8x8x4096 ![] bcast_S_S8x8x4096 (constant S_ .f32 0xFF800000#32)) M

/-- Each row's scores less the row's largest, exponentiated. -/
def expo (s : FVec Ideal S8x8x4096x4352 .f32) : FVec Ideal S8x8x4096x4352 .f32 :=
  Host.exp (subf s (broadcastInDim S8x8x4096x4352 ![0, 1, 2, 3] bcast_S8x8x4096x1_S8x8x4096x4352_0_1_2_3 (broadcastInDim S8x8x4096x1 ![0, 1, 2] bcast_S8x8x4096_S8x8x4096x1_0_1_2 (rowTop (rowMax s)))))

/-- The softmax of the scores, heads in pairs. -/
def soft (e : FVec Ideal S8x8x4096x4352 .f32) : FVec Ideal S8x4x2x4096x4352 .f32 :=
  shapeCast _ (Host.divf e (broadcastInDim S8x8x4096x4352 ![0, 1, 2, 3] bcast_S8x8x4096x1_S8x8x4096x4352_0_1_2_3 (broadcastInDim S8x8x4096x1 ![0, 1, 2] bcast_S8x8x4096_S8x8x4096x1_0_1_2 (Host.reduceAdd e (constant S_ .f32 0x00000000#32) reducesTo_S8x8x4096x4352_S8x8x4096_d3 h_S_)))) shapeCasts_S8x8x4096x4352_S8x4x2x4096x4352

/-- The weight of a pair's second softmax. -/
def lam (X5 X6 X7 X8 : FVec Ideal S1x64 .f32) : FVec Ideal S_ .f32 :=
  addf (subf (Host.exp (Host.reduceAdd (mulf (shapeCast _ X5 shapeCasts_S1x64_S64) (shapeCast _ X6 shapeCasts_S1x64_S64)) (constant S_ .f32 0x00000000#32) reducesTo_S64_S_d0 h_S_)) (Host.exp (Host.reduceAdd (mulf (shapeCast _ X7 shapeCasts_S1x64_S64) (shapeCast _ X8 shapeCasts_S1x64_S64)) (constant S_ .f32 0x00000000#32) reducesTo_S64_S_d0 h_S_))) (constant S_ .f32 0x3E4CCCCD#32)

/-- The value heads: four of 128 columns, the context's rows first. -/
def vh (X2 : FVec Ideal S32768x512 .f32) (X4 : FVec Ideal S2048x512 .f32) : FVec Ideal S8x4x4352x128 .f32 :=
  concatenate S8x4x4352x128 2 [⟨S8x4x256x128, (transpose S8x4x256x128 [0, 2, 1, 3] (shapeCast _ (shapeCast _ X4 shapeCasts_S2048x512_S8x256x512) shapeCasts_S8x256x512_S8x256x4x128) transposes_S8x256x4x128_S8x4x256x128_0_2_1_3)⟩, ⟨S8x4x4096x128, (transpose S8x4x4096x128 [0, 2, 1, 3] (shapeCast _ (shapeCast _ X2 shapeCasts_S32768x512_S8x4096x512) shapeCasts_S8x4096x512_S8x4096x4x128) transposes_S8x4096x4x128_S8x4x4096x128_0_2_1_3)⟩] concatenates_S8x4x256x128_S8x4x4096x128_S8x4x4352x128_d2

/-- The values attended: the first softmax less `l` times the second, applied to the values. -/
def attend (p : FVec Ideal S8x4x2x4096x4352 .f32) (l : FVec Ideal S_ .f32) (v : FVec Ideal S8x4x4352x128 .f32) : FVec Ideal S8x4x4096x128 .f32 :=
  Host.dotGeneral dot_S8x4x4096x4352_S8x4x4352x128_S8x4x4096x128_3_2_2_3_01_01 none (subf (shapeCast _ (extractStridedSlice S8x4x1x4096x4352 ![0, 0, 0, 0, 0] p slices_S8x4x2x4096x4352_S8x4x1x4096x4352_0_0_0_0_0) shapeCasts_S8x4x1x4096x4352_S8x4x4096x4352) (mulf (broadcastInDim S8x4x4096x4352 ![] bcast_S_S8x4x4096x4352 l) (shapeCast _ (extractStridedSlice S8x4x1x4096x4352 ![0, 0, 1, 0, 0] p slices_S8x4x2x4096x4352_S8x4x1x4096x4352_0_0_1_0_0) shapeCasts_S8x4x1x4096x4352_S8x4x4096x4352))) v

/-- The normed, gained result, laid back as rows of 512 columns. -/
def norm (y : FVec Ideal S8x4x4096x128 .f32) (X9 : FVec Ideal S1x128 .f32) : FVec Ideal S32768x512 .f32 :=
  shapeCast _ (transpose S8x4096x4x128 [0, 2, 1, 3] (mulf (mulf (mulf y (broadcastInDim S8x4x4096x128 ![0, 1, 2, 3] bcast_S8x4x4096x1_S8x4x4096x128_0_1_2_3 (Host.rsqrt (addf (Host.divf (broadcastInDim S8x4x4096x1 ![0, 1, 2] bcast_S8x4x4096_S8x4x4096x1_0_1_2 (Host.reduceAdd (mulf y y) (constant S_ .f32 0x00000000#32) reducesTo_S8x4x4096x128_S8x4x4096_d3 h_S_)) (broadcastInDim S8x4x4096x1 ![] bcast_S_S8x4x4096x1 (constant S_ .f32 0x43000000#32))) (broadcastInDim S8x4x4096x1 ![] bcast_S_S8x4x4096x1 (constant S_ .f32 0x358637BD#32)))))) (broadcastInDim S8x4x4096x128 ![0, 1, 2, 3] bcast_S1x1x1x128_S8x4x4096x128_0_1_2_3 (broadcastInDim S1x1x1x128 ![3] bcast_S128_S1x1x1x128_3 (shapeCast _ X9 shapeCasts_S1x128_S128)))) (broadcastInDim S8x4x4096x128 ![] bcast_S_S8x4x4096x128 (constant S_ .f32 0x3F4CCCCD#32))) transposes_S8x4x4096x128_S8x4096x4x128_0_2_1_3) shapeCasts_S8x4096x4x128_S32768x512

/-- A head's entry is the row's entry in the head's columns. -/
theorem qh_at (X : FVec Ideal S32768x512 .f32) (b : Fin 8) (h : Fin 8) (i : Fin 4096) (d : Fin 64) :
    qh X (ix4 b h i d) = X (ix2 (⟨b * 4096 + i, by omega⟩ : Fin 32768) (⟨h * 64 + d, by omega⟩ : Fin 512)) := by
  pointwise [qh]

/-- The keys at one position: the context's first 256, then the sequence's. -/
theorem kh_at (X1 : FVec Ideal S32768x512 .f32) (X3 : FVec Ideal S2048x512 .f32) (b : Fin 8) (h : Fin 8) (n : Fin 4352) (d : Fin 64) :
    kh X1 X3 (ix4 b h n d) = if _ : (n : ℕ) < 256 then X3 (ix2 (⟨b * 256 + n, by omega⟩ : Fin 2048) (⟨h * 64 + d, by omega⟩ : Fin 512))
      else X1 (ix2 (⟨b * 4096 + (n - 256), by omega⟩ : Fin 32768) (⟨h * 64 + d, by omega⟩ : Fin 512)) := by
  pointwise [kh, kch, qh]

/-- A score is the sum of products over the head's columns, scaled. -/
theorem scores_at (X0 X1 : FVec Ideal S32768x512 .f32) (X3 : FVec Ideal S2048x512 .f32) (b : Fin 8) (h : Fin 8) (i : Fin 4096) (n : Fin 4352) :
    scores X0 X1 X3 (ix4 b h i n) = (∑ d : Fin 64, qh X0 (ix4 b h i d) * kh X1 X3 (ix4 b h n d)) * Ideal.ofBits .f32 0x3E000000#32 := by
  pointwise [scores]

/-- The row maximum as a fold from minus infinity. -/
theorem rowMax_at (s : FVec Ideal S8x8x4096x4352 .f32) (b : Fin 8) (h : Fin 8) (i : Fin 4096) :
    rowMax s (ix3 b h i) = Finset.univ.fold max (Ideal.ofBits .f32 0xFF800000#32) fun n : Fin 4352 => s (ix4 b h i n) := by
  pointwise [rowMax]

/-- The comparison with minus infinity at one entry. -/
theorem rowTop_at (M : FVec Ideal S8x8x4096 .f32) (b : Fin 8) (h : Fin 8) (i : Fin 4096) :
    rowTop M (ix3 b h i) = max (Ideal.ofBits .f32 0xFF800000#32) (M (ix3 b h i)) := by
  pointwise [rowTop]

/-- The exponentials at one entry. -/
theorem expo_at (s : FVec Ideal S8x8x4096x4352 .f32) (b : Fin 8) (h : Fin 8) (i : Fin 4096) (n : Fin 4352) :
    expo s (ix4 b h i n) = Ideal.exp (s (ix4 b h i n) - rowTop (rowMax s) (ix3 b h i)) := by
  pointwise [expo]

/-- The softmax at one entry: an exponential over the row's sum. -/
theorem soft_at (e : FVec Ideal S8x8x4096x4352 .f32) (b : Fin 8) (h : Fin 4) (u : Fin 2) (i : Fin 4096) (n : Fin 4352) :
    soft e (ix5 b h u i n) = Ideal.div (e (ix4 b (⟨h * 2 + u, by omega⟩ : Fin 8) i n)) (∑ k : Fin 4352, e (ix4 b (⟨h * 2 + u, by omega⟩ : Fin 8) i k)) := by
  pointwise [soft]

/-- The weight of the second softmax. -/
theorem lam_at (X5 X6 X7 X8 : FVec Ideal S1x64 .f32) :
    lam X5 X6 X7 X8 ix0 = Ideal.exp (∑ x : Fin 64, X5 (ix2 (0 : Fin 1) x) * X6 (ix2 (0 : Fin 1) x)) - Ideal.exp (∑ x : Fin 64, X7 (ix2 (0 : Fin 1) x) * X8 (ix2 (0 : Fin 1) x)) + Ideal.ofBits .f32 0x3E4CCCCD#32 := by
  pointwise [lam]

/-- The values at one position: the context's first 256, then the sequence's. -/
theorem vh_at (X2 : FVec Ideal S32768x512 .f32) (X4 : FVec Ideal S2048x512 .f32) (b : Fin 8) (h : Fin 4) (n : Fin 4352) (d : Fin 128) :
    vh X2 X4 (ix4 b h n d) = if _ : (n : ℕ) < 256 then X4 (ix2 (⟨b * 256 + n, by omega⟩ : Fin 2048) (⟨h * 128 + d, by omega⟩ : Fin 512))
      else X2 (ix2 (⟨b * 4096 + (n - 256), by omega⟩ : Fin 32768) (⟨h * 128 + d, by omega⟩ : Fin 512)) := by
  pointwise [vh]

/-- The attended values: a sum over the keys. -/
theorem attend_at (p : FVec Ideal S8x4x2x4096x4352 .f32) (l : FVec Ideal S_ .f32) (v : FVec Ideal S8x4x4352x128 .f32) (b : Fin 8) (h : Fin 4) (i : Fin 4096) (d : Fin 128) :
    attend p l v (ix4 b h i d) = ∑ n : Fin 4352, (p (ix5 b h (0 : Fin 2) i n) - l ix0 * p (ix5 b h (1 : Fin 2) i n)) * v (ix4 b h n d) := by
  pointwise [attend]

/-- The result at a row and a column, for the batch, head, position and column within the head they stand for. -/
theorem norm_at_div (y : FVec Ideal S8x4x4096x128 .f32) (g : FVec Ideal S1x128 .f32) (r : Fin 32768) (l : Fin 512)
    (b : Fin 8) (h : Fin 4) (i : Fin 4096) (d : Fin 128) (hb : b = ⟨(r : ℕ) / 4096, by omega⟩) (hi : i = ⟨(r : ℕ) % 4096, by omega⟩)
    (hh : h = ⟨(l : ℕ) / 128, by omega⟩) (hd : d = ⟨(l : ℕ) % 128, by omega⟩) :
    norm y g (ix2 r l) = y (ix4 b h i d) * Ideal.rsqrt (Ideal.div (∑ k : Fin 128, y (ix4 b h i k) * y (ix4 b h i k)) (Ideal.ofBits .f32 0x43000000#32) + Ideal.ofBits .f32 0x358637BD#32)
      * g (ix2 (0 : Fin 1) d) * Ideal.ofBits .f32 0x3F4CCCCD#32 := by
  subst hb hi hh hd
  pointwise [norm]

/-- The result at row `b * 4096 + i`, column `h * 128 + d`: the head's entry normed over the head's columns. -/
theorem norm_at (y : FVec Ideal S8x4x4096x128 .f32) (g : FVec Ideal S1x128 .f32) (r : Fin 32768) (l : Fin 512)
    (b : Fin 8) (h : Fin 4) (i : Fin 4096) (d : Fin 128) (hr : (r : ℕ) = b * 4096 + i) (hl : (l : ℕ) = h * 128 + d) :
    norm y g (ix2 r l) = y (ix4 b h i d) * Ideal.rsqrt (Ideal.div (∑ k : Fin 128, y (ix4 b h i k) * y (ix4 b h i k)) (Ideal.ofBits .f32 0x43000000#32) + Ideal.ofBits .f32 0x358637BD#32)
      * g (ix2 (0 : Fin 1) d) * Ideal.ofBits .f32 0x3F4CCCCD#32 :=
  norm_at_div y g r l b h i d (Fin.ext (show (b : ℕ) = (r : ℕ) / 4096 by omega)) (Fin.ext (show (i : ℕ) = (r : ℕ) % 4096 by omega))
    (Fin.ext (show (h : ℕ) = (l : ℕ) / 128 by omega)) (Fin.ext (show (d : ℕ) = (l : ℕ) % 128 by omega))

/-- The run's composed term is the stages composed. -/
theorem res_eq (m : (ℓ : Loc nD τ sig) → Buf (Elt Ideal) ℓ) (c : Dev nD) :
    Value.res_out0 m c = norm (attend (soft (expo (scores (m ((c.tc : Thread nD τ).loc main_arg0)) (m ((c.tc : Thread nD τ).loc main_arg1)) (m ((c.tc : Thread nD τ).loc main_arg3))))) (lam (m ((c.tc : Thread nD τ).loc main_arg5)) (m ((c.tc : Thread nD τ).loc main_arg6)) (m ((c.tc : Thread nD τ).loc main_arg7)) (m ((c.tc : Thread nD τ).loc main_arg8))) (vh (m ((c.tc : Thread nD τ).loc main_arg2)) (m ((c.tc : Thread nD τ).loc main_arg4)))) (m ((c.tc : Thread nD τ).loc main_arg9)) := rfl
/-- A head's score is the specification's. -/
theorem scores_eq (X0 X1 : FVec Ideal S32768x512 .f32) (X3 : FVec Ideal S2048x512 .f32) (b : Fin 8) (h : Fin 8) (i : Fin 4096) (n : Fin 4352) :
    scores X0 X1 X3 (ix4 b h i n) = sc X0 X1 X3 b h i n := by
  rw [scores_at]
  refine congrArg (· * _) (Finset.sum_congr rfl fun d _ => ?_)
  rw [qh_at, kh_at]; rfl

/-- A softmax entry is the row's exponential over the row's sum. -/
theorem soft_eq (s : FVec Ideal S8x8x4096x4352 .f32) (b : Fin 8) (h : Fin 4) (u : Fin 2) (i : Fin 4096) (n : Fin 4352) (f : Fin 4352 → EReal)
    (hf : ∀ n, s (ix4 b (⟨h * 2 + u, by omega⟩ : Fin 8) i n) = f n) :
    soft (expo s) (ix5 b h u i n) = Ideal.div (ex f n) (∑ k, ex f k) := by
  have he : ∀ n, expo s (ix4 b (⟨h * 2 + u, by omega⟩ : Fin 8) i n) = ex f n := fun n => by
    rw [expo_at, rowTop_at, rowMax_at]
    simp only [hf]
    exact congrArg (fun z => Ideal.exp (f n - z)) (max_top f)
  rw [soft_at, he]
  exact congrArg _ (Finset.sum_congr rfl fun k _ => he k)

/-- The reference's result at one row and column is the specification's. -/
theorem res_at (X0 X1 X2 : FVec Ideal S32768x512 .f32) (X3 X4 : FVec Ideal S2048x512 .f32) (X5 X6 X7 X8 : FVec Ideal S1x64 .f32)
    (X9 : FVec Ideal S1x128 .f32) (r : Fin 32768) (l : Fin 512)
    (b : Fin 8) (h : Fin 4) (i : Fin 4096) (d : Fin 128) (hr : (r : ℕ) = b * 4096 + i) (hl : (l : ℕ) = h * 128 + d) :
    norm (attend (soft (expo (scores X0 X1 X3))) (lam X5 X6 X7 X8) (vh X2 X4)) X9 (ix2 r l)
      = outAt X0 X1 X2 X3 X4 (lamOf (fun x => X5 (ix2 (0 : Fin 1) x)) (fun x => X6 (ix2 (0 : Fin 1) x)) (fun x => X7 (ix2 (0 : Fin 1) x)) (fun x => X8 (ix2 (0 : Fin 1) x)))
          (fun d => X9 (ix2 (0 : Fin 1) d)) b h i d := by
  rw [norm_at _ _ r l b h i d hr hl]
  have hy : ∀ d, attend (soft (expo (scores X0 X1 X3))) (lam X5 X6 X7 X8) (vh X2 X4) (ix4 b h i d)
      = ∑ n : Fin 4352, mixR (sc X0 X1 X3 b ⟨h * 2, by omega⟩ i) (sc X0 X1 X3 b ⟨h * 2 + 1, by omega⟩ i)
          (lamOf (fun x => X5 (ix2 (0 : Fin 1) x)) (fun x => X6 (ix2 (0 : Fin 1) x)) (fun x => X7 (ix2 (0 : Fin 1) x)) (fun x => X8 (ix2 (0 : Fin 1) x))) n
        * rowAt X2 X4 b n (⟨h * 128 + d, by omega⟩ : Fin 512) := fun d => by
    rw [attend_at]
    refine Finset.sum_congr rfl fun n _ => ?_
    rw [soft_eq _ b h 0 i n _ (fun n => scores_eq X0 X1 X3 b _ i n), soft_eq _ b h 1 i n _ (fun n => scores_eq X0 X1 X3 b _ i n),
      lam_at, vh_at]
    rfl
  simp only [hy]
  rfl

end Cert.Attn.Ref

end
-- ==== Proof.Moe.Spec.lean ====
/- One row through one expert, and the choice of an expert by a zero-one weight, on plain functions of extended reals. -/
module

public import Idealize.ShloMosaic.Lib.Pointwise
public import Idealize.ShloMosaic.Lib.IdealHost

@[expose] public section

noncomputable section

namespace Cert.Moe

open Idealize.ShloMosaic

/-- The rows' shape. -/
abbrev RowS : Shape := ⟨2, ![73728, 1024]⟩

/-- The gate and up weights' shape. -/
abbrev UpS : Shape := ⟨3, ![64, 1024, 512]⟩

/-- The down weights' shape. -/
abbrev DownS : Shape := ⟨3, ![64, 512, 1024]⟩

/-- A row times one expert's column. -/
def proj (X : FVec Ideal RowS .bf16) (W : FVec Ideal UpS .f32) (e : Fin 64) (r : Fin 73728) (f : Fin 512) : EReal :=
  ∑ d : Fin 1024, X (ix2 r d) * W (ix3 e d f)

/-- The hidden unit: the gate's projection through `x * sigmoid x`, times the up projection. -/
def hid (a u : EReal) : EReal := a * Ideal.logistic a * u

/-- One row through one expert. -/
def ffn (X : FVec Ideal RowS .bf16) (Wg Wu : FVec Ideal UpS .f32) (Wd : FVec Ideal DownS .f32) (e : Fin 64) (r : Fin 73728) (b : Fin 1024) : EReal :=
  ∑ f : Fin 512, hid (proj X Wg e r f) (proj X Wu e r f) * Wd (ix3 e f b)

/-- A sum weighted by one for one expert and zero for the others is that expert's term, whatever the others are. -/
theorem sum_chosen (k : Fin 32) (w y : Fin 32 → EReal) (h1 : w k = 1) (h0 : ∀ e, e ≠ k → w e = 0) : ∑ e : Fin 32, w e * y e = y k := by
  rw [Finset.sum_eq_single k (fun e _ he => by rw [h0 e he, zero_mul]) (fun h => absurd (Finset.mem_univ k) h), h1, one_mul]

end Cert.Moe

end
-- ==== Proof.Moe.Body.lean ====
/- The body of the experts call at one grid point, at the exact instance, whichever of its two conditions hold: with the
   three weight blocks in their windows and — unless it reads them anew — already rounded in the scratch buffers, it leaves
   the scratch buffers holding the rounded blocks, and the tile's rows through the expert in the output window where the
   tile is in use. -/
module

public import proofs.«01_k».proof.Proof.Gen.ExpertsIdeal.Flash.Runs
public import Idealize.ShloMosaic.Lib.VecWindow

@[expose] public section

set_option maxRecDepth 16384

noncomputable section

namespace Cert.ExpertsIdeal.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The point reads the weights anew: it is the first, or its tile's expert is not the one of the tile before. -/
abbrev Loads (i : grid0.Coords) (T0 : S288.Idx → Elt Ideal .i32) : Prop :=
  (Scalar.cmpi .ne (Scalar.extui (Scalar.ori (Scalar.cmpi .eq (BitVec.ofNat 32 (i 0).val) 0#32) (Scalar.cmpi .ne (View.readAt (Elt Ideal) (tbM0_0).view (Rect.unit (s := S288) (k0_off1 i) S1.size (k0_off1_inb i)).toLoadRect T0 (Shape.Idx.first (numel1_S1.symm ▸ Nat.one_pos))) (View.readAt (Elt Ideal) (tbM0_0).view (Rect.unit (s := S288) (k0_off2 i) S1.size (k0_off2_inb i)).toLoadRect T0 (Shape.Idx.first (numel1_S1.symm ▸ Nat.one_pos)))))) 0#32) = 1#1

/-- The point's tile is in use. -/
abbrev Stores (i : grid0.Coords) (T1 : S1.Idx → Elt Ideal .i32) : Prop :=
  k0_cond2 i (View.readAt (Elt Ideal) (tbM0_1).view (Rect.unit (s := S1) ![0] S1.size inb_S1_S1_0).toLoadRect T1 (Shape.Idx.first (numel1_S1.symm ▸ Nat.one_pos))) = 1#1

/-- What the body leaves in the output window where the tile is in use. -/
def tileOut (x0 : S256x1024.Idx → Elt Ideal .bf16) (x1 x2 : S1x1024x512.Idx → Elt Ideal .f32) (x3 : S1x512x1024.Idx → Elt Ideal .f32) :
    S256x1024.Idx → Elt Ideal .bf16 := k0_pay4 (F := Ideal) x0 (k0_pay1 (F := Ideal) x1) (k0_pay2 (F := Ideal) x2) (k0_pay3 (F := Ideal) x3)

/-- A scratch buffer, held at contents that read `s`. -/
abbrev held {sh : Shape} {e : EltTy} (c : Dev nD) (m : Memref sig .tc .vmem sh e) (s : sh.Idx → Elt Ideal e) : sProp 𝕄 :=
  iprop(∃ b : Buf (Elt Ideal) (m.view.loc (c : Thread nD τ)), ⌜m.view.read (Elt Ideal) b = s⌝ ∗ (m.view.loc (c : Thread nD τ) ↦{fullShare} b))

section
variable (c : Dev nD) (i : grid0.Coords) (arg3 : Memref sig .tc .vmem S256x1024 .bf16) (harg3 : arg3.IsWhole)
  (arg4 : Memref sig .tc .vmem S1x1024x512 .f32) (harg4 : arg4.IsWhole) (arg5 : Memref sig .tc .vmem S1x1024x512 .f32) (harg5 : arg5.IsWhole)
  (arg6 : Memref sig .tc .vmem S1x512x1024 .f32) (harg6 : arg6.IsWhole) (arg7 : Memref sig .tc .vmem S256x1024 .bf16) (harg7 : arg7.IsWhole)
  (T0 : S288.Idx → Elt Ideal .i32) (T1 : S1.Idx → Elt Ideal .i32) (x0 : S256x1024.Idx → Elt Ideal .bf16)
  (x1 x2 : S1x1024x512.Idx → Elt Ideal .f32) (x3 : S1x512x1024.Idx → Elt Ideal .f32)
  (a0 : Buf (Elt Ideal) ((c : Thread nD τ).loc cc0_scratch0)) (a1 : Buf (Elt Ideal) ((c : Thread nD τ).loc cc0_scratch1))
  (a2 : Buf (Elt Ideal) ((c : Thread nD τ).loc cc0_scratch2))

/-- Reading the weights anew leaves the first scratch buffer holding the gate block, where the tile is in use. -/
theorem loadA0 (q0 : Loads i T0) (q1 : Stores i T1) : scM0_0.view.read (Elt Ideal) (kernelRun0_A c i arg3 harg3 arg4 harg4 arg5 harg5 arg6 harg6 arg7 harg7 T0 T1 x0 x1 x2 x3 q0 q1).2.1 = k0_pay1 (F := Ideal) x1 := by
  unfold kernelRun0_A; dsimp only; unfold kernelRun0_A.sl.HS0_1
  rw [show View.whole cc0_scratch0 = scM0_0.view from rfl, View.read_writes_full, View.readAt_full, View.read_rep]

/-- Reading the weights anew leaves the second scratch buffer holding the up block, where the tile is in use. -/
theorem loadA1 (q0 : Loads i T0) (q1 : Stores i T1) : scM0_1.view.read (Elt Ideal) (kernelRun0_A c i arg3 harg3 arg4 harg4 arg5 harg5 arg6 harg6 arg7 harg7 T0 T1 x0 x1 x2 x3 q0 q1).2.2.1 = k0_pay2 (F := Ideal) x2 := by
  unfold kernelRun0_A; dsimp only; unfold kernelRun0_A.sl.HS1_1
  rw [show View.whole cc0_scratch1 = scM0_1.view from rfl, View.read_writes_full, View.readAt_full, View.read_rep]

/-- Reading the weights anew leaves the third scratch buffer holding the down block, where the tile is in use. -/
theorem loadA2 (q0 : Loads i T0) (q1 : Stores i T1) : scM0_2.view.read (Elt Ideal) (kernelRun0_A c i arg3 harg3 arg4 harg4 arg5 harg5 arg6 harg6 arg7 harg7 T0 T1 x0 x1 x2 x3 q0 q1).2.2.2.1 = k0_pay3 (F := Ideal) x3 := by
  unfold kernelRun0_A; dsimp only; unfold kernelRun0_A.sl.HS2_1
  rw [show View.whole cc0_scratch2 = scM0_2.view from rfl, View.read_writes_full, View.readAt_full, View.read_rep]

/-- Reading the weights anew leaves the first scratch buffer holding the gate block, where the tile is not in use. -/
theorem loadC0 (q0 : Loads i T0) (q1 : ¬Stores i T1) : scM0_0.view.read (Elt Ideal) (kernelRun0_C c i arg3 harg3 arg4 harg4 arg5 harg5 arg6 harg6 arg7 harg7 T0 T1 x0 x1 x2 x3 q0 q1).1 = k0_pay1 (F := Ideal) x1 := by
  unfold kernelRun0_C; dsimp only; unfold kernelRun0_C.sl.HS0_1
  rw [show View.whole cc0_scratch0 = scM0_0.view from rfl, View.read_writes_full, View.readAt_full, View.read_rep]

/-- Reading the weights anew leaves the second scratch buffer holding the up block, where the tile is not in use. -/
theorem loadC1 (q0 : Loads i T0) (q1 : ¬Stores i T1) : scM0_1.view.read (Elt Ideal) (kernelRun0_C c i arg3 harg3 arg4 harg4 arg5 harg5 arg6 harg6 arg7 harg7 T0 T1 x0 x1 x2 x3 q0 q1).2.1 = k0_pay2 (F := Ideal) x2 := by
  unfold kernelRun0_C; dsimp only; unfold kernelRun0_C.sl.HS1_1
  rw [show View.whole cc0_scratch1 = scM0_1.view from rfl, View.read_writes_full, View.readAt_full, View.read_rep]

/-- Reading the weights anew leaves the third scratch buffer holding the down block, where the tile is not in use. -/
theorem loadC2 (q0 : Loads i T0) (q1 : ¬Stores i T1) : scM0_2.view.read (Elt Ideal) (kernelRun0_C c i arg3 harg3 arg4 harg4 arg5 harg5 arg6 harg6 arg7 harg7 T0 T1 x0 x1 x2 x3 q0 q1).2.2.1 = k0_pay3 (F := Ideal) x3 := by
  unfold kernelRun0_C; dsimp only; unfold kernelRun0_C.sl.HS2_1
  rw [show View.whole cc0_scratch2 = scM0_2.view from rfl, View.read_writes_full, View.readAt_full, View.read_rep]

/-- The store of a point that reads the weights anew is the tile's rows through the expert. -/
theorem storeA (q0 : Loads i T0) (q1 : Stores i T1) (f : arg7.view.ty.Contents (Elt Ideal)) :
    arg7.view.read (Elt Ideal) (arg7.view.writes (Elt Ideal) f (kernelRun0_A c i arg3 harg3 arg4 harg4 arg5 harg5 arg6 harg6 arg7 harg7 T0 T1 x0 x1 x2 x3 q0 q1).1) = tileOut x0 x1 x2 x3 := by
  unfold kernelRun0_A; dsimp only
  unfold kernelRun0_A.sl.HO4_1 kernelRun0_A.sl.v16 kernelRun0_A.sl.v18 kernelRun0_A.sl.v24 tileOut
  rw [View.read_writes_full, View.readAt_full, View.read_rep]
  unfold kernelRun0_A.sl.HS0_1 kernelRun0_A.sl.HS1_1 kernelRun0_A.sl.HS2_1
  rw [View.readCov_full, View.readCov_full, View.readCov_full]
  rw [View.readAt_full, View.read_rep, View.readAt_full, View.read_rep, View.readAt_full, View.read_rep]

/-- So is the store of a point that finds them rounded already. -/
theorem storeB (q0 : ¬Loads i T0) (q1 : Stores i T1) (f : arg7.view.ty.Contents (Elt Ideal)) (h0 : scM0_0.view.read (Elt Ideal) a0 = k0_pay1 (F := Ideal) x1)
    (h1 : scM0_1.view.read (Elt Ideal) a1 = k0_pay2 (F := Ideal) x2) (h2 : scM0_2.view.read (Elt Ideal) a2 = k0_pay3 (F := Ideal) x3) :
    arg7.view.read (Elt Ideal) (arg7.view.writes (Elt Ideal) f (kernelRun0_B c i arg3 harg3 arg4 harg4 arg5 harg5 arg6 harg6 arg7 harg7 T0 T1 x0 x1 x2 x3 a0 a1 a2 q0 q1).1) = tileOut x0 x1 x2 x3 := by
  unfold kernelRun0_B; dsimp only
  unfold kernelRun0_B.sl.HO4_1 tileOut
  rw [View.read_writes_full, View.readAt_full, View.read_rep, View.readAt_full, View.readAt_full, View.readAt_full, h0, h1, h2]

/-- A point that finds them rounded already leaves the first scratch buffer be, -/
theorem keepB0 (q0 : ¬Loads i T0) (q1 : Stores i T1) : (kernelRun0_B c i arg3 harg3 arg4 harg4 arg5 harg5 arg6 harg6 arg7 harg7 T0 T1 x0 x1 x2 x3 a0 a1 a2 q0 q1).2.1 = a0 := by unfold kernelRun0_B; rfl

/-- the second, -/
theorem keepB1 (q0 : ¬Loads i T0) (q1 : Stores i T1) : (kernelRun0_B c i arg3 harg3 arg4 harg4 arg5 harg5 arg6 harg6 arg7 harg7 T0 T1 x0 x1 x2 x3 a0 a1 a2 q0 q1).2.2.1 = a1 := by unfold kernelRun0_B; rfl

/-- and the third, -/
theorem keepB2 (q0 : ¬Loads i T0) (q1 : Stores i T1) : (kernelRun0_B c i arg3 harg3 arg4 harg4 arg5 harg5 arg6 harg6 arg7 harg7 T0 T1 x0 x1 x2 x3 a0 a1 a2 q0 q1).2.2.2.1 = a2 := by unfold kernelRun0_B; rfl

/-- also where the tile is not in use: the first, -/
theorem keepD0 (q0 : ¬Loads i T0) (q1 : ¬Stores i T1) : (kernelRun0_D c i arg3 harg3 arg4 harg4 arg5 harg5 arg6 harg6 arg7 harg7 T0 T1 x0 x1 x2 x3 a0 a1 a2 q0 q1).1 = a0 := by unfold kernelRun0_D; rfl

/-- the second, -/
theorem keepD1 (q0 : ¬Loads i T0) (q1 : ¬Stores i T1) : (kernelRun0_D c i arg3 harg3 arg4 harg4 arg5 harg5 arg6 harg6 arg7 harg7 T0 T1 x0 x1 x2 x3 a0 a1 a2 q0 q1).2.1 = a1 := by unfold kernelRun0_D; rfl

/-- and the third. -/
theorem keepD2 (q0 : ¬Loads i T0) (q1 : ¬Stores i T1) : (kernelRun0_D c i arg3 harg3 arg4 harg4 arg5 harg5 arg6 harg6 arg7 harg7 T0 T1 x0 x1 x2 x3 a0 a1 a2 q0 q1).2.2.1 = a2 := by unfold kernelRun0_D; rfl

set_option maxHeartbeats 2000000 in
/-- The body at a point that reads the weights anew, its tile in use. -/
theorem bodyA (q0 : Loads i T0) (q1 : Stores i T1) (d : S256x1024.Idx → Elt Ideal .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare (tileOut x0 x1 x2 x3)
        ∗ held c scM0_0 (k0_pay1 (F := Ideal) x1) ∗ held c scM0_1 (k0_pay2 (F := Ideal) x2) ∗ held c scM0_2 (k0_pay3 (F := Ideal) x3)) -∗ K ⟨⟩))
      ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_A c i arg3 harg3 arg4 harg4 arg5 harg5 arg6 harg6 arg7 harg7 T0 T1 x0 x1 x2 x3 q0 q1).2.2.2.2 a0 a1 a2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists d; iexact H4
  isplitl [HS0]; · iexact HS0
  isplitl [HS1]; · iexact HS1
  isplitl [HS2]; · iexact HS2
  iintro ⟨H0, H1, H2, H3, HT0, HT1, ⟨%f, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact storeA c i arg3 harg3 arg4 harg4 arg5 harg5 arg6 harg6 arg7 harg7 T0 T1 x0 x1 x2 x3 q0 q1 f
  isplitl [HS0]
  · iexists _; isplitr; swap
    · iexact HS0
    · ipureintro; exact loadA0 c i arg3 harg3 arg4 harg4 arg5 harg5 arg6 harg6 arg7 harg7 T0 T1 x0 x1 x2 x3 q0 q1
  isplitl [HS1]
  · iexists _; isplitr; swap
    · iexact HS1
    · ipureintro; exact loadA1 c i arg3 harg3 arg4 harg4 arg5 harg5 arg6 harg6 arg7 harg7 T0 T1 x0 x1 x2 x3 q0 q1
  iexists _; isplitr; swap
  · iexact HS2
  · ipureintro; exact loadA2 c i arg3 harg3 arg4 harg4 arg5 harg5 arg6 harg6 arg7 harg7 T0 T1 x0 x1 x2 x3 q0 q1

set_option maxHeartbeats 2000000 in
/-- The body at a point that finds the weights rounded already, its tile in use. -/
theorem bodyB (q0 : ¬Loads i T0) (q1 : Stores i T1)
    (h0 : scM0_0.view.read (Elt Ideal) a0 = k0_pay1 (F := Ideal) x1) (h1 : scM0_1.view.read (Elt Ideal) a1 = k0_pay2 (F := Ideal) x2)
    (h2 : scM0_2.view.read (Elt Ideal) a2 = k0_pay3 (F := Ideal) x3) (d : S256x1024.Idx → Elt Ideal .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare (tileOut x0 x1 x2 x3)
        ∗ held c scM0_0 (k0_pay1 (F := Ideal) x1) ∗ held c scM0_1 (k0_pay2 (F := Ideal) x2) ∗ held c scM0_2 (k0_pay3 (F := Ideal) x3)) -∗ K ⟨⟩))
      ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_B c i arg3 harg3 arg4 harg4 arg5 harg5 arg6 harg6 arg7 harg7 T0 T1 x0 x1 x2 x3 a0 a1 a2 q0 q1).2.2.2.2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists d; iexact H4
  isplitl [HS0]; · iexact HS0
  isplitl [HS1]; · iexact HS1
  isplitl [HS2]; · iexact HS2
  iintro ⟨H0, H1, H2, H3, HT0, HT1, ⟨%f, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact storeB c i arg3 harg3 arg4 harg4 arg5 harg5 arg6 harg6 arg7 harg7 T0 T1 x0 x1 x2 x3 a0 a1 a2 q0 q1 f h0 h1 h2
  isplitl [HS0]
  · iexists _; isplitr; swap
    · iexact HS0
    · ipureintro; exact (congrArg _ (keepB0 c i arg3 harg3 arg4 harg4 arg5 harg5 arg6 harg6 arg7 harg7 T0 T1 x0 x1 x2 x3 a0 a1 a2 q0 q1)).trans h0
  isplitl [HS1]
  · iexists _; isplitr; swap
    · iexact HS1
    · ipureintro; exact (congrArg _ (keepB1 c i arg3 harg3 arg4 harg4 arg5 harg5 arg6 harg6 arg7 harg7 T0 T1 x0 x1 x2 x3 a0 a1 a2 q0 q1)).trans h1
  iexists _; isplitr; swap
  · iexact HS2
  · ipureintro; exact (congrArg _ (keepB2 c i arg3 harg3 arg4 harg4 arg5 harg5 arg6 harg6 arg7 harg7 T0 T1 x0 x1 x2 x3 a0 a1 a2 q0 q1)).trans h2

set_option maxHeartbeats 2000000 in
/-- The body at a point that reads the weights anew, its tile not in use. -/
theorem bodyC (q0 : Loads i T0) (q1 : ¬Stores i T1) (d : S256x1024.Idx → Elt Ideal .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare d
        ∗ held c scM0_0 (k0_pay1 (F := Ideal) x1) ∗ held c scM0_1 (k0_pay2 (F := Ideal) x2) ∗ held c scM0_2 (k0_pay3 (F := Ideal) x3)) -∗ K ⟨⟩))
      ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_C c i arg3 harg3 arg4 harg4 arg5 harg5 arg6 harg6 arg7 harg7 T0 T1 x0 x1 x2 x3 q0 q1).2.2.2 d a0 a1 a2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]; · iexact H4
  isplitl [HS0]
  · iexists _; isplitr; swap
    · iexact HS0
    · ipureintro; exact loadC0 c i arg3 harg3 arg4 harg4 arg5 harg5 arg6 harg6 arg7 harg7 T0 T1 x0 x1 x2 x3 q0 q1
  isplitl [HS1]
  · iexists _; isplitr; swap
    · iexact HS1
    · ipureintro; exact loadC1 c i arg3 harg3 arg4 harg4 arg5 harg5 arg6 harg6 arg7 harg7 T0 T1 x0 x1 x2 x3 q0 q1
  iexists _; isplitr; swap
  · iexact HS2
  · ipureintro; exact loadC2 c i arg3 harg3 arg4 harg4 arg5 harg5 arg6 harg6 arg7 harg7 T0 T1 x0 x1 x2 x3 q0 q1

set_option maxHeartbeats 2000000 in
/-- The body at a point that finds the weights rounded already, its tile not in use. -/
theorem bodyD (q0 : ¬Loads i T0) (q1 : ¬Stores i T1)
    (h0 : scM0_0.view.read (Elt Ideal) a0 = k0_pay1 (F := Ideal) x1) (h1 : scM0_1.view.read (Elt Ideal) a1 = k0_pay2 (F := Ideal) x2)
    (h2 : scM0_2.view.read (Elt Ideal) a2 = k0_pay3 (F := Ideal) x3) (d : S256x1024.Idx → Elt Ideal .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare d
        ∗ held c scM0_0 (k0_pay1 (F := Ideal) x1) ∗ held c scM0_1 (k0_pay2 (F := Ideal) x2) ∗ held c scM0_2 (k0_pay3 (F := Ideal) x3)) -∗ K ⟨⟩))
      ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_D c i arg3 harg3 arg4 harg4 arg5 harg5 arg6 harg6 arg7 harg7 T0 T1 x0 x1 x2 x3 a0 a1 a2 q0 q1).2.2.2 d K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]; · iexact H4
  isplitl [HS0]
  · iexists _; isplitr; swap
    · iexact HS0
    · ipureintro; exact (congrArg _ (keepD0 c i arg3 harg3 arg4 harg4 arg5 harg5 arg6 harg6 arg7 harg7 T0 T1 x0 x1 x2 x3 a0 a1 a2 q0 q1)).trans h0
  isplitl [HS1]
  · iexists _; isplitr; swap
    · iexact HS1
    · ipureintro; exact (congrArg _ (keepD1 c i arg3 harg3 arg4 harg4 arg5 harg5 arg6 harg6 arg7 harg7 T0 T1 x0 x1 x2 x3 a0 a1 a2 q0 q1)).trans h1
  iexists _; isplitr; swap
  · iexact HS2
  · ipureintro; exact (congrArg _ (keepD2 c i arg3 harg3 arg4 harg4 arg5 harg5 arg6 harg6 arg7 harg7 T0 T1 x0 x1 x2 x3 a0 a1 a2 q0 q1)).trans h2

/-- THE BODY AT A POINT, on any staging buffers: see the head of the module. -/
theorem body_run (hk : ¬Loads i T0 → scM0_0.view.read (Elt Ideal) a0 = k0_pay1 (F := Ideal) x1 ∧ scM0_1.view.read (Elt Ideal) a1 = k0_pay2 (F := Ideal) x2
      ∧ scM0_2.view.read (Elt Ideal) a2 = k0_pay3 (F := Ideal) x3) (d e : S256x1024.Idx → Elt Ideal .bf16)
    (he : Stores i T1 → e = tileOut x0 x1 x2 x3) (he' : ¬Stores i T1 → e = d) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare e
        ∗ held c scM0_0 (k0_pay1 (F := Ideal) x1) ∗ held c scM0_1 (k0_pay2 (F := Ideal) x2) ∗ held c scM0_2 (k0_pay3 (F := Ideal) x3)) -∗ K ⟨⟩))
      ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  by_cases q0 : Loads i T0 <;> by_cases q1 : Stores i T1
  · rw [he q1]; exact bodyA c i arg3 harg3 arg4 harg4 arg5 harg5 arg6 harg6 arg7 harg7 T0 T1 x0 x1 x2 x3 a0 a1 a2 q0 q1 d K
  · rw [he' q1]; exact bodyC c i arg3 harg3 arg4 harg4 arg5 harg5 arg6 harg6 arg7 harg7 T0 T1 x0 x1 x2 x3 a0 a1 a2 q0 q1 d K
  · rw [he q1]; exact bodyB c i arg3 harg3 arg4 harg4 arg5 harg5 arg6 harg6 arg7 harg7 T0 T1 x0 x1 x2 x3 a0 a1 a2 q0 q1 (hk q0).1 (hk q0).2.1 (hk q0).2.2 d K
  · rw [he' q1]; exact bodyD c i arg3 harg3 arg4 harg4 arg5 harg5 arg6 harg6 arg7 harg7 T0 T1 x0 x1 x2 x3 a0 a1 a2 q0 q1 (hk q0).1 (hk q0).2.1 (hk q0).2.2 d K

end

end Cert.ExpertsIdeal.Moe

end
-- ==== Proof.Moe.Tables.lean ====
/- The two tables of the experts call — every tile's expert and the number of tiles in use — and what the kernel's scalar
   code makes of them: when a point reads its weights anew, when its tile is in use, which block of each array its windows
   hold. For all tables within the stated bounds at once. -/
module

public import proofs.«01_k».proof.Proof.Gen.ExpertsIdeal.Flash.Pins
public import proofs.«01_k».proof.Proof.Gen.ExpertsIdeal.Launch
public import Idealize.ShloMosaic.Lib.Pointwise
public import Idealize.ShloMosaic.Lib.Affine
public import Idealize.ShloMosaic.Lib.Pipeline.Kit
public import Idealize.ShloMosaic.Lib.Pipeline.TableIdle
public import Idealize.ShloMosaic.PureOps.Ideal

@[expose] public section

set_option maxRecDepth 16384

noncomputable section

namespace Cert.ExpertsIdeal.Moe

open Cert.ExpertsIdeal Cert.ExpertsIdeal.Gen
open Idealize.ShloMosaic
open Idealize.ShloMosaic.TcCoe
open Idealize.ShloMosaic.Pipeline (Dat Cfg Window)

/-- The tables' contents, as the pipeline takes them. -/
def tabs (T0 : S288.Idx → BitVec 32) (T1 : S1.Idx → BitVec 32) : pre0.Contents (Elt Ideal) :=
  fun | ⟨0, _⟩ => T0 | ⟨1, _⟩ => T1 | ⟨_ + 2, h⟩ => absurd h (by simp)

/-- The number of tiles in use. -/
def used (T1 : S1.Idx → BitVec 32) : ℕ := (T1 (ix1 (0 : Fin 1))).toNat

/-- Every tile has one of the 32 experts, and between one and all of the tiles are in use. -/
structure Routed (T0 : S288.Idx → BitVec 32) (T1 : S1.Idx → BitVec 32) : Prop where
  expert : ∀ k : Fin 288, (T0 (ix1 k)).toNat ≤ 31
  pos : 1 ≤ used T1
  le : used T1 ≤ 288

/-- A grid coordinate as a word. -/
theorem toNat_small {n : ℕ} (hn : n < 288) : (BitVec.ofNat 32 n).toNat = n := by rw [BitVec.toNat_ofNat]; omega

/-- Signed comparison of a grid coordinate with a word that is not negative. -/
theorem slt_small {n : ℕ} (hn : n < 288) {v : BitVec 32} (hv : v.toNat ≤ 288) : (BitVec.ofNat 32 n).slt v = decide (n < v.toNat) := by
  rw [BitVec.slt, BitVec.toInt_eq_toNat_of_lt (by rw [toNat_small hn]; omega), BitVec.toInt_eq_toNat_of_lt (by omega), toNat_small hn]
  simp only [Nat.cast_lt]

/-- The index map of the rows: the tile, or the last in use. -/
theorem min_small {n : ℕ} (hn : n < 288) {v : BitVec 32} (h1 : 1 ≤ v.toNat) (hv : v.toNat ≤ 288) :
    (Scalar.minsi (BitVec.ofNat 32 n) (Scalar.subi v 1#32)).toNat = min n (v.toNat - 1) := by
  have hs : (Scalar.subi v 1#32).toNat = v.toNat - 1 := by
    show (v - 1#32).toNat = _
    rw [BitVec.toNat_sub_of_le (by rw [BitVec.le_def]; exact h1)]; rfl
  show (if (BitVec.ofNat 32 n).slt (Scalar.subi v 1#32) = true then BitVec.ofNat 32 n else Scalar.subi v 1#32).toNat = _
  rw [slt_small hn (by omega), hs]
  simp only [decide_eq_true_eq]
  split
  · rw [toNat_small hn]; omega
  · rw [hs]; omega

/-- The tile before, the first tile for the first. -/
theorem before_small {n : ℕ} (hn : n < 288) : (Scalar.maxsi (Scalar.subi (BitVec.ofNat 32 n) 1#32) 0#32).toNat = n - 1 := by
  rcases Nat.eq_zero_or_pos n with rfl | hp
  · decide
  · have hs : (Scalar.subi (BitVec.ofNat 32 n) 1#32).toNat = n - 1 := by
      show (BitVec.ofNat 32 n - 1#32).toNat = _
      rw [BitVec.toNat_sub_of_le (by rw [BitVec.le_def, toNat_small hn]; exact hp), toNat_small hn]; rfl
    rw [Scalar.maxsi_zero_of_nonneg (by rw [hs]; omega), hs]

/-- The grid's one coordinate at a point is the point. -/
theorem coord_val (t : Fin grid0.N) : ((grid0.coords t) 0).val = t.val := by
  rw [Pipeline.Grid.coords_val t (0 : Fin 1) (S := 1) (B := 288) (by decide) rfl]
  have := t.isLt; have := N_0; omega

/-- An array of one element has one index. -/
theorem one_idx (x y : S1.Idx) : x = y := by
  funext a
  fin_cases a
  apply Fin.ext
  have h1 : (x 0).val < 1 := (x 0).isLt
  have h2 : (y 0).val < 1 := (y 0).isLt
  show (x 0).val = (y 0).val
  omega

/-- A word of the first table, read where the program reads it. -/
theorem read_tab0 (T0 : S288.Idx → BitVec 32) (f : Fin 1 → ℕ) (inb : ∀ a, f a + S1.size a ≤ S288.size a) (h1 : S1.numel = 1) (k : Fin 288)
    (hk : f 0 = k.val) : View.readAt (Elt Ideal) (tbM0_0).view (Rect.unit (s := S288) f S1.size inb).toLoadRect T0 (Shape.Idx.first (h1.symm ▸ Nat.one_pos))
      = T0 (ix1 k) := by
  rw [View.readAt_apply]
  refine congrArg T0 (funext fun a => ?_)
  fin_cases a
  apply Fin.ext
  show f 0 + 1 * _ = k.val
  rw [hk]
  have : ∀ x : S1.Idx, (x 0).val = 0 := fun x => by have := (x 0).isLt; change (x 0).val < 1 at this; omega
  simp [this]

/-- The word of the second. -/
theorem read_tab1 (T1 : S1.Idx → BitVec 32) (inb : ∀ a, (![0] : Fin 1 → ℕ) a + S1.size a ≤ S1.size a) (h1 : S1.numel = 1) :
    View.readAt (Elt Ideal) (tbM0_1).view (Rect.unit (s := S1) ![0] S1.size inb).toLoadRect T1 (Shape.Idx.first (h1.symm ▸ Nat.one_pos))
      = T1 (ix1 (0 : Fin 1)) := by
  rw [View.readAt_apply]
  exact congrArg T1 (one_idx _ _)

section
variable (T0 : S288.Idx → BitVec 32) (T1 : S1.Idx → BitVec 32) (hR : Routed T0 T1)

/-- The expert of a tile. -/
abbrev expert (T0 : S288.Idx → BitVec 32) (k : Fin 288) : ℕ := (T0 (ix1 k)).toNat

/-- The block of rows at a point. -/
theorem map0 (hR : Routed T0 T1) (i : grid0.Coords) :
    cc0_transform_0 (F := Ideal) inb_S1_S1_0 numel1_S1 (tabs T0 T1) i = ![min (i 0).val (used T1 - 1), 0] := by
  have e : (tabs T0 T1).at 1 (Rect.unit (s := S1) ![0] S1.size inb_S1_S1_0) numel1_S1 = T1 (ix1 (0 : Fin 1)) := congrArg T1 (one_idx _ _)
  unfold cc0_transform_0
  simp only [e]
  rw [min_small (i 0).isLt hR.pos hR.le]
  rfl

/-- The block of the result at a point: the same. -/
theorem map4 (hR : Routed T0 T1) (i : grid0.Coords) :
    cc0_transform_4 (F := Ideal) inb_S1_S1_0 numel1_S1 (tabs T0 T1) i = ![min (i 0).val (used T1 - 1), 0] := by
  have e : (tabs T0 T1).at 1 (Rect.unit (s := S1) ![0] S1.size inb_S1_S1_0) numel1_S1 = T1 (ix1 (0 : Fin 1)) := congrArg T1 (one_idx _ _)
  unfold cc0_transform_4
  simp only [e]
  rw [min_small (i 0).isLt hR.pos hR.le]
  rfl

/-- A word of the first table, as the index maps read it. -/
theorem word0 (i : grid0.Coords) (inb : ∀ a, (![(Scalar.indexCast (BitVec.ofNat 32 (i 0).val)).toNat] : Fin 1 → ℕ) a + S1.size a ≤ S288.size a) :
    (tabs T0 T1).at 0 (Rect.unit (s := S288) ![(Scalar.indexCast (BitVec.ofNat 32 (i 0).val)).toNat] S1.size inb) numel1_S1 = T0 (ix1 (i 0)) := by
  refine congrArg T0 (funext fun a => ?_)
  fin_cases a
  apply Fin.ext
  show (BitVec.ofNat 32 (i 0).val).toNat + 1 * _ = (i 0).val
  have hi : (i 0).val < 288 := (i 0).isLt
  rw [toNat_small hi]
  have e : ∀ x : S1.Idx, (x 0).val = 0 := fun x => by have := (x 0).isLt; change (x 0).val < 1 at this; omega
  exact (congrArg (fun z => (i 0).val + 1 * z) (e (Shape.Idx.first (numel1_S1.symm ▸ Nat.one_pos)))).trans (by simp)

/-- The block of the gate weights at a point. -/
theorem map1 (i : grid0.Coords) : cc0_transform_1 (F := Ideal) k0_off1_inb numel1_S1 (tabs T0 T1) i = ![expert T0 (i 0), 0, 0] := by
  refine (congrArg (fun w : BitVec 32 => (![(Scalar.addi 0#32 w).toNat, 0, 0] : Fin 3 → ℕ)) (word0 T0 T1 i (k0_off1_inb i))).trans ?_
  rw [show Scalar.addi 0#32 (T0 (ix1 (i 0))) = T0 (ix1 (i 0)) from BitVec.zero_add _]

/-- Of the up weights. -/
theorem map2 (i : grid0.Coords) : cc0_transform_2 (F := Ideal) k0_off1_inb numel1_S1 (tabs T0 T1) i = ![expert T0 (i 0), 0, 0] := map1 T0 T1 i

/-- Of the down weights. -/
theorem map3 (i : grid0.Coords) : cc0_transform_3 (F := Ideal) k0_off1_inb numel1_S1 (tabs T0 T1) i = ![expert T0 (i 0), 0, 0] := map1 T0 T1 i

/-- Every block lies inside its array. -/
theorem tabs_ok (hR : Routed T0 T1) : ok0 (F := Ideal) (tabs T0 T1) := by
  have h1 := hR.pos
  have h2 := hR.le
  have b : ∀ i : grid0.Coords, ∀ a, ((![min (i 0).val (used T1 - 1), 0] : Fin 2 → ℕ) a + 1) * S256x1024.size a ≤ S73728x1024.size a := by
    intro i a
    have hi : (i 0).val < 288 := (i 0).isLt
    fin_cases a
    · show (min (i 0).val (used T1 - 1) + 1) * 256 ≤ 73728; omega
    · show (0 + 1) * 1024 ≤ 1024; omega
  have w : ∀ i : grid0.Coords, ∀ a, ((![expert T0 (i 0), 0, 0] : Fin 3 → ℕ) a + 1) * S1x1024x512.size a ≤ S64x1024x512.size a := by
    intro i a
    have hi : expert T0 (i 0) ≤ 31 := hR.expert (i 0)
    fin_cases a
    · show (expert T0 (i 0) + 1) * 1 ≤ 64; omega
    · show (0 + 1) * 1024 ≤ 1024; omega
    · show (0 + 1) * 512 ≤ 512; omega
  have v : ∀ i : grid0.Coords, ∀ a, ((![expert T0 (i 0), 0, 0] : Fin 3 → ℕ) a + 1) * S1x512x1024.size a ≤ S64x512x1024.size a := by
    intro i a
    have hi : expert T0 (i 0) ≤ 31 := hR.expert (i 0)
    fin_cases a
    · show (expert T0 (i 0) + 1) * 1 ≤ 64; omega
    · show (0 + 1) * 512 ≤ 512; omega
    · show (0 + 1) * 1024 ≤ 1024; omega
  refine ⟨fun i => ⟨?_, .inr (Affine.block_words_dvd (s := S73728x1024) (p := EltTy.packing .bf16) (by decide) (by decide))⟩,
    fun i => ⟨?_, .inl rfl⟩, fun i => ⟨?_, .inl rfl⟩, fun i => ⟨?_, .inl rfl⟩,
    fun i => ⟨?_, .inr (Affine.block_words_dvd (s := S73728x1024) (p := EltTy.packing .bf16) (by decide) (by decide))⟩⟩
  · rw [map0 T0 T1 hR]; exact b i
  · rw [map1 T0 T1]; exact w i
  · rw [map2 T0 T1]; exact w i
  · rw [map3 T0 T1]; exact v i
  · rw [map4 T0 T1 hR]; exact b i

/-- The tables, admissible. -/
def adm (hR : Routed T0 T1) : (pcfg0 (F := Ideal)).Adm := ⟨tabs T0 T1, tabs_ok T0 T1 hR⟩

/-- The pipeline at them. -/
abbrev cfgA (hR : Routed T0 T1) : Pipeline.Cfg sig Λ₀ := cfg0 (F := Ideal) (adm T0 T1 hR)

/-- The program's pipelines. -/
abbrev pcs (hR : Routed T0 T1) : Fin 1 → Pipeline.Cfg sig Λ₀ := Pipeline.pin (pcfgs (F := Ideal)) fun _ => adm T0 T1 hR

/-- The output window's block at a point. -/
theorem index4 (t : Fin (cfgA T0 T1 hR).N) : ((cfgA T0 T1 hR).win (4 : Fin 5)).index t = ![min t.val (used T1 - 1), 0] := by
  refine (map4 T0 T1 hR (grid0.coords t)).trans ?_
  rw [coord_val t]

/-- The output's block is written back at every tile in use but the last, and at the last point. -/
theorem flush4 (t : Fin (cfgA T0 T1 hR).N) : ((cfgA T0 T1 hR).win (4 : Fin 5)).flush t = decide (t.val + 1 < used T1 ∨ t.val + 1 = 288) := by
  have hN : (cfgA T0 T1 hR).grid.N = 288 := N_0
  have ht : t.val < 288 := lt_of_lt_of_eq t.isLt hN
  have h1 := hR.pos
  have h2 := hR.le
  rw [Pipeline.Window.flush_eq_flushF]
  unfold Pipeline.Window.flushF
  rw [show ((cfgA T0 T1 hR).win (4 : Fin 5)).isOut = true from rfl, Bool.true_and]
  rw [Bool.eq_iff_iff]
  simp only [Bool.or_eq_true, decide_eq_true_eq]
  constructor
  · rintro (h | ⟨h, a, ha⟩)
    · right; exact h.trans N_0
    · left
      rw [index4, index4] at ha
      by_contra hc
      apply ha
      have : min (t.val + 1) (used T1 - 1) = min t.val (used T1 - 1) := by omega
      show (![min (t.val + 1) (used T1 - 1), 0] : Fin 2 → ℕ) a = _
      rw [this]
  · rintro (h | h)
    · right
      have h' : t.val + 1 < (cfgA T0 T1 hR).grid.N := lt_of_lt_of_eq (by omega : t.val + 1 < 288) N_0.symm
      refine ⟨h', (0 : Fin 2), ?_⟩
      rw [index4, index4]
      show min (t.val + 1) (used T1 - 1) ≠ min t.val (used T1 - 1)
      omega
    · left; exact h.trans N_0.symm

/-- A point is in use below the number of tiles in use. -/
theorem cond2_iff (hR : Routed T0 T1) (i : grid0.Coords) : k0_cond2 i (T1 (ix1 (0 : Fin 1))) = 1#1 ↔ (i 0).val < used T1 := by
  have hi : (i 0).val < 288 := (i 0).isLt
  unfold k0_cond2
  simp only [Scalar.guard_iff]
  show BitVec.ofBool ((BitVec.ofNat 32 (i 0).val).slt _) = 1#1 ↔ _
  rw [slt_small hi hR.le]
  show BitVec.ofBool (decide ((i 0).val < used T1)) = 1#1 ↔ _
  by_cases h : (i 0).val < used T1 <;> simp [h]

/-- The output window is left idle at the points past them. -/
theorem idle4 (t : Fin (cfgA T0 T1 hR).N) : (cfgA T0 T1 hR).idle (4 : Fin 5) ((cfgA T0 T1 hR).grid.coords t) = decide (used T1 ≤ t.val) := by
  have e : (tabs T0 T1).atD 1 ![0] = T1 (ix1 (0 : Fin 1)) := by
    unfold Pipeline.Prefetch.Contents.atD
    rw [dif_pos (by decide)]
    exact congrArg T1 (one_idx _ _)
  show (!(k0_cond2 (grid0.coords t) ((tabs T0 T1).atD 1 ![0]) == 1#1)) = _
  rw [e]
  have := cond2_iff T0 T1 hR (grid0.coords t)
  rw [coord_val t] at this
  by_cases h : t.val < used T1
  · rw [this.2 h, decide_eq_false (not_le.2 h)]; rfl
  · have hn : k0_cond2 (grid0.coords t) (T1 (ix1 (0 : Fin 1))) ≠ 1#1 := fun hc => h (this.1 hc)
    rw [decide_eq_true (not_lt.1 h)]; simp [hn]

/-- Nothing stored since the last write-back: before the points below the last tile in use, and after the last point. -/
theorem fresh4 (n : ℕ) (hn : n ≤ (cfgA T0 T1 hR).N) : (cfgA T0 T1 hR).fresh (4 : Fin 5) n = decide (n < used T1 ∨ n = 288) := by
  have h1 := hR.pos
  have h2 := hR.le
  refine Pipeline.Cfg.fresh_tab (cfgA T0 T1 hR) (4 : Fin 5) (fun n => decide (n < used T1 ∨ n = 288)) (by simp; omega) (fun t => ?_) n hn
  have ht : t.val < 288 := lt_of_lt_of_eq t.isLt N_0
  rw [flush4, idle4, Bool.eq_iff_iff]
  simp only [Bool.or_eq_true, Bool.and_eq_true, decide_eq_true_eq]
  omega

end

end Cert.ExpertsIdeal.Moe

end
-- ==== Proof.Moe.Frame.lean ====
/- The run of the experts call, at the exact instance, for all tables within the bounds: what every buffer holds after
   every point, that the program ends with its arguments unchanged, and what its result array then holds. -/
module

public import proofs.«01_k».proof.Proof.Moe.Body
public import proofs.«01_k».proof.Proof.Moe.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Exec
public import Idealize.ShloMosaic.Lib.Tactic
public import Idealize.ShloMosaic.Adequacy
public import Idealize.ShloMosaic.Init

@[expose] public section

set_option maxRecDepth 16384

noncomputable section

namespace Cert.ExpertsIdeal.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra, embedded whole. -/
abbrev EP : Emb (UR sig nD τ) 𝕄 := emb₁

variable (T0 : S288.Idx → BitVec 32) (T1 : S1.Idx → BitVec 32) (hR : Routed T0 T1)
variable (m : (ℓ : Loc nD τ sig) → Buf (Elt Ideal) ℓ) (ρ : Dev nD → PrngReg)

/-! ## A point -/

/-- A point's coordinates. -/
abbrev crd (t : Fin (cfgA T0 T1 hR).N) : (cfgA T0 T1 hR).grid.Coords := (cfgA T0 T1 hR).grid.coords t

/-- Window 0's staging buffer at a point. -/
abbrev ms0_0 (t : Fin (cfgA T0 T1 hR).N) : Memref sig .tc .vmem S256x1024 .bf16 := spec0_0.stage ((cfgA T0 T1 hR).slots t (0 : Fin 5))

/-- It is a whole buffer. -/
abbrev hs0_0 (t : Fin (cfgA T0 T1 hR).N) : (ms0_0 T0 T1 hR t).IsWhole := hstage0_0 (((cfgA T0 T1 hR).slots t (0 : Fin 5)).cast nbuf0_0)

/-- Window 1's staging buffer at a point. -/
abbrev ms0_1 (t : Fin (cfgA T0 T1 hR).N) : Memref sig .tc .vmem S1x1024x512 .f32 := spec0_1.stage ((cfgA T0 T1 hR).slots t (1 : Fin 5))

/-- It is a whole buffer. -/
abbrev hs0_1 (t : Fin (cfgA T0 T1 hR).N) : (ms0_1 T0 T1 hR t).IsWhole := hstage0_1 (((cfgA T0 T1 hR).slots t (1 : Fin 5)).cast nbuf0_1)

/-- Window 2's staging buffer at a point. -/
abbrev ms0_2 (t : Fin (cfgA T0 T1 hR).N) : Memref sig .tc .vmem S1x1024x512 .f32 := spec0_2.stage ((cfgA T0 T1 hR).slots t (2 : Fin 5))

/-- It is a whole buffer. -/
abbrev hs0_2 (t : Fin (cfgA T0 T1 hR).N) : (ms0_2 T0 T1 hR t).IsWhole := hstage0_2 (((cfgA T0 T1 hR).slots t (2 : Fin 5)).cast nbuf0_2)

/-- Window 3's staging buffer at a point. -/
abbrev ms0_3 (t : Fin (cfgA T0 T1 hR).N) : Memref sig .tc .vmem S1x512x1024 .f32 := spec0_3.stage ((cfgA T0 T1 hR).slots t (3 : Fin 5))

/-- It is a whole buffer. -/
abbrev hs0_3 (t : Fin (cfgA T0 T1 hR).N) : (ms0_3 T0 T1 hR t).IsWhole := hstage0_3 (((cfgA T0 T1 hR).slots t (3 : Fin 5)).cast nbuf0_3)

/-- Window 4's staging buffer at a point. -/
abbrev ms0_4 (t : Fin (cfgA T0 T1 hR).N) : Memref sig .tc .vmem S256x1024 .bf16 := spec0_4.stage ((cfgA T0 T1 hR).slots t (4 : Fin 5))

/-- It is a whole buffer. -/
abbrev hs0_4 (t : Fin (cfgA T0 T1 hR).N) : (ms0_4 T0 T1 hR t).IsWhole := hstage0_4 (((cfgA T0 T1 hR).slots t (4 : Fin 5)).cast nbuf0_4)

/-- Window `w`'s block at a point, read off its array at launch. -/
def iblk (c : Dev nD) (w : Fin (cfgA T0 T1 hR).W) (t : Fin (cfgA T0 T1 hR).N) : (((cfgA T0 T1 hR).win w).xblock (crd T0 T1 hR t)).Idx → Elt Ideal ((cfgA T0 T1 hR).win w).elt :=
  (((cfgA T0 T1 hR).win w).blk t).view.read (Elt Ideal) ((s₀ m ρ).mem (((cfgA T0 T1 hR).win w).arr.view.loc (c : Thread nD τ)))

theorem lt_288 (t : Fin (cfgA T0 T1 hR).N) : t.val < 288 := lt_of_lt_of_eq t.isLt N_0

/-- A point as a tile. -/
def tile (t : Fin (cfgA T0 T1 hR).N) : Fin 288 := ⟨t.val, lt_288 T0 T1 hR t⟩

/-- The point whose tile the output's buffer holds after a point: the point itself, or the last in use. -/
def src (t : Fin (cfgA T0 T1 hR).N) : Fin (cfgA T0 T1 hR).N := ⟨min t.val (used T1 - 1), lt_of_le_of_lt (Nat.min_le_left _ _) t.isLt⟩

/-- The point before. -/
def prv (t : Fin ((cfgA T0 T1 hR).N + 1)) (h : t.val ≠ 0) : Fin (cfgA T0 T1 hR).N := ⟨t.val - 1, by omega⟩

/-- The output block a point computes. -/
def outAt (c : Dev nD) (t : Fin (cfgA T0 T1 hR).N) : S256x1024.Idx → Elt Ideal .bf16 :=
  tileOut (iblk T0 T1 hR m ρ c (0 : Fin 5) t) (iblk T0 T1 hR m ρ c (1 : Fin 5) t) (iblk T0 T1 hR m ρ c (2 : Fin 5) t) (iblk T0 T1 hR m ρ c (3 : Fin 5) t)

/-! ## What the point's two conditions say -/

/-- A point reads the weights anew when it is the first or its expert is not that of the tile before. -/
theorem loads_iff (t : Fin (cfgA T0 T1 hR).N) : Loads (crd T0 T1 hR t) T0
    ↔ t.val = 0 ∨ T0 (ix1 (tile T0 T1 hR t)) ≠ T0 (ix1 (⟨t.val - 1, by have := lt_288 T0 T1 hR t; omega⟩ : Fin 288)) := by
  have ht : t.val < 288 := lt_288 T0 T1 hR t
  have hc : ((crd T0 T1 hR t) 0).val = t.val := coord_val t
  unfold Loads
  rw [Scalar.guard_iff,
    read_tab0 T0 (k0_off1 (crd T0 T1 hR t)) (k0_off1_inb _) numel1_S1 (tile T0 T1 hR t)
      (by show (BitVec.ofNat 32 ((crd T0 T1 hR t) 0).val).toNat = t.val; rw [hc, toNat_small ht]),
    read_tab0 T0 (k0_off2 (crd T0 T1 hR t)) (k0_off2_inb _) numel1_S1 (⟨t.val - 1, by omega⟩ : Fin 288)
      (by show (Scalar.maxsi (Scalar.subi (BitVec.ofNat 32 ((crd T0 T1 hR t) 0).val) 1#32) 0#32).toNat = t.val - 1; rw [hc, before_small ht])]
  show IntOp.ori (IntOp.cmpi .eq (BitVec.ofNat 32 ((crd T0 T1 hR t) 0).val) 0#32) (IntOp.cmpi .ne _ _) = 1#1 ↔ _
  rw [IntOp.ori_eq_one, IntOp.cmpi_eq, IntOp.cmpi_ne, hc]
  refine or_congr ⟨fun h => ?_, fun h => by rw [h]⟩ Iff.rfl
  have := congrArg BitVec.toNat h
  rwa [toNat_small ht] at this

/-- A point's tile is in use below the number of tiles in use. -/
theorem stores_iff (t : Fin (cfgA T0 T1 hR).N) : Stores (crd T0 T1 hR t) T1 ↔ t.val < used T1 := by
  unfold Stores
  rw [read_tab1 T1 inb_S1_S1_0 numel1_S1]
  have h := cond2_iff T0 T1 hR (crd T0 T1 hR t)
  rwa [show ((crd T0 T1 hR t) 0).val = t.val from coord_val t] at h

/-! ## The weight blocks -/

/-- The index of a weight block is the tile's expert. -/
theorem index1 (t : Fin (cfgA T0 T1 hR).N) : ((cfgA T0 T1 hR).win (1 : Fin 5)).index t = ![expert T0 (tile T0 T1 hR t), 0, 0] :=
  (map1 T0 T1 (grid0.coords t)).trans (by rw [show (grid0.coords t) 0 = tile T0 T1 hR t from Fin.ext (coord_val t)])

/-- Also of the up weights'. -/
theorem index2 (t : Fin (cfgA T0 T1 hR).N) : ((cfgA T0 T1 hR).win (2 : Fin 5)).index t = ![expert T0 (tile T0 T1 hR t), 0, 0] := index1 T0 T1 hR t

/-- And of the down weights'. -/
theorem index3 (t : Fin (cfgA T0 T1 hR).N) : ((cfgA T0 T1 hR).win (3 : Fin 5)).index t = ![expert T0 (tile T0 T1 hR t), 0, 0] := index1 T0 T1 hR t

/-- The block of rows: the tile's, or that of the last in use. -/
theorem index0 (t : Fin (cfgA T0 T1 hR).N) : ((cfgA T0 T1 hR).win (0 : Fin 5)).index t = ![min t.val (used T1 - 1), 0] := by
  refine (map0 T0 T1 hR (grid0.coords t)).trans ?_
  rw [coord_val t]

/-- The gate block at a point is the gate matrix of the tile's expert. -/
theorem iblk1_at (c : Dev nD) (t : Fin (cfgA T0 T1 hR).N) (e : Fin 64) (he : e.val = expert T0 (tile T0 T1 hR t)) (a : Fin 1024) (b : Fin 512) :
    (iblk T0 T1 hR m ρ c (1 : Fin 5) t : S1x1024x512.Idx → EReal) (ix3 (0 : Fin 1) a b) = (m ((c : Thread nD τ).loc main_arg3) : S64x1024x512.Idx → EReal) (ix3 e a b) := by
  refine congrArg (m ((c : Thread nD τ).loc main_arg3) : S64x1024x512.Idx → EReal) (funext fun d => Fin.ext ?_)
  have h := Pipeline.Window.rect_emb_val ((cfgA T0 T1 hR).win (1 : Fin 5)) t (ix3 (0 : Fin 1) a b)
  rw [index1] at h
  fin_cases d
  · refine (h (0 : Fin 3)).trans ?_
    show expert T0 (tile T0 T1 hR t) * 1 + 0 = e.val
    omega
  · refine (h (1 : Fin 3)).trans ?_
    show 0 * 1024 + a.val = a.val
    omega
  · refine (h (2 : Fin 3)).trans ?_
    show 0 * 512 + b.val = b.val
    omega

/-- It is the block of the point before where the expert is the same. -/
theorem iblk1_eq (c : Dev nD) (t t' : Fin (cfgA T0 T1 hR).N) (h : expert T0 (tile T0 T1 hR t) = expert T0 (tile T0 T1 hR t')) :
    (iblk T0 T1 hR m ρ c (1 : Fin 5) t : S1x1024x512.Idx → EReal) = iblk T0 T1 hR m ρ c (1 : Fin 5) t' := by
  funext y
  have he := hR.expert (tile T0 T1 hR t)
  have y0 : (y 0).val < 1 := (y 0).isLt
  have ey : y = ix3 (0 : Fin 1) (y 1 : Fin 1024) (y 2 : Fin 512) := by
    funext d; fin_cases d
    · exact Fin.ext (by show (y 0).val = 0; omega)
    · rfl
    · rfl
  have l : expert T0 (tile T0 T1 hR t) < 64 := lt_of_le_of_lt he (by omega)
  rw [ey]
  exact (iblk1_at T0 T1 hR m ρ c t ⟨expert T0 (tile T0 T1 hR t), l⟩ rfl _ _).trans
    (iblk1_at T0 T1 hR m ρ c t' ⟨expert T0 (tile T0 T1 hR t), l⟩ h _ _).symm

/-- The up block at a point is the up matrix of the tile's expert. -/
theorem iblk2_at (c : Dev nD) (t : Fin (cfgA T0 T1 hR).N) (e : Fin 64) (he : e.val = expert T0 (tile T0 T1 hR t)) (a : Fin 1024) (b : Fin 512) :
    (iblk T0 T1 hR m ρ c (2 : Fin 5) t : S1x1024x512.Idx → EReal) (ix3 (0 : Fin 1) a b) = (m ((c : Thread nD τ).loc main_arg4) : S64x1024x512.Idx → EReal) (ix3 e a b) := by
  refine congrArg (m ((c : Thread nD τ).loc main_arg4) : S64x1024x512.Idx → EReal) (funext fun d => Fin.ext ?_)
  have h := Pipeline.Window.rect_emb_val ((cfgA T0 T1 hR).win (2 : Fin 5)) t (ix3 (0 : Fin 1) a b)
  rw [index2] at h
  fin_cases d
  · refine (h (0 : Fin 3)).trans ?_
    show expert T0 (tile T0 T1 hR t) * 1 + 0 = e.val
    omega
  · refine (h (1 : Fin 3)).trans ?_
    show 0 * 1024 + a.val = a.val
    omega
  · refine (h (2 : Fin 3)).trans ?_
    show 0 * 512 + b.val = b.val
    omega

/-- It is the block of the point before where the expert is the same. -/
theorem iblk2_eq (c : Dev nD) (t t' : Fin (cfgA T0 T1 hR).N) (h : expert T0 (tile T0 T1 hR t) = expert T0 (tile T0 T1 hR t')) :
    (iblk T0 T1 hR m ρ c (2 : Fin 5) t : S1x1024x512.Idx → EReal) = iblk T0 T1 hR m ρ c (2 : Fin 5) t' := by
  funext y
  have he := hR.expert (tile T0 T1 hR t)
  have y0 : (y 0).val < 1 := (y 0).isLt
  have ey : y = ix3 (0 : Fin 1) (y 1 : Fin 1024) (y 2 : Fin 512) := by
    funext d; fin_cases d
    · exact Fin.ext (by show (y 0).val = 0; omega)
    · rfl
    · rfl
  have l : expert T0 (tile T0 T1 hR t) < 64 := lt_of_le_of_lt he (by omega)
  rw [ey]
  exact (iblk2_at T0 T1 hR m ρ c t ⟨expert T0 (tile T0 T1 hR t), l⟩ rfl _ _).trans
    (iblk2_at T0 T1 hR m ρ c t' ⟨expert T0 (tile T0 T1 hR t), l⟩ h _ _).symm

/-- The down block at a point is the down matrix of the tile's expert. -/
theorem iblk3_at (c : Dev nD) (t : Fin (cfgA T0 T1 hR).N) (e : Fin 64) (he : e.val = expert T0 (tile T0 T1 hR t)) (a : Fin 512) (b : Fin 1024) :
    (iblk T0 T1 hR m ρ c (3 : Fin 5) t : S1x512x1024.Idx → EReal) (ix3 (0 : Fin 1) a b) = (m ((c : Thread nD τ).loc main_arg5) : S64x512x1024.Idx → EReal) (ix3 e a b) := by
  refine congrArg (m ((c : Thread nD τ).loc main_arg5) : S64x512x1024.Idx → EReal) (funext fun d => Fin.ext ?_)
  have h := Pipeline.Window.rect_emb_val ((cfgA T0 T1 hR).win (3 : Fin 5)) t (ix3 (0 : Fin 1) a b)
  rw [index3] at h
  fin_cases d
  · refine (h (0 : Fin 3)).trans ?_
    show expert T0 (tile T0 T1 hR t) * 1 + 0 = e.val
    omega
  · refine (h (1 : Fin 3)).trans ?_
    show 0 * 512 + a.val = a.val
    omega
  · refine (h (2 : Fin 3)).trans ?_
    show 0 * 1024 + b.val = b.val
    omega

/-- It is the block of the point before where the expert is the same. -/
theorem iblk3_eq (c : Dev nD) (t t' : Fin (cfgA T0 T1 hR).N) (h : expert T0 (tile T0 T1 hR t) = expert T0 (tile T0 T1 hR t')) :
    (iblk T0 T1 hR m ρ c (3 : Fin 5) t : S1x512x1024.Idx → EReal) = iblk T0 T1 hR m ρ c (3 : Fin 5) t' := by
  funext y
  have he := hR.expert (tile T0 T1 hR t)
  have y0 : (y 0).val < 1 := (y 0).isLt
  have ey : y = ix3 (0 : Fin 1) (y 1 : Fin 512) (y 2 : Fin 1024) := by
    funext d; fin_cases d
    · exact Fin.ext (by show (y 0).val = 0; omega)
    · rfl
    · rfl
  have l : expert T0 (tile T0 T1 hR t) < 64 := lt_of_le_of_lt he (by omega)
  rw [ey]
  exact (iblk3_at T0 T1 hR m ρ c t ⟨expert T0 (tile T0 T1 hR t), l⟩ rfl _ _).trans
    (iblk3_at T0 T1 hR m ρ c t' ⟨expert T0 (tile T0 T1 hR t), l⟩ h _ _).symm

/-- The rows at a point of a tile in use are the tile's. -/
theorem iblk0_at (c : Dev nD) (t : Fin (cfgA T0 T1 hR).N) (ht : t.val < used T1) (a : Fin 256) (b : Fin 1024) (r : Fin 73728) (hr : r.val = t.val * 256 + a.val) :
    (iblk T0 T1 hR m ρ c (0 : Fin 5) t : S256x1024.Idx → EReal) (ix2 a b) = (m ((c : Thread nD τ).loc main_arg0) : S73728x1024.Idx → EReal) (ix2 r b) := by
  refine congrArg (m ((c : Thread nD τ).loc main_arg0) : S73728x1024.Idx → EReal) (funext fun d => Fin.ext ?_)
  have h := Pipeline.Window.rect_emb_val ((cfgA T0 T1 hR).win (0 : Fin 5)) t (ix2 a b)
  rw [index0] at h
  fin_cases d
  · refine (h (0 : Fin 2)).trans ?_
    show min t.val (used T1 - 1) * 256 + a.val = r.val
    rw [hr, Nat.min_eq_left (by omega)]
  · refine (h (1 : Fin 2)).trans ?_
    show 0 * 1024 + b.val = b.val
    omega

/-! ## The pipeline's proof data -/

/-- Before a point: each scratch buffer holds the weights of the point before, whole; the tables are at hand. -/
def Phi (c : Dev nD) (t : Fin ((cfgA T0 T1 hR).N + 1)) : sProp 𝕄 :=
  iprop((∃ a, ⌜∀ h : t.val ≠ 0, scM0_0.view.read (Elt Ideal) a = k0_pay1 (F := Ideal) (iblk T0 T1 hR m ρ c (1 : Fin 5) (prv T0 T1 hR t h))⌝ ∗ (scM0_0.view.loc (c : Thread nD τ) ↦{fullShare} a))
    ∗ (∃ a, ⌜∀ h : t.val ≠ 0, scM0_1.view.read (Elt Ideal) a = k0_pay2 (F := Ideal) (iblk T0 T1 hR m ρ c (2 : Fin 5) (prv T0 T1 hR t h))⌝ ∗ (scM0_1.view.loc (c : Thread nD τ) ↦{fullShare} a))
    ∗ (∃ a, ⌜∀ h : t.val ≠ 0, scM0_2.view.read (Elt Ideal) a = k0_pay3 (F := Ideal) (iblk T0 T1 hR m ρ c (3 : Fin 5) (prv T0 T1 hR t h))⌝ ∗ (scM0_2.view.loc (c : Thread nD τ) ↦{fullShare} a))
    ∗ (tbM0_0.view.loc (c : Thread nD τ) ↦{fullShare.right} T0) ∗ (tbM0_1.view.loc (c : Thread nD τ) ↦{fullShare.right} T1))

/-- What each buffer holds after each point: an input its block, the output the last computed block. -/
def dats (_ : Fin 1) (c : Dev nD) : Dat τ (Elt Ideal) Unit ℕ (UR sig nD τ) ℕ (cfgA T0 T1 hR) c where
  A w := (s₀ m ρ).mem (((cfgA T0 T1 hR).win w).arr.view.loc (c : Thread nD τ))
  after w t := match w with
    | ⟨0, _⟩ => iblk T0 T1 hR m ρ c (0 : Fin 5) t
    | ⟨1, _⟩ => iblk T0 T1 hR m ρ c (1 : Fin 5) t
    | ⟨2, _⟩ => iblk T0 T1 hR m ρ c (2 : Fin 5) t
    | ⟨3, _⟩ => iblk T0 T1 hR m ρ c (3 : Fin 5) t
    | ⟨4, _⟩ => outAt T0 T1 hR m ρ c (src T0 T1 hR t)
  Φ t := Phi T0 T1 hR m ρ c t
  q _ := fullShare
  owed _ := 0

theorem after0_0 (c : Dev nD) (t : Fin (cfgA T0 T1 hR).N) : (dats T0 T1 hR m ρ 0 c).after (0 : Fin 5) t = iblk T0 T1 hR m ρ c (0 : Fin 5) t := rfl
theorem after0_1 (c : Dev nD) (t : Fin (cfgA T0 T1 hR).N) : (dats T0 T1 hR m ρ 0 c).after (1 : Fin 5) t = iblk T0 T1 hR m ρ c (1 : Fin 5) t := rfl
theorem after0_2 (c : Dev nD) (t : Fin (cfgA T0 T1 hR).N) : (dats T0 T1 hR m ρ 0 c).after (2 : Fin 5) t = iblk T0 T1 hR m ρ c (2 : Fin 5) t := rfl
theorem after0_3 (c : Dev nD) (t : Fin (cfgA T0 T1 hR).N) : (dats T0 T1 hR m ρ 0 c).after (3 : Fin 5) t = iblk T0 T1 hR m ρ c (3 : Fin 5) t := rfl
theorem after0_4 (c : Dev nD) (t : Fin (cfgA T0 T1 hR).N) : (dats T0 T1 hR m ρ 0 c).after (4 : Fin 5) t = outAt T0 T1 hR m ρ c (src T0 T1 hR t) := rfl

/-- Input 0's buffer holds its block when the body runs. -/
theorem before0_0 (c : Dev nD) (t : Fin (cfgA T0 T1 hR).N) (d) : (dats T0 T1 hR m ρ 0 c).before (0 : Fin 5) t d = iblk T0 T1 hR m ρ c (0 : Fin 5) t :=
  ((dats T0 T1 hR m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input 1's buffer holds its block when the body runs. -/
theorem before0_1 (c : Dev nD) (t : Fin (cfgA T0 T1 hR).N) (d) : (dats T0 T1 hR m ρ 0 c).before (1 : Fin 5) t d = iblk T0 T1 hR m ρ c (1 : Fin 5) t :=
  ((dats T0 T1 hR m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input 2's buffer holds its block when the body runs. -/
theorem before0_2 (c : Dev nD) (t : Fin (cfgA T0 T1 hR).N) (d) : (dats T0 T1 hR m ρ 0 c).before (2 : Fin 5) t d = iblk T0 T1 hR m ρ c (2 : Fin 5) t :=
  ((dats T0 T1 hR m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input 3's buffer holds its block when the body runs. -/
theorem before0_3 (c : Dev nD) (t : Fin (cfgA T0 T1 hR).N) (d) : (dats T0 T1 hR m ρ 0 c).before (3 : Fin 5) t d = iblk T0 T1 hR m ρ c (3 : Fin 5) t :=
  ((dats T0 T1 hR m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- A point past the tiles in use computes no new block. -/
theorem src_idle (t : Fin (cfgA T0 T1 hR).N) (h : used T1 ≤ t.val) (ht : t.val - 1 < (cfgA T0 T1 hR).N) : src T0 T1 hR t = src T0 T1 hR ⟨t.val - 1, ht⟩ :=
  Fin.ext (by show min t.val (used T1 - 1) = min (t.val - 1) (used T1 - 1); omega)

/-- A point of a tile in use computes that tile's. -/
theorem src_live (t : Fin (cfgA T0 T1 hR).N) (h : t.val < used T1) : src T0 T1 hR t = t :=
  Fin.ext (by show min t.val (used T1 - 1) = t.val; omega)

/-- The output's buffer at a point past the tiles in use, as the point before left it. -/
theorem before0_4 (c : Dev nD) (t : Fin (cfgA T0 T1 hR).N) (h : used T1 ≤ t.val) (d) :
    (dats T0 T1 hR m ρ 0 c).before (4 : Fin 5) t d = outAt T0 T1 hR m ρ c (src T0 T1 hR t) := by
  have ht := lt_288 T0 T1 hR t
  have hp := hR.pos
  have hf : (cfgA T0 T1 hR).fresh (4 : Fin 5) t.val = false := by
    rw [fresh4 T0 T1 hR t.val (Nat.le_of_lt t.isLt)]; exact decide_eq_false (by omega)
  refine ((dats T0 T1 hR m ρ 0 c).before_out_traj (4 : Fin 5) rfl (fun _ _ => rfl) (fun t' _ hi _ => ?_) t.val t rfl d).trans ?_
  · rw [idle4 T0 T1 hR t', decide_eq_true_eq] at hi
    rw [after0_4, after0_4]
    exact congrArg (outAt T0 T1 hR m ρ c) (src_idle T0 T1 hR t' hi _)
  · rw [hf]
    show (dats T0 T1 hR m ρ 0 c).after (4 : Fin 5) ⟨t.val - 1, _⟩ = _
    rw [after0_4, ← src_idle T0 T1 hR t h]

/-- The body at a point, on its buffers. -/
abbrev bodyAt0 (t : Fin (cfgA T0 T1 hR).N) : Prog (TpuEff nD τ sig (Elt Ideal) Λ₀ .tc) PUnit :=
  cc0_moe_experts (crd T0 T1 hR t) (Memref.whole main_arg1) (Memref.isWhole_whole _) (Memref.whole main_arg2) (Memref.isWhole_whole _) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) (Memref.whole cc0_scratch0) (Memref.isWhole_whole _) (Memref.whole cc0_scratch1) (Memref.isWhole_whole _) (Memref.whole cc0_scratch2) (Memref.isWhole_whole _)

/-- What a point that reads no weights anew finds in the scratch buffers: its own weights. -/
theorem kept (c : Dev nD) (t : Fin (cfgA T0 T1 hR).N) (hn : ¬Loads (crd T0 T1 hR t) T0) : ∃ h : t.castSucc.val ≠ 0,
    (iblk T0 T1 hR m ρ c (1 : Fin 5) (prv T0 T1 hR t.castSucc h) : S1x1024x512.Idx → EReal) = iblk T0 T1 hR m ρ c (1 : Fin 5) t
      ∧ (iblk T0 T1 hR m ρ c (2 : Fin 5) (prv T0 T1 hR t.castSucc h) : S1x1024x512.Idx → EReal) = iblk T0 T1 hR m ρ c (2 : Fin 5) t
      ∧ (iblk T0 T1 hR m ρ c (3 : Fin 5) (prv T0 T1 hR t.castSucc h) : S1x512x1024.Idx → EReal) = iblk T0 T1 hR m ρ c (3 : Fin 5) t := by
  rw [loads_iff, not_or, not_not] at hn
  have e : expert T0 (tile T0 T1 hR (prv T0 T1 hR t.castSucc hn.1)) = expert T0 (tile T0 T1 hR t) := congrArg BitVec.toNat hn.2.symm
  exact ⟨hn.1, iblk1_eq T0 T1 hR m ρ c _ _ e, iblk2_eq T0 T1 hR m ρ c _ _ e, iblk3_eq T0 T1 hR m ρ c _ _ e⟩

set_option maxHeartbeats 4000000 in
/-- The body keeps the proof data at every point. -/
theorem sound_body (c : Dev nD) (t : Fin (cfgA T0 T1 hR).N) :
    iprop((dats T0 T1 hR m ρ 0 c).Φ t.castSucc ∗ (dats T0 T1 hR m ρ 0 c).owesAt () t.castSucc
        ∗ (∃ d, owns (c : Thread nD τ) (ms0_0 T0 T1 hR t) fullShare ((dats T0 T1 hR m ρ 0 c).before (0 : Fin 5) t d))
        ∗ (∃ d, owns (c : Thread nD τ) (ms0_1 T0 T1 hR t) fullShare ((dats T0 T1 hR m ρ 0 c).before (1 : Fin 5) t d))
        ∗ (∃ d, owns (c : Thread nD τ) (ms0_2 T0 T1 hR t) fullShare ((dats T0 T1 hR m ρ 0 c).before (2 : Fin 5) t d))
        ∗ (∃ d, owns (c : Thread nD τ) (ms0_3 T0 T1 hR t) fullShare ((dats T0 T1 hR m ρ 0 c).before (3 : Fin 5) t d))
        ∗ (∃ d, owns (c : Thread nD τ) (ms0_4 T0 T1 hR t) fullShare ((dats T0 T1 hR m ρ 0 c).before (4 : Fin 5) t d)))
      ⊢ wp frame (wpE (defs₀ (F := Ideal)) Variants.none c none) Set.univ (bodyAt0 T0 T1 hR t) fun _ =>
          iprop((dats T0 T1 hR m ρ 0 c).Φ t.succ ∗ (dats T0 T1 hR m ρ 0 c).owesAt () t.succ
            ∗ bigSep Finset.univ fun w : Fin (cfgA T0 T1 hR).W =>
                match (cfgA T0 T1 hR).idle w ((cfgA T0 T1 hR).grid.coords t) with
                | true =>
                  match ((cfgA T0 T1 hR).win w).flush t with
                  | false => iprop(∃ d, owns (c : Thread nD τ) (((cfgA T0 T1 hR).win w).stage ((cfgA T0 T1 hR).slots t w)) fullShare ((dats T0 T1 hR m ρ 0 c).before w t d))
                  | true => owns (c : Thread nD τ) (((cfgA T0 T1 hR).win w).stage ((cfgA T0 T1 hR).slots t w)) fullShare ((dats T0 T1 hR m ρ 0 c).after w t)
                | false => owns (c : Thread nD τ) (((cfgA T0 T1 hR).win w).stage ((cfgA T0 T1 hR).slots t w)) fullShare ((dats T0 T1 hR m ρ 0 c).after w t)) := by
  rw [bigSep_W0]
  have key : ∀ a0 a1 a2, (∀ h : t.castSucc.val ≠ 0, scM0_0.view.read (Elt Ideal) a0 = k0_pay1 (F := Ideal) (iblk T0 T1 hR m ρ c (1 : Fin 5) (prv T0 T1 hR t.castSucc h)))
      → (∀ h : t.castSucc.val ≠ 0, scM0_1.view.read (Elt Ideal) a1 = k0_pay2 (F := Ideal) (iblk T0 T1 hR m ρ c (2 : Fin 5) (prv T0 T1 hR t.castSucc h)))
      → (∀ h : t.castSucc.val ≠ 0, scM0_2.view.read (Elt Ideal) a2 = k0_pay3 (F := Ideal) (iblk T0 T1 hR m ρ c (3 : Fin 5) (prv T0 T1 hR t.castSucc h)))
      → (¬Loads (crd T0 T1 hR t) T0 → scM0_0.view.read (Elt Ideal) a0 = k0_pay1 (F := Ideal) (iblk T0 T1 hR m ρ c (1 : Fin 5) t)
        ∧ scM0_1.view.read (Elt Ideal) a1 = k0_pay2 (F := Ideal) (iblk T0 T1 hR m ρ c (2 : Fin 5) t)
        ∧ scM0_2.view.read (Elt Ideal) a2 = k0_pay3 (F := Ideal) (iblk T0 T1 hR m ρ c (3 : Fin 5) t)) := by
    intro a0 a1 a2 h0 h1 h2 hn
    obtain ⟨h, e1, e2, e3⟩ := kept T0 T1 hR m ρ c t hn
    exact ⟨(h0 h).trans (congrArg _ e1), (h1 h).trans (congrArg _ e2), (h2 h).trans (congrArg _ e3)⟩
  by_cases q : t.val < used T1
  · have i4 : (cfgA T0 T1 hR).idle (4 : Fin 5) ((cfgA T0 T1 hR).grid.coords t) = false := by rw [idle4]; exact decide_eq_false (by omega)
    rewrite [i4]
    simp only [after0_4, src_live T0 T1 hR t q]
    simp only [before0_0, before0_1, before0_2, before0_3, after0_0, after0_1, after0_2, after0_3]
    rewrite [show (dats T0 T1 hR m ρ 0 c).Φ t.succ = Phi T0 T1 hR m ρ c t.succ from rfl, show (dats T0 T1 hR m ρ 0 c).Φ t.castSucc = Phi T0 T1 hR m ρ c t.castSucc from rfl,
      show (dats T0 T1 hR m ρ 0 c).owesAt () t.succ = (dats T0 T1 hR m ρ 0 c).owesAt () t.castSucc from rfl]
    unfold Phi
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply (body_run c (crd T0 T1 hR t) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) T0 T1 (iblk T0 T1 hR m ρ c (0 : Fin 5) t) (iblk T0 T1 hR m ρ c (1 : Fin 5) t) (iblk T0 T1 hR m ρ c (2 : Fin 5) t) (iblk T0 T1 hR m ρ c (3 : Fin 5) t) a0 a1 a2 (key a0 a1 a2 ha0 ha1 ha2) ((dats T0 T1 hR m ρ 0 c).before (4 : Fin 5) t d4) (outAt T0 T1 hR m ρ c t) (fun _ => rfl) (fun h => absurd ((stores_iff T0 T1 hR t).2 q) h) _)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    iintro ⟨H0, H1, H2, H3, HT0, HT1, H4, ⟨%b0, %hb0, HS0⟩, ⟨%b1, %hb1, HS1⟩, ⟨%b2, %hb2, HS2⟩⟩
    isplitl [HS0 HS1 HS2 HT0 HT1]
    · isplitl [HS0]
      · iexists b0; isplitr; swap
        · iexact HS0
        · ipureintro; exact fun _ => hb0
      isplitl [HS1]
      · iexists b1; isplitr; swap
        · iexact HS1
        · ipureintro; exact fun _ => hb1
      isplitl [HS2]
      · iexists b2; isplitr; swap
        · iexact HS2
        · ipureintro; exact fun _ => hb2
      isplitl [HT0]; · iexact HT0
      iexact HT1
    isplitl [Ho]; · iexact Ho
    isplitl [H0]; · iexact H0
    isplitl [H1]; · iexact H1
    isplitl [H2]; · iexact H2
    isplitl [H3]; · iexact H3
    iexact H4
  · have i4 : (cfgA T0 T1 hR).idle (4 : Fin 5) ((cfgA T0 T1 hR).grid.coords t) = true := by rw [idle4]; exact decide_eq_true (by omega)
    have b4 : ∀ d, (dats T0 T1 hR m ρ 0 c).before (4 : Fin 5) t d = outAt T0 T1 hR m ρ c (src T0 T1 hR t) := before0_4 T0 T1 hR m ρ c t (by omega)
    rewrite [i4]
    simp only [after0_4, b4]
    simp only [before0_0, before0_1, before0_2, before0_3, after0_0, after0_1, after0_2, after0_3]
    rewrite [show (dats T0 T1 hR m ρ 0 c).Φ t.succ = Phi T0 T1 hR m ρ c t.succ from rfl, show (dats T0 T1 hR m ρ 0 c).Φ t.castSucc = Phi T0 T1 hR m ρ c t.castSucc from rfl,
      show (dats T0 T1 hR m ρ 0 c).owesAt () t.succ = (dats T0 T1 hR m ρ 0 c).owesAt () t.castSucc from rfl]
    unfold Phi
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply (body_run c (crd T0 T1 hR t) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) T0 T1 (iblk T0 T1 hR m ρ c (0 : Fin 5) t) (iblk T0 T1 hR m ρ c (1 : Fin 5) t) (iblk T0 T1 hR m ρ c (2 : Fin 5) t) (iblk T0 T1 hR m ρ c (3 : Fin 5) t) a0 a1 a2 (key a0 a1 a2 ha0 ha1 ha2) (outAt T0 T1 hR m ρ c (src T0 T1 hR t)) (outAt T0 T1 hR m ρ c (src T0 T1 hR t)) (fun h => absurd ((stores_iff T0 T1 hR t).1 h) q) (fun _ => rfl) _)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    iintro ⟨H0, H1, H2, H3, HT0, HT1, H4, ⟨%b0, %hb0, HS0⟩, ⟨%b1, %hb1, HS1⟩, ⟨%b2, %hb2, HS2⟩⟩
    isplitl [HS0 HS1 HS2 HT0 HT1]
    · isplitl [HS0]
      · iexists b0; isplitr; swap
        · iexact HS0
        · ipureintro; exact fun _ => hb0
      isplitl [HS1]
      · iexists b1; isplitr; swap
        · iexact HS1
        · ipureintro; exact fun _ => hb1
      isplitl [HS2]
      · iexists b2; isplitr; swap
        · iexact HS2
        · ipureintro; exact fun _ => hb2
      isplitl [HT0]; · iexact HT0
      iexact HT1
    isplitl [Ho]; · iexact Ho
    isplitl [H0]; · iexact H0
    isplitl [H1]; · iexact H1
    isplitl [H2]; · iexact H2
    isplitl [H3]; · iexact H3
    cases f4 : ((cfgA T0 T1 hR).win (4 : Fin 5)).flush t
    · iexists d4; iexact H4
    · iexact H4

/-- What the pipeline asks of the body, at every point. -/
theorem body_obligation (c : Dev nD) : BodyObligation (dats T0 T1 hR m ρ 0 c) (defs₀ (F := Ideal)) Variants.none () Set.univ := fun t => by
  rw [bigSep_W0]
  exact sound_body T0 T1 hR m ρ c t

/-! ## The launch -/

/-- The launch's own element. -/
def u₀ : UR sig nD τ :=
  initOf (Pipeline.cells (pcs T0 T1 hR) ((launch0 (F := Ideal)).cellOf_inj fun _ => adm T0 T1 hR))
    (Pipeline.launchToks (pcs T0 T1 hR) ((launch0 (F := Ideal)).cellOf_inj fun _ => adm T0 T1 hR))

/-- Every array is held whole. -/
theorem share_eq (c : Dev nD) (w : Fin (cfgA T0 T1 hR).W) : (dats T0 T1 hR m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers. -/
theorem phi0_intro (c : Dev nD) :
    iprop(BI.emp ∗ Pipeline.prefHeld pre0 c (fun _ => fullShare.right) (adm T0 T1 hR).1 ∗ Pipeline.scopedRest spec0 c) ⊢ (dats T0 T1 hR m ρ 0 c).Φ 0 := by
  rw [prefHeld_eq, scopedRest0_eq, show (dats T0 T1 hR m ρ 0 c).Φ 0 = Phi T0 T1 hR m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; exact fun h => absurd rfl h
  isplitl [HS1]
  · iexists a1; isplitr; swap
    · iexact HS1
    · ipureintro; exact fun h => absurd rfl h
  isplitl [HS2]
  · iexists a2; isplitr; swap
    · iexact HS2
    · ipureintro; exact fun h => absurd rfl h
  isplitl [HT0]; · iexact HT0
  iexact HT1

/-- At the last point it gives the scratch buffers back. -/
theorem phiN_exit (c : Dev nD) : (dats T0 T1 hR m ρ 0 c).Φ (Fin.last (cfgA T0 T1 hR).N) ⊢ iprop(BI.emp ∗ Pipeline.scopedRest spec0 c) := by
  rw [scopedRest0_eq, show (dats T0 T1 hR m ρ 0 c).Φ (Fin.last (cfgA T0 T1 hR).N) = Phi T0 T1 hR m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- What a final state holds: every array its computed contents, every table its words. -/
def QC : PUnit × MemSt nD τ sig (Elt Ideal) → Prop := fun r =>
  ∀ c : Dev nD, (∀ w : Fin (cfgA T0 T1 hR).W, r.2.mem (((cfgA T0 T1 hR).win w).arr.view.loc (c : Thread nD τ)) = (dats T0 T1 hR m ρ 0 c).arrAt w (cfgA T0 T1 hR).N)
    ∧ ∀ j, r.2.mem ((c : Thread nD τ).loc (pre0.ref j)) = (adm T0 T1 hR).1 j

/-- The tables in memory are the given ones. -/
theorem V_pre (h0 : ∀ c : Dev nD, m ((c : Thread nD τ).loc main_arg1) = T0) (h1 : ∀ c : Dev nD, m ((c : Thread nD τ).loc main_arg2) = T1) (c : Dev nD) (j : Fin 2) : m ((c : Thread nD τ).loc (pre0.ref j)) = (adm T0 T1 hR).1 j := by
  fin_cases j
  · exact h0 c
  · exact h1 c

set_option backward.isDefEq.respectTransparency.types false in
set_option maxHeartbeats 4000000 in
/-- From any memory whose tables are the given ones, every run ends, with each array at its computed contents and the
    semaphore counters at zero. -/
theorem run_main_quiescent (h0 : ∀ c : Dev nD, m ((c : Thread nD τ).loc main_arg1) = T0) (h1 : ∀ c : Dev nD, m ((c : Thread nD τ).loc main_arg2) = T1) : θ_run (defs (F := Ideal)) (onTc (τ := τ) (main (F := Ideal))) (s₀ m ρ) (fun r => QC T0 T1 hR m ρ r ∧ r.2.sem = fun _ => 0) :=
  Pipeline.θ_run_region_noSem_pf_quiescent pcfgs (fun _ => adm T0 T1 hR) (dats T0 T1 hR m ρ) () ((launch0 (F := Ideal)).cellOf_inj fun _ => adm T0 T1 hR) (0 : Fin 1)
    (launch0 (F := Ideal)).win.to₀ (launch0 (F := Ideal)).pre EP defs₀ Variants.none m ρ main
    (hbody := fun c => (body_obligation T0 T1 hR m ρ c).loose) (hne := (launch0 (F := Ideal)).block_pos)
    (harr := (launch0 (F := Ideal)).arr_whole) (hstage := (launch0 (F := Ideal)).stage_whole) (howed := fun _ _ => rfl)
    (u₀ := u₀ T0 T1 hR) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hR) (dats T0 T1 hR m ρ) 0 (launch0 (F := Ideal)).win.arr_inj c (launch0 (F := Ideal)).arr_whole
      (share_eq T0 T1 hR m ρ c) _ _ fun _ => rfl)
    (hpf := V_pre T0 T1 hR m h0 h1)
    (X := fun _ => iprop(emp)) (Y := fun _ => iprop(emp)) (Z := fun _ => iprop(emp))
    (hX := fun c => by rw [unscopedRestP0_eq]; iintro -; isplitr <;> iempintro)
    (hin := phi0_intro T0 T1 hR m ρ)
    (hout := phiN_exit T0 T1 hR m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (h0 : ∀ c : Dev nD, m ((c : Thread nD τ).loc main_arg1) = T0) (h1 : ∀ c : Dev nD, m ((c : Thread nD τ).loc main_arg2) = T1) : θ_run (defs (F := Ideal)) (onTc (τ := τ) (main (F := Ideal))) (s₀ m ρ) (QC T0 T1 hR m ρ) :=
  (θ_run defs _ _).mono (fun _ h => h.1) (run_main_quiescent T0 T1 hR m ρ h0 h1)

include hR in
/-- `frame` without the counters: the argument arrays end unchanged. -/
theorem unchanged (h0 : ∀ c : Dev nD, m ((c : Thread nD τ).loc main_arg1) = T0) (h1 : ∀ c : Dev nD, m ((c : Thread nD τ).loc main_arg2) = T1) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats T0 T1 hR m ρ 0 c).arrAt_in (0 : Fin 5) rfl _), ((h c).2 0).trans (h0 c).symm, ((h c).2 1).trans (h1 c).symm, ((h c).1 (1 : Fin 5)).trans ((dats T0 T1 hR m ρ 0 c).arrAt_in (1 : Fin 5) rfl _), ((h c).1 (2 : Fin 5)).trans ((dats T0 T1 hR m ρ 0 c).arrAt_in (2 : Fin 5) rfl _), ((h c).1 (3 : Fin 5)).trans ((dats T0 T1 hR m ρ 0 c).arrAt_in (3 : Fin 5) rfl _)⟩) (run_main T0 T1 hR m ρ h0 h1)

include hR in
/-- From any memory whose tables are the given ones: every run ends, nothing faults, the arguments end unchanged and the
    semaphore counters at zero. -/
theorem frame (h0 : ∀ c : Dev nD, m ((c : Thread nD τ).loc main_arg1) = T0) (h1 : ∀ c : Dev nD, m ((c : Thread nD τ).loc main_arg2) = T1) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T0 T1 hR m ρ h0 h1) ((θ_run defs _ _).mono (fun _ h => h.2) (run_main_quiescent T0 T1 hR m ρ h0 h1))

end Cert.ExpertsIdeal.Moe

end
-- ==== Proof.Moe.Value.lean ====
/- The result of the experts call at the exact instance: every row of a tile in use is that row through the tile's expert. -/
module

public import proofs.«01_k».proof.Proof.Moe.Spec
public import proofs.«01_k».proof.Proof.Moe.Frame

@[expose] public section

set_option maxRecDepth 16384

noncomputable section

namespace Cert.ExpertsIdeal.Moe

open Cert.ExpertsIdeal Cert.ExpertsIdeal.Gen Cert.Moe
open Idealize.ShloMosaic Idealize.ShloMosaic.TcCoe Idealize.SL.Sem
open Idealize.ShloMosaic.Pipeline (Dat)

/-- The rounded gate weights are the block. -/
theorem pay1_at (w : FVec Ideal S1x1024x512 .f32) (d : Fin 1024) (f : Fin 512) : k0_pay1 (F := Ideal) w (ix2 d f) = w (ix3 (0 : Fin 1) d f) := by
  pointwise [k0_pay1]

/-- So are the up weights. -/
theorem pay2_at (w : FVec Ideal S1x1024x512 .f32) (d : Fin 1024) (f : Fin 512) : k0_pay2 (F := Ideal) w (ix2 d f) = w (ix3 (0 : Fin 1) d f) := by
  pointwise [k0_pay2]

/-- And the down weights. -/
theorem pay3_at (w : FVec Ideal S1x512x1024 .f32) (f : Fin 512) (b : Fin 1024) : k0_pay3 (F := Ideal) w (ix2 f b) = w (ix3 (0 : Fin 1) f b) := by
  pointwise [k0_pay3]

/-- The stored block at one entry. -/
theorem pay4_at (x : FVec Ideal S256x1024 .bf16) (g u : FVec Ideal S1024x512 .bf16) (w : FVec Ideal S512x1024 .bf16) (a : Fin 256) (b : Fin 1024) :
    k0_pay4 (F := Ideal) x g u w (ix2 a b) = ∑ f : Fin 512, hid (∑ d : Fin 1024, x (ix2 a d) * g (ix2 d f)) (∑ d : Fin 1024, x (ix2 a d) * u (ix2 d f)) * w (ix2 f b) := by
  pointwise [k0_pay4, hid]

variable (T0 : S288.Idx → BitVec 32) (T1 : S1.Idx → BitVec 32) (hR : Routed T0 T1)
variable (m : (ℓ : Loc nD τ sig) → Buf (Elt Ideal) ℓ) (ρ : Dev nD → PrngReg)

/-- The arguments as arrays of extended reals. -/
abbrev rowsOf (c : Dev nD) : FVec Ideal RowS .bf16 := m ((c : Thread nD τ).loc main_arg0)

/-- The gate weights. -/
abbrev gateOf (c : Dev nD) : FVec Ideal UpS .f32 := m ((c : Thread nD τ).loc main_arg3)

/-- The up weights. -/
abbrev upOf (c : Dev nD) : FVec Ideal UpS .f32 := m ((c : Thread nD τ).loc main_arg4)

/-- The down weights. -/
abbrev downOf (c : Dev nD) : FVec Ideal DownS .f32 := m ((c : Thread nD τ).loc main_arg5)

/-- What a point of a tile in use computes: its rows through its expert. -/
theorem outAt_at (c : Dev nD) (t : Fin (cfgA T0 T1 hR).N) (ht : t.val < used T1) (a : Fin 256) (b : Fin 1024) (r : Fin 73728) (hr : r.val = t.val * 256 + a.val)
    (e : Fin 64) (he : e.val = expert T0 (tile T0 T1 hR t)) :
    (outAt T0 T1 hR m ρ c t : S256x1024.Idx → EReal) (ix2 a b) = ffn (rowsOf m c) (gateOf m c) (upOf m c) (downOf m c) e r b := by
  have h0 : ∀ d, (iblk T0 T1 hR m ρ c (0 : Fin 5) t : S256x1024.Idx → EReal) (ix2 a d) = rowsOf m c (ix2 r d) := fun d => iblk0_at T0 T1 hR m ρ c t ht a d r hr
  unfold outAt tileOut
  refine (pay4_at _ _ _ _ a b).trans ?_
  refine Finset.sum_congr rfl fun f _ => ?_
  rw [show (k0_pay3 (F := Ideal) (iblk T0 T1 hR m ρ c (3 : Fin 5) t) : S512x1024.Idx → EReal) (ix2 f b) = downOf m c (ix3 e f b) from
    (pay3_at _ f b).trans (iblk3_at T0 T1 hR m ρ c t e he f b)]
  refine congrArg (· * _) (congrArg₂ hid (Finset.sum_congr rfl fun d _ => ?_) (Finset.sum_congr rfl fun d _ => ?_))
  · exact congrArg₂ (· * ·) (h0 d) ((pay1_at _ d f).trans (iblk1_at T0 T1 hR m ρ c t e he d f))
  · exact congrArg₂ (· * ·) (h0 d) ((pay2_at _ d f).trans (iblk2_at T0 T1 hR m ρ c t e he d f))

/-- Where a block index of the result sits in the array. -/
theorem emb4 (t : Fin (cfgA T0 T1 hR).N) (y : S256x1024.Idx) :
    (((((cfgA T0 T1 hR).win (4 : Fin 5)).blk t).view.emb y (0 : Fin 2) : Fin 73728) : ℕ) = (src T0 T1 hR t).val * 256 + (y 0 : ℕ)
      ∧ (((((cfgA T0 T1 hR).win (4 : Fin 5)).blk t).view.emb y (1 : Fin 2) : Fin 1024) : ℕ) = (y 1 : ℕ) := by
  have h := Pipeline.Window.rect_emb_val ((cfgA T0 T1 hR).win (4 : Fin 5)) t y
  rw [index4] at h
  refine ⟨(h (0 : Fin 2)).trans rfl, (h (1 : Fin 2)).trans ?_⟩
  show 0 * 1024 + (y 1 : ℕ) = _
  omega

/-- The result array after the last point, at a row of a tile in use. -/
theorem final (c : Dev nD) (r : Fin 73728) (b : Fin 1024) (k : Fin 288) (hk : (k : ℕ) = (r : ℕ) / 256) (hu : (k : ℕ) < used T1) (e : Fin 64) (he : e.val = expert T0 k) :
    ((dats T0 T1 hR m ρ 0 c).arrAt (4 : Fin 5) (cfgA T0 T1 hR).N : S73728x1024.Idx → EReal) (ix2 r b) = ffn (rowsOf m c) (gateOf m c) (upOf m c) (downOf m c) e r b := by
  have hp := hR.pos
  have hle := hR.le
  have hr := r.isLt
  have hkl := k.isLt
  -- the point that writes the tile back: the tile's own, or the last for the last tile in use
  obtain ⟨t, ht, hs⟩ : ∃ t : Fin (cfgA T0 T1 hR).N, ((cfgA T0 T1 hR).win (4 : Fin 5)).flush t = true ∧ (src T0 T1 hR t).val = k.val := by
    have hN : (cfgA T0 T1 hR).N = 288 := N_0
    by_cases q : k.val + 1 < used T1
    · refine ⟨⟨k.val, by omega⟩, ?_, ?_⟩
      · rw [flush4]; exact decide_eq_true (.inl q)
      · show min k.val (used T1 - 1) = k.val; omega
    · refine ⟨⟨287, by omega⟩, ?_, ?_⟩
      · rw [flush4]; exact decide_eq_true (.inr rfl)
      · show min 287 (used T1 - 1) = k.val; omega
  refine (dats T0 T1 hR m ρ 0 c).arrAt_forall_of_flushed (4 : Fin 5)
    (fun i v => i = (ix2 r b : S73728x1024.Idx) → (show EReal from v) = ffn (rowsOf m c) (gateOf m c) (upOf m c) (downOf m c) e r b)
    (fun t' _ y hy => ?_) (cfgA T0 T1 hR).N t (ix2 r b) t.isLt ht ?_ rfl
  · obtain ⟨e0, e1⟩ := emb4 T0 T1 hR t' y
    have h0 : (r : ℕ) = (src T0 T1 hR t').val * 256 + (y 0 : ℕ) := by rw [← e0, hy]; rfl
    have h1 : (b : ℕ) = (y 1 : ℕ) := by rw [← e1, hy]; rfl
    have y0 : (y 0 : ℕ) < 256 := (y 0).isLt
    have hk' : tile T0 T1 hR (src T0 T1 hR t') = k := Fin.ext (by show (src T0 T1 hR t').val = k.val; omega)
    have ey : y = (ix2 (y 0 : Fin 256) b : S256x1024.Idx) := by
      funext d; fin_cases d
      · rfl
      · exact Fin.ext h1.symm
    show (outAt T0 T1 hR m ρ c (src T0 T1 hR t') : S256x1024.Idx → EReal) y = _
    rw [ey]
    exact outAt_at T0 T1 hR m ρ c (src T0 T1 hR t') (by show min t'.val (used T1 - 1) < used T1; omega) (y 0) b r h0 e (by rw [hk']; exact he)
  · refine Finset.mem_map.mpr ⟨(ix2 (⟨(r : ℕ) % 256, Nat.mod_lt _ (by decide)⟩ : Fin 256) b : S256x1024.Idx), Finset.mem_univ _, ?_⟩
    obtain ⟨e0, e1⟩ := emb4 T0 T1 hR t (ix2 (⟨(r : ℕ) % 256, Nat.mod_lt _ (by decide)⟩ : Fin 256) b)
    funext d; fin_cases d
    · refine Fin.ext (e0.trans ?_)
      show (src T0 T1 hR t).val * 256 + (r : ℕ) % 256 = r.val
      omega
    · exact Fin.ext e1

end Cert.ExpertsIdeal.Moe

end
-- ==== Proof.Moe.Reference.lean ====
/- What the reference's mixture of experts computes, read at one index: the composed term of its run is cut into stages
   (the experts of the layer, the projections, the hidden units, the zero-one weights, the weighted sum). -/
module

public import proofs.«01_k».proof.Proof.Gen.ExpertsReferenceIdeal
public import proofs.«01_k».proof.Proof.Gen.ExpertsReferenceIdeal.Run
public import proofs.«01_k».proof.Proof.Moe.Spec

@[expose] public section

set_option maxRecDepth 16384

noncomputable section

namespace Cert.Moe.Ref

open Cert.ExpertsReferenceIdeal Cert.ExpertsReferenceIdeal.Gen Idealize.ShloMosaic Idealize.ShloMosaic.TcCoe Idealize.SL.Sem

/-- The first layer's gate or up weights. -/
def up (W : FVec Ideal S64x1024x512 .f32) : FVec Ideal S32x1024x512 .f32 :=
  shapeCast _ (extractStridedSlice S1x32x1024x512 ![0, 0, 0, 0] (shapeCast _ W shapeCasts_S64x1024x512_S2x32x1024x512) slices_S2x32x1024x512_S1x32x1024x512_0_0_0_0) shapeCasts_S1x32x1024x512_S32x1024x512

/-- The first layer's down weights. -/
def down (W : FVec Ideal S64x512x1024 .f32) : FVec Ideal S32x512x1024 .f32 :=
  shapeCast _ (extractStridedSlice S1x32x512x1024 ![0, 0, 0, 0] (shapeCast _ W shapeCasts_S64x512x1024_S2x32x512x1024) slices_S2x32x512x1024_S1x32x512x1024_0_0_0_0) shapeCasts_S1x32x512x1024_S32x512x1024

/-- Every row times every expert's columns. -/
def projs (X : FVec Ideal S73728x1024 .bf16) (W : FVec Ideal S32x1024x512 .f32) : FVec Ideal S32x73728x512 .f32 :=
  transpose S32x73728x512 [0, 2, 1] (Host.dotGeneral dot_S32x1024x512_S73728x1024_S32x512x73728_1_1_02_0_n_n none W (extf .f32 X bitsLt_bf16_f32)) transposes_S32x512x73728_S32x73728x512_0_2_1

/-- The hidden units. -/
def hidden (a u : FVec Ideal S32x73728x512 .f32) : FVec Ideal S32x73728x512 .f32 :=
  mulf (mulf a (Host.divf (broadcastInDim S32x73728x512 ![] bcast_S_S32x73728x512 (constant S_ .f32 0x3F800000#32)) (addf (broadcastInDim S32x73728x512 ![] bcast_S_S32x73728x512 (constant S_ .f32 0x3F800000#32)) (Host.exp (Host.negf a))))) u

/-- The zero-one weights of a row's experts. -/
def comb (T : IVec S288 32) : FVec Ideal S73728x32 .f32 :=
  uitofp .f32 (cmpi .eq (broadcastInDim S73728x32 ![0, 1] bcast_S73728x1_S73728x32_0_1 (broadcastInDim S73728x1 ![0] bcast_S73728_S73728x1_0 (shapeCast _ (broadcastInDim S288x256 ![0, 1] bcast_S288x1_S288x256_0_1 (broadcastInDim S288x1 ![0] bcast_S288_S288x1_0 T)) shapeCasts_S288x256_S73728))) (broadcastInDim S73728x32 ![0, 1] bcast_S1x32_S73728x32_0_1 (iotaInDim S1x32 32 1)))

/-- The experts' outputs weighted and summed. -/
def mix (C : FVec Ideal S73728x32 .f32) (H : FVec Ideal S32x73728x512 .f32) (W : FVec Ideal S32x512x1024 .f32) : FVec Ideal S73728x1024 .bf16 :=
  truncf .bf16 (Host.reduceAdd (mulf (broadcastInDim S32x73728x1024 ![0, 1, 2] bcast_S32x73728x1_S32x73728x1024_0_1_2 (broadcastInDim S32x73728x1 ![0, 1] bcast_S32x73728_S32x73728x1_0_1 (transpose S32x73728 [1, 0] C transposes_S73728x32_S32x73728_1_0))) (Host.dotGeneral dot_S32x73728x512_S32x512x1024_S32x73728x1024_2_1_1_2_0_0 none H W)) (constant S_ .f32 0x00000000#32) reducesTo_S32x73728x1024_S73728x1024_d0 h_S_) bitsLt_bf16_f32

/-- The whole. -/
def whole (X : FVec Ideal S73728x1024 .bf16) (T : IVec S288 32) (Wg Wu : FVec Ideal S64x1024x512 .f32) (Wd : FVec Ideal S64x512x1024 .f32) : FVec Ideal S73728x1024 .bf16 :=
  mix (comb T) (hidden (projs X (up Wg)) (projs X (up Wu))) (down Wd)

/-- The first layer's experts are the first 32. -/
theorem up_at (W : FVec Ideal S64x1024x512 .f32) (e : Fin 32) (d : Fin 1024) (f : Fin 512) :
    up W (ix3 e d f) = W (ix3 (⟨e, by omega⟩ : Fin 64) d f) := by
  pointwise [up]

/-- Also of the down weights. -/
theorem down_at (W : FVec Ideal S64x512x1024 .f32) (e : Fin 32) (f : Fin 512) (b : Fin 1024) :
    down W (ix3 e f b) = W (ix3 (⟨e, by omega⟩ : Fin 64) f b) := by
  pointwise [down]

/-- A projection at one entry. -/
theorem projs_at (X : FVec Ideal S73728x1024 .bf16) (W : FVec Ideal S32x1024x512 .f32) (e : Fin 32) (r : Fin 73728) (f : Fin 512) :
    projs X W (ix3 e r f) = ∑ d : Fin 1024, W (ix3 e d f) * X (ix2 r d) := by
  pointwise [projs]

/-- A hidden unit at one entry. -/
theorem hidden_at (a u : FVec Ideal S32x73728x512 .f32) (e : Fin 32) (r : Fin 73728) (f : Fin 512) :
    hidden a u (ix3 e r f) = hid (a (ix3 e r f)) (u (ix3 e r f)) := by
  pointwise [hidden, hid, Ideal.logistic]

/-- A comparison's bit as a number. -/
theorem bit_at (x y : BitVec 32) : (FloatOps.uitofp FTy.f32 (IntOp.cmpi CmpIPredicate.eq x y) : Ideal .f32) = if x = y then (1 : EReal) else 0 := by
  by_cases h : x = y
  · rw [if_pos h, IntOp.cmpi_eq.2 h]
    simp [FloatOps.uitofp]
  · rw [if_neg h, show IntOp.cmpi CmpIPredicate.eq x y = 0#1 from by rw [IntOp.cmpi, beq_eq_false_iff_ne.2 h]; rfl]
    simp [FloatOps.uitofp]

/-- A row's weight for an expert: whether the row's tile names it. -/
theorem comb_at (T : IVec S288 32) (r : Fin 73728) (e : Fin 32) (k : Fin 288) (hk : k = ⟨(r : ℕ) / 256, by omega⟩) :
    comb T (ix2 r e) = if T (ix1 k) = BitVec.ofNat 32 e then 1 else 0 := by
  subst hk
  pointwise [comb]
  exact bit_at _ _

/-- The result at one entry: the weighted sum over the experts. -/
theorem mix_at (C : FVec Ideal S73728x32 .f32) (H : FVec Ideal S32x73728x512 .f32) (W : FVec Ideal S32x512x1024 .f32) (r : Fin 73728) (b : Fin 1024) :
    mix C H W (ix2 r b) = ∑ e : Fin 32, C (ix2 r e) * ∑ f : Fin 512, H (ix3 e r f) * W (ix3 e f b) := by
  pointwise [mix]

/-- The result at a row: the row through the expert its tile names. -/
theorem whole_at (X : FVec Ideal S73728x1024 .bf16) (T : IVec S288 32) (Wg Wu : FVec Ideal S64x1024x512 .f32) (Wd : FVec Ideal S64x512x1024 .f32)
    (r : Fin 73728) (b : Fin 1024) (k : Fin 288) (hk : (k : ℕ) = (r : ℕ) / 256) (e : Fin 64) (he : (e : ℕ) = (T (ix1 k)).toNat) (h : (e : ℕ) < 32) :
    whole X T Wg Wu Wd (ix2 r b) = ffn X Wg Wu Wd e r b := by
  have hc := fun e' : Fin 32 => comb_at T r e' k (Fin.ext hk)
  have hp : ∀ (W : FVec Ideal S64x1024x512 .f32) (f : Fin 512), projs X (up W) (ix3 (⟨e, h⟩ : Fin 32) r f) = proj X W e r f := fun W f => by
    rw [projs_at]
    exact Finset.sum_congr rfl fun d _ => by rw [up_at]; exact mul_comm _ _
  unfold whole
  rw [mix_at, sum_chosen (⟨e, h⟩ : Fin 32) _ _ ?_ ?_]
  · refine Finset.sum_congr rfl fun f _ => ?_
    rw [hidden_at, hp, hp, down_at]
  · rw [hc]
    refine if_pos ?_
    show T (ix1 k) = BitVec.ofNat 32 (e : ℕ)
    rw [he, BitVec.ofNat_toNat, BitVec.setWidth_eq]
  · intro e' hne
    rw [hc, if_neg]
    intro hq
    refine hne (Fin.ext ?_)
    have := congrArg BitVec.toNat hq
    rw [BitVec.toNat_ofNat, Nat.mod_eq_of_lt (by omega), ← he] at this
    exact this.symm

/-- The run's composed term is the stages composed. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = whole (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨(h c).1, (h c).2⟩) (Cert.ExpertsReferenceIdeal.Value.run m ρ)

end Cert.Moe.Ref

end
-- ==== Proof.Moe.Words.lean ====
/- The integer side of the experts call: what the precondition says of the tile table and the number of tiles in use, and
   which rows the mask selects. -/
module

public import proofs.«01_k».proof.Pre_routed
public import proofs.«01_k».proof.On_in_use
public import proofs.«01_k».proof.Proof.Gen.Pre_routed
public import proofs.«01_k».proof.Proof.Gen.On_in_use
public import Idealize.ShloMosaic.Lib.Pointwise
public import Idealize.ShloMosaic.Lib.Affine
public import Idealize.ShloMosaic.Lib.Routing.Words
public import Idealize.ShloMosaic.PureOps.Ideal

@[expose] public section

set_option maxRecDepth 16384

noncomputable section

namespace Cert.Moe

open Idealize.ShloMosaic

/-- A word between two small bounds, signed, is so unsigned. -/
theorem between (x : BitVec 32) (lo hi : ℕ) (hlo : lo < 2 ^ 30) (hhi : hi < 2 ^ 30)
    (h : IntOp.andi (IntOp.cmpi .sge x (BitVec.ofNat 32 lo)) (IntOp.cmpi .sle x (BitVec.ofNat 32 hi)) = 1#1) : lo ≤ x.toNat ∧ x.toNat ≤ hi := by
  rw [IntOp.andi_eq_one, IntOp.cmpi_sge, IntOp.cmpi_sle] at h
  obtain ⟨h1, h2⟩ := h
  have e : ∀ n : ℕ, n < 2 ^ 30 → (BitVec.ofNat 32 n).toInt = n := fun n hn => by
    rw [BitVec.toInt_eq_toNat_of_lt (by rw [BitVec.toNat_ofNat]; omega), BitVec.toNat_ofNat, Nat.mod_eq_of_lt (by omega)]
  rw [e _ hlo] at h1
  rw [e _ hhi] at h2
  have hx : x.toInt = if 2 * x.toNat < 2 ^ 32 then (x.toNat : ℤ) else x.toNat - 2 ^ 32 := by rw [BitVec.toInt_eq_toNat_cond]; rfl
  have := x.isLt
  split at hx <;> omega

/-- The precondition, read: every tile's expert is one of the 32, and between one and all of the tiles are in use. -/
theorem routed_words {F : FTy → Type} [FloatOps F] (X : FVec F Cert.Pre_routed.S73728x1024 .bf16) (T : IVec Cert.Pre_routed.S288 32) (N : IVec Cert.Pre_routed.S1 32)
    (Wg Wu : FVec F Cert.Pre_routed.S64x1024x512 .f32) (Wd : FVec F Cert.Pre_routed.S64x512x1024 .f32)
    (h : (Cert.Pre_routed.fn (F := F) X T N Wg Wu Wd).1 = (fun _ => 1#1) ∧ (Cert.Pre_routed.fn (F := F) X T N Wg Wu Wd).2 = (fun _ => 1#1)) :
    (∀ k : Fin 288, (T (ix1 k)).toNat ≤ 31) ∧ 1 ≤ (N (ix1 (0 : Fin 1))).toNat ∧ (N (ix1 (0 : Fin 1))).toNat ≤ 288 :=
  ⟨fun k => (between (T (ix1 k)) 0 31 (by decide) (by decide) (congrFun h.1 (ix1 k))).2,
    between (N (ix1 (0 : Fin 1))) 1 288 (by decide) (by decide) (congrFun h.2 (ix1 (0 : Fin 1)))⟩

/-- The sign of a word. -/
def sgn (x : BitVec 32) : BitVec 32 := if x = 0 then 0 else if x.msb then -1 else 1

/-- Floor division by 256, as the mask spells it: the quotient, less one where the signs differ and the division is not exact. -/
def tileWord (x : BitVec 32) : BitVec 32 :=
  if IntOp.andi (IntOp.cmpi .ne (sgn x) (sgn 256#32)) (IntOp.cmpi .ne (IntOp.remsi .host x 256#32) 0#32) = 1#1
  then IntOp.subi (IntOp.divsi .host x 256#32) 1#32 else IntOp.divsi .host x 256#32

/-- Of a small natural number it is the quotient. -/
theorem tileWord_eq (n : ℕ) (hn : n < 2 ^ 30) : tileWord (BitVec.ofNat 32 n) = BitVec.ofNat 32 (n / 256) := by
  unfold tileWord
  rw [if_neg ?_]
  · exact Routing.divsi_word .host (a := n) (b := 256) (by omega) (by decide) (by decide)
  · rw [IntOp.andi_eq_one, IntOp.cmpi_ne, IntOp.cmpi_ne]
    rintro ⟨h1, h2⟩
    rcases Nat.eq_zero_or_pos n with h | h
    · subst h; exact h2 (by decide)
    · refine h1 ?_
      have hx : (BitVec.ofNat 32 n).toNat = n := by rw [BitVec.toNat_ofNat]; omega
      have e0 : BitVec.ofNat 32 n ≠ 0 := fun e => by have := congrArg BitVec.toNat e; rw [hx] at this; exact absurd this (by show n ≠ 0; omega)
      have em : (BitVec.ofNat 32 n).msb = false := by rw [BitVec.msb_eq_false_iff_two_mul_lt, hx]; omega
      unfold sgn
      rw [if_neg e0, em]
      decide

/-- The mask at one entry. -/
theorem mask_at {F : FTy → Type} [FloatOps F] (X : FVec F Cert.On_in_use.S73728x1024 .bf16) (T : IVec Cert.On_in_use.S288 32) (N : IVec Cert.On_in_use.S1 32)
    (Wg Wu : FVec F Cert.On_in_use.S64x1024x512 .f32) (Wd : FVec F Cert.On_in_use.S64x512x1024 .f32) (r : Fin 73728) (b : Fin 1024) :
    Cert.On_in_use.fn (F := F) X T N Wg Wu Wd (ix2 r b) = IntOp.cmpi .slt (tileWord (BitVec.ofNat 32 r)) (N (ix1 (0 : Fin 1))) := by
  pointwise [Cert.On_in_use.fn, Cert.On_in_use.fn_floor_divide, Cert.On_in_use.fn_where, tileWord, sgn]
  rfl

/-- The mask selects rows of tiles in use. -/
theorem mask_words {F : FTy → Type} [FloatOps F] (X : FVec F Cert.On_in_use.S73728x1024 .bf16) (T : IVec Cert.On_in_use.S288 32) (N : IVec Cert.On_in_use.S1 32)
    (Wg Wu : FVec F Cert.On_in_use.S64x1024x512 .f32) (Wd : FVec F Cert.On_in_use.S64x512x1024 .f32) (r : Fin 73728) (b : Fin 1024)
    (hN : (N (ix1 (0 : Fin 1))).toNat ≤ 288) (h : Cert.On_in_use.fn (F := F) X T N Wg Wu Wd (ix2 r b) = 1#1) : (r : ℕ) / 256 < (N (ix1 (0 : Fin 1))).toNat := by
  have hr := r.isLt
  rw [mask_at, tileWord_eq r (by omega), IntOp.cmpi_slt, BitVec.toInt_eq_toNat_of_lt (by rw [BitVec.toNat_ofNat]; omega),
    BitVec.toInt_eq_toNat_of_lt (by omega), BitVec.toNat_ofNat, Nat.mod_eq_of_lt (by omega)] at h
  omega

end Cert.Moe

end
-- ==== Proof.MoeBits.Body.lean ====
/- The body of the experts call at one grid point, at the bit-level instance, whichever of its two conditions hold: with the
   three weight blocks in their windows and — unless it reads them anew — already rounded in the scratch buffers, it leaves
   the scratch buffers holding the rounded blocks, and the tile's rows through the expert in the output window where the
   tile is in use. -/
module

public import proofs.«01_k».proof.Proof.Gen.Experts.Flash.Runs
public import Idealize.ShloMosaic.Lib.VecWindow

@[expose] public section

set_option maxRecDepth 16384

noncomputable section

namespace Cert.Experts.Moe

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (UR sig nD τ) ℕ

/-- The point reads the weights anew: it is the first, or its tile's expert is not the one of the tile before. -/
abbrev Loads (i : grid0.Coords) (T0 : S288.Idx → Elt Bits .i32) : Prop :=
  (Scalar.cmpi .ne (Scalar.extui (Scalar.ori (Scalar.cmpi .eq (BitVec.ofNat 32 (i 0).val) 0#32) (Scalar.cmpi .ne (View.readAt (Elt Bits) (tbM0_0).view (Rect.unit (s := S288) (k0_off1 i) S1.size (k0_off1_inb i)).toLoadRect T0 (Shape.Idx.first (numel1_S1.symm ▸ Nat.one_pos))) (View.readAt (Elt Bits) (tbM0_0).view (Rect.unit (s := S288) (k0_off2 i) S1.size (k0_off2_inb i)).toLoadRect T0 (Shape.Idx.first (numel1_S1.symm ▸ Nat.one_pos)))))) 0#32) = 1#1

/-- The point's tile is in use. -/
abbrev Stores (i : grid0.Coords) (T1 : S1.Idx → Elt Bits .i32) : Prop :=
  k0_cond2 i (View.readAt (Elt Bits) (tbM0_1).view (Rect.unit (s := S1) ![0] S1.size inb_S1_S1_0).toLoadRect T1 (Shape.Idx.first (numel1_S1.symm ▸ Nat.one_pos))) = 1#1

/-- What the body leaves in the output window where the tile is in use. -/
def tileOut (x0 : S256x1024.Idx → Elt Bits .bf16) (x1 x2 : S1x1024x512.Idx → Elt Bits .f32) (x3 : S1x512x1024.Idx → Elt Bits .f32) :
    S256x1024.Idx → Elt Bits .bf16 := k0_pay4 (F := Bits) x0 (k0_pay1 (F := Bits) x1) (k0_pay2 (F := Bits) x2) (k0_pay3 (F := Bits) x3)

/-- A scratch buffer, held at contents that read `s`. -/
abbrev held {sh : Shape} {e : EltTy} (c : Dev nD) (m : Memref sig .tc .vmem sh e) (s : sh.Idx → Elt Bits e) : sProp 𝕄 :=
  iprop(∃ b : Buf (Elt Bits) (m.view.loc (c : Thread nD τ)), ⌜m.view.read (Elt Bits) b = s⌝ ∗ (m.view.loc (c : Thread nD τ) ↦{fullShare} b))

section
variable (c : Dev nD) (i : grid0.Coords) (arg3 : Memref sig .tc .vmem S256x1024 .bf16) (harg3 : arg3.IsWhole)
  (arg4 : Memref sig .tc .vmem S1x1024x512 .f32) (harg4 : arg4.IsWhole) (arg5 : Memref sig .tc .vmem S1x1024x512 .f32) (harg5 : arg5.IsWhole)
  (arg6 : Memref sig .tc .vmem S1x512x1024 .f32) (harg6 : arg6.IsWhole) (arg7 : Memref sig .tc .vmem S256x1024 .bf16) (harg7 : arg7.IsWhole)
  (T0 : S288.Idx → Elt Bits .i32) (T1 : S1.Idx → Elt Bits .i32) (x0 : S256x1024.Idx → Elt Bits .bf16)
  (x1 x2 : S1x1024x512.Idx → Elt Bits .f32) (x3 : S1x512x1024.Idx → Elt Bits .f32)
  (a0 : Buf (Elt Bits) ((c : Thread nD τ).loc cc0_scratch0)) (a1 : Buf (Elt Bits) ((c : Thread nD τ).loc cc0_scratch1))
  (a2 : Buf (Elt Bits) ((c : Thread nD τ).loc cc0_scratch2))

/-- Reading the weights anew leaves the first scratch buffer holding the gate block, where the tile is in use. -/
theorem loadA0 (q0 : Loads i T0) (q1 : Stores i T1) : scM0_0.view.read (Elt Bits) (kernelRun0_A c i arg3 harg3 arg4 harg4 arg5 harg5 arg6 harg6 arg7 harg7 T0 T1 x0 x1 x2 x3 q0 q1).2.1 = k0_pay1 (F := Bits) x1 := by
  unfold kernelRun0_A; dsimp only; unfold kernelRun0_A.sl.HS0_1
  rw [show View.whole cc0_scratch0 = scM0_0.view from rfl, View.read_writes_full, View.readAt_full, View.read_rep]

/-- Reading the weights anew leaves the second scratch buffer holding the up block, where the tile is in use. -/
theorem loadA1 (q0 : Loads i T0) (q1 : Stores i T1) : scM0_1.view.read (Elt Bits) (kernelRun0_A c i arg3 harg3 arg4 harg4 arg5 harg5 arg6 harg6 arg7 harg7 T0 T1 x0 x1 x2 x3 q0 q1).2.2.1 = k0_pay2 (F := Bits) x2 := by
  unfold kernelRun0_A; dsimp only; unfold kernelRun0_A.sl.HS1_1
  rw [show View.whole cc0_scratch1 = scM0_1.view from rfl, View.read_writes_full, View.readAt_full, View.read_rep]

/-- Reading the weights anew leaves the third scratch buffer holding the down block, where the tile is in use. -/
theorem loadA2 (q0 : Loads i T0) (q1 : Stores i T1) : scM0_2.view.read (Elt Bits) (kernelRun0_A c i arg3 harg3 arg4 harg4 arg5 harg5 arg6 harg6 arg7 harg7 T0 T1 x0 x1 x2 x3 q0 q1).2.2.2.1 = k0_pay3 (F := Bits) x3 := by
  unfold kernelRun0_A; dsimp only; unfold kernelRun0_A.sl.HS2_1
  rw [show View.whole cc0_scratch2 = scM0_2.view from rfl, View.read_writes_full, View.readAt_full, View.read_rep]

/-- Reading the weights anew leaves the first scratch buffer holding the gate block, where the tile is not in use. -/
theorem loadC0 (q0 : Loads i T0) (q1 : ¬Stores i T1) : scM0_0.view.read (Elt Bits) (kernelRun0_C c i arg3 harg3 arg4 harg4 arg5 harg5 arg6 harg6 arg7 harg7 T0 T1 x0 x1 x2 x3 q0 q1).1 = k0_pay1 (F := Bits) x1 := by
  unfold kernelRun0_C; dsimp only; unfold kernelRun0_C.sl.HS0_1
  rw [show View.whole cc0_scratch0 = scM0_0.view from rfl, View.read_writes_full, View.readAt_full, View.read_rep]

/-- Reading the weights anew leaves the second scratch buffer holding the up block, where the tile is not in use. -/
theorem loadC1 (q0 : Loads i T0) (q1 : ¬Stores i T1) : scM0_1.view.read (Elt Bits) (kernelRun0_C c i arg3 harg3 arg4 harg4 arg5 harg5 arg6 harg6 arg7 harg7 T0 T1 x0 x1 x2 x3 q0 q1).2.1 = k0_pay2 (F := Bits) x2 := by
  unfold kernelRun0_C; dsimp only; unfold kernelRun0_C.sl.HS1_1
  rw [show View.whole cc0_scratch1 = scM0_1.view from rfl, View.read_writes_full, View.readAt_full, View.read_rep]

/-- Reading the weights anew leaves the third scratch buffer holding the down block, where the tile is not in use. -/
theorem loadC2 (q0 : Loads i T0) (q1 : ¬Stores i T1) : scM0_2.view.read (Elt Bits) (kernelRun0_C c i arg3 harg3 arg4 harg4 arg5 harg5 arg6 harg6 arg7 harg7 T0 T1 x0 x1 x2 x3 q0 q1).2.2.1 = k0_pay3 (F := Bits) x3 := by
  unfold kernelRun0_C; dsimp only; unfold kernelRun0_C.sl.HS2_1
  rw [show View.whole cc0_scratch2 = scM0_2.view from rfl, View.read_writes_full, View.readAt_full, View.read_rep]

/-- The store of a point that reads the weights anew is the tile's rows through the expert. -/
theorem storeA (q0 : Loads i T0) (q1 : Stores i T1) (f : arg7.view.ty.Contents (Elt Bits)) :
    arg7.view.read (Elt Bits) (arg7.view.writes (Elt Bits) f (kernelRun0_A c i arg3 harg3 arg4 harg4 arg5 harg5 arg6 harg6 arg7 harg7 T0 T1 x0 x1 x2 x3 q0 q1).1) = tileOut x0 x1 x2 x3 := by
  unfold kernelRun0_A; dsimp only
  unfold kernelRun0_A.sl.HO4_1 kernelRun0_A.sl.v16 kernelRun0_A.sl.v18 kernelRun0_A.sl.v24 tileOut
  rw [View.read_writes_full, View.readAt_full, View.read_rep]
  unfold kernelRun0_A.sl.HS0_1 kernelRun0_A.sl.HS1_1 kernelRun0_A.sl.HS2_1
  rw [View.readCov_full, View.readCov_full, View.readCov_full]
  rw [View.readAt_full, View.read_rep, View.readAt_full, View.read_rep, View.readAt_full, View.read_rep]

/-- So is the store of a point that finds them rounded already. -/
theorem storeB (q0 : ¬Loads i T0) (q1 : Stores i T1) (f : arg7.view.ty.Contents (Elt Bits)) (h0 : scM0_0.view.read (Elt Bits) a0 = k0_pay1 (F := Bits) x1)
    (h1 : scM0_1.view.read (Elt Bits) a1 = k0_pay2 (F := Bits) x2) (h2 : scM0_2.view.read (Elt Bits) a2 = k0_pay3 (F := Bits) x3) :
    arg7.view.read (Elt Bits) (arg7.view.writes (Elt Bits) f (kernelRun0_B c i arg3 harg3 arg4 harg4 arg5 harg5 arg6 harg6 arg7 harg7 T0 T1 x0 x1 x2 x3 a0 a1 a2 q0 q1).1) = tileOut x0 x1 x2 x3 := by
  unfold kernelRun0_B; dsimp only
  unfold kernelRun0_B.sl.HO4_1 tileOut
  rw [View.read_writes_full, View.readAt_full, View.read_rep, View.readAt_full, View.readAt_full, View.readAt_full, h0, h1, h2]

/-- A point that finds them rounded already leaves the first scratch buffer be, -/
theorem keepB0 (q0 : ¬Loads i T0) (q1 : Stores i T1) : (kernelRun0_B c i arg3 harg3 arg4 harg4 arg5 harg5 arg6 harg6 arg7 harg7 T0 T1 x0 x1 x2 x3 a0 a1 a2 q0 q1).2.1 = a0 := by unfold kernelRun0_B; rfl

/-- the second, -/
theorem keepB1 (q0 : ¬Loads i T0) (q1 : Stores i T1) : (kernelRun0_B c i arg3 harg3 arg4 harg4 arg5 harg5 arg6 harg6 arg7 harg7 T0 T1 x0 x1 x2 x3 a0 a1 a2 q0 q1).2.2.1 = a1 := by unfold kernelRun0_B; rfl

/-- and the third, -/
theorem keepB2 (q0 : ¬Loads i T0) (q1 : Stores i T1) : (kernelRun0_B c i arg3 harg3 arg4 harg4 arg5 harg5 arg6 harg6 arg7 harg7 T0 T1 x0 x1 x2 x3 a0 a1 a2 q0 q1).2.2.2.1 = a2 := by unfold kernelRun0_B; rfl

/-- also where the tile is not in use: the first, -/
theorem keepD0 (q0 : ¬Loads i T0) (q1 : ¬Stores i T1) : (kernelRun0_D c i arg3 harg3 arg4 harg4 arg5 harg5 arg6 harg6 arg7 harg7 T0 T1 x0 x1 x2 x3 a0 a1 a2 q0 q1).1 = a0 := by unfold kernelRun0_D; rfl

/-- the second, -/
theorem keepD1 (q0 : ¬Loads i T0) (q1 : ¬Stores i T1) : (kernelRun0_D c i arg3 harg3 arg4 harg4 arg5 harg5 arg6 harg6 arg7 harg7 T0 T1 x0 x1 x2 x3 a0 a1 a2 q0 q1).2.1 = a1 := by unfold kernelRun0_D; rfl

/-- and the third. -/
theorem keepD2 (q0 : ¬Loads i T0) (q1 : ¬Stores i T1) : (kernelRun0_D c i arg3 harg3 arg4 harg4 arg5 harg5 arg6 harg6 arg7 harg7 T0 T1 x0 x1 x2 x3 a0 a1 a2 q0 q1).2.2.1 = a2 := by unfold kernelRun0_D; rfl

set_option maxHeartbeats 2000000 in
/-- The body at a point that reads the weights anew, its tile in use. -/
theorem bodyA (q0 : Loads i T0) (q1 : Stores i T1) (d : S256x1024.Idx → Elt Bits .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare (tileOut x0 x1 x2 x3)
        ∗ held c scM0_0 (k0_pay1 (F := Bits) x1) ∗ held c scM0_1 (k0_pay2 (F := Bits) x2) ∗ held c scM0_2 (k0_pay3 (F := Bits) x3)) -∗ K ⟨⟩))
      ⊢ wp frame (wpE (defs₀ (F := Bits)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_A c i arg3 harg3 arg4 harg4 arg5 harg5 arg6 harg6 arg7 harg7 T0 T1 x0 x1 x2 x3 q0 q1).2.2.2.2 a0 a1 a2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists d; iexact H4
  isplitl [HS0]; · iexact HS0
  isplitl [HS1]; · iexact HS1
  isplitl [HS2]; · iexact HS2
  iintro ⟨H0, H1, H2, H3, HT0, HT1, ⟨%f, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact storeA c i arg3 harg3 arg4 harg4 arg5 harg5 arg6 harg6 arg7 harg7 T0 T1 x0 x1 x2 x3 q0 q1 f
  isplitl [HS0]
  · iexists _; isplitr; swap
    · iexact HS0
    · ipureintro; exact loadA0 c i arg3 harg3 arg4 harg4 arg5 harg5 arg6 harg6 arg7 harg7 T0 T1 x0 x1 x2 x3 q0 q1
  isplitl [HS1]
  · iexists _; isplitr; swap
    · iexact HS1
    · ipureintro; exact loadA1 c i arg3 harg3 arg4 harg4 arg5 harg5 arg6 harg6 arg7 harg7 T0 T1 x0 x1 x2 x3 q0 q1
  iexists _; isplitr; swap
  · iexact HS2
  · ipureintro; exact loadA2 c i arg3 harg3 arg4 harg4 arg5 harg5 arg6 harg6 arg7 harg7 T0 T1 x0 x1 x2 x3 q0 q1

set_option maxHeartbeats 2000000 in
/-- The body at a point that finds the weights rounded already, its tile in use. -/
theorem bodyB (q0 : ¬Loads i T0) (q1 : Stores i T1)
    (h0 : scM0_0.view.read (Elt Bits) a0 = k0_pay1 (F := Bits) x1) (h1 : scM0_1.view.read (Elt Bits) a1 = k0_pay2 (F := Bits) x2)
    (h2 : scM0_2.view.read (Elt Bits) a2 = k0_pay3 (F := Bits) x3) (d : S256x1024.Idx → Elt Bits .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare (tileOut x0 x1 x2 x3)
        ∗ held c scM0_0 (k0_pay1 (F := Bits) x1) ∗ held c scM0_1 (k0_pay2 (F := Bits) x2) ∗ held c scM0_2 (k0_pay3 (F := Bits) x3)) -∗ K ⟨⟩))
      ⊢ wp frame (wpE (defs₀ (F := Bits)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_B c i arg3 harg3 arg4 harg4 arg5 harg5 arg6 harg6 arg7 harg7 T0 T1 x0 x1 x2 x3 a0 a1 a2 q0 q1).2.2.2.2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists d; iexact H4
  isplitl [HS0]; · iexact HS0
  isplitl [HS1]; · iexact HS1
  isplitl [HS2]; · iexact HS2
  iintro ⟨H0, H1, H2, H3, HT0, HT1, ⟨%f, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact storeB c i arg3 harg3 arg4 harg4 arg5 harg5 arg6 harg6 arg7 harg7 T0 T1 x0 x1 x2 x3 a0 a1 a2 q0 q1 f h0 h1 h2
  isplitl [HS0]
  · iexists _; isplitr; swap
    · iexact HS0
    · ipureintro; exact (congrArg _ (keepB0 c i arg3 harg3 arg4 harg4 arg5 harg5 arg6 harg6 arg7 harg7 T0 T1 x0 x1 x2 x3 a0 a1 a2 q0 q1)).trans h0
  isplitl [HS1]
  · iexists _; isplitr; swap
    · iexact HS1
    · ipureintro; exact (congrArg _ (keepB1 c i arg3 harg3 arg4 harg4 arg5 harg5 arg6 harg6 arg7 harg7 T0 T1 x0 x1 x2 x3 a0 a1 a2 q0 q1)).trans h1
  iexists _; isplitr; swap
  · iexact HS2
  · ipureintro; exact (congrArg _ (keepB2 c i arg3 harg3 arg4 harg4 arg5 harg5 arg6 harg6 arg7 harg7 T0 T1 x0 x1 x2 x3 a0 a1 a2 q0 q1)).trans h2

set_option maxHeartbeats 2000000 in
/-- The body at a point that reads the weights anew, its tile not in use. -/
theorem bodyC (q0 : Loads i T0) (q1 : ¬Stores i T1) (d : S256x1024.Idx → Elt Bits .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare d
        ∗ held c scM0_0 (k0_pay1 (F := Bits) x1) ∗ held c scM0_1 (k0_pay2 (F := Bits) x2) ∗ held c scM0_2 (k0_pay3 (F := Bits) x3)) -∗ K ⟨⟩))
      ⊢ wp frame (wpE (defs₀ (F := Bits)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_C c i arg3 harg3 arg4 harg4 arg5 harg5 arg6 harg6 arg7 harg7 T0 T1 x0 x1 x2 x3 q0 q1).2.2.2 d a0 a1 a2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]; · iexact H4
  isplitl [HS0]
  · iexists _; isplitr; swap
    · iexact HS0
    · ipureintro; exact loadC0 c i arg3 harg3 arg4 harg4 arg5 harg5 arg6 harg6 arg7 harg7 T0 T1 x0 x1 x2 x3 q0 q1
  isplitl [HS1]
  · iexists _; isplitr; swap
    · iexact HS1
    · ipureintro; exact loadC1 c i arg3 harg3 arg4 harg4 arg5 harg5 arg6 harg6 arg7 harg7 T0 T1 x0 x1 x2 x3 q0 q1
  iexists _; isplitr; swap
  · iexact HS2
  · ipureintro; exact loadC2 c i arg3 harg3 arg4 harg4 arg5 harg5 arg6 harg6 arg7 harg7 T0 T1 x0 x1 x2 x3 q0 q1

set_option maxHeartbeats 2000000 in
/-- The body at a point that finds the weights rounded already, its tile not in use. -/
theorem bodyD (q0 : ¬Loads i T0) (q1 : ¬Stores i T1)
    (h0 : scM0_0.view.read (Elt Bits) a0 = k0_pay1 (F := Bits) x1) (h1 : scM0_1.view.read (Elt Bits) a1 = k0_pay2 (F := Bits) x2)
    (h2 : scM0_2.view.read (Elt Bits) a2 = k0_pay3 (F := Bits) x3) (d : S256x1024.Idx → Elt Bits .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare d
        ∗ held c scM0_0 (k0_pay1 (F := Bits) x1) ∗ held c scM0_1 (k0_pay2 (F := Bits) x2) ∗ held c scM0_2 (k0_pay3 (F := Bits) x3)) -∗ K ⟨⟩))
      ⊢ wp frame (wpE (defs₀ (F := Bits)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_D c i arg3 harg3 arg4 harg4 arg5 harg5 arg6 harg6 arg7 harg7 T0 T1 x0 x1 x2 x3 a0 a1 a2 q0 q1).2.2.2 d K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]; · iexact H4
  isplitl [HS0]
  · iexists _; isplitr; swap
    · iexact HS0
    · ipureintro; exact (congrArg _ (keepD0 c i arg3 harg3 arg4 harg4 arg5 harg5 arg6 harg6 arg7 harg7 T0 T1 x0 x1 x2 x3 a0 a1 a2 q0 q1)).trans h0
  isplitl [HS1]
  · iexists _; isplitr; swap
    · iexact HS1
    · ipureintro; exact (congrArg _ (keepD1 c i arg3 harg3 arg4 harg4 arg5 harg5 arg6 harg6 arg7 harg7 T0 T1 x0 x1 x2 x3 a0 a1 a2 q0 q1)).trans h1
  iexists _; isplitr; swap
  · iexact HS2
  · ipureintro; exact (congrArg _ (keepD2 c i arg3 harg3 arg4 harg4 arg5 harg5 arg6 harg6 arg7 harg7 T0 T1 x0 x1 x2 x3 a0 a1 a2 q0 q1)).trans h2

/-- THE BODY AT A POINT, on any staging buffers: see the head of the module. -/
theorem body_run (hk : ¬Loads i T0 → scM0_0.view.read (Elt Bits) a0 = k0_pay1 (F := Bits) x1 ∧ scM0_1.view.read (Elt Bits) a1 = k0_pay2 (F := Bits) x2
      ∧ scM0_2.view.read (Elt Bits) a2 = k0_pay3 (F := Bits) x3) (d e : S256x1024.Idx → Elt Bits .bf16)
    (he : Stores i T1 → e = tileOut x0 x1 x2 x3) (he' : ¬Stores i T1 → e = d) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare e
        ∗ held c scM0_0 (k0_pay1 (F := Bits) x1) ∗ held c scM0_1 (k0_pay2 (F := Bits) x2) ∗ held c scM0_2 (k0_pay3 (F := Bits) x3)) -∗ K ⟨⟩))
      ⊢ wp frame (wpE (defs₀ (F := Bits)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  by_cases q0 : Loads i T0 <;> by_cases q1 : Stores i T1
  · rw [he q1]; exact bodyA c i arg3 harg3 arg4 harg4 arg5 harg5 arg6 harg6 arg7 harg7 T0 T1 x0 x1 x2 x3 a0 a1 a2 q0 q1 d K
  · rw [he' q1]; exact bodyC c i arg3 harg3 arg4 harg4 arg5 harg5 arg6 harg6 arg7 harg7 T0 T1 x0 x1 x2 x3 a0 a1 a2 q0 q1 d K
  · rw [he q1]; exact bodyB c i arg3 harg3 arg4 harg4 arg5 harg5 arg6 harg6 arg7 harg7 T0 T1 x0 x1 x2 x3 a0 a1 a2 q0 q1 (hk q0).1 (hk q0).2.1 (hk q0).2.2 d K
  · rw [he' q1]; exact bodyD c i arg3 harg3 arg4 harg4 arg5 harg5 arg6 harg6 arg7 harg7 T0 T1 x0 x1 x2 x3 a0 a1 a2 q0 q1 (hk q0).1 (hk q0).2.1 (hk q0).2.2 d K

end

end Cert.Experts.Moe

end
-- ==== Proof.MoeBits.Frame.lean ====
/- The run of the experts call, at the bit-level instance, for all tables within the bounds: what every buffer holds after
   every point, that the program ends with its arguments unchanged, and what its result array then holds. -/
module

public import proofs.«01_k».proof.Proof.MoeBits.Body
public import proofs.«01_k».proof.Proof.MoeBits.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Exec
public import Idealize.ShloMosaic.Lib.Tactic
public import Idealize.ShloMosaic.Adequacy
public import Idealize.ShloMosaic.Init

@[expose] public section

set_option maxRecDepth 16384

noncomputable section

namespace Cert.Experts.Moe

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra, embedded whole. -/
abbrev EP : Emb (UR sig nD τ) 𝕄 := emb₁

variable (T0 : S288.Idx → BitVec 32) (T1 : S1.Idx → BitVec 32) (hR : Routed T0 T1)
variable (m : (ℓ : Loc nD τ sig) → Buf (Elt Bits) ℓ) (ρ : Dev nD → PrngReg)

/-! ## A point -/

/-- A point's coordinates. -/
abbrev crd (t : Fin (cfgA T0 T1 hR).N) : (cfgA T0 T1 hR).grid.Coords := (cfgA T0 T1 hR).grid.coords t

/-- Window 0's staging buffer at a point. -/
abbrev ms0_0 (t : Fin (cfgA T0 T1 hR).N) : Memref sig .tc .vmem S256x1024 .bf16 := spec0_0.stage ((cfgA T0 T1 hR).slots t (0 : Fin 5))

/-- It is a whole buffer. -/
abbrev hs0_0 (t : Fin (cfgA T0 T1 hR).N) : (ms0_0 T0 T1 hR t).IsWhole := hstage0_0 (((cfgA T0 T1 hR).slots t (0 : Fin 5)).cast nbuf0_0)

/-- Window 1's staging buffer at a point. -/
abbrev ms0_1 (t : Fin (cfgA T0 T1 hR).N) : Memref sig .tc .vmem S1x1024x512 .f32 := spec0_1.stage ((cfgA T0 T1 hR).slots t (1 : Fin 5))

/-- It is a whole buffer. -/
abbrev hs0_1 (t : Fin (cfgA T0 T1 hR).N) : (ms0_1 T0 T1 hR t).IsWhole := hstage0_1 (((cfgA T0 T1 hR).slots t (1 : Fin 5)).cast nbuf0_1)

/-- Window 2's staging buffer at a point. -/
abbrev ms0_2 (t : Fin (cfgA T0 T1 hR).N) : Memref sig .tc .vmem S1x1024x512 .f32 := spec0_2.stage ((cfgA T0 T1 hR).slots t (2 : Fin 5))

/-- It is a whole buffer. -/
abbrev hs0_2 (t : Fin (cfgA T0 T1 hR).N) : (ms0_2 T0 T1 hR t).IsWhole := hstage0_2 (((cfgA T0 T1 hR).slots t (2 : Fin 5)).cast nbuf0_2)

/-- Window 3's staging buffer at a point. -/
abbrev ms0_3 (t : Fin (cfgA T0 T1 hR).N) : Memref sig .tc .vmem S1x512x1024 .f32 := spec0_3.stage ((cfgA T0 T1 hR).slots t (3 : Fin 5))

/-- It is a whole buffer. -/
abbrev hs0_3 (t : Fin (cfgA T0 T1 hR).N) : (ms0_3 T0 T1 hR t).IsWhole := hstage0_3 (((cfgA T0 T1 hR).slots t (3 : Fin 5)).cast nbuf0_3)

/-- Window 4's staging buffer at a point. -/
abbrev ms0_4 (t : Fin (cfgA T0 T1 hR).N) : Memref sig .tc .vmem S256x1024 .bf16 := spec0_4.stage ((cfgA T0 T1 hR).slots t (4 : Fin 5))

/-- It is a whole buffer. -/
abbrev hs0_4 (t : Fin (cfgA T0 T1 hR).N) : (ms0_4 T0 T1 hR t).IsWhole := hstage0_4 (((cfgA T0 T1 hR).slots t (4 : Fin 5)).cast nbuf0_4)

/-- Window `w`'s block at a point, read off its array at launch. -/
def iblk (c : Dev nD) (w : Fin (cfgA T0 T1 hR).W) (t : Fin (cfgA T0 T1 hR).N) : (((cfgA T0 T1 hR).win w).xblock (crd T0 T1 hR t)).Idx → Elt Bits ((cfgA T0 T1 hR).win w).elt :=
  (((cfgA T0 T1 hR).win w).blk t).view.read (Elt Bits) ((s₀ m ρ).mem (((cfgA T0 T1 hR).win w).arr.view.loc (c : Thread nD τ)))

theorem lt_288 (t : Fin (cfgA T0 T1 hR).N) : t.val < 288 := lt_of_lt_of_eq t.isLt N_0

/-- A point as a tile. -/
def tile (t : Fin (cfgA T0 T1 hR).N) : Fin 288 := ⟨t.val, lt_288 T0 T1 hR t⟩

/-- The point whose tile the output's buffer holds after a point: the point itself, or the last in use. -/
def src (t : Fin (cfgA T0 T1 hR).N) : Fin (cfgA T0 T1 hR).N := ⟨min t.val (used T1 - 1), lt_of_le_of_lt (Nat.min_le_left _ _) t.isLt⟩

/-- The point before. -/
def prv (t : Fin ((cfgA T0 T1 hR).N + 1)) (h : t.val ≠ 0) : Fin (cfgA T0 T1 hR).N := ⟨t.val - 1, by omega⟩

/-- The output block a point computes. -/
def outAt (c : Dev nD) (t : Fin (cfgA T0 T1 hR).N) : S256x1024.Idx → Elt Bits .bf16 :=
  tileOut (iblk T0 T1 hR m ρ c (0 : Fin 5) t) (iblk T0 T1 hR m ρ c (1 : Fin 5) t) (iblk T0 T1 hR m ρ c (2 : Fin 5) t) (iblk T0 T1 hR m ρ c (3 : Fin 5) t)

/-! ## What the point's two conditions say -/

/-- A point reads the weights anew when it is the first or its expert is not that of the tile before. -/
theorem loads_iff (t : Fin (cfgA T0 T1 hR).N) : Loads (crd T0 T1 hR t) T0
    ↔ t.val = 0 ∨ T0 (ix1 (tile T0 T1 hR t)) ≠ T0 (ix1 (⟨t.val - 1, by have := lt_288 T0 T1 hR t; omega⟩ : Fin 288)) := by
  have ht : t.val < 288 := lt_288 T0 T1 hR t
  have hc : ((crd T0 T1 hR t) 0).val = t.val := coord_val t
  unfold Loads
  rw [Scalar.guard_iff,
    read_tab0 T0 (k0_off1 (crd T0 T1 hR t)) (k0_off1_inb _) numel1_S1 (tile T0 T1 hR t)
      (by show (BitVec.ofNat 32 ((crd T0 T1 hR t) 0).val).toNat = t.val; rw [hc, toNat_small ht]),
    read_tab0 T0 (k0_off2 (crd T0 T1 hR t)) (k0_off2_inb _) numel1_S1 (⟨t.val - 1, by omega⟩ : Fin 288)
      (by show (Scalar.maxsi (Scalar.subi (BitVec.ofNat 32 ((crd T0 T1 hR t) 0).val) 1#32) 0#32).toNat = t.val - 1; rw [hc, before_small ht])]
  show IntOp.ori (IntOp.cmpi .eq (BitVec.ofNat 32 ((crd T0 T1 hR t) 0).val) 0#32) (IntOp.cmpi .ne _ _) = 1#1 ↔ _
  rw [IntOp.ori_eq_one, IntOp.cmpi_eq, IntOp.cmpi_ne, hc]
  refine or_congr ⟨fun h => ?_, fun h => by rw [h]⟩ Iff.rfl
  have := congrArg BitVec.toNat h
  rwa [toNat_small ht] at this

/-- A point's tile is in use below the number of tiles in use. -/
theorem stores_iff (t : Fin (cfgA T0 T1 hR).N) : Stores (crd T0 T1 hR t) T1 ↔ t.val < used T1 := by
  unfold Stores
  rw [read_tab1 T1 inb_S1_S1_0 numel1_S1]
  have h := cond2_iff T0 T1 hR (crd T0 T1 hR t)
  rwa [show ((crd T0 T1 hR t) 0).val = t.val from coord_val t] at h

/-! ## The weight blocks -/

/-- The index of a weight block is the tile's expert. -/
theorem index1 (t : Fin (cfgA T0 T1 hR).N) : ((cfgA T0 T1 hR).win (1 : Fin 5)).index t = ![expert T0 (tile T0 T1 hR t), 0, 0] :=
  (map1 T0 T1 (grid0.coords t)).trans (by rw [show (grid0.coords t) 0 = tile T0 T1 hR t from Fin.ext (coord_val t)])

/-- Also of the up weights'. -/
theorem index2 (t : Fin (cfgA T0 T1 hR).N) : ((cfgA T0 T1 hR).win (2 : Fin 5)).index t = ![expert T0 (tile T0 T1 hR t), 0, 0] := index1 T0 T1 hR t

/-- And of the down weights'. -/
theorem index3 (t : Fin (cfgA T0 T1 hR).N) : ((cfgA T0 T1 hR).win (3 : Fin 5)).index t = ![expert T0 (tile T0 T1 hR t), 0, 0] := index1 T0 T1 hR t

/-- The block of rows: the tile's, or that of the last in use. -/
theorem index0 (t : Fin (cfgA T0 T1 hR).N) : ((cfgA T0 T1 hR).win (0 : Fin 5)).index t = ![min t.val (used T1 - 1), 0] := by
  refine (map0 T0 T1 hR (grid0.coords t)).trans ?_
  rw [coord_val t]

/-- The gate block at a point is the gate matrix of the tile's expert. -/
theorem iblk1_at (c : Dev nD) (t : Fin (cfgA T0 T1 hR).N) (e : Fin 64) (he : e.val = expert T0 (tile T0 T1 hR t)) (a : Fin 1024) (b : Fin 512) :
    (iblk T0 T1 hR m ρ c (1 : Fin 5) t : S1x1024x512.Idx → Elt Bits .f32) (ix3 (0 : Fin 1) a b) = (m ((c : Thread nD τ).loc main_arg3) : S64x1024x512.Idx → Elt Bits .f32) (ix3 e a b) := by
  refine congrArg (m ((c : Thread nD τ).loc main_arg3) : S64x1024x512.Idx → Elt Bits .f32) (funext fun d => Fin.ext ?_)
  have h := Pipeline.Window.rect_emb_val ((cfgA T0 T1 hR).win (1 : Fin 5)) t (ix3 (0 : Fin 1) a b)
  rw [index1] at h
  fin_cases d
  · refine (h (0 : Fin 3)).trans ?_
    show expert T0 (tile T0 T1 hR t) * 1 + 0 = e.val
    omega
  · refine (h (1 : Fin 3)).trans ?_
    show 0 * 1024 + a.val = a.val
    omega
  · refine (h (2 : Fin 3)).trans ?_
    show 0 * 512 + b.val = b.val
    omega

/-- It is the block of the point before where the expert is the same. -/
theorem iblk1_eq (c : Dev nD) (t t' : Fin (cfgA T0 T1 hR).N) (h : expert T0 (tile T0 T1 hR t) = expert T0 (tile T0 T1 hR t')) :
    (iblk T0 T1 hR m ρ c (1 : Fin 5) t : S1x1024x512.Idx → Elt Bits .f32) = iblk T0 T1 hR m ρ c (1 : Fin 5) t' := by
  funext y
  have he := hR.expert (tile T0 T1 hR t)
  have y0 : (y 0).val < 1 := (y 0).isLt
  have ey : y = ix3 (0 : Fin 1) (y 1 : Fin 1024) (y 2 : Fin 512) := by
    funext d; fin_cases d
    · exact Fin.ext (by show (y 0).val = 0; omega)
    · rfl
    · rfl
  have l : expert T0 (tile T0 T1 hR t) < 64 := lt_of_le_of_lt he (by omega)
  rw [ey]
  exact (iblk1_at T0 T1 hR m ρ c t ⟨expert T0 (tile T0 T1 hR t), l⟩ rfl _ _).trans
    (iblk1_at T0 T1 hR m ρ c t' ⟨expert T0 (tile T0 T1 hR t), l⟩ h _ _).symm

/-- The up block at a point is the up matrix of the tile's expert. -/
theorem iblk2_at (c : Dev nD) (t : Fin (cfgA T0 T1 hR).N) (e : Fin 64) (he : e.val = expert T0 (tile T0 T1 hR t)) (a : Fin 1024) (b : Fin 512) :
    (iblk T0 T1 hR m ρ c (2 : Fin 5) t : S1x1024x512.Idx → Elt Bits .f32) (ix3 (0 : Fin 1) a b) = (m ((c : Thread nD τ).loc main_arg4) : S64x1024x512.Idx → Elt Bits .f32) (ix3 e a b) := by
  refine congrArg (m ((c : Thread nD τ).loc main_arg4) : S64x1024x512.Idx → Elt Bits .f32) (funext fun d => Fin.ext ?_)
  have h := Pipeline.Window.rect_emb_val ((cfgA T0 T1 hR).win (2 : Fin 5)) t (ix3 (0 : Fin 1) a b)
  rw [index2] at h
  fin_cases d
  · refine (h (0 : Fin 3)).trans ?_
    show expert T0 (tile T0 T1 hR t) * 1 + 0 = e.val
    omega
  · refine (h (1 : Fin 3)).trans ?_
    show 0 * 1024 + a.val = a.val
    omega
  · refine (h (2 : Fin 3)).trans ?_
    show 0 * 512 + b.val = b.val
    omega

/-- It is the block of the point before where the expert is the same. -/
theorem iblk2_eq (c : Dev nD) (t t' : Fin (cfgA T0 T1 hR).N) (h : expert T0 (tile T0 T1 hR t) = expert T0 (tile T0 T1 hR t')) :
    (iblk T0 T1 hR m ρ c (2 : Fin 5) t : S1x1024x512.Idx → Elt Bits .f32) = iblk T0 T1 hR m ρ c (2 : Fin 5) t' := by
  funext y
  have he := hR.expert (tile T0 T1 hR t)
  have y0 : (y 0).val < 1 := (y 0).isLt
  have ey : y = ix3 (0 : Fin 1) (y 1 : Fin 1024) (y 2 : Fin 512) := by
    funext d; fin_cases d
    · exact Fin.ext (by show (y 0).val = 0; omega)
    · rfl
    · rfl
  have l : expert T0 (tile T0 T1 hR t) < 64 := lt_of_le_of_lt he (by omega)
  rw [ey]
  exact (iblk2_at T0 T1 hR m ρ c t ⟨expert T0 (tile T0 T1 hR t), l⟩ rfl _ _).trans
    (iblk2_at T0 T1 hR m ρ c t' ⟨expert T0 (tile T0 T1 hR t), l⟩ h _ _).symm

/-- The down block at a point is the down matrix of the tile's expert. -/
theorem iblk3_at (c : Dev nD) (t : Fin (cfgA T0 T1 hR).N) (e : Fin 64) (he : e.val = expert T0 (tile T0 T1 hR t)) (a : Fin 512) (b : Fin 1024) :
    (iblk T0 T1 hR m ρ c (3 : Fin 5) t : S1x512x1024.Idx → Elt Bits .f32) (ix3 (0 : Fin 1) a b) = (m ((c : Thread nD τ).loc main_arg5) : S64x512x1024.Idx → Elt Bits .f32) (ix3 e a b) := by
  refine congrArg (m ((c : Thread nD τ).loc main_arg5) : S64x512x1024.Idx → Elt Bits .f32) (funext fun d => Fin.ext ?_)
  have h := Pipeline.Window.rect_emb_val ((cfgA T0 T1 hR).win (3 : Fin 5)) t (ix3 (0 : Fin 1) a b)
  rw [index3] at h
  fin_cases d
  · refine (h (0 : Fin 3)).trans ?_
    show expert T0 (tile T0 T1 hR t) * 1 + 0 = e.val
    omega
  · refine (h (1 : Fin 3)).trans ?_
    show 0 * 512 + a.val = a.val
    omega
  · refine (h (2 : Fin 3)).trans ?_
    show 0 * 1024 + b.val = b.val
    omega

/-- It is the block of the point before where the expert is the same. -/
theorem iblk3_eq (c : Dev nD) (t t' : Fin (cfgA T0 T1 hR).N) (h : expert T0 (tile T0 T1 hR t) = expert T0 (tile T0 T1 hR t')) :
    (iblk T0 T1 hR m ρ c (3 : Fin 5) t : S1x512x1024.Idx → Elt Bits .f32) = iblk T0 T1 hR m ρ c (3 : Fin 5) t' := by
  funext y
  have he := hR.expert (tile T0 T1 hR t)
  have y0 : (y 0).val < 1 := (y 0).isLt
  have ey : y = ix3 (0 : Fin 1) (y 1 : Fin 512) (y 2 : Fin 1024) := by
    funext d; fin_cases d
    · exact Fin.ext (by show (y 0).val = 0; omega)
    · rfl
    · rfl
  have l : expert T0 (tile T0 T1 hR t) < 64 := lt_of_le_of_lt he (by omega)
  rw [ey]
  exact (iblk3_at T0 T1 hR m ρ c t ⟨expert T0 (tile T0 T1 hR t), l⟩ rfl _ _).trans
    (iblk3_at T0 T1 hR m ρ c t' ⟨expert T0 (tile T0 T1 hR t), l⟩ h _ _).symm

/-- The rows at a point of a tile in use are the tile's. -/
theorem iblk0_at (c : Dev nD) (t : Fin (cfgA T0 T1 hR).N) (ht : t.val < used T1) (a : Fin 256) (b : Fin 1024) (r : Fin 73728) (hr : r.val = t.val * 256 + a.val) :
    (iblk T0 T1 hR m ρ c (0 : Fin 5) t : S256x1024.Idx → Elt Bits .bf16) (ix2 a b) = (m ((c : Thread nD τ).loc main_arg0) : S73728x1024.Idx → Elt Bits .bf16) (ix2 r b) := by
  refine congrArg (m ((c : Thread nD τ).loc main_arg0) : S73728x1024.Idx → Elt Bits .bf16) (funext fun d => Fin.ext ?_)
  have h := Pipeline.Window.rect_emb_val ((cfgA T0 T1 hR).win (0 : Fin 5)) t (ix2 a b)
  rw [index0] at h
  fin_cases d
  · refine (h (0 : Fin 2)).trans ?_
    show min t.val (used T1 - 1) * 256 + a.val = r.val
    rw [hr, Nat.min_eq_left (by omega)]
  · refine (h (1 : Fin 2)).trans ?_
    show 0 * 1024 + b.val = b.val
    omega

/-! ## The pipeline's proof data -/

/-- Before a point: each scratch buffer holds the weights of the point before, whole; the tables are at hand. -/
def Phi (c : Dev nD) (t : Fin ((cfgA T0 T1 hR).N + 1)) : sProp 𝕄 :=
  iprop((∃ a, ⌜∀ h : t.val ≠ 0, scM0_0.view.read (Elt Bits) a = k0_pay1 (F := Bits) (iblk T0 T1 hR m ρ c (1 : Fin 5) (prv T0 T1 hR t h))⌝ ∗ (scM0_0.view.loc (c : Thread nD τ) ↦{fullShare} a))
    ∗ (∃ a, ⌜∀ h : t.val ≠ 0, scM0_1.view.read (Elt Bits) a = k0_pay2 (F := Bits) (iblk T0 T1 hR m ρ c (2 : Fin 5) (prv T0 T1 hR t h))⌝ ∗ (scM0_1.view.loc (c : Thread nD τ) ↦{fullShare} a))
    ∗ (∃ a, ⌜∀ h : t.val ≠ 0, scM0_2.view.read (Elt Bits) a = k0_pay3 (F := Bits) (iblk T0 T1 hR m ρ c (3 : Fin 5) (prv T0 T1 hR t h))⌝ ∗ (scM0_2.view.loc (c : Thread nD τ) ↦{fullShare} a))
    ∗ (tbM0_0.view.loc (c : Thread nD τ) ↦{fullShare.right} T0) ∗ (tbM0_1.view.loc (c : Thread nD τ) ↦{fullShare.right} T1))

/-- What each buffer holds after each point: an input its block, the output the last computed block. -/
def dats (_ : Fin 1) (c : Dev nD) : Dat τ (Elt Bits) Unit ℕ (UR sig nD τ) ℕ (cfgA T0 T1 hR) c where
  A w := (s₀ m ρ).mem (((cfgA T0 T1 hR).win w).arr.view.loc (c : Thread nD τ))
  after w t := match w with
    | ⟨0, _⟩ => iblk T0 T1 hR m ρ c (0 : Fin 5) t
    | ⟨1, _⟩ => iblk T0 T1 hR m ρ c (1 : Fin 5) t
    | ⟨2, _⟩ => iblk T0 T1 hR m ρ c (2 : Fin 5) t
    | ⟨3, _⟩ => iblk T0 T1 hR m ρ c (3 : Fin 5) t
    | ⟨4, _⟩ => outAt T0 T1 hR m ρ c (src T0 T1 hR t)
  Φ t := Phi T0 T1 hR m ρ c t
  q _ := fullShare
  owed _ := 0

theorem after0_0 (c : Dev nD) (t : Fin (cfgA T0 T1 hR).N) : (dats T0 T1 hR m ρ 0 c).after (0 : Fin 5) t = iblk T0 T1 hR m ρ c (0 : Fin 5) t := rfl
theorem after0_1 (c : Dev nD) (t : Fin (cfgA T0 T1 hR).N) : (dats T0 T1 hR m ρ 0 c).after (1 : Fin 5) t = iblk T0 T1 hR m ρ c (1 : Fin 5) t := rfl
theorem after0_2 (c : Dev nD) (t : Fin (cfgA T0 T1 hR).N) : (dats T0 T1 hR m ρ 0 c).after (2 : Fin 5) t = iblk T0 T1 hR m ρ c (2 : Fin 5) t := rfl
theorem after0_3 (c : Dev nD) (t : Fin (cfgA T0 T1 hR).N) : (dats T0 T1 hR m ρ 0 c).after (3 : Fin 5) t = iblk T0 T1 hR m ρ c (3 : Fin 5) t := rfl
theorem after0_4 (c : Dev nD) (t : Fin (cfgA T0 T1 hR).N) : (dats T0 T1 hR m ρ 0 c).after (4 : Fin 5) t = outAt T0 T1 hR m ρ c (src T0 T1 hR t) := rfl

/-- Input 0's buffer holds its block when the body runs. -/
theorem before0_0 (c : Dev nD) (t : Fin (cfgA T0 T1 hR).N) (d) : (dats T0 T1 hR m ρ 0 c).before (0 : Fin 5) t d = iblk T0 T1 hR m ρ c (0 : Fin 5) t :=
  ((dats T0 T1 hR m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input 1's buffer holds its block when the body runs. -/
theorem before0_1 (c : Dev nD) (t : Fin (cfgA T0 T1 hR).N) (d) : (dats T0 T1 hR m ρ 0 c).before (1 : Fin 5) t d = iblk T0 T1 hR m ρ c (1 : Fin 5) t :=
  ((dats T0 T1 hR m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input 2's buffer holds its block when the body runs. -/
theorem before0_2 (c : Dev nD) (t : Fin (cfgA T0 T1 hR).N) (d) : (dats T0 T1 hR m ρ 0 c).before (2 : Fin 5) t d = iblk T0 T1 hR m ρ c (2 : Fin 5) t :=
  ((dats T0 T1 hR m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input 3's buffer holds its block when the body runs. -/
theorem before0_3 (c : Dev nD) (t : Fin (cfgA T0 T1 hR).N) (d) : (dats T0 T1 hR m ρ 0 c).before (3 : Fin 5) t d = iblk T0 T1 hR m ρ c (3 : Fin 5) t :=
  ((dats T0 T1 hR m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- A point past the tiles in use computes no new block. -/
theorem src_idle (t : Fin (cfgA T0 T1 hR).N) (h : used T1 ≤ t.val) (ht : t.val - 1 < (cfgA T0 T1 hR).N) : src T0 T1 hR t = src T0 T1 hR ⟨t.val - 1, ht⟩ :=
  Fin.ext (by show min t.val (used T1 - 1) = min (t.val - 1) (used T1 - 1); omega)

/-- A point of a tile in use computes that tile's. -/
theorem src_live (t : Fin (cfgA T0 T1 hR).N) (h : t.val < used T1) : src T0 T1 hR t = t :=
  Fin.ext (by show min t.val (used T1 - 1) = t.val; omega)

/-- The output's buffer at a point past the tiles in use, as the point before left it. -/
theorem before0_4 (c : Dev nD) (t : Fin (cfgA T0 T1 hR).N) (h : used T1 ≤ t.val) (d) :
    (dats T0 T1 hR m ρ 0 c).before (4 : Fin 5) t d = outAt T0 T1 hR m ρ c (src T0 T1 hR t) := by
  have ht := lt_288 T0 T1 hR t
  have hp := hR.pos
  have hf : (cfgA T0 T1 hR).fresh (4 : Fin 5) t.val = false := by
    rw [fresh4 T0 T1 hR t.val (Nat.le_of_lt t.isLt)]; exact decide_eq_false (by omega)
  refine ((dats T0 T1 hR m ρ 0 c).before_out_traj (4 : Fin 5) rfl (fun _ _ => rfl) (fun t' _ hi _ => ?_) t.val t rfl d).trans ?_
  · rw [idle4 T0 T1 hR t', decide_eq_true_eq] at hi
    rw [after0_4, after0_4]
    exact congrArg (outAt T0 T1 hR m ρ c) (src_idle T0 T1 hR t' hi _)
  · rw [hf]
    show (dats T0 T1 hR m ρ 0 c).after (4 : Fin 5) ⟨t.val - 1, _⟩ = _
    rw [after0_4, ← src_idle T0 T1 hR t h]

/-- The body at a point, on its buffers. -/
abbrev bodyAt0 (t : Fin (cfgA T0 T1 hR).N) : Prog (TpuEff nD τ sig (Elt Bits) Λ₀ .tc) PUnit :=
  cc0_moe_experts (crd T0 T1 hR t) (Memref.whole main_arg1) (Memref.isWhole_whole _) (Memref.whole main_arg2) (Memref.isWhole_whole _) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) (Memref.whole cc0_scratch0) (Memref.isWhole_whole _) (Memref.whole cc0_scratch1) (Memref.isWhole_whole _) (Memref.whole cc0_scratch2) (Memref.isWhole_whole _)

/-- What a point that reads no weights anew finds in the scratch buffers: its own weights. -/
theorem kept (c : Dev nD) (t : Fin (cfgA T0 T1 hR).N) (hn : ¬Loads (crd T0 T1 hR t) T0) : ∃ h : t.castSucc.val ≠ 0,
    (iblk T0 T1 hR m ρ c (1 : Fin 5) (prv T0 T1 hR t.castSucc h) : S1x1024x512.Idx → Elt Bits .f32) = iblk T0 T1 hR m ρ c (1 : Fin 5) t
      ∧ (iblk T0 T1 hR m ρ c (2 : Fin 5) (prv T0 T1 hR t.castSucc h) : S1x1024x512.Idx → Elt Bits .f32) = iblk T0 T1 hR m ρ c (2 : Fin 5) t
      ∧ (iblk T0 T1 hR m ρ c (3 : Fin 5) (prv T0 T1 hR t.castSucc h) : S1x512x1024.Idx → Elt Bits .f32) = iblk T0 T1 hR m ρ c (3 : Fin 5) t := by
  rw [loads_iff, not_or, not_not] at hn
  have e : expert T0 (tile T0 T1 hR (prv T0 T1 hR t.castSucc hn.1)) = expert T0 (tile T0 T1 hR t) := congrArg BitVec.toNat hn.2.symm
  exact ⟨hn.1, iblk1_eq T0 T1 hR m ρ c _ _ e, iblk2_eq T0 T1 hR m ρ c _ _ e, iblk3_eq T0 T1 hR m ρ c _ _ e⟩

set_option maxHeartbeats 4000000 in
/-- The body keeps the proof data at every point. -/
theorem sound_body (c : Dev nD) (t : Fin (cfgA T0 T1 hR).N) :
    iprop((dats T0 T1 hR m ρ 0 c).Φ t.castSucc ∗ (dats T0 T1 hR m ρ 0 c).owesAt () t.castSucc
        ∗ (∃ d, owns (c : Thread nD τ) (ms0_0 T0 T1 hR t) fullShare ((dats T0 T1 hR m ρ 0 c).before (0 : Fin 5) t d))
        ∗ (∃ d, owns (c : Thread nD τ) (ms0_1 T0 T1 hR t) fullShare ((dats T0 T1 hR m ρ 0 c).before (1 : Fin 5) t d))
        ∗ (∃ d, owns (c : Thread nD τ) (ms0_2 T0 T1 hR t) fullShare ((dats T0 T1 hR m ρ 0 c).before (2 : Fin 5) t d))
        ∗ (∃ d, owns (c : Thread nD τ) (ms0_3 T0 T1 hR t) fullShare ((dats T0 T1 hR m ρ 0 c).before (3 : Fin 5) t d))
        ∗ (∃ d, owns (c : Thread nD τ) (ms0_4 T0 T1 hR t) fullShare ((dats T0 T1 hR m ρ 0 c).before (4 : Fin 5) t d)))
      ⊢ wp frame (wpE (defs₀ (F := Bits)) Variants.none c none) Set.univ (bodyAt0 T0 T1 hR t) fun _ =>
          iprop((dats T0 T1 hR m ρ 0 c).Φ t.succ ∗ (dats T0 T1 hR m ρ 0 c).owesAt () t.succ
            ∗ bigSep Finset.univ fun w : Fin (cfgA T0 T1 hR).W =>
                match (cfgA T0 T1 hR).idle w ((cfgA T0 T1 hR).grid.coords t) with
                | true =>
                  match ((cfgA T0 T1 hR).win w).flush t with
                  | false => iprop(∃ d, owns (c : Thread nD τ) (((cfgA T0 T1 hR).win w).stage ((cfgA T0 T1 hR).slots t w)) fullShare ((dats T0 T1 hR m ρ 0 c).before w t d))
                  | true => owns (c : Thread nD τ) (((cfgA T0 T1 hR).win w).stage ((cfgA T0 T1 hR).slots t w)) fullShare ((dats T0 T1 hR m ρ 0 c).after w t)
                | false => owns (c : Thread nD τ) (((cfgA T0 T1 hR).win w).stage ((cfgA T0 T1 hR).slots t w)) fullShare ((dats T0 T1 hR m ρ 0 c).after w t)) := by
  rw [bigSep_W0]
  have key : ∀ a0 a1 a2, (∀ h : t.castSucc.val ≠ 0, scM0_0.view.read (Elt Bits) a0 = k0_pay1 (F := Bits) (iblk T0 T1 hR m ρ c (1 : Fin 5) (prv T0 T1 hR t.castSucc h)))
      → (∀ h : t.castSucc.val ≠ 0, scM0_1.view.read (Elt Bits) a1 = k0_pay2 (F := Bits) (iblk T0 T1 hR m ρ c (2 : Fin 5) (prv T0 T1 hR t.castSucc h)))
      → (∀ h : t.castSucc.val ≠ 0, scM0_2.view.read (Elt Bits) a2 = k0_pay3 (F := Bits) (iblk T0 T1 hR m ρ c (3 : Fin 5) (prv T0 T1 hR t.castSucc h)))
      → (¬Loads (crd T0 T1 hR t) T0 → scM0_0.view.read (Elt Bits) a0 = k0_pay1 (F := Bits) (iblk T0 T1 hR m ρ c (1 : Fin 5) t)
        ∧ scM0_1.view.read (Elt Bits) a1 = k0_pay2 (F := Bits) (iblk T0 T1 hR m ρ c (2 : Fin 5) t)
        ∧ scM0_2.view.read (Elt Bits) a2 = k0_pay3 (F := Bits) (iblk T0 T1 hR m ρ c (3 : Fin 5) t)) := by
    intro a0 a1 a2 h0 h1 h2 hn
    obtain ⟨h, e1, e2, e3⟩ := kept T0 T1 hR m ρ c t hn
    exact ⟨(h0 h).trans (congrArg _ e1), (h1 h).trans (congrArg _ e2), (h2 h).trans (congrArg _ e3)⟩
  by_cases q : t.val < used T1
  · have i4 : (cfgA T0 T1 hR).idle (4 : Fin 5) ((cfgA T0 T1 hR).grid.coords t) = false := by rw [idle4]; exact decide_eq_false (by omega)
    rewrite [i4]
    simp only [after0_4, src_live T0 T1 hR t q]
    simp only [before0_0, before0_1, before0_2, before0_3, after0_0, after0_1, after0_2, after0_3]
    rewrite [show (dats T0 T1 hR m ρ 0 c).Φ t.succ = Phi T0 T1 hR m ρ c t.succ from rfl, show (dats T0 T1 hR m ρ 0 c).Φ t.castSucc = Phi T0 T1 hR m ρ c t.castSucc from rfl,
      show (dats T0 T1 hR m ρ 0 c).owesAt () t.succ = (dats T0 T1 hR m ρ 0 c).owesAt () t.castSucc from rfl]
    unfold Phi
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply (body_run c (crd T0 T1 hR t) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) T0 T1 (iblk T0 T1 hR m ρ c (0 : Fin 5) t) (iblk T0 T1 hR m ρ c (1 : Fin 5) t) (iblk T0 T1 hR m ρ c (2 : Fin 5) t) (iblk T0 T1 hR m ρ c (3 : Fin 5) t) a0 a1 a2 (key a0 a1 a2 ha0 ha1 ha2) ((dats T0 T1 hR m ρ 0 c).before (4 : Fin 5) t d4) (outAt T0 T1 hR m ρ c t) (fun _ => rfl) (fun h => absurd ((stores_iff T0 T1 hR t).2 q) h) _)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    iintro ⟨H0, H1, H2, H3, HT0, HT1, H4, ⟨%b0, %hb0, HS0⟩, ⟨%b1, %hb1, HS1⟩, ⟨%b2, %hb2, HS2⟩⟩
    isplitl [HS0 HS1 HS2 HT0 HT1]
    · isplitl [HS0]
      · iexists b0; isplitr; swap
        · iexact HS0
        · ipureintro; exact fun _ => hb0
      isplitl [HS1]
      · iexists b1; isplitr; swap
        · iexact HS1
        · ipureintro; exact fun _ => hb1
      isplitl [HS2]
      · iexists b2; isplitr; swap
        · iexact HS2
        · ipureintro; exact fun _ => hb2
      isplitl [HT0]; · iexact HT0
      iexact HT1
    isplitl [Ho]; · iexact Ho
    isplitl [H0]; · iexact H0
    isplitl [H1]; · iexact H1
    isplitl [H2]; · iexact H2
    isplitl [H3]; · iexact H3
    iexact H4
  · have i4 : (cfgA T0 T1 hR).idle (4 : Fin 5) ((cfgA T0 T1 hR).grid.coords t) = true := by rw [idle4]; exact decide_eq_true (by omega)
    have b4 : ∀ d, (dats T0 T1 hR m ρ 0 c).before (4 : Fin 5) t d = outAt T0 T1 hR m ρ c (src T0 T1 hR t) := before0_4 T0 T1 hR m ρ c t (by omega)
    rewrite [i4]
    simp only [after0_4, b4]
    simp only [before0_0, before0_1, before0_2, before0_3, after0_0, after0_1, after0_2, after0_3]
    rewrite [show (dats T0 T1 hR m ρ 0 c).Φ t.succ = Phi T0 T1 hR m ρ c t.succ from rfl, show (dats T0 T1 hR m ρ 0 c).Φ t.castSucc = Phi T0 T1 hR m ρ c t.castSucc from rfl,
      show (dats T0 T1 hR m ρ 0 c).owesAt () t.succ = (dats T0 T1 hR m ρ 0 c).owesAt () t.castSucc from rfl]
    unfold Phi
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply (body_run c (crd T0 T1 hR t) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) T0 T1 (iblk T0 T1 hR m ρ c (0 : Fin 5) t) (iblk T0 T1 hR m ρ c (1 : Fin 5) t) (iblk T0 T1 hR m ρ c (2 : Fin 5) t) (iblk T0 T1 hR m ρ c (3 : Fin 5) t) a0 a1 a2 (key a0 a1 a2 ha0 ha1 ha2) (outAt T0 T1 hR m ρ c (src T0 T1 hR t)) (outAt T0 T1 hR m ρ c (src T0 T1 hR t)) (fun h => absurd ((stores_iff T0 T1 hR t).1 h) q) (fun _ => rfl) _)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    iintro ⟨H0, H1, H2, H3, HT0, HT1, H4, ⟨%b0, %hb0, HS0⟩, ⟨%b1, %hb1, HS1⟩, ⟨%b2, %hb2, HS2⟩⟩
    isplitl [HS0 HS1 HS2 HT0 HT1]
    · isplitl [HS0]
      · iexists b0; isplitr; swap
        · iexact HS0
        · ipureintro; exact fun _ => hb0
      isplitl [HS1]
      · iexists b1; isplitr; swap
        · iexact HS1
        · ipureintro; exact fun _ => hb1
      isplitl [HS2]
      · iexists b2; isplitr; swap
        · iexact HS2
        · ipureintro; exact fun _ => hb2
      isplitl [HT0]; · iexact HT0
      iexact HT1
    isplitl [Ho]; · iexact Ho
    isplitl [H0]; · iexact H0
    isplitl [H1]; · iexact H1
    isplitl [H2]; · iexact H2
    isplitl [H3]; · iexact H3
    cases f4 : ((cfgA T0 T1 hR).win (4 : Fin 5)).flush t
    · iexists d4; iexact H4
    · iexact H4

/-- What the pipeline asks of the body, at every point. -/
theorem body_obligation (c : Dev nD) : BodyObligation (dats T0 T1 hR m ρ 0 c) (defs₀ (F := Bits)) Variants.none () Set.univ := fun t => by
  rw [bigSep_W0]
  exact sound_body T0 T1 hR m ρ c t

/-! ## The launch -/

/-- The launch's own element. -/
def u₀ : UR sig nD τ :=
  initOf (Pipeline.cells (pcs T0 T1 hR) ((launch0 (F := Bits)).cellOf_inj fun _ => adm T0 T1 hR))
    (Pipeline.launchToks (pcs T0 T1 hR) ((launch0 (F := Bits)).cellOf_inj fun _ => adm T0 T1 hR))

/-- Every array is held whole. -/
theorem share_eq (c : Dev nD) (w : Fin (cfgA T0 T1 hR).W) : (dats T0 T1 hR m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers. -/
theorem phi0_intro (c : Dev nD) :
    iprop(BI.emp ∗ Pipeline.prefHeld pre0 c (fun _ => fullShare.right) (adm T0 T1 hR).1 ∗ Pipeline.scopedRest spec0 c) ⊢ (dats T0 T1 hR m ρ 0 c).Φ 0 := by
  rw [prefHeld_eq, scopedRest0_eq, show (dats T0 T1 hR m ρ 0 c).Φ 0 = Phi T0 T1 hR m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; exact fun h => absurd rfl h
  isplitl [HS1]
  · iexists a1; isplitr; swap
    · iexact HS1
    · ipureintro; exact fun h => absurd rfl h
  isplitl [HS2]
  · iexists a2; isplitr; swap
    · iexact HS2
    · ipureintro; exact fun h => absurd rfl h
  isplitl [HT0]; · iexact HT0
  iexact HT1

/-- At the last point it gives the scratch buffers back. -/
theorem phiN_exit (c : Dev nD) : (dats T0 T1 hR m ρ 0 c).Φ (Fin.last (cfgA T0 T1 hR).N) ⊢ iprop(BI.emp ∗ Pipeline.scopedRest spec0 c) := by
  rw [scopedRest0_eq, show (dats T0 T1 hR m ρ 0 c).Φ (Fin.last (cfgA T0 T1 hR).N) = Phi T0 T1 hR m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- What a final state holds: every array its computed contents, every table its words. -/
def QC : PUnit × MemSt nD τ sig (Elt Bits) → Prop := fun r =>
  ∀ c : Dev nD, (∀ w : Fin (cfgA T0 T1 hR).W, r.2.mem (((cfgA T0 T1 hR).win w).arr.view.loc (c : Thread nD τ)) = (dats T0 T1 hR m ρ 0 c).arrAt w (cfgA T0 T1 hR).N)
    ∧ ∀ j, r.2.mem ((c : Thread nD τ).loc (pre0.ref j)) = (adm T0 T1 hR).1 j

/-- The tables in memory are the given ones. -/
theorem V_pre (h0 : ∀ c : Dev nD, m ((c : Thread nD τ).loc main_arg1) = T0) (h1 : ∀ c : Dev nD, m ((c : Thread nD τ).loc main_arg2) = T1) (c : Dev nD) (j : Fin 2) : m ((c : Thread nD τ).loc (pre0.ref j)) = (adm T0 T1 hR).1 j := by
  fin_cases j
  · exact h0 c
  · exact h1 c

set_option backward.isDefEq.respectTransparency.types false in
set_option maxHeartbeats 4000000 in
/-- From any memory whose tables are the given ones, every run ends, with each array at its computed contents and the
    semaphore counters at zero. -/
theorem run_main_quiescent (h0 : ∀ c : Dev nD, m ((c : Thread nD τ).loc main_arg1) = T0) (h1 : ∀ c : Dev nD, m ((c : Thread nD τ).loc main_arg2) = T1) : θ_run (defs (F := Bits)) (onTc (τ := τ) (main (F := Bits))) (s₀ m ρ) (fun r => QC T0 T1 hR m ρ r ∧ r.2.sem = fun _ => 0) :=
  Pipeline.θ_run_region_noSem_pf_quiescent pcfgs (fun _ => adm T0 T1 hR) (dats T0 T1 hR m ρ) () ((launch0 (F := Bits)).cellOf_inj fun _ => adm T0 T1 hR) (0 : Fin 1)
    (launch0 (F := Bits)).win.to₀ (launch0 (F := Bits)).pre EP defs₀ Variants.none m ρ main
    (hbody := fun c => (body_obligation T0 T1 hR m ρ c).loose) (hne := (launch0 (F := Bits)).block_pos)
    (harr := (launch0 (F := Bits)).arr_whole) (hstage := (launch0 (F := Bits)).stage_whole) (howed := fun _ _ => rfl)
    (u₀ := u₀ T0 T1 hR) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hR) (dats T0 T1 hR m ρ) 0 (launch0 (F := Bits)).win.arr_inj c (launch0 (F := Bits)).arr_whole
      (share_eq T0 T1 hR m ρ c) _ _ fun _ => rfl)
    (hpf := V_pre T0 T1 hR m h0 h1)
    (X := fun _ => iprop(emp)) (Y := fun _ => iprop(emp)) (Z := fun _ => iprop(emp))
    (hX := fun c => by rw [unscopedRestP0_eq]; iintro -; isplitr <;> iempintro)
    (hin := phi0_intro T0 T1 hR m ρ)
    (hout := phiN_exit T0 T1 hR m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (h0 : ∀ c : Dev nD, m ((c : Thread nD τ).loc main_arg1) = T0) (h1 : ∀ c : Dev nD, m ((c : Thread nD τ).loc main_arg2) = T1) : θ_run (defs (F := Bits)) (onTc (τ := τ) (main (F := Bits))) (s₀ m ρ) (QC T0 T1 hR m ρ) :=
  (θ_run defs _ _).mono (fun _ h => h.1) (run_main_quiescent T0 T1 hR m ρ h0 h1)

include hR in
/-- `frame` without the counters: the argument arrays end unchanged. -/
theorem unchanged (h0 : ∀ c : Dev nD, m ((c : Thread nD τ).loc main_arg1) = T0) (h1 : ∀ c : Dev nD, m ((c : Thread nD τ).loc main_arg2) = T1) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats T0 T1 hR m ρ 0 c).arrAt_in (0 : Fin 5) rfl _), ((h c).2 0).trans (h0 c).symm, ((h c).2 1).trans (h1 c).symm, ((h c).1 (1 : Fin 5)).trans ((dats T0 T1 hR m ρ 0 c).arrAt_in (1 : Fin 5) rfl _), ((h c).1 (2 : Fin 5)).trans ((dats T0 T1 hR m ρ 0 c).arrAt_in (2 : Fin 5) rfl _), ((h c).1 (3 : Fin 5)).trans ((dats T0 T1 hR m ρ 0 c).arrAt_in (3 : Fin 5) rfl _)⟩) (run_main T0 T1 hR m ρ h0 h1)

include hR in
/-- From any memory whose tables are the given ones: every run ends, nothing faults, the arguments end unchanged and the
    semaphore counters at zero. -/
theorem frame (h0 : ∀ c : Dev nD, m ((c : Thread nD τ).loc main_arg1) = T0) (h1 : ∀ c : Dev nD, m ((c : Thread nD τ).loc main_arg2) = T1) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T0 T1 hR m ρ h0 h1) ((θ_run defs _ _).mono (fun _ h => h.2) (run_main_quiescent T0 T1 hR m ρ h0 h1))

end Cert.Experts.Moe

end
-- ==== Proof.Moe.Claims.lean ====
/- The claims of the experts call: its frames, its reference's, and the equality of their results on the rows of the tiles
   in use. -/
module

public import proofs.«01_k».proof.Defs
public import proofs.«01_k».proof.Proof.Gen.Pre_routed
public import proofs.«01_k».proof.Proof.Gen.On_in_use
public import proofs.«01_k».proof.Proof.Moe.Value
public import proofs.«01_k».proof.Proof.Moe.Reference
public import proofs.«01_k».proof.Proof.Moe.Words
public import proofs.«01_k».proof.Proof.MoeBits.Frame

@[expose] public section

set_option maxRecDepth 16384

noncomputable section

namespace Cert.Moe.Claims

open Idealize.ShloMosaic Idealize.ShloMosaic.TcCoe Idealize.SL.Sem

/-- The precondition, read at the kernel's memory: the tables name experts and a count of tiles. -/
theorem routed_bits (m : (ℓ : Loc Cert.Experts.nD Cert.Experts.τ Cert.Experts.sig) → Buf (Elt Bits) ℓ) (h : Cert.Pre_Experts m) :
    Cert.Experts.Moe.Routed (m (((0 : Dev Cert.Experts.nD).tc : Thread Cert.Experts.nD Cert.Experts.τ).loc Cert.Experts.main_arg1)) (m (((0 : Dev Cert.Experts.nD).tc : Thread Cert.Experts.nD Cert.Experts.τ).loc Cert.Experts.main_arg2)) :=
  have w := routed_words _ _ _ _ _ _ (h 0)
  ⟨w.1, w.2.1, w.2.2⟩

/-- The same at the exact instance. -/
theorem routed_ideal (m : (ℓ : Loc Cert.ExpertsIdeal.nD Cert.ExpertsIdeal.τ Cert.ExpertsIdeal.sig) → Buf (Elt Ideal) ℓ) (h : Cert.Pre_ExpertsIdeal m) :
    Cert.ExpertsIdeal.Moe.Routed (m (((0 : Dev Cert.ExpertsIdeal.nD).tc : Thread Cert.ExpertsIdeal.nD Cert.ExpertsIdeal.τ).loc Cert.ExpertsIdeal.main_arg1)) (m (((0 : Dev Cert.ExpertsIdeal.nD).tc : Thread Cert.ExpertsIdeal.nD Cert.ExpertsIdeal.τ).loc Cert.ExpertsIdeal.main_arg2)) :=
  have w := routed_words _ _ _ _ _ _ (h 0)
  ⟨w.1, w.2.1, w.2.2⟩

/-- The kernel's frame: under the precondition every run ends, nothing faults and the arguments stay. -/
theorem frame_bits : Cert.quiescent_Experts := fun m g h =>
  Cert.Experts.Moe.frame _ _ (routed_bits m h) m g (fun c => by rw [Subsingleton.elim c 0]) (fun c => by rw [Subsingleton.elim c 0])

/-- The frame of its idealization. -/
theorem frame_ideal : Cert.quiescent_ExpertsIdeal := fun m g h =>
  Cert.ExpertsIdeal.Moe.frame _ _ (routed_ideal m h) m g (fun c => by rw [Subsingleton.elim c 0]) (fun c => by rw [Subsingleton.elim c 0])

/-- The reference's frame: a program of host operations leaves its arguments as they were and every counter at zero. -/
theorem frame_ref : Cert.quiescent_ExpertsReferenceIdeal := by
  intro m g _
  exact (θ_run _ _ _).mono (fun r h => ⟨fun c => (h c).2, sem_eq_zero_of_no_sems (by decide) r.2⟩) (Cert.Moe.Ref.run m g)

/-- The same under the precondition. -/
theorem frame_ref_routed : Cert.quiescent_ExpertsReferenceIdeal_pre_routed :=
  fun m g _ => frame_ref m g trivial

/-- The array both programs end with on the rows in use: the reference's, of the kernel's arguments. -/
abbrev result (m : (ℓ : Loc Cert.ExpertsIdeal.nD Cert.ExpertsIdeal.τ Cert.ExpertsIdeal.sig) → Buf (Elt Ideal) ℓ) (c : Dev Cert.ExpertsIdeal.nD) :
    Buf (Elt Ideal) ((c.tc : Thread Cert.ExpertsIdeal.nD Cert.ExpertsIdeal.τ).loc Cert.ExpertsIdeal.main_v0) :=
  Cert.Moe.Ref.whole (m ((c.tc : Thread Cert.ExpertsIdeal.nD Cert.ExpertsIdeal.τ).loc Cert.ExpertsIdeal.main_arg0))
    (m ((c.tc : Thread Cert.ExpertsIdeal.nD Cert.ExpertsIdeal.τ).loc Cert.ExpertsIdeal.main_arg1))
    (m ((c.tc : Thread Cert.ExpertsIdeal.nD Cert.ExpertsIdeal.τ).loc Cert.ExpertsIdeal.main_arg3))
    (m ((c.tc : Thread Cert.ExpertsIdeal.nD Cert.ExpertsIdeal.τ).loc Cert.ExpertsIdeal.main_arg4))
    (m ((c.tc : Thread Cert.ExpertsIdeal.nD Cert.ExpertsIdeal.τ).loc Cert.ExpertsIdeal.main_arg5))

/-- THE VALUE: on the rows of the tiles in use, the kernel's result and the reference's are the same. -/
theorem algebraic : Cert.algebraic_ExpertsIdeal_ExpertsReferenceIdeal_on_in_use := by
  intro m g m' g' hpre hag
  have hR := routed_ideal m hpre
  have h0 : ∀ c : Dev Cert.ExpertsIdeal.nD, m ((c.tc : Thread Cert.ExpertsIdeal.nD Cert.ExpertsIdeal.τ).loc Cert.ExpertsIdeal.main_arg1) = m (((0 : Dev Cert.ExpertsIdeal.nD).tc : Thread Cert.ExpertsIdeal.nD Cert.ExpertsIdeal.τ).loc Cert.ExpertsIdeal.main_arg1) :=
    fun c => by rw [Subsingleton.elim c 0]
  have h1 : ∀ c : Dev Cert.ExpertsIdeal.nD, m ((c.tc : Thread Cert.ExpertsIdeal.nD Cert.ExpertsIdeal.τ).loc Cert.ExpertsIdeal.main_arg2) = m (((0 : Dev Cert.ExpertsIdeal.nD).tc : Thread Cert.ExpertsIdeal.nD Cert.ExpertsIdeal.τ).loc Cert.ExpertsIdeal.main_arg2) :=
    fun c => by rw [Subsingleton.elim c 0]
  refine ⟨result m,
    (θ_run _ _ _).mono (fun r h c => ⟨fun i hi => ?_, h.2 c⟩) (θ_run_and (Cert.ExpertsIdeal.Moe.run_main _ _ hR m g h0 h1) (Cert.ExpertsIdeal.Moe.unchanged _ _ hR m g h0 h1)),
    (θ_run _ _ _).mono (fun r h c => ⟨fun i _ => ?_, (h c).2⟩) (Cert.Moe.Ref.run m' g')⟩
  · obtain ⟨s, b, rfl⟩ : ∃ (s : Fin 73728) (b : Fin 1024), i = ix2 s b := ⟨i 0, i 1, by funext a; fin_cases a <;> rfl⟩
    have hs := s.isLt
    have hu := mask_words _ _ _ _ _ _ s b (by rw [h1 c]; exact hR.le) hi
    rw [h1 c] at hu
    have he := hR.expert (⟨(s : ℕ) / 256, by omega⟩ : Fin 288)
    refine (congrFun ((h.1 c).1 (4 : Fin 5)) (ix2 s b)).trans ?_
    refine (Cert.ExpertsIdeal.Moe.final _ _ hR m g c s b ⟨(s : ℕ) / 256, by omega⟩ rfl hu ⟨_, Nat.lt_of_le_of_lt he (by decide)⟩ rfl).trans ?_
    exact (Cert.Moe.Ref.whole_at _ _ _ _ _ s b ⟨(s : ℕ) / 256, by omega⟩ rfl _ (by rw [h0 c]) (Nat.lt_of_le_of_lt he (by decide))).symm
  · obtain ⟨e0, e1, _, e3, e4, e5⟩ := hag c
    rw [(h c).1, e0, e1, e3, e4, e5]

end Cert.Moe.Claims

end
-- ==== Proof.Later.Body.lean ====
/- The body of the second layer's experts call at one grid point, at the exact instance, whichever of its two conditions hold: with the
   three weight blocks in their windows and — unless it reads them anew — already rounded in the scratch buffers, it leaves
   the scratch buffers holding the rounded blocks, and the tile's rows through the expert in the output window where the
   tile is in use. -/
module

public import proofs.«01_k».proof.Proof.Gen.LaterIdeal.Flash.Runs
public import Idealize.ShloMosaic.Lib.VecWindow

@[expose] public section

set_option maxRecDepth 16384

noncomputable section

namespace Cert.LaterIdeal.Moe

open Cert.LaterIdeal Cert.LaterIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The point reads the weights anew: it is the first, or its tile's expert is not the one of the tile before. -/
abbrev Loads (i : grid0.Coords) (T0 : S288.Idx → Elt Ideal .i32) : Prop :=
  (Scalar.cmpi .ne (Scalar.extui (Scalar.ori (Scalar.cmpi .eq (BitVec.ofNat 32 (i 0).val) 0#32) (Scalar.cmpi .ne (View.readAt (Elt Ideal) (tbM0_0).view (Rect.unit (s := S288) (k0_off1 i) S1.size (k0_off1_inb i)).toLoadRect T0 (Shape.Idx.first (numel1_S1.symm ▸ Nat.one_pos))) (View.readAt (Elt Ideal) (tbM0_0).view (Rect.unit (s := S288) (k0_off2 i) S1.size (k0_off2_inb i)).toLoadRect T0 (Shape.Idx.first (numel1_S1.symm ▸ Nat.one_pos)))))) 0#32) = 1#1

/-- The point's tile is in use. -/
abbrev Stores (i : grid0.Coords) (T1 : S1.Idx → Elt Ideal .i32) : Prop :=
  k0_cond2 i (View.readAt (Elt Ideal) (tbM0_1).view (Rect.unit (s := S1) ![0] S1.size inb_S1_S1_0).toLoadRect T1 (Shape.Idx.first (numel1_S1.symm ▸ Nat.one_pos))) = 1#1

/-- What the body leaves in the output window where the tile is in use. -/
def tileOut (x0 : S256x1024.Idx → Elt Ideal .bf16) (x1 x2 : S1x1024x512.Idx → Elt Ideal .f32) (x3 : S1x512x1024.Idx → Elt Ideal .f32) :
    S256x1024.Idx → Elt Ideal .bf16 := k0_pay4 (F := Ideal) x0 (k0_pay1 (F := Ideal) x1) (k0_pay2 (F := Ideal) x2) (k0_pay3 (F := Ideal) x3)

/-- A scratch buffer, held at contents that read `s`. -/
abbrev held {sh : Shape} {e : EltTy} (c : Dev nD) (m : Memref sig .tc .vmem sh e) (s : sh.Idx → Elt Ideal e) : sProp 𝕄 :=
  iprop(∃ b : Buf (Elt Ideal) (m.view.loc (c : Thread nD τ)), ⌜m.view.read (Elt Ideal) b = s⌝ ∗ (m.view.loc (c : Thread nD τ) ↦{fullShare} b))

section
variable (c : Dev nD) (i : grid0.Coords) (arg3 : Memref sig .tc .vmem S256x1024 .bf16) (harg3 : arg3.IsWhole)
  (arg4 : Memref sig .tc .vmem S1x1024x512 .f32) (harg4 : arg4.IsWhole) (arg5 : Memref sig .tc .vmem S1x1024x512 .f32) (harg5 : arg5.IsWhole)
  (arg6 : Memref sig .tc .vmem S1x512x1024 .f32) (harg6 : arg6.IsWhole) (arg7 : Memref sig .tc .vmem S256x1024 .bf16) (harg7 : arg7.IsWhole)
  (T0 : S288.Idx → Elt Ideal .i32) (T1 : S1.Idx → Elt Ideal .i32) (x0 : S256x1024.Idx → Elt Ideal .bf16)
  (x1 x2 : S1x1024x512.Idx → Elt Ideal .f32) (x3 : S1x512x1024.Idx → Elt Ideal .f32)
  (a0 : Buf (Elt Ideal) ((c : Thread nD τ).loc cc0_scratch0)) (a1 : Buf (Elt Ideal) ((c : Thread nD τ).loc cc0_scratch1))
  (a2 : Buf (Elt Ideal) ((c : Thread nD τ).loc cc0_scratch2))

/-- Reading the weights anew leaves the first scratch buffer holding the gate block, where the tile is in use. -/
theorem loadA0 (q0 : Loads i T0) (q1 : Stores i T1) : scM0_0.view.read (Elt Ideal) (kernelRun0_A c i arg3 harg3 arg4 harg4 arg5 harg5 arg6 harg6 arg7 harg7 T0 T1 x0 x1 x2 x3 q0 q1).2.1 = k0_pay1 (F := Ideal) x1 := by
  unfold kernelRun0_A; dsimp only; unfold kernelRun0_A.sl.HS0_1
  rw [show View.whole cc0_scratch0 = scM0_0.view from rfl, View.read_writes_full, View.readAt_full, View.read_rep]

/-- Reading the weights anew leaves the second scratch buffer holding the up block, where the tile is in use. -/
theorem loadA1 (q0 : Loads i T0) (q1 : Stores i T1) : scM0_1.view.read (Elt Ideal) (kernelRun0_A c i arg3 harg3 arg4 harg4 arg5 harg5 arg6 harg6 arg7 harg7 T0 T1 x0 x1 x2 x3 q0 q1).2.2.1 = k0_pay2 (F := Ideal) x2 := by
  unfold kernelRun0_A; dsimp only; unfold kernelRun0_A.sl.HS1_1
  rw [show View.whole cc0_scratch1 = scM0_1.view from rfl, View.read_writes_full, View.readAt_full, View.read_rep]

/-- Reading the weights anew leaves the third scratch buffer holding the down block, where the tile is in use. -/
theorem loadA2 (q0 : Loads i T0) (q1 : Stores i T1) : scM0_2.view.read (Elt Ideal) (kernelRun0_A c i arg3 harg3 arg4 harg4 arg5 harg5 arg6 harg6 arg7 harg7 T0 T1 x0 x1 x2 x3 q0 q1).2.2.2.1 = k0_pay3 (F := Ideal) x3 := by
  unfold kernelRun0_A; dsimp only; unfold kernelRun0_A.sl.HS2_1
  rw [show View.whole cc0_scratch2 = scM0_2.view from rfl, View.read_writes_full, View.readAt_full, View.read_rep]

/-- Reading the weights anew leaves the first scratch buffer holding the gate block, where the tile is not in use. -/
theorem loadC0 (q0 : Loads i T0) (q1 : ¬Stores i T1) : scM0_0.view.read (Elt Ideal) (kernelRun0_C c i arg3 harg3 arg4 harg4 arg5 harg5 arg6 harg6 arg7 harg7 T0 T1 x0 x1 x2 x3 q0 q1).1 = k0_pay1 (F := Ideal) x1 := by
  unfold kernelRun0_C; dsimp only; unfold kernelRun0_C.sl.HS0_1
  rw [show View.whole cc0_scratch0 = scM0_0.view from rfl, View.read_writes_full, View.readAt_full, View.read_rep]

/-- Reading the weights anew leaves the second scratch buffer holding the up block, where the tile is not in use. -/
theorem loadC1 (q0 : Loads i T0) (q1 : ¬Stores i T1) : scM0_1.view.read (Elt Ideal) (kernelRun0_C c i arg3 harg3 arg4 harg4 arg5 harg5 arg6 harg6 arg7 harg7 T0 T1 x0 x1 x2 x3 q0 q1).2.1 = k0_pay2 (F := Ideal) x2 := by
  unfold kernelRun0_C; dsimp only; unfold kernelRun0_C.sl.HS1_1
  rw [show View.whole cc0_scratch1 = scM0_1.view from rfl, View.read_writes_full, View.readAt_full, View.read_rep]

/-- Reading the weights anew leaves the third scratch buffer holding the down block, where the tile is not in use. -/
theorem loadC2 (q0 : Loads i T0) (q1 : ¬Stores i T1) : scM0_2.view.read (Elt Ideal) (kernelRun0_C c i arg3 harg3 arg4 harg4 arg5 harg5 arg6 harg6 arg7 harg7 T0 T1 x0 x1 x2 x3 q0 q1).2.2.1 = k0_pay3 (F := Ideal) x3 := by
  unfold kernelRun0_C; dsimp only; unfold kernelRun0_C.sl.HS2_1
  rw [show View.whole cc0_scratch2 = scM0_2.view from rfl, View.read_writes_full, View.readAt_full, View.read_rep]

/-- The store of a point that reads the weights anew is the tile's rows through the expert. -/
theorem storeA (q0 : Loads i T0) (q1 : Stores i T1) (f : arg7.view.ty.Contents (Elt Ideal)) :
    arg7.view.read (Elt Ideal) (arg7.view.writes (Elt Ideal) f (kernelRun0_A c i arg3 harg3 arg4 harg4 arg5 harg5 arg6 harg6 arg7 harg7 T0 T1 x0 x1 x2 x3 q0 q1).1) = tileOut x0 x1 x2 x3 := by
  unfold kernelRun0_A; dsimp only
  unfold kernelRun0_A.sl.HO4_1 kernelRun0_A.sl.v16 kernelRun0_A.sl.v18 kernelRun0_A.sl.v24 tileOut
  rw [View.read_writes_full, View.readAt_full, View.read_rep]
  unfold kernelRun0_A.sl.HS0_1 kernelRun0_A.sl.HS1_1 kernelRun0_A.sl.HS2_1
  rw [View.readCov_full, View.readCov_full, View.readCov_full]
  rw [View.readAt_full, View.read_rep, View.readAt_full, View.read_rep, View.readAt_full, View.read_rep]

/-- So is the store of a point that finds them rounded already. -/
theorem storeB (q0 : ¬Loads i T0) (q1 : Stores i T1) (f : arg7.view.ty.Contents (Elt Ideal)) (h0 : scM0_0.view.read (Elt Ideal) a0 = k0_pay1 (F := Ideal) x1)
    (h1 : scM0_1.view.read (Elt Ideal) a1 = k0_pay2 (F := Ideal) x2) (h2 : scM0_2.view.read (Elt Ideal) a2 = k0_pay3 (F := Ideal) x3) :
    arg7.view.read (Elt Ideal) (arg7.view.writes (Elt Ideal) f (kernelRun0_B c i arg3 harg3 arg4 harg4 arg5 harg5 arg6 harg6 arg7 harg7 T0 T1 x0 x1 x2 x3 a0 a1 a2 q0 q1).1) = tileOut x0 x1 x2 x3 := by
  unfold kernelRun0_B; dsimp only
  unfold kernelRun0_B.sl.HO4_1 tileOut
  rw [View.read_writes_full, View.readAt_full, View.read_rep, View.readAt_full, View.readAt_full, View.readAt_full, h0, h1, h2]

/-- A point that finds them rounded already leaves the first scratch buffer be, -/
theorem keepB0 (q0 : ¬Loads i T0) (q1 : Stores i T1) : (kernelRun0_B c i arg3 harg3 arg4 harg4 arg5 harg5 arg6 harg6 arg7 harg7 T0 T1 x0 x1 x2 x3 a0 a1 a2 q0 q1).2.1 = a0 := by unfold kernelRun0_B; rfl

/-- the second, -/
theorem keepB1 (q0 : ¬Loads i T0) (q1 : Stores i T1) : (kernelRun0_B c i arg3 harg3 arg4 harg4 arg5 harg5 arg6 harg6 arg7 harg7 T0 T1 x0 x1 x2 x3 a0 a1 a2 q0 q1).2.2.1 = a1 := by unfold kernelRun0_B; rfl

/-- and the third, -/
theorem keepB2 (q0 : ¬Loads i T0) (q1 : Stores i T1) : (kernelRun0_B c i arg3 harg3 arg4 harg4 arg5 harg5 arg6 harg6 arg7 harg7 T0 T1 x0 x1 x2 x3 a0 a1 a2 q0 q1).2.2.2.1 = a2 := by unfold kernelRun0_B; rfl

/-- also where the tile is not in use: the first, -/
theorem keepD0 (q0 : ¬Loads i T0) (q1 : ¬Stores i T1) : (kernelRun0_D c i arg3 harg3 arg4 harg4 arg5 harg5 arg6 harg6 arg7 harg7 T0 T1 x0 x1 x2 x3 a0 a1 a2 q0 q1).1 = a0 := by unfold kernelRun0_D; rfl

/-- the second, -/
theorem keepD1 (q0 : ¬Loads i T0) (q1 : ¬Stores i T1) : (kernelRun0_D c i arg3 harg3 arg4 harg4 arg5 harg5 arg6 harg6 arg7 harg7 T0 T1 x0 x1 x2 x3 a0 a1 a2 q0 q1).2.1 = a1 := by unfold kernelRun0_D; rfl

/-- and the third. -/
theorem keepD2 (q0 : ¬Loads i T0) (q1 : ¬Stores i T1) : (kernelRun0_D c i arg3 harg3 arg4 harg4 arg5 harg5 arg6 harg6 arg7 harg7 T0 T1 x0 x1 x2 x3 a0 a1 a2 q0 q1).2.2.1 = a2 := by unfold kernelRun0_D; rfl

set_option maxHeartbeats 2000000 in
/-- The body at a point that reads the weights anew, its tile in use. -/
theorem bodyA (q0 : Loads i T0) (q1 : Stores i T1) (d : S256x1024.Idx → Elt Ideal .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare (tileOut x0 x1 x2 x3)
        ∗ held c scM0_0 (k0_pay1 (F := Ideal) x1) ∗ held c scM0_1 (k0_pay2 (F := Ideal) x2) ∗ held c scM0_2 (k0_pay3 (F := Ideal) x3)) -∗ K ⟨⟩))
      ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_A c i arg3 harg3 arg4 harg4 arg5 harg5 arg6 harg6 arg7 harg7 T0 T1 x0 x1 x2 x3 q0 q1).2.2.2.2 a0 a1 a2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists d; iexact H4
  isplitl [HS0]; · iexact HS0
  isplitl [HS1]; · iexact HS1
  isplitl [HS2]; · iexact HS2
  iintro ⟨H0, H1, H2, H3, HT0, HT1, ⟨%f, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact storeA c i arg3 harg3 arg4 harg4 arg5 harg5 arg6 harg6 arg7 harg7 T0 T1 x0 x1 x2 x3 q0 q1 f
  isplitl [HS0]
  · iexists _; isplitr; swap
    · iexact HS0
    · ipureintro; exact loadA0 c i arg3 harg3 arg4 harg4 arg5 harg5 arg6 harg6 arg7 harg7 T0 T1 x0 x1 x2 x3 q0 q1
  isplitl [HS1]
  · iexists _; isplitr; swap
    · iexact HS1
    · ipureintro; exact loadA1 c i arg3 harg3 arg4 harg4 arg5 harg5 arg6 harg6 arg7 harg7 T0 T1 x0 x1 x2 x3 q0 q1
  iexists _; isplitr; swap
  · iexact HS2
  · ipureintro; exact loadA2 c i arg3 harg3 arg4 harg4 arg5 harg5 arg6 harg6 arg7 harg7 T0 T1 x0 x1 x2 x3 q0 q1

set_option maxHeartbeats 2000000 in
/-- The body at a point that finds the weights rounded already, its tile in use. -/
theorem bodyB (q0 : ¬Loads i T0) (q1 : Stores i T1)
    (h0 : scM0_0.view.read (Elt Ideal) a0 = k0_pay1 (F := Ideal) x1) (h1 : scM0_1.view.read (Elt Ideal) a1 = k0_pay2 (F := Ideal) x2)
    (h2 : scM0_2.view.read (Elt Ideal) a2 = k0_pay3 (F := Ideal) x3) (d : S256x1024.Idx → Elt Ideal .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare (tileOut x0 x1 x2 x3)
        ∗ held c scM0_0 (k0_pay1 (F := Ideal) x1) ∗ held c scM0_1 (k0_pay2 (F := Ideal) x2) ∗ held c scM0_2 (k0_pay3 (F := Ideal) x3)) -∗ K ⟨⟩))
      ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_B c i arg3 harg3 arg4 harg4 arg5 harg5 arg6 harg6 arg7 harg7 T0 T1 x0 x1 x2 x3 a0 a1 a2 q0 q1).2.2.2.2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists d; iexact H4
  isplitl [HS0]; · iexact HS0
  isplitl [HS1]; · iexact HS1
  isplitl [HS2]; · iexact HS2
  iintro ⟨H0, H1, H2, H3, HT0, HT1, ⟨%f, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact storeB c i arg3 harg3 arg4 harg4 arg5 harg5 arg6 harg6 arg7 harg7 T0 T1 x0 x1 x2 x3 a0 a1 a2 q0 q1 f h0 h1 h2
  isplitl [HS0]
  · iexists _; isplitr; swap
    · iexact HS0
    · ipureintro; exact (congrArg _ (keepB0 c i arg3 harg3 arg4 harg4 arg5 harg5 arg6 harg6 arg7 harg7 T0 T1 x0 x1 x2 x3 a0 a1 a2 q0 q1)).trans h0
  isplitl [HS1]
  · iexists _; isplitr; swap
    · iexact HS1
    · ipureintro; exact (congrArg _ (keepB1 c i arg3 harg3 arg4 harg4 arg5 harg5 arg6 harg6 arg7 harg7 T0 T1 x0 x1 x2 x3 a0 a1 a2 q0 q1)).trans h1
  iexists _; isplitr; swap
  · iexact HS2
  · ipureintro; exact (congrArg _ (keepB2 c i arg3 harg3 arg4 harg4 arg5 harg5 arg6 harg6 arg7 harg7 T0 T1 x0 x1 x2 x3 a0 a1 a2 q0 q1)).trans h2

set_option maxHeartbeats 2000000 in
/-- The body at a point that reads the weights anew, its tile not in use. -/
theorem bodyC (q0 : Loads i T0) (q1 : ¬Stores i T1) (d : S256x1024.Idx → Elt Ideal .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare d
        ∗ held c scM0_0 (k0_pay1 (F := Ideal) x1) ∗ held c scM0_1 (k0_pay2 (F := Ideal) x2) ∗ held c scM0_2 (k0_pay3 (F := Ideal) x3)) -∗ K ⟨⟩))
      ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_C c i arg3 harg3 arg4 harg4 arg5 harg5 arg6 harg6 arg7 harg7 T0 T1 x0 x1 x2 x3 q0 q1).2.2.2 d a0 a1 a2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]; · iexact H4
  isplitl [HS0]
  · iexists _; isplitr; swap
    · iexact HS0
    · ipureintro; exact loadC0 c i arg3 harg3 arg4 harg4 arg5 harg5 arg6 harg6 arg7 harg7 T0 T1 x0 x1 x2 x3 q0 q1
  isplitl [HS1]
  · iexists _; isplitr; swap
    · iexact HS1
    · ipureintro; exact loadC1 c i arg3 harg3 arg4 harg4 arg5 harg5 arg6 harg6 arg7 harg7 T0 T1 x0 x1 x2 x3 q0 q1
  iexists _; isplitr; swap
  · iexact HS2
  · ipureintro; exact loadC2 c i arg3 harg3 arg4 harg4 arg5 harg5 arg6 harg6 arg7 harg7 T0 T1 x0 x1 x2 x3 q0 q1

set_option maxHeartbeats 2000000 in
/-- The body at a point that finds the weights rounded already, its tile not in use. -/
theorem bodyD (q0 : ¬Loads i T0) (q1 : ¬Stores i T1)
    (h0 : scM0_0.view.read (Elt Ideal) a0 = k0_pay1 (F := Ideal) x1) (h1 : scM0_1.view.read (Elt Ideal) a1 = k0_pay2 (F := Ideal) x2)
    (h2 : scM0_2.view.read (Elt Ideal) a2 = k0_pay3 (F := Ideal) x3) (d : S256x1024.Idx → Elt Ideal .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare d
        ∗ held c scM0_0 (k0_pay1 (F := Ideal) x1) ∗ held c scM0_1 (k0_pay2 (F := Ideal) x2) ∗ held c scM0_2 (k0_pay3 (F := Ideal) x3)) -∗ K ⟨⟩))
      ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_D c i arg3 harg3 arg4 harg4 arg5 harg5 arg6 harg6 arg7 harg7 T0 T1 x0 x1 x2 x3 a0 a1 a2 q0 q1).2.2.2 d K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]; · iexact H4
  isplitl [HS0]
  · iexists _; isplitr; swap
    · iexact HS0
    · ipureintro; exact (congrArg _ (keepD0 c i arg3 harg3 arg4 harg4 arg5 harg5 arg6 harg6 arg7 harg7 T0 T1 x0 x1 x2 x3 a0 a1 a2 q0 q1)).trans h0
  isplitl [HS1]
  · iexists _; isplitr; swap
    · iexact HS1
    · ipureintro; exact (congrArg _ (keepD1 c i arg3 harg3 arg4 harg4 arg5 harg5 arg6 harg6 arg7 harg7 T0 T1 x0 x1 x2 x3 a0 a1 a2 q0 q1)).trans h1
  iexists _; isplitr; swap
  · iexact HS2
  · ipureintro; exact (congrArg _ (keepD2 c i arg3 harg3 arg4 harg4 arg5 harg5 arg6 harg6 arg7 harg7 T0 T1 x0 x1 x2 x3 a0 a1 a2 q0 q1)).trans h2

/-- THE BODY AT A POINT, on any staging buffers: see the head of the module. -/
theorem body_run (hk : ¬Loads i T0 → scM0_0.view.read (Elt Ideal) a0 = k0_pay1 (F := Ideal) x1 ∧ scM0_1.view.read (Elt Ideal) a1 = k0_pay2 (F := Ideal) x2
      ∧ scM0_2.view.read (Elt Ideal) a2 = k0_pay3 (F := Ideal) x3) (d e : S256x1024.Idx → Elt Ideal .bf16)
    (he : Stores i T1 → e = tileOut x0 x1 x2 x3) (he' : ¬Stores i T1 → e = d) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare e
        ∗ held c scM0_0 (k0_pay1 (F := Ideal) x1) ∗ held c scM0_1 (k0_pay2 (F := Ideal) x2) ∗ held c scM0_2 (k0_pay3 (F := Ideal) x3)) -∗ K ⟨⟩))
      ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  by_cases q0 : Loads i T0 <;> by_cases q1 : Stores i T1
  · rw [he q1]; exact bodyA c i arg3 harg3 arg4 harg4 arg5 harg5 arg6 harg6 arg7 harg7 T0 T1 x0 x1 x2 x3 a0 a1 a2 q0 q1 d K
  · rw [he' q1]; exact bodyC c i arg3 harg3 arg4 harg4 arg5 harg5 arg6 harg6 arg7 harg7 T0 T1 x0 x1 x2 x3 a0 a1 a2 q0 q1 d K
  · rw [he q1]; exact bodyB c i arg3 harg3 arg4 harg4 arg5 harg5 arg6 harg6 arg7 harg7 T0 T1 x0 x1 x2 x3 a0 a1 a2 q0 q1 (hk q0).1 (hk q0).2.1 (hk q0).2.2 d K
  · rw [he' q1]; exact bodyD c i arg3 harg3 arg4 harg4 arg5 harg5 arg6 harg6 arg7 harg7 T0 T1 x0 x1 x2 x3 a0 a1 a2 q0 q1 (hk q0).1 (hk q0).2.1 (hk q0).2.2 d K

end

end Cert.LaterIdeal.Moe

end
-- ==== Proof.Later.Tables.lean ====
/- The two tables of the second layer's experts call — every tile's expert and the number of tiles in use — and what the kernel's scalar
   code makes of them: when a point reads its weights anew, when its tile is in use, which block of each array its windows
   hold. For all tables within the stated bounds at once. -/
module

public import proofs.«01_k».proof.Proof.Gen.LaterIdeal.Flash.Pins
public import proofs.«01_k».proof.Proof.Gen.LaterIdeal.Launch
public import Idealize.ShloMosaic.Lib.Pointwise
public import Idealize.ShloMosaic.Lib.Affine
public import Idealize.ShloMosaic.Lib.Pipeline.Kit
public import Idealize.ShloMosaic.Lib.Pipeline.TableIdle
public import Idealize.ShloMosaic.PureOps.Ideal

@[expose] public section

set_option maxRecDepth 16384

noncomputable section

namespace Cert.LaterIdeal.Moe

open Cert.LaterIdeal Cert.LaterIdeal.Gen
open Idealize.ShloMosaic
open Idealize.ShloMosaic.TcCoe
open Idealize.ShloMosaic.Pipeline (Dat Cfg Window)

/-- The tables' contents, as the pipeline takes them. -/
def tabs (T0 : S288.Idx → BitVec 32) (T1 : S1.Idx → BitVec 32) : pre0.Contents (Elt Ideal) :=
  fun | ⟨0, _⟩ => T0 | ⟨1, _⟩ => T1 | ⟨_ + 2, h⟩ => absurd h (by simp)

/-- The number of tiles in use. -/
def used (T1 : S1.Idx → BitVec 32) : ℕ := (T1 (ix1 (0 : Fin 1))).toNat

/-- Every tile has one of the 32 experts, and between one and all of the tiles are in use. -/
structure Routed (T0 : S288.Idx → BitVec 32) (T1 : S1.Idx → BitVec 32) : Prop where
  expert : ∀ k : Fin 288, (T0 (ix1 k)).toNat ≤ 31
  pos : 1 ≤ used T1
  le : used T1 ≤ 288

/-- A grid coordinate as a word. -/
theorem toNat_small {n : ℕ} (hn : n < 288) : (BitVec.ofNat 32 n).toNat = n := by rw [BitVec.toNat_ofNat]; omega

/-- Signed comparison of a grid coordinate with a word that is not negative. -/
theorem slt_small {n : ℕ} (hn : n < 288) {v : BitVec 32} (hv : v.toNat ≤ 288) : (BitVec.ofNat 32 n).slt v = decide (n < v.toNat) := by
  rw [BitVec.slt, BitVec.toInt_eq_toNat_of_lt (by rw [toNat_small hn]; omega), BitVec.toInt_eq_toNat_of_lt (by omega), toNat_small hn]
  simp only [Nat.cast_lt]

/-- The index map of the rows: the tile, or the last in use. -/
theorem min_small {n : ℕ} (hn : n < 288) {v : BitVec 32} (h1 : 1 ≤ v.toNat) (hv : v.toNat ≤ 288) :
    (Scalar.minsi (BitVec.ofNat 32 n) (Scalar.subi v 1#32)).toNat = min n (v.toNat - 1) := by
  have hs : (Scalar.subi v 1#32).toNat = v.toNat - 1 := by
    show (v - 1#32).toNat = _
    rw [BitVec.toNat_sub_of_le (by rw [BitVec.le_def]; exact h1)]; rfl
  show (if (BitVec.ofNat 32 n).slt (Scalar.subi v 1#32) = true then BitVec.ofNat 32 n else Scalar.subi v 1#32).toNat = _
  rw [slt_small hn (by omega), hs]
  simp only [decide_eq_true_eq]
  split
  · rw [toNat_small hn]; omega
  · rw [hs]; omega

/-- The tile before, the first tile for the first. -/
theorem before_small {n : ℕ} (hn : n < 288) : (Scalar.maxsi (Scalar.subi (BitVec.ofNat 32 n) 1#32) 0#32).toNat = n - 1 := by
  rcases Nat.eq_zero_or_pos n with rfl | hp
  · decide
  · have hs : (Scalar.subi (BitVec.ofNat 32 n) 1#32).toNat = n - 1 := by
      show (BitVec.ofNat 32 n - 1#32).toNat = _
      rw [BitVec.toNat_sub_of_le (by rw [BitVec.le_def, toNat_small hn]; exact hp), toNat_small hn]; rfl
    rw [Scalar.maxsi_zero_of_nonneg (by rw [hs]; omega), hs]

/-- The grid's one coordinate at a point is the point. -/
theorem coord_val (t : Fin grid0.N) : ((grid0.coords t) 0).val = t.val := by
  rw [Pipeline.Grid.coords_val t (0 : Fin 1) (S := 1) (B := 288) (by decide) rfl]
  have := t.isLt; have := N_0; omega

/-- An array of one element has one index. -/
theorem one_idx (x y : S1.Idx) : x = y := by
  funext a
  fin_cases a
  apply Fin.ext
  have h1 : (x 0).val < 1 := (x 0).isLt
  have h2 : (y 0).val < 1 := (y 0).isLt
  show (x 0).val = (y 0).val
  omega

/-- A word of the first table, read where the program reads it. -/
theorem read_tab0 (T0 : S288.Idx → BitVec 32) (f : Fin 1 → ℕ) (inb : ∀ a, f a + S1.size a ≤ S288.size a) (h1 : S1.numel = 1) (k : Fin 288)
    (hk : f 0 = k.val) : View.readAt (Elt Ideal) (tbM0_0).view (Rect.unit (s := S288) f S1.size inb).toLoadRect T0 (Shape.Idx.first (h1.symm ▸ Nat.one_pos))
      = T0 (ix1 k) := by
  rw [View.readAt_apply]
  refine congrArg T0 (funext fun a => ?_)
  fin_cases a
  apply Fin.ext
  show f 0 + 1 * _ = k.val
  rw [hk]
  have : ∀ x : S1.Idx, (x 0).val = 0 := fun x => by have := (x 0).isLt; change (x 0).val < 1 at this; omega
  simp [this]

/-- The word of the second. -/
theorem read_tab1 (T1 : S1.Idx → BitVec 32) (inb : ∀ a, (![0] : Fin 1 → ℕ) a + S1.size a ≤ S1.size a) (h1 : S1.numel = 1) :
    View.readAt (Elt Ideal) (tbM0_1).view (Rect.unit (s := S1) ![0] S1.size inb).toLoadRect T1 (Shape.Idx.first (h1.symm ▸ Nat.one_pos))
      = T1 (ix1 (0 : Fin 1)) := by
  rw [View.readAt_apply]
  exact congrArg T1 (one_idx _ _)

section
variable (T0 : S288.Idx → BitVec 32) (T1 : S1.Idx → BitVec 32) (hR : Routed T0 T1)

/-- The expert of a tile, among those of both layers. -/
abbrev expert (T0 : S288.Idx → BitVec 32) (k : Fin 288) : ℕ := 32 + (T0 (ix1 k)).toNat

/-- It is what the index maps add up. -/
theorem expert_word {w : BitVec 32} (h : w.toNat ≤ 31) : (Scalar.addi 32#32 w).toNat = 32 + w.toNat := by
  show (32#32 + w).toNat = _
  rw [BitVec.toNat_add, show (32#32 : BitVec 32).toNat = 32 from rfl]
  omega

/-- The block of rows at a point. -/
theorem map0 (hR : Routed T0 T1) (i : grid0.Coords) :
    cc0_transform_0 (F := Ideal) inb_S1_S1_0 numel1_S1 (tabs T0 T1) i = ![min (i 0).val (used T1 - 1), 0] := by
  have e : (tabs T0 T1).at 1 (Rect.unit (s := S1) ![0] S1.size inb_S1_S1_0) numel1_S1 = T1 (ix1 (0 : Fin 1)) := congrArg T1 (one_idx _ _)
  unfold cc0_transform_0
  simp only [e]
  rw [min_small (i 0).isLt hR.pos hR.le]
  rfl

/-- The block of the result at a point: the same. -/
theorem map4 (hR : Routed T0 T1) (i : grid0.Coords) :
    cc0_transform_4 (F := Ideal) inb_S1_S1_0 numel1_S1 (tabs T0 T1) i = ![min (i 0).val (used T1 - 1), 0] := by
  have e : (tabs T0 T1).at 1 (Rect.unit (s := S1) ![0] S1.size inb_S1_S1_0) numel1_S1 = T1 (ix1 (0 : Fin 1)) := congrArg T1 (one_idx _ _)
  unfold cc0_transform_4
  simp only [e]
  rw [min_small (i 0).isLt hR.pos hR.le]
  rfl

/-- A word of the first table, as the index maps read it. -/
theorem word0 (i : grid0.Coords) (inb : ∀ a, (![(Scalar.indexCast (BitVec.ofNat 32 (i 0).val)).toNat] : Fin 1 → ℕ) a + S1.size a ≤ S288.size a) :
    (tabs T0 T1).at 0 (Rect.unit (s := S288) ![(Scalar.indexCast (BitVec.ofNat 32 (i 0).val)).toNat] S1.size inb) numel1_S1 = T0 (ix1 (i 0)) := by
  refine congrArg T0 (funext fun a => ?_)
  fin_cases a
  apply Fin.ext
  show (BitVec.ofNat 32 (i 0).val).toNat + 1 * _ = (i 0).val
  have hi : (i 0).val < 288 := (i 0).isLt
  rw [toNat_small hi]
  have e : ∀ x : S1.Idx, (x 0).val = 0 := fun x => by have := (x 0).isLt; change (x 0).val < 1 at this; omega
  exact (congrArg (fun z => (i 0).val + 1 * z) (e (Shape.Idx.first (numel1_S1.symm ▸ Nat.one_pos)))).trans (by simp)

/-- The block of the gate weights at a point. -/
theorem map1 (hR : Routed T0 T1) (i : grid0.Coords) : cc0_transform_1 (F := Ideal) k0_off1_inb numel1_S1 (tabs T0 T1) i = ![expert T0 (i 0), 0, 0] := by
  refine (congrArg (fun w : BitVec 32 => (![(Scalar.addi 32#32 w).toNat, 0, 0] : Fin 3 → ℕ)) (word0 T0 T1 i (k0_off1_inb i))).trans ?_
  rw [expert_word (hR.expert (i 0))]

/-- Of the up weights. -/
theorem map2 (hR : Routed T0 T1) (i : grid0.Coords) : cc0_transform_2 (F := Ideal) k0_off1_inb numel1_S1 (tabs T0 T1) i = ![expert T0 (i 0), 0, 0] := map1 T0 T1 hR i

/-- Of the down weights. -/
theorem map3 (hR : Routed T0 T1) (i : grid0.Coords) : cc0_transform_3 (F := Ideal) k0_off1_inb numel1_S1 (tabs T0 T1) i = ![expert T0 (i 0), 0, 0] := map1 T0 T1 hR i

/-- Every block lies inside its array. -/
theorem tabs_ok (hR : Routed T0 T1) : ok0 (F := Ideal) (tabs T0 T1) := by
  have h1 := hR.pos
  have h2 := hR.le
  have b : ∀ i : grid0.Coords, ∀ a, ((![min (i 0).val (used T1 - 1), 0] : Fin 2 → ℕ) a + 1) * S256x1024.size a ≤ S73728x1024.size a := by
    intro i a
    have hi : (i 0).val < 288 := (i 0).isLt
    fin_cases a
    · show (min (i 0).val (used T1 - 1) + 1) * 256 ≤ 73728; omega
    · show (0 + 1) * 1024 ≤ 1024; omega
  have w : ∀ i : grid0.Coords, ∀ a, ((![expert T0 (i 0), 0, 0] : Fin 3 → ℕ) a + 1) * S1x1024x512.size a ≤ S64x1024x512.size a := by
    intro i a
    have hi := hR.expert (i 0)
    fin_cases a
    · show (32 + (T0 (ix1 (i 0))).toNat + 1) * 1 ≤ 64; omega
    · show (0 + 1) * 1024 ≤ 1024; omega
    · show (0 + 1) * 512 ≤ 512; omega
  have v : ∀ i : grid0.Coords, ∀ a, ((![expert T0 (i 0), 0, 0] : Fin 3 → ℕ) a + 1) * S1x512x1024.size a ≤ S64x512x1024.size a := by
    intro i a
    have hi := hR.expert (i 0)
    fin_cases a
    · show (32 + (T0 (ix1 (i 0))).toNat + 1) * 1 ≤ 64; omega
    · show (0 + 1) * 512 ≤ 512; omega
    · show (0 + 1) * 1024 ≤ 1024; omega
  refine ⟨fun i => ⟨?_, .inr (Affine.block_words_dvd (s := S73728x1024) (p := EltTy.packing .bf16) (by decide) (by decide))⟩,
    fun i => ⟨?_, .inl rfl⟩, fun i => ⟨?_, .inl rfl⟩, fun i => ⟨?_, .inl rfl⟩,
    fun i => ⟨?_, .inr (Affine.block_words_dvd (s := S73728x1024) (p := EltTy.packing .bf16) (by decide) (by decide))⟩⟩
  · rw [map0 T0 T1 hR]; exact b i
  · rw [map1 T0 T1 hR]; exact w i
  · rw [map2 T0 T1 hR]; exact w i
  · rw [map3 T0 T1 hR]; exact v i
  · rw [map4 T0 T1 hR]; exact b i

/-- The tables, admissible. -/
def adm (hR : Routed T0 T1) : (pcfg0 (F := Ideal)).Adm := ⟨tabs T0 T1, tabs_ok T0 T1 hR⟩

/-- The pipeline at them. -/
abbrev cfgA (hR : Routed T0 T1) : Pipeline.Cfg sig Λ₀ := cfg0 (F := Ideal) (adm T0 T1 hR)

/-- The program's pipelines. -/
abbrev pcs (hR : Routed T0 T1) : Fin 1 → Pipeline.Cfg sig Λ₀ := Pipeline.pin (pcfgs (F := Ideal)) fun _ => adm T0 T1 hR

/-- The output window's block at a point. -/
theorem index4 (t : Fin (cfgA T0 T1 hR).N) : ((cfgA T0 T1 hR).win (4 : Fin 5)).index t = ![min t.val (used T1 - 1), 0] := by
  refine (map4 T0 T1 hR (grid0.coords t)).trans ?_
  rw [coord_val t]

/-- The output's block is written back at every tile in use but the last, and at the last point. -/
theorem flush4 (t : Fin (cfgA T0 T1 hR).N) : ((cfgA T0 T1 hR).win (4 : Fin 5)).flush t = decide (t.val + 1 < used T1 ∨ t.val + 1 = 288) := by
  have hN : (cfgA T0 T1 hR).grid.N = 288 := N_0
  have ht : t.val < 288 := lt_of_lt_of_eq t.isLt hN
  have h1 := hR.pos
  have h2 := hR.le
  rw [Pipeline.Window.flush_eq_flushF]
  unfold Pipeline.Window.flushF
  rw [show ((cfgA T0 T1 hR).win (4 : Fin 5)).isOut = true from rfl, Bool.true_and]
  rw [Bool.eq_iff_iff]
  simp only [Bool.or_eq_true, decide_eq_true_eq]
  constructor
  · rintro (h | ⟨h, a, ha⟩)
    · right; exact h.trans N_0
    · left
      rw [index4, index4] at ha
      by_contra hc
      apply ha
      have : min (t.val + 1) (used T1 - 1) = min t.val (used T1 - 1) := by omega
      show (![min (t.val + 1) (used T1 - 1), 0] : Fin 2 → ℕ) a = _
      rw [this]
  · rintro (h | h)
    · right
      have h' : t.val + 1 < (cfgA T0 T1 hR).grid.N := lt_of_lt_of_eq (by omega : t.val + 1 < 288) N_0.symm
      refine ⟨h', (0 : Fin 2), ?_⟩
      rw [index4, index4]
      show min (t.val + 1) (used T1 - 1) ≠ min t.val (used T1 - 1)
      omega
    · left; exact h.trans N_0.symm

/-- A point is in use below the number of tiles in use. -/
theorem cond2_iff (hR : Routed T0 T1) (i : grid0.Coords) : k0_cond2 i (T1 (ix1 (0 : Fin 1))) = 1#1 ↔ (i 0).val < used T1 := by
  have hi : (i 0).val < 288 := (i 0).isLt
  unfold k0_cond2
  simp only [Scalar.guard_iff]
  show BitVec.ofBool ((BitVec.ofNat 32 (i 0).val).slt _) = 1#1 ↔ _
  rw [slt_small hi hR.le]
  show BitVec.ofBool (decide ((i 0).val < used T1)) = 1#1 ↔ _
  by_cases h : (i 0).val < used T1 <;> simp [h]

/-- The output window is left idle at the points past them. -/
theorem idle4 (t : Fin (cfgA T0 T1 hR).N) : (cfgA T0 T1 hR).idle (4 : Fin 5) ((cfgA T0 T1 hR).grid.coords t) = decide (used T1 ≤ t.val) := by
  have e : (tabs T0 T1).atD 1 ![0] = T1 (ix1 (0 : Fin 1)) := by
    unfold Pipeline.Prefetch.Contents.atD
    rw [dif_pos (by decide)]
    exact congrArg T1 (one_idx _ _)
  show (!(k0_cond2 (grid0.coords t) ((tabs T0 T1).atD 1 ![0]) == 1#1)) = _
  rw [e]
  have := cond2_iff T0 T1 hR (grid0.coords t)
  rw [coord_val t] at this
  by_cases h : t.val < used T1
  · rw [this.2 h, decide_eq_false (not_le.2 h)]; rfl
  · have hn : k0_cond2 (grid0.coords t) (T1 (ix1 (0 : Fin 1))) ≠ 1#1 := fun hc => h (this.1 hc)
    rw [decide_eq_true (not_lt.1 h)]; simp [hn]

/-- Nothing stored since the last write-back: before the points below the last tile in use, and after the last point. -/
theorem fresh4 (n : ℕ) (hn : n ≤ (cfgA T0 T1 hR).N) : (cfgA T0 T1 hR).fresh (4 : Fin 5) n = decide (n < used T1 ∨ n = 288) := by
  have h1 := hR.pos
  have h2 := hR.le
  refine Pipeline.Cfg.fresh_tab (cfgA T0 T1 hR) (4 : Fin 5) (fun n => decide (n < used T1 ∨ n = 288)) (by simp; omega) (fun t => ?_) n hn
  have ht : t.val < 288 := lt_of_lt_of_eq t.isLt N_0
  rw [flush4, idle4, Bool.eq_iff_iff]
  simp only [Bool.or_eq_true, Bool.and_eq_true, decide_eq_true_eq]
  omega

end

end Cert.LaterIdeal.Moe

end
-- ==== Proof.Later.Frame.lean ====
/- The run of the second layer's experts call, at the exact instance, for all tables within the bounds: what every buffer holds after
   every point, that the program ends with its arguments unchanged, and what its result array then holds. -/
module

public import proofs.«01_k».proof.Proof.Later.Body
public import proofs.«01_k».proof.Proof.Later.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Exec
public import Idealize.ShloMosaic.Lib.Tactic
public import Idealize.ShloMosaic.Adequacy
public import Idealize.ShloMosaic.Init

@[expose] public section

set_option maxRecDepth 16384

noncomputable section

namespace Cert.LaterIdeal.Moe

open Cert.LaterIdeal Cert.LaterIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra, embedded whole. -/
abbrev EP : Emb (UR sig nD τ) 𝕄 := emb₁

variable (T0 : S288.Idx → BitVec 32) (T1 : S1.Idx → BitVec 32) (hR : Routed T0 T1)
variable (m : (ℓ : Loc nD τ sig) → Buf (Elt Ideal) ℓ) (ρ : Dev nD → PrngReg)

/-! ## A point -/

/-- A point's coordinates. -/
abbrev crd (t : Fin (cfgA T0 T1 hR).N) : (cfgA T0 T1 hR).grid.Coords := (cfgA T0 T1 hR).grid.coords t

/-- Window 0's staging buffer at a point. -/
abbrev ms0_0 (t : Fin (cfgA T0 T1 hR).N) : Memref sig .tc .vmem S256x1024 .bf16 := spec0_0.stage ((cfgA T0 T1 hR).slots t (0 : Fin 5))

/-- It is a whole buffer. -/
abbrev hs0_0 (t : Fin (cfgA T0 T1 hR).N) : (ms0_0 T0 T1 hR t).IsWhole := hstage0_0 (((cfgA T0 T1 hR).slots t (0 : Fin 5)).cast nbuf0_0)

/-- Window 1's staging buffer at a point. -/
abbrev ms0_1 (t : Fin (cfgA T0 T1 hR).N) : Memref sig .tc .vmem S1x1024x512 .f32 := spec0_1.stage ((cfgA T0 T1 hR).slots t (1 : Fin 5))

/-- It is a whole buffer. -/
abbrev hs0_1 (t : Fin (cfgA T0 T1 hR).N) : (ms0_1 T0 T1 hR t).IsWhole := hstage0_1 (((cfgA T0 T1 hR).slots t (1 : Fin 5)).cast nbuf0_1)

/-- Window 2's staging buffer at a point. -/
abbrev ms0_2 (t : Fin (cfgA T0 T1 hR).N) : Memref sig .tc .vmem S1x1024x512 .f32 := spec0_2.stage ((cfgA T0 T1 hR).slots t (2 : Fin 5))

/-- It is a whole buffer. -/
abbrev hs0_2 (t : Fin (cfgA T0 T1 hR).N) : (ms0_2 T0 T1 hR t).IsWhole := hstage0_2 (((cfgA T0 T1 hR).slots t (2 : Fin 5)).cast nbuf0_2)

/-- Window 3's staging buffer at a point. -/
abbrev ms0_3 (t : Fin (cfgA T0 T1 hR).N) : Memref sig .tc .vmem S1x512x1024 .f32 := spec0_3.stage ((cfgA T0 T1 hR).slots t (3 : Fin 5))

/-- It is a whole buffer. -/
abbrev hs0_3 (t : Fin (cfgA T0 T1 hR).N) : (ms0_3 T0 T1 hR t).IsWhole := hstage0_3 (((cfgA T0 T1 hR).slots t (3 : Fin 5)).cast nbuf0_3)

/-- Window 4's staging buffer at a point. -/
abbrev ms0_4 (t : Fin (cfgA T0 T1 hR).N) : Memref sig .tc .vmem S256x1024 .bf16 := spec0_4.stage ((cfgA T0 T1 hR).slots t (4 : Fin 5))

/-- It is a whole buffer. -/
abbrev hs0_4 (t : Fin (cfgA T0 T1 hR).N) : (ms0_4 T0 T1 hR t).IsWhole := hstage0_4 (((cfgA T0 T1 hR).slots t (4 : Fin 5)).cast nbuf0_4)

/-- Window `w`'s block at a point, read off its array at launch. -/
def iblk (c : Dev nD) (w : Fin (cfgA T0 T1 hR).W) (t : Fin (cfgA T0 T1 hR).N) : (((cfgA T0 T1 hR).win w).xblock (crd T0 T1 hR t)).Idx → Elt Ideal ((cfgA T0 T1 hR).win w).elt :=
  (((cfgA T0 T1 hR).win w).blk t).view.read (Elt Ideal) ((s₀ m ρ).mem (((cfgA T0 T1 hR).win w).arr.view.loc (c : Thread nD τ)))

theorem lt_288 (t : Fin (cfgA T0 T1 hR).N) : t.val < 288 := lt_of_lt_of_eq t.isLt N_0

/-- A point as a tile. -/
def tile (t : Fin (cfgA T0 T1 hR).N) : Fin 288 := ⟨t.val, lt_288 T0 T1 hR t⟩

/-- The point whose tile the output's buffer holds after a point: the point itself, or the last in use. -/
def src (t : Fin (cfgA T0 T1 hR).N) : Fin (cfgA T0 T1 hR).N := ⟨min t.val (used T1 - 1), lt_of_le_of_lt (Nat.min_le_left _ _) t.isLt⟩

/-- The point before. -/
def prv (t : Fin ((cfgA T0 T1 hR).N + 1)) (h : t.val ≠ 0) : Fin (cfgA T0 T1 hR).N := ⟨t.val - 1, by omega⟩

/-- The output block a point computes. -/
def outAt (c : Dev nD) (t : Fin (cfgA T0 T1 hR).N) : S256x1024.Idx → Elt Ideal .bf16 :=
  tileOut (iblk T0 T1 hR m ρ c (0 : Fin 5) t) (iblk T0 T1 hR m ρ c (1 : Fin 5) t) (iblk T0 T1 hR m ρ c (2 : Fin 5) t) (iblk T0 T1 hR m ρ c (3 : Fin 5) t)

/-! ## What the point's two conditions say -/

/-- A point reads the weights anew when it is the first or its expert is not that of the tile before. -/
theorem loads_iff (t : Fin (cfgA T0 T1 hR).N) : Loads (crd T0 T1 hR t) T0
    ↔ t.val = 0 ∨ T0 (ix1 (tile T0 T1 hR t)) ≠ T0 (ix1 (⟨t.val - 1, by have := lt_288 T0 T1 hR t; omega⟩ : Fin 288)) := by
  have ht : t.val < 288 := lt_288 T0 T1 hR t
  have hc : ((crd T0 T1 hR t) 0).val = t.val := coord_val t
  unfold Loads
  rw [Scalar.guard_iff,
    read_tab0 T0 (k0_off1 (crd T0 T1 hR t)) (k0_off1_inb _) numel1_S1 (tile T0 T1 hR t)
      (by show (BitVec.ofNat 32 ((crd T0 T1 hR t) 0).val).toNat = t.val; rw [hc, toNat_small ht]),
    read_tab0 T0 (k0_off2 (crd T0 T1 hR t)) (k0_off2_inb _) numel1_S1 (⟨t.val - 1, by omega⟩ : Fin 288)
      (by show (Scalar.maxsi (Scalar.subi (BitVec.ofNat 32 ((crd T0 T1 hR t) 0).val) 1#32) 0#32).toNat = t.val - 1; rw [hc, before_small ht])]
  show IntOp.ori (IntOp.cmpi .eq (BitVec.ofNat 32 ((crd T0 T1 hR t) 0).val) 0#32) (IntOp.cmpi .ne _ _) = 1#1 ↔ _
  rw [IntOp.ori_eq_one, IntOp.cmpi_eq, IntOp.cmpi_ne, hc]
  refine or_congr ⟨fun h => ?_, fun h => by rw [h]⟩ Iff.rfl
  have := congrArg BitVec.toNat h
  rwa [toNat_small ht] at this

/-- A point's tile is in use below the number of tiles in use. -/
theorem stores_iff (t : Fin (cfgA T0 T1 hR).N) : Stores (crd T0 T1 hR t) T1 ↔ t.val < used T1 := by
  unfold Stores
  rw [read_tab1 T1 inb_S1_S1_0 numel1_S1]
  have h := cond2_iff T0 T1 hR (crd T0 T1 hR t)
  rwa [show ((crd T0 T1 hR t) 0).val = t.val from coord_val t] at h

/-! ## The weight blocks -/

/-- The index of a weight block is the tile's expert. -/
theorem index1 (t : Fin (cfgA T0 T1 hR).N) : ((cfgA T0 T1 hR).win (1 : Fin 5)).index t = ![expert T0 (tile T0 T1 hR t), 0, 0] :=
  (map1 T0 T1 hR (grid0.coords t)).trans (by rw [show (grid0.coords t) 0 = tile T0 T1 hR t from Fin.ext (coord_val t)])

/-- Also of the up weights'. -/
theorem index2 (t : Fin (cfgA T0 T1 hR).N) : ((cfgA T0 T1 hR).win (2 : Fin 5)).index t = ![expert T0 (tile T0 T1 hR t), 0, 0] := index1 T0 T1 hR t

/-- And of the down weights'. -/
theorem index3 (t : Fin (cfgA T0 T1 hR).N) : ((cfgA T0 T1 hR).win (3 : Fin 5)).index t = ![expert T0 (tile T0 T1 hR t), 0, 0] := index1 T0 T1 hR t

/-- The block of rows: the tile's, or that of the last in use. -/
theorem index0 (t : Fin (cfgA T0 T1 hR).N) : ((cfgA T0 T1 hR).win (0 : Fin 5)).index t = ![min t.val (used T1 - 1), 0] := by
  refine (map0 T0 T1 hR (grid0.coords t)).trans ?_
  rw [coord_val t]

/-- The gate block at a point is the gate matrix of the tile's expert. -/
theorem iblk1_at (c : Dev nD) (t : Fin (cfgA T0 T1 hR).N) (e : Fin 64) (he : e.val = expert T0 (tile T0 T1 hR t)) (a : Fin 1024) (b : Fin 512) :
    (iblk T0 T1 hR m ρ c (1 : Fin 5) t : S1x1024x512.Idx → EReal) (ix3 (0 : Fin 1) a b) = (m ((c : Thread nD τ).loc main_arg3) : S64x1024x512.Idx → EReal) (ix3 e a b) := by
  refine congrArg (m ((c : Thread nD τ).loc main_arg3) : S64x1024x512.Idx → EReal) (funext fun d => Fin.ext ?_)
  have h := Pipeline.Window.rect_emb_val ((cfgA T0 T1 hR).win (1 : Fin 5)) t (ix3 (0 : Fin 1) a b)
  rw [index1] at h
  fin_cases d
  · refine (h (0 : Fin 3)).trans ?_
    show expert T0 (tile T0 T1 hR t) * 1 + 0 = e.val
    omega
  · refine (h (1 : Fin 3)).trans ?_
    show 0 * 1024 + a.val = a.val
    omega
  · refine (h (2 : Fin 3)).trans ?_
    show 0 * 512 + b.val = b.val
    omega

/-- It is the block of the point before where the expert is the same. -/
theorem iblk1_eq (c : Dev nD) (t t' : Fin (cfgA T0 T1 hR).N) (h : expert T0 (tile T0 T1 hR t) = expert T0 (tile T0 T1 hR t')) :
    (iblk T0 T1 hR m ρ c (1 : Fin 5) t : S1x1024x512.Idx → EReal) = iblk T0 T1 hR m ρ c (1 : Fin 5) t' := by
  funext y
  have he : expert T0 (tile T0 T1 hR t) ≤ 63 := Nat.add_le_add_left (hR.expert (tile T0 T1 hR t)) 32
  have y0 : (y 0).val < 1 := (y 0).isLt
  have ey : y = ix3 (0 : Fin 1) (y 1 : Fin 1024) (y 2 : Fin 512) := by
    funext d; fin_cases d
    · exact Fin.ext (by show (y 0).val = 0; omega)
    · rfl
    · rfl
  have l : expert T0 (tile T0 T1 hR t) < 64 := lt_of_le_of_lt he (by omega)
  rw [ey]
  exact (iblk1_at T0 T1 hR m ρ c t ⟨expert T0 (tile T0 T1 hR t), l⟩ rfl _ _).trans
    (iblk1_at T0 T1 hR m ρ c t' ⟨expert T0 (tile T0 T1 hR t), l⟩ h _ _).symm

/-- The up block at a point is the up matrix of the tile's expert. -/
theorem iblk2_at (c : Dev nD) (t : Fin (cfgA T0 T1 hR).N) (e : Fin 64) (he : e.val = expert T0 (tile T0 T1 hR t)) (a : Fin 1024) (b : Fin 512) :
    (iblk T0 T1 hR m ρ c (2 : Fin 5) t : S1x1024x512.Idx → EReal) (ix3 (0 : Fin 1) a b) = (m ((c : Thread nD τ).loc main_arg4) : S64x1024x512.Idx → EReal) (ix3 e a b) := by
  refine congrArg (m ((c : Thread nD τ).loc main_arg4) : S64x1024x512.Idx → EReal) (funext fun d => Fin.ext ?_)
  have h := Pipeline.Window.rect_emb_val ((cfgA T0 T1 hR).win (2 : Fin 5)) t (ix3 (0 : Fin 1) a b)
  rw [index2] at h
  fin_cases d
  · refine (h (0 : Fin 3)).trans ?_
    show expert T0 (tile T0 T1 hR t) * 1 + 0 = e.val
    omega
  · refine (h (1 : Fin 3)).trans ?_
    show 0 * 1024 + a.val = a.val
    omega
  · refine (h (2 : Fin 3)).trans ?_
    show 0 * 512 + b.val = b.val
    omega

/-- It is the block of the point before where the expert is the same. -/
theorem iblk2_eq (c : Dev nD) (t t' : Fin (cfgA T0 T1 hR).N) (h : expert T0 (tile T0 T1 hR t) = expert T0 (tile T0 T1 hR t')) :
    (iblk T0 T1 hR m ρ c (2 : Fin 5) t : S1x1024x512.Idx → EReal) = iblk T0 T1 hR m ρ c (2 : Fin 5) t' := by
  funext y
  have he : expert T0 (tile T0 T1 hR t) ≤ 63 := Nat.add_le_add_left (hR.expert (tile T0 T1 hR t)) 32
  have y0 : (y 0).val < 1 := (y 0).isLt
  have ey : y = ix3 (0 : Fin 1) (y 1 : Fin 1024) (y 2 : Fin 512) := by
    funext d; fin_cases d
    · exact Fin.ext (by show (y 0).val = 0; omega)
    · rfl
    · rfl
  have l : expert T0 (tile T0 T1 hR t) < 64 := lt_of_le_of_lt he (by omega)
  rw [ey]
  exact (iblk2_at T0 T1 hR m ρ c t ⟨expert T0 (tile T0 T1 hR t), l⟩ rfl _ _).trans
    (iblk2_at T0 T1 hR m ρ c t' ⟨expert T0 (tile T0 T1 hR t), l⟩ h _ _).symm

/-- The down block at a point is the down matrix of the tile's expert. -/
theorem iblk3_at (c : Dev nD) (t : Fin (cfgA T0 T1 hR).N) (e : Fin 64) (he : e.val = expert T0 (tile T0 T1 hR t)) (a : Fin 512) (b : Fin 1024) :
    (iblk T0 T1 hR m ρ c (3 : Fin 5) t : S1x512x1024.Idx → EReal) (ix3 (0 : Fin 1) a b) = (m ((c : Thread nD τ).loc main_arg5) : S64x512x1024.Idx → EReal) (ix3 e a b) := by
  refine congrArg (m ((c : Thread nD τ).loc main_arg5) : S64x512x1024.Idx → EReal) (funext fun d => Fin.ext ?_)
  have h := Pipeline.Window.rect_emb_val ((cfgA T0 T1 hR).win (3 : Fin 5)) t (ix3 (0 : Fin 1) a b)
  rw [index3] at h
  fin_cases d
  · refine (h (0 : Fin 3)).trans ?_
    show expert T0 (tile T0 T1 hR t) * 1 + 0 = e.val
    omega
  · refine (h (1 : Fin 3)).trans ?_
    show 0 * 512 + a.val = a.val
    omega
  · refine (h (2 : Fin 3)).trans ?_
    show 0 * 1024 + b.val = b.val
    omega

/-- It is the block of the point before where the expert is the same. -/
theorem iblk3_eq (c : Dev nD) (t t' : Fin (cfgA T0 T1 hR).N) (h : expert T0 (tile T0 T1 hR t) = expert T0 (tile T0 T1 hR t')) :
    (iblk T0 T1 hR m ρ c (3 : Fin 5) t : S1x512x1024.Idx → EReal) = iblk T0 T1 hR m ρ c (3 : Fin 5) t' := by
  funext y
  have he : expert T0 (tile T0 T1 hR t) ≤ 63 := Nat.add_le_add_left (hR.expert (tile T0 T1 hR t)) 32
  have y0 : (y 0).val < 1 := (y 0).isLt
  have ey : y = ix3 (0 : Fin 1) (y 1 : Fin 512) (y 2 : Fin 1024) := by
    funext d; fin_cases d
    · exact Fin.ext (by show (y 0).val = 0; omega)
    · rfl
    · rfl
  have l : expert T0 (tile T0 T1 hR t) < 64 := lt_of_le_of_lt he (by omega)
  rw [ey]
  exact (iblk3_at T0 T1 hR m ρ c t ⟨expert T0 (tile T0 T1 hR t), l⟩ rfl _ _).trans
    (iblk3_at T0 T1 hR m ρ c t' ⟨expert T0 (tile T0 T1 hR t), l⟩ h _ _).symm

/-- The rows at a point of a tile in use are the tile's. -/
theorem iblk0_at (c : Dev nD) (t : Fin (cfgA T0 T1 hR).N) (ht : t.val < used T1) (a : Fin 256) (b : Fin 1024) (r : Fin 73728) (hr : r.val = t.val * 256 + a.val) :
    (iblk T0 T1 hR m ρ c (0 : Fin 5) t : S256x1024.Idx → EReal) (ix2 a b) = (m ((c : Thread nD τ).loc main_arg0) : S73728x1024.Idx → EReal) (ix2 r b) := by
  refine congrArg (m ((c : Thread nD τ).loc main_arg0) : S73728x1024.Idx → EReal) (funext fun d => Fin.ext ?_)
  have h := Pipeline.Window.rect_emb_val ((cfgA T0 T1 hR).win (0 : Fin 5)) t (ix2 a b)
  rw [index0] at h
  fin_cases d
  · refine (h (0 : Fin 2)).trans ?_
    show min t.val (used T1 - 1) * 256 + a.val = r.val
    rw [hr, Nat.min_eq_left (by omega)]
  · refine (h (1 : Fin 2)).trans ?_
    show 0 * 1024 + b.val = b.val
    omega

/-! ## The pipeline's proof data -/

/-- Before a point: each scratch buffer holds the weights of the point before, whole; the tables are at hand. -/
def Phi (c : Dev nD) (t : Fin ((cfgA T0 T1 hR).N + 1)) : sProp 𝕄 :=
  iprop((∃ a, ⌜∀ h : t.val ≠ 0, scM0_0.view.read (Elt Ideal) a = k0_pay1 (F := Ideal) (iblk T0 T1 hR m ρ c (1 : Fin 5) (prv T0 T1 hR t h))⌝ ∗ (scM0_0.view.loc (c : Thread nD τ) ↦{fullShare} a))
    ∗ (∃ a, ⌜∀ h : t.val ≠ 0, scM0_1.view.read (Elt Ideal) a = k0_pay2 (F := Ideal) (iblk T0 T1 hR m ρ c (2 : Fin 5) (prv T0 T1 hR t h))⌝ ∗ (scM0_1.view.loc (c : Thread nD τ) ↦{fullShare} a))
    ∗ (∃ a, ⌜∀ h : t.val ≠ 0, scM0_2.view.read (Elt Ideal) a = k0_pay3 (F := Ideal) (iblk T0 T1 hR m ρ c (3 : Fin 5) (prv T0 T1 hR t h))⌝ ∗ (scM0_2.view.loc (c : Thread nD τ) ↦{fullShare} a))
    ∗ (tbM0_0.view.loc (c : Thread nD τ) ↦{fullShare.right} T0) ∗ (tbM0_1.view.loc (c : Thread nD τ) ↦{fullShare.right} T1))

/-- What each buffer holds after each point: an input its block, the output the last computed block. -/
def dats (_ : Fin 1) (c : Dev nD) : Dat τ (Elt Ideal) Unit ℕ (UR sig nD τ) ℕ (cfgA T0 T1 hR) c where
  A w := (s₀ m ρ).mem (((cfgA T0 T1 hR).win w).arr.view.loc (c : Thread nD τ))
  after w t := match w with
    | ⟨0, _⟩ => iblk T0 T1 hR m ρ c (0 : Fin 5) t
    | ⟨1, _⟩ => iblk T0 T1 hR m ρ c (1 : Fin 5) t
    | ⟨2, _⟩ => iblk T0 T1 hR m ρ c (2 : Fin 5) t
    | ⟨3, _⟩ => iblk T0 T1 hR m ρ c (3 : Fin 5) t
    | ⟨4, _⟩ => outAt T0 T1 hR m ρ c (src T0 T1 hR t)
  Φ t := Phi T0 T1 hR m ρ c t
  q _ := fullShare
  owed _ := 0

theorem after0_0 (c : Dev nD) (t : Fin (cfgA T0 T1 hR).N) : (dats T0 T1 hR m ρ 0 c).after (0 : Fin 5) t = iblk T0 T1 hR m ρ c (0 : Fin 5) t := rfl
theorem after0_1 (c : Dev nD) (t : Fin (cfgA T0 T1 hR).N) : (dats T0 T1 hR m ρ 0 c).after (1 : Fin 5) t = iblk T0 T1 hR m ρ c (1 : Fin 5) t := rfl
theorem after0_2 (c : Dev nD) (t : Fin (cfgA T0 T1 hR).N) : (dats T0 T1 hR m ρ 0 c).after (2 : Fin 5) t = iblk T0 T1 hR m ρ c (2 : Fin 5) t := rfl
theorem after0_3 (c : Dev nD) (t : Fin (cfgA T0 T1 hR).N) : (dats T0 T1 hR m ρ 0 c).after (3 : Fin 5) t = iblk T0 T1 hR m ρ c (3 : Fin 5) t := rfl
theorem after0_4 (c : Dev nD) (t : Fin (cfgA T0 T1 hR).N) : (dats T0 T1 hR m ρ 0 c).after (4 : Fin 5) t = outAt T0 T1 hR m ρ c (src T0 T1 hR t) := rfl

/-- Input 0's buffer holds its block when the body runs. -/
theorem before0_0 (c : Dev nD) (t : Fin (cfgA T0 T1 hR).N) (d) : (dats T0 T1 hR m ρ 0 c).before (0 : Fin 5) t d = iblk T0 T1 hR m ρ c (0 : Fin 5) t :=
  ((dats T0 T1 hR m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input 1's buffer holds its block when the body runs. -/
theorem before0_1 (c : Dev nD) (t : Fin (cfgA T0 T1 hR).N) (d) : (dats T0 T1 hR m ρ 0 c).before (1 : Fin 5) t d = iblk T0 T1 hR m ρ c (1 : Fin 5) t :=
  ((dats T0 T1 hR m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input 2's buffer holds its block when the body runs. -/
theorem before0_2 (c : Dev nD) (t : Fin (cfgA T0 T1 hR).N) (d) : (dats T0 T1 hR m ρ 0 c).before (2 : Fin 5) t d = iblk T0 T1 hR m ρ c (2 : Fin 5) t :=
  ((dats T0 T1 hR m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input 3's buffer holds its block when the body runs. -/
theorem before0_3 (c : Dev nD) (t : Fin (cfgA T0 T1 hR).N) (d) : (dats T0 T1 hR m ρ 0 c).before (3 : Fin 5) t d = iblk T0 T1 hR m ρ c (3 : Fin 5) t :=
  ((dats T0 T1 hR m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- A point past the tiles in use computes no new block. -/
theorem src_idle (t : Fin (cfgA T0 T1 hR).N) (h : used T1 ≤ t.val) (ht : t.val - 1 < (cfgA T0 T1 hR).N) : src T0 T1 hR t = src T0 T1 hR ⟨t.val - 1, ht⟩ :=
  Fin.ext (by show min t.val (used T1 - 1) = min (t.val - 1) (used T1 - 1); omega)

/-- A point of a tile in use computes that tile's. -/
theorem src_live (t : Fin (cfgA T0 T1 hR).N) (h : t.val < used T1) : src T0 T1 hR t = t :=
  Fin.ext (by show min t.val (used T1 - 1) = t.val; omega)

/-- The output's buffer at a point past the tiles in use, as the point before left it. -/
theorem before0_4 (c : Dev nD) (t : Fin (cfgA T0 T1 hR).N) (h : used T1 ≤ t.val) (d) :
    (dats T0 T1 hR m ρ 0 c).before (4 : Fin 5) t d = outAt T0 T1 hR m ρ c (src T0 T1 hR t) := by
  have ht := lt_288 T0 T1 hR t
  have hp := hR.pos
  have hf : (cfgA T0 T1 hR).fresh (4 : Fin 5) t.val = false := by
    rw [fresh4 T0 T1 hR t.val (Nat.le_of_lt t.isLt)]; exact decide_eq_false (by omega)
  refine ((dats T0 T1 hR m ρ 0 c).before_out_traj (4 : Fin 5) rfl (fun _ _ => rfl) (fun t' _ hi _ => ?_) t.val t rfl d).trans ?_
  · rw [idle4 T0 T1 hR t', decide_eq_true_eq] at hi
    rw [after0_4, after0_4]
    exact congrArg (outAt T0 T1 hR m ρ c) (src_idle T0 T1 hR t' hi _)
  · rw [hf]
    show (dats T0 T1 hR m ρ 0 c).after (4 : Fin 5) ⟨t.val - 1, _⟩ = _
    rw [after0_4, ← src_idle T0 T1 hR t h]

/-- The body at a point, on its buffers. -/
abbrev bodyAt0 (t : Fin (cfgA T0 T1 hR).N) : Prog (TpuEff nD τ sig (Elt Ideal) Λ₀ .tc) PUnit :=
  cc0_moe_experts (crd T0 T1 hR t) (Memref.whole main_arg1) (Memref.isWhole_whole _) (Memref.whole main_arg2) (Memref.isWhole_whole _) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) (Memref.whole cc0_scratch0) (Memref.isWhole_whole _) (Memref.whole cc0_scratch1) (Memref.isWhole_whole _) (Memref.whole cc0_scratch2) (Memref.isWhole_whole _)

/-- What a point that reads no weights anew finds in the scratch buffers: its own weights. -/
theorem kept (c : Dev nD) (t : Fin (cfgA T0 T1 hR).N) (hn : ¬Loads (crd T0 T1 hR t) T0) : ∃ h : t.castSucc.val ≠ 0,
    (iblk T0 T1 hR m ρ c (1 : Fin 5) (prv T0 T1 hR t.castSucc h) : S1x1024x512.Idx → EReal) = iblk T0 T1 hR m ρ c (1 : Fin 5) t
      ∧ (iblk T0 T1 hR m ρ c (2 : Fin 5) (prv T0 T1 hR t.castSucc h) : S1x1024x512.Idx → EReal) = iblk T0 T1 hR m ρ c (2 : Fin 5) t
      ∧ (iblk T0 T1 hR m ρ c (3 : Fin 5) (prv T0 T1 hR t.castSucc h) : S1x512x1024.Idx → EReal) = iblk T0 T1 hR m ρ c (3 : Fin 5) t := by
  rw [loads_iff, not_or, not_not] at hn
  have e : expert T0 (tile T0 T1 hR (prv T0 T1 hR t.castSucc hn.1)) = expert T0 (tile T0 T1 hR t) := congrArg (fun w : BitVec 32 => 32 + w.toNat) hn.2.symm
  exact ⟨hn.1, iblk1_eq T0 T1 hR m ρ c _ _ e, iblk2_eq T0 T1 hR m ρ c _ _ e, iblk3_eq T0 T1 hR m ρ c _ _ e⟩

set_option maxHeartbeats 4000000 in
/-- The body keeps the proof data at every point. -/
theorem sound_body (c : Dev nD) (t : Fin (cfgA T0 T1 hR).N) :
    iprop((dats T0 T1 hR m ρ 0 c).Φ t.castSucc ∗ (dats T0 T1 hR m ρ 0 c).owesAt () t.castSucc
        ∗ (∃ d, owns (c : Thread nD τ) (ms0_0 T0 T1 hR t) fullShare ((dats T0 T1 hR m ρ 0 c).before (0 : Fin 5) t d))
        ∗ (∃ d, owns (c : Thread nD τ) (ms0_1 T0 T1 hR t) fullShare ((dats T0 T1 hR m ρ 0 c).before (1 : Fin 5) t d))
        ∗ (∃ d, owns (c : Thread nD τ) (ms0_2 T0 T1 hR t) fullShare ((dats T0 T1 hR m ρ 0 c).before (2 : Fin 5) t d))
        ∗ (∃ d, owns (c : Thread nD τ) (ms0_3 T0 T1 hR t) fullShare ((dats T0 T1 hR m ρ 0 c).before (3 : Fin 5) t d))
        ∗ (∃ d, owns (c : Thread nD τ) (ms0_4 T0 T1 hR t) fullShare ((dats T0 T1 hR m ρ 0 c).before (4 : Fin 5) t d)))
      ⊢ wp frame (wpE (defs₀ (F := Ideal)) Variants.none c none) Set.univ (bodyAt0 T0 T1 hR t) fun _ =>
          iprop((dats T0 T1 hR m ρ 0 c).Φ t.succ ∗ (dats T0 T1 hR m ρ 0 c).owesAt () t.succ
            ∗ bigSep Finset.univ fun w : Fin (cfgA T0 T1 hR).W =>
                match (cfgA T0 T1 hR).idle w ((cfgA T0 T1 hR).grid.coords t) with
                | true =>
                  match ((cfgA T0 T1 hR).win w).flush t with
                  | false => iprop(∃ d, owns (c : Thread nD τ) (((cfgA T0 T1 hR).win w).stage ((cfgA T0 T1 hR).slots t w)) fullShare ((dats T0 T1 hR m ρ 0 c).before w t d))
                  | true => owns (c : Thread nD τ) (((cfgA T0 T1 hR).win w).stage ((cfgA T0 T1 hR).slots t w)) fullShare ((dats T0 T1 hR m ρ 0 c).after w t)
                | false => owns (c : Thread nD τ) (((cfgA T0 T1 hR).win w).stage ((cfgA T0 T1 hR).slots t w)) fullShare ((dats T0 T1 hR m ρ 0 c).after w t)) := by
  rw [bigSep_W0]
  have key : ∀ a0 a1 a2, (∀ h : t.castSucc.val ≠ 0, scM0_0.view.read (Elt Ideal) a0 = k0_pay1 (F := Ideal) (iblk T0 T1 hR m ρ c (1 : Fin 5) (prv T0 T1 hR t.castSucc h)))
      → (∀ h : t.castSucc.val ≠ 0, scM0_1.view.read (Elt Ideal) a1 = k0_pay2 (F := Ideal) (iblk T0 T1 hR m ρ c (2 : Fin 5) (prv T0 T1 hR t.castSucc h)))
      → (∀ h : t.castSucc.val ≠ 0, scM0_2.view.read (Elt Ideal) a2 = k0_pay3 (F := Ideal) (iblk T0 T1 hR m ρ c (3 : Fin 5) (prv T0 T1 hR t.castSucc h)))
      → (¬Loads (crd T0 T1 hR t) T0 → scM0_0.view.read (Elt Ideal) a0 = k0_pay1 (F := Ideal) (iblk T0 T1 hR m ρ c (1 : Fin 5) t)
        ∧ scM0_1.view.read (Elt Ideal) a1 = k0_pay2 (F := Ideal) (iblk T0 T1 hR m ρ c (2 : Fin 5) t)
        ∧ scM0_2.view.read (Elt Ideal) a2 = k0_pay3 (F := Ideal) (iblk T0 T1 hR m ρ c (3 : Fin 5) t)) := by
    intro a0 a1 a2 h0 h1 h2 hn
    obtain ⟨h, e1, e2, e3⟩ := kept T0 T1 hR m ρ c t hn
    exact ⟨(h0 h).trans (congrArg _ e1), (h1 h).trans (congrArg _ e2), (h2 h).trans (congrArg _ e3)⟩
  by_cases q : t.val < used T1
  · have i4 : (cfgA T0 T1 hR).idle (4 : Fin 5) ((cfgA T0 T1 hR).grid.coords t) = false := by rw [idle4]; exact decide_eq_false (by omega)
    rewrite [i4]
    simp only [after0_4, src_live T0 T1 hR t q]
    simp only [before0_0, before0_1, before0_2, before0_3, after0_0, after0_1, after0_2, after0_3]
    rewrite [show (dats T0 T1 hR m ρ 0 c).Φ t.succ = Phi T0 T1 hR m ρ c t.succ from rfl, show (dats T0 T1 hR m ρ 0 c).Φ t.castSucc = Phi T0 T1 hR m ρ c t.castSucc from rfl,
      show (dats T0 T1 hR m ρ 0 c).owesAt () t.succ = (dats T0 T1 hR m ρ 0 c).owesAt () t.castSucc from rfl]
    unfold Phi
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply (body_run c (crd T0 T1 hR t) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) T0 T1 (iblk T0 T1 hR m ρ c (0 : Fin 5) t) (iblk T0 T1 hR m ρ c (1 : Fin 5) t) (iblk T0 T1 hR m ρ c (2 : Fin 5) t) (iblk T0 T1 hR m ρ c (3 : Fin 5) t) a0 a1 a2 (key a0 a1 a2 ha0 ha1 ha2) ((dats T0 T1 hR m ρ 0 c).before (4 : Fin 5) t d4) (outAt T0 T1 hR m ρ c t) (fun _ => rfl) (fun h => absurd ((stores_iff T0 T1 hR t).2 q) h) _)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    iintro ⟨H0, H1, H2, H3, HT0, HT1, H4, ⟨%b0, %hb0, HS0⟩, ⟨%b1, %hb1, HS1⟩, ⟨%b2, %hb2, HS2⟩⟩
    isplitl [HS0 HS1 HS2 HT0 HT1]
    · isplitl [HS0]
      · iexists b0; isplitr; swap
        · iexact HS0
        · ipureintro; exact fun _ => hb0
      isplitl [HS1]
      · iexists b1; isplitr; swap
        · iexact HS1
        · ipureintro; exact fun _ => hb1
      isplitl [HS2]
      · iexists b2; isplitr; swap
        · iexact HS2
        · ipureintro; exact fun _ => hb2
      isplitl [HT0]; · iexact HT0
      iexact HT1
    isplitl [Ho]; · iexact Ho
    isplitl [H0]; · iexact H0
    isplitl [H1]; · iexact H1
    isplitl [H2]; · iexact H2
    isplitl [H3]; · iexact H3
    iexact H4
  · have i4 : (cfgA T0 T1 hR).idle (4 : Fin 5) ((cfgA T0 T1 hR).grid.coords t) = true := by rw [idle4]; exact decide_eq_true (by omega)
    have b4 : ∀ d, (dats T0 T1 hR m ρ 0 c).before (4 : Fin 5) t d = outAt T0 T1 hR m ρ c (src T0 T1 hR t) := before0_4 T0 T1 hR m ρ c t (by omega)
    rewrite [i4]
    simp only [after0_4, b4]
    simp only [before0_0, before0_1, before0_2, before0_3, after0_0, after0_1, after0_2, after0_3]
    rewrite [show (dats T0 T1 hR m ρ 0 c).Φ t.succ = Phi T0 T1 hR m ρ c t.succ from rfl, show (dats T0 T1 hR m ρ 0 c).Φ t.castSucc = Phi T0 T1 hR m ρ c t.castSucc from rfl,
      show (dats T0 T1 hR m ρ 0 c).owesAt () t.succ = (dats T0 T1 hR m ρ 0 c).owesAt () t.castSucc from rfl]
    unfold Phi
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply (body_run c (crd T0 T1 hR t) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) T0 T1 (iblk T0 T1 hR m ρ c (0 : Fin 5) t) (iblk T0 T1 hR m ρ c (1 : Fin 5) t) (iblk T0 T1 hR m ρ c (2 : Fin 5) t) (iblk T0 T1 hR m ρ c (3 : Fin 5) t) a0 a1 a2 (key a0 a1 a2 ha0 ha1 ha2) (outAt T0 T1 hR m ρ c (src T0 T1 hR t)) (outAt T0 T1 hR m ρ c (src T0 T1 hR t)) (fun h => absurd ((stores_iff T0 T1 hR t).1 h) q) (fun _ => rfl) _)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    iintro ⟨H0, H1, H2, H3, HT0, HT1, H4, ⟨%b0, %hb0, HS0⟩, ⟨%b1, %hb1, HS1⟩, ⟨%b2, %hb2, HS2⟩⟩
    isplitl [HS0 HS1 HS2 HT0 HT1]
    · isplitl [HS0]
      · iexists b0; isplitr; swap
        · iexact HS0
        · ipureintro; exact fun _ => hb0
      isplitl [HS1]
      · iexists b1; isplitr; swap
        · iexact HS1
        · ipureintro; exact fun _ => hb1
      isplitl [HS2]
      · iexists b2; isplitr; swap
        · iexact HS2
        · ipureintro; exact fun _ => hb2
      isplitl [HT0]; · iexact HT0
      iexact HT1
    isplitl [Ho]; · iexact Ho
    isplitl [H0]; · iexact H0
    isplitl [H1]; · iexact H1
    isplitl [H2]; · iexact H2
    isplitl [H3]; · iexact H3
    cases f4 : ((cfgA T0 T1 hR).win (4 : Fin 5)).flush t
    · iexists d4; iexact H4
    · iexact H4

/-- What the pipeline asks of the body, at every point. -/
theorem body_obligation (c : Dev nD) : BodyObligation (dats T0 T1 hR m ρ 0 c) (defs₀ (F := Ideal)) Variants.none () Set.univ := fun t => by
  rw [bigSep_W0]
  exact sound_body T0 T1 hR m ρ c t

/-! ## The launch -/

/-- The launch's own element. -/
def u₀ : UR sig nD τ :=
  initOf (Pipeline.cells (pcs T0 T1 hR) ((launch0 (F := Ideal)).cellOf_inj fun _ => adm T0 T1 hR))
    (Pipeline.launchToks (pcs T0 T1 hR) ((launch0 (F := Ideal)).cellOf_inj fun _ => adm T0 T1 hR))

/-- Every array is held whole. -/
theorem share_eq (c : Dev nD) (w : Fin (cfgA T0 T1 hR).W) : (dats T0 T1 hR m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers. -/
theorem phi0_intro (c : Dev nD) :
    iprop(BI.emp ∗ Pipeline.prefHeld pre0 c (fun _ => fullShare.right) (adm T0 T1 hR).1 ∗ Pipeline.scopedRest spec0 c) ⊢ (dats T0 T1 hR m ρ 0 c).Φ 0 := by
  rw [prefHeld_eq, scopedRest0_eq, show (dats T0 T1 hR m ρ 0 c).Φ 0 = Phi T0 T1 hR m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; exact fun h => absurd rfl h
  isplitl [HS1]
  · iexists a1; isplitr; swap
    · iexact HS1
    · ipureintro; exact fun h => absurd rfl h
  isplitl [HS2]
  · iexists a2; isplitr; swap
    · iexact HS2
    · ipureintro; exact fun h => absurd rfl h
  isplitl [HT0]; · iexact HT0
  iexact HT1

/-- At the last point it gives the scratch buffers back. -/
theorem phiN_exit (c : Dev nD) : (dats T0 T1 hR m ρ 0 c).Φ (Fin.last (cfgA T0 T1 hR).N) ⊢ iprop(BI.emp ∗ Pipeline.scopedRest spec0 c) := by
  rw [scopedRest0_eq, show (dats T0 T1 hR m ρ 0 c).Φ (Fin.last (cfgA T0 T1 hR).N) = Phi T0 T1 hR m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- What a final state holds: every array its computed contents, every table its words. -/
def QC : PUnit × MemSt nD τ sig (Elt Ideal) → Prop := fun r =>
  ∀ c : Dev nD, (∀ w : Fin (cfgA T0 T1 hR).W, r.2.mem (((cfgA T0 T1 hR).win w).arr.view.loc (c : Thread nD τ)) = (dats T0 T1 hR m ρ 0 c).arrAt w (cfgA T0 T1 hR).N)
    ∧ ∀ j, r.2.mem ((c : Thread nD τ).loc (pre0.ref j)) = (adm T0 T1 hR).1 j

/-- The tables in memory are the given ones. -/
theorem V_pre (h0 : ∀ c : Dev nD, m ((c : Thread nD τ).loc main_arg1) = T0) (h1 : ∀ c : Dev nD, m ((c : Thread nD τ).loc main_arg2) = T1) (c : Dev nD) (j : Fin 2) : m ((c : Thread nD τ).loc (pre0.ref j)) = (adm T0 T1 hR).1 j := by
  fin_cases j
  · exact h0 c
  · exact h1 c

set_option backward.isDefEq.respectTransparency.types false in
set_option maxHeartbeats 4000000 in
/-- From any memory whose tables are the given ones, every run ends, with each array at its computed contents and the
    semaphore counters at zero. -/
theorem run_main_quiescent (h0 : ∀ c : Dev nD, m ((c : Thread nD τ).loc main_arg1) = T0) (h1 : ∀ c : Dev nD, m ((c : Thread nD τ).loc main_arg2) = T1) : θ_run (defs (F := Ideal)) (onTc (τ := τ) (main (F := Ideal))) (s₀ m ρ) (fun r => QC T0 T1 hR m ρ r ∧ r.2.sem = fun _ => 0) :=
  Pipeline.θ_run_region_noSem_pf_quiescent pcfgs (fun _ => adm T0 T1 hR) (dats T0 T1 hR m ρ) () ((launch0 (F := Ideal)).cellOf_inj fun _ => adm T0 T1 hR) (0 : Fin 1)
    (launch0 (F := Ideal)).win.to₀ (launch0 (F := Ideal)).pre EP defs₀ Variants.none m ρ main
    (hbody := fun c => (body_obligation T0 T1 hR m ρ c).loose) (hne := (launch0 (F := Ideal)).block_pos)
    (harr := (launch0 (F := Ideal)).arr_whole) (hstage := (launch0 (F := Ideal)).stage_whole) (howed := fun _ _ => rfl)
    (u₀ := u₀ T0 T1 hR) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hR) (dats T0 T1 hR m ρ) 0 (launch0 (F := Ideal)).win.arr_inj c (launch0 (F := Ideal)).arr_whole
      (share_eq T0 T1 hR m ρ c) _ _ fun _ => rfl)
    (hpf := V_pre T0 T1 hR m h0 h1)
    (X := fun _ => iprop(emp)) (Y := fun _ => iprop(emp)) (Z := fun _ => iprop(emp))
    (hX := fun c => by rw [unscopedRestP0_eq]; iintro -; isplitr <;> iempintro)
    (hin := phi0_intro T0 T1 hR m ρ)
    (hout := phiN_exit T0 T1 hR m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (h0 : ∀ c : Dev nD, m ((c : Thread nD τ).loc main_arg1) = T0) (h1 : ∀ c : Dev nD, m ((c : Thread nD τ).loc main_arg2) = T1) : θ_run (defs (F := Ideal)) (onTc (τ := τ) (main (F := Ideal))) (s₀ m ρ) (QC T0 T1 hR m ρ) :=
  (θ_run defs _ _).mono (fun _ h => h.1) (run_main_quiescent T0 T1 hR m ρ h0 h1)

include hR in
/-- `frame` without the counters: the argument arrays end unchanged. -/
theorem unchanged (h0 : ∀ c : Dev nD, m ((c : Thread nD τ).loc main_arg1) = T0) (h1 : ∀ c : Dev nD, m ((c : Thread nD τ).loc main_arg2) = T1) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats T0 T1 hR m ρ 0 c).arrAt_in (0 : Fin 5) rfl _), ((h c).2 0).trans (h0 c).symm, ((h c).2 1).trans (h1 c).symm, ((h c).1 (1 : Fin 5)).trans ((dats T0 T1 hR m ρ 0 c).arrAt_in (1 : Fin 5) rfl _), ((h c).1 (2 : Fin 5)).trans ((dats T0 T1 hR m ρ 0 c).arrAt_in (2 : Fin 5) rfl _), ((h c).1 (3 : Fin 5)).trans ((dats T0 T1 hR m ρ 0 c).arrAt_in (3 : Fin 5) rfl _)⟩) (run_main T0 T1 hR m ρ h0 h1)

include hR in
/-- From any memory whose tables are the given ones: every run ends, nothing faults, the arguments end unchanged and the
    semaphore counters at zero. -/
theorem frame (h0 : ∀ c : Dev nD, m ((c : Thread nD τ).loc main_arg1) = T0) (h1 : ∀ c : Dev nD, m ((c : Thread nD τ).loc main_arg2) = T1) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T0 T1 hR m ρ h0 h1) ((θ_run defs _ _).mono (fun _ h => h.2) (run_main_quiescent T0 T1 hR m ρ h0 h1))

end Cert.LaterIdeal.Moe

end
-- ==== Proof.Later.Value.lean ====
/- The result of the second layer's experts call at the exact instance: every row of a tile in use is that row through the tile's expert. -/
module

public import proofs.«01_k».proof.Proof.Moe.Spec
public import proofs.«01_k».proof.Proof.Later.Frame

@[expose] public section

set_option maxRecDepth 16384

noncomputable section

namespace Cert.LaterIdeal.Moe

open Cert.LaterIdeal Cert.LaterIdeal.Gen Cert.Moe
open Idealize.ShloMosaic Idealize.ShloMosaic.TcCoe Idealize.SL.Sem
open Idealize.ShloMosaic.Pipeline (Dat)

/-- The rounded gate weights are the block. -/
theorem pay1_at (w : FVec Ideal S1x1024x512 .f32) (d : Fin 1024) (f : Fin 512) : k0_pay1 (F := Ideal) w (ix2 d f) = w (ix3 (0 : Fin 1) d f) := by
  pointwise [k0_pay1]

/-- So are the up weights. -/
theorem pay2_at (w : FVec Ideal S1x1024x512 .f32) (d : Fin 1024) (f : Fin 512) : k0_pay2 (F := Ideal) w (ix2 d f) = w (ix3 (0 : Fin 1) d f) := by
  pointwise [k0_pay2]

/-- And the down weights. -/
theorem pay3_at (w : FVec Ideal S1x512x1024 .f32) (f : Fin 512) (b : Fin 1024) : k0_pay3 (F := Ideal) w (ix2 f b) = w (ix3 (0 : Fin 1) f b) := by
  pointwise [k0_pay3]

/-- The stored block at one entry. -/
theorem pay4_at (x : FVec Ideal S256x1024 .bf16) (g u : FVec Ideal S1024x512 .bf16) (w : FVec Ideal S512x1024 .bf16) (a : Fin 256) (b : Fin 1024) :
    k0_pay4 (F := Ideal) x g u w (ix2 a b) = ∑ f : Fin 512, hid (∑ d : Fin 1024, x (ix2 a d) * g (ix2 d f)) (∑ d : Fin 1024, x (ix2 a d) * u (ix2 d f)) * w (ix2 f b) := by
  pointwise [k0_pay4, hid]

variable (T0 : S288.Idx → BitVec 32) (T1 : S1.Idx → BitVec 32) (hR : Routed T0 T1)
variable (m : (ℓ : Loc nD τ sig) → Buf (Elt Ideal) ℓ) (ρ : Dev nD → PrngReg)

/-- The arguments as arrays of extended reals. -/
abbrev rowsOf (c : Dev nD) : FVec Ideal RowS .bf16 := m ((c : Thread nD τ).loc main_arg0)

/-- The gate weights. -/
abbrev gateOf (c : Dev nD) : FVec Ideal UpS .f32 := m ((c : Thread nD τ).loc main_arg3)

/-- The up weights. -/
abbrev upOf (c : Dev nD) : FVec Ideal UpS .f32 := m ((c : Thread nD τ).loc main_arg4)

/-- The down weights. -/
abbrev downOf (c : Dev nD) : FVec Ideal DownS .f32 := m ((c : Thread nD τ).loc main_arg5)

/-- What a point of a tile in use computes: its rows through its expert. -/
theorem outAt_at (c : Dev nD) (t : Fin (cfgA T0 T1 hR).N) (ht : t.val < used T1) (a : Fin 256) (b : Fin 1024) (r : Fin 73728) (hr : r.val = t.val * 256 + a.val)
    (e : Fin 64) (he : e.val = expert T0 (tile T0 T1 hR t)) :
    (outAt T0 T1 hR m ρ c t : S256x1024.Idx → EReal) (ix2 a b) = ffn (rowsOf m c) (gateOf m c) (upOf m c) (downOf m c) e r b := by
  have h0 : ∀ d, (iblk T0 T1 hR m ρ c (0 : Fin 5) t : S256x1024.Idx → EReal) (ix2 a d) = rowsOf m c (ix2 r d) := fun d => iblk0_at T0 T1 hR m ρ c t ht a d r hr
  unfold outAt tileOut
  refine (pay4_at _ _ _ _ a b).trans ?_
  refine Finset.sum_congr rfl fun f _ => ?_
  rw [show (k0_pay3 (F := Ideal) (iblk T0 T1 hR m ρ c (3 : Fin 5) t) : S512x1024.Idx → EReal) (ix2 f b) = downOf m c (ix3 e f b) from
    (pay3_at _ f b).trans (iblk3_at T0 T1 hR m ρ c t e he f b)]
  refine congrArg (· * _) (congrArg₂ hid (Finset.sum_congr rfl fun d _ => ?_) (Finset.sum_congr rfl fun d _ => ?_))
  · exact congrArg₂ (· * ·) (h0 d) ((pay1_at _ d f).trans (iblk1_at T0 T1 hR m ρ c t e he d f))
  · exact congrArg₂ (· * ·) (h0 d) ((pay2_at _ d f).trans (iblk2_at T0 T1 hR m ρ c t e he d f))

/-- Where a block index of the result sits in the array. -/
theorem emb4 (t : Fin (cfgA T0 T1 hR).N) (y : S256x1024.Idx) :
    (((((cfgA T0 T1 hR).win (4 : Fin 5)).blk t).view.emb y (0 : Fin 2) : Fin 73728) : ℕ) = (src T0 T1 hR t).val * 256 + (y 0 : ℕ)
      ∧ (((((cfgA T0 T1 hR).win (4 : Fin 5)).blk t).view.emb y (1 : Fin 2) : Fin 1024) : ℕ) = (y 1 : ℕ) := by
  have h := Pipeline.Window.rect_emb_val ((cfgA T0 T1 hR).win (4 : Fin 5)) t y
  rw [index4] at h
  refine ⟨(h (0 : Fin 2)).trans rfl, (h (1 : Fin 2)).trans ?_⟩
  show 0 * 1024 + (y 1 : ℕ) = _
  omega

/-- The result array after the last point, at a row of a tile in use. -/
theorem final (c : Dev nD) (r : Fin 73728) (b : Fin 1024) (k : Fin 288) (hk : (k : ℕ) = (r : ℕ) / 256) (hu : (k : ℕ) < used T1) (e : Fin 64) (he : e.val = expert T0 k) :
    ((dats T0 T1 hR m ρ 0 c).arrAt (4 : Fin 5) (cfgA T0 T1 hR).N : S73728x1024.Idx → EReal) (ix2 r b) = ffn (rowsOf m c) (gateOf m c) (upOf m c) (downOf m c) e r b := by
  have hp := hR.pos
  have hle := hR.le
  have hr := r.isLt
  have hkl := k.isLt
  -- the point that writes the tile back: the tile's own, or the last for the last tile in use
  obtain ⟨t, ht, hs⟩ : ∃ t : Fin (cfgA T0 T1 hR).N, ((cfgA T0 T1 hR).win (4 : Fin 5)).flush t = true ∧ (src T0 T1 hR t).val = k.val := by
    have hN : (cfgA T0 T1 hR).N = 288 := N_0
    by_cases q : k.val + 1 < used T1
    · refine ⟨⟨k.val, by omega⟩, ?_, ?_⟩
      · rw [flush4]; exact decide_eq_true (.inl q)
      · show min k.val (used T1 - 1) = k.val; omega
    · refine ⟨⟨287, by omega⟩, ?_, ?_⟩
      · rw [flush4]; exact decide_eq_true (.inr rfl)
      · show min 287 (used T1 - 1) = k.val; omega
  refine (dats T0 T1 hR m ρ 0 c).arrAt_forall_of_flushed (4 : Fin 5)
    (fun i v => i = (ix2 r b : S73728x1024.Idx) → (show EReal from v) = ffn (rowsOf m c) (gateOf m c) (upOf m c) (downOf m c) e r b)
    (fun t' _ y hy => ?_) (cfgA T0 T1 hR).N t (ix2 r b) t.isLt ht ?_ rfl
  · obtain ⟨e0, e1⟩ := emb4 T0 T1 hR t' y
    have h0 : (r : ℕ) = (src T0 T1 hR t').val * 256 + (y 0 : ℕ) := by rw [← e0, hy]; rfl
    have h1 : (b : ℕ) = (y 1 : ℕ) := by rw [← e1, hy]; rfl
    have y0 : (y 0 : ℕ) < 256 := (y 0).isLt
    have hk' : tile T0 T1 hR (src T0 T1 hR t') = k := Fin.ext (by show (src T0 T1 hR t').val = k.val; omega)
    have ey : y = (ix2 (y 0 : Fin 256) b : S256x1024.Idx) := by
      funext d; fin_cases d
      · rfl
      · exact Fin.ext h1.symm
    show (outAt T0 T1 hR m ρ c (src T0 T1 hR t') : S256x1024.Idx → EReal) y = _
    rw [ey]
    exact outAt_at T0 T1 hR m ρ c (src T0 T1 hR t') (by show min t'.val (used T1 - 1) < used T1; omega) (y 0) b r h0 e (by rw [hk']; exact he)
  · refine Finset.mem_map.mpr ⟨(ix2 (⟨(r : ℕ) % 256, Nat.mod_lt _ (by decide)⟩ : Fin 256) b : S256x1024.Idx), Finset.mem_univ _, ?_⟩
    obtain ⟨e0, e1⟩ := emb4 T0 T1 hR t (ix2 (⟨(r : ℕ) % 256, Nat.mod_lt _ (by decide)⟩ : Fin 256) b)
    funext d; fin_cases d
    · refine Fin.ext (e0.trans ?_)
      show (src T0 T1 hR t).val * 256 + (r : ℕ) % 256 = r.val
      omega
    · exact Fin.ext e1

end Cert.LaterIdeal.Moe

end
-- ==== Proof.Later.Reference.lean ====
/- What the second layer's reference computes: the stages of the first layer's (Proof/Moe/Reference.lean) on the last 32
   experts. -/
module

public import proofs.«01_k».proof.Proof.Gen.LaterReferenceIdeal
public import proofs.«01_k».proof.Proof.Gen.LaterReferenceIdeal.Run
public import proofs.«01_k».proof.Proof.Moe.Reference

@[expose] public section

set_option maxRecDepth 16384

noncomputable section

namespace Cert.Moe.LaterRef

open Cert.Moe.Ref (projs hidden comb mix projs_at hidden_at comb_at mix_at)
open Cert.LaterReferenceIdeal Cert.LaterReferenceIdeal.Gen Idealize.ShloMosaic Idealize.ShloMosaic.TcCoe Idealize.SL.Sem

/-- The second layer's gate or up weights. -/
def up (W : FVec Ideal S64x1024x512 .f32) : FVec Ideal S32x1024x512 .f32 :=
  shapeCast _ (extractStridedSlice S1x32x1024x512 ![1, 0, 0, 0] (shapeCast _ W shapeCasts_S64x1024x512_S2x32x1024x512) slices_S2x32x1024x512_S1x32x1024x512_1_0_0_0) shapeCasts_S1x32x1024x512_S32x1024x512

/-- The second layer's down weights. -/
def down (W : FVec Ideal S64x512x1024 .f32) : FVec Ideal S32x512x1024 .f32 :=
  shapeCast _ (extractStridedSlice S1x32x512x1024 ![1, 0, 0, 0] (shapeCast _ W shapeCasts_S64x512x1024_S2x32x512x1024) slices_S2x32x512x1024_S1x32x512x1024_1_0_0_0) shapeCasts_S1x32x512x1024_S32x512x1024

/-- The whole. -/
def whole (X : FVec Ideal S73728x1024 .bf16) (T : IVec S288 32) (Wg Wu : FVec Ideal S64x1024x512 .f32) (Wd : FVec Ideal S64x512x1024 .f32) : FVec Ideal S73728x1024 .bf16 :=
  mix (comb T) (hidden (projs X (up Wg)) (projs X (up Wu))) (down Wd)

/-- The second layer's experts are the last 32. -/
theorem up_at (W : FVec Ideal S64x1024x512 .f32) (e : Fin 32) (d : Fin 1024) (f : Fin 512) :
    up W (ix3 e d f) = W (ix3 (⟨32 + e, by omega⟩ : Fin 64) d f) := by
  pointwise [up]

/-- Also of the down weights. -/
theorem down_at (W : FVec Ideal S64x512x1024 .f32) (e : Fin 32) (f : Fin 512) (b : Fin 1024) :
    down W (ix3 e f b) = W (ix3 (⟨32 + e, by omega⟩ : Fin 64) f b) := by
  pointwise [down]

/-- The result at a row: the row through the expert its tile names. -/
theorem whole_at (X : FVec Ideal S73728x1024 .bf16) (T : IVec S288 32) (Wg Wu : FVec Ideal S64x1024x512 .f32) (Wd : FVec Ideal S64x512x1024 .f32)
    (r : Fin 73728) (b : Fin 1024) (k : Fin 288) (hk : (k : ℕ) = (r : ℕ) / 256) (e : Fin 64) (he : (e : ℕ) = 32 + (T (ix1 k)).toNat) (h : (T (ix1 k)).toNat < 32) :
    whole X T Wg Wu Wd (ix2 r b) = ffn X Wg Wu Wd e r b := by
  have hc := fun e' : Fin 32 => comb_at T r e' k (Fin.ext hk)
  have hk' : (⟨32 + (T (ix1 k)).toNat, by omega⟩ : Fin 64) = e := Fin.ext he.symm
  have hp : ∀ (W : FVec Ideal S64x1024x512 .f32) (f : Fin 512), projs X (up W) (ix3 (⟨(T (ix1 k)).toNat, h⟩ : Fin 32) r f) = proj X W e r f := fun W f => by
    rw [projs_at]
    exact Finset.sum_congr rfl fun d _ => by rw [up_at, hk']; exact mul_comm _ _
  unfold whole
  rw [mix_at, sum_chosen (⟨(T (ix1 k)).toNat, h⟩ : Fin 32) _ _ ?_ ?_]
  · refine Finset.sum_congr rfl fun f _ => ?_
    rw [hidden_at, hp, hp, down_at, hk']
  · rw [hc]
    refine if_pos ?_
    show T (ix1 k) = BitVec.ofNat 32 (T (ix1 k)).toNat
    rw [BitVec.ofNat_toNat, BitVec.setWidth_eq]
  · intro e' hne
    rw [hc, if_neg]
    intro hq
    refine hne (Fin.ext ?_)
    have := congrArg BitVec.toNat hq
    rw [BitVec.toNat_ofNat, Nat.mod_eq_of_lt (by omega)] at this
    exact this.symm

/-- The run's composed term is the stages composed. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = whole (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨(h c).1, (h c).2⟩) (Cert.LaterReferenceIdeal.Value.run m ρ)

end Cert.Moe.LaterRef

end
-- ==== Proof.LaterBits.Body.lean ====
/- The body of the second layer's experts call at one grid point, at the bit-level instance, whichever of its two conditions hold: with the
   three weight blocks in their windows and — unless it reads them anew — already rounded in the scratch buffers, it leaves
   the scratch buffers holding the rounded blocks, and the tile's rows through the expert in the output window where the
   tile is in use. -/
module

public import proofs.«01_k».proof.Proof.Gen.Later.Flash.Runs
public import Idealize.ShloMosaic.Lib.VecWindow

@[expose] public section

set_option maxRecDepth 16384

noncomputable section

namespace Cert.Later.Moe

open Cert.Later Cert.Later.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (UR sig nD τ) ℕ

/-- The point reads the weights anew: it is the first, or its tile's expert is not the one of the tile before. -/
abbrev Loads (i : grid0.Coords) (T0 : S288.Idx → Elt Bits .i32) : Prop :=
  (Scalar.cmpi .ne (Scalar.extui (Scalar.ori (Scalar.cmpi .eq (BitVec.ofNat 32 (i 0).val) 0#32) (Scalar.cmpi .ne (View.readAt (Elt Bits) (tbM0_0).view (Rect.unit (s := S288) (k0_off1 i) S1.size (k0_off1_inb i)).toLoadRect T0 (Shape.Idx.first (numel1_S1.symm ▸ Nat.one_pos))) (View.readAt (Elt Bits) (tbM0_0).view (Rect.unit (s := S288) (k0_off2 i) S1.size (k0_off2_inb i)).toLoadRect T0 (Shape.Idx.first (numel1_S1.symm ▸ Nat.one_pos)))))) 0#32) = 1#1

/-- The point's tile is in use. -/
abbrev Stores (i : grid0.Coords) (T1 : S1.Idx → Elt Bits .i32) : Prop :=
  k0_cond2 i (View.readAt (Elt Bits) (tbM0_1).view (Rect.unit (s := S1) ![0] S1.size inb_S1_S1_0).toLoadRect T1 (Shape.Idx.first (numel1_S1.symm ▸ Nat.one_pos))) = 1#1

/-- What the body leaves in the output window where the tile is in use. -/
def tileOut (x0 : S256x1024.Idx → Elt Bits .bf16) (x1 x2 : S1x1024x512.Idx → Elt Bits .f32) (x3 : S1x512x1024.Idx → Elt Bits .f32) :
    S256x1024.Idx → Elt Bits .bf16 := k0_pay4 (F := Bits) x0 (k0_pay1 (F := Bits) x1) (k0_pay2 (F := Bits) x2) (k0_pay3 (F := Bits) x3)

/-- A scratch buffer, held at contents that read `s`. -/
abbrev held {sh : Shape} {e : EltTy} (c : Dev nD) (m : Memref sig .tc .vmem sh e) (s : sh.Idx → Elt Bits e) : sProp 𝕄 :=
  iprop(∃ b : Buf (Elt Bits) (m.view.loc (c : Thread nD τ)), ⌜m.view.read (Elt Bits) b = s⌝ ∗ (m.view.loc (c : Thread nD τ) ↦{fullShare} b))

section
variable (c : Dev nD) (i : grid0.Coords) (arg3 : Memref sig .tc .vmem S256x1024 .bf16) (harg3 : arg3.IsWhole)
  (arg4 : Memref sig .tc .vmem S1x1024x512 .f32) (harg4 : arg4.IsWhole) (arg5 : Memref sig .tc .vmem S1x1024x512 .f32) (harg5 : arg5.IsWhole)
  (arg6 : Memref sig .tc .vmem S1x512x1024 .f32) (harg6 : arg6.IsWhole) (arg7 : Memref sig .tc .vmem S256x1024 .bf16) (harg7 : arg7.IsWhole)
  (T0 : S288.Idx → Elt Bits .i32) (T1 : S1.Idx → Elt Bits .i32) (x0 : S256x1024.Idx → Elt Bits .bf16)
  (x1 x2 : S1x1024x512.Idx → Elt Bits .f32) (x3 : S1x512x1024.Idx → Elt Bits .f32)
  (a0 : Buf (Elt Bits) ((c : Thread nD τ).loc cc0_scratch0)) (a1 : Buf (Elt Bits) ((c : Thread nD τ).loc cc0_scratch1))
  (a2 : Buf (Elt Bits) ((c : Thread nD τ).loc cc0_scratch2))

/-- Reading the weights anew leaves the first scratch buffer holding the gate block, where the tile is in use. -/
theorem loadA0 (q0 : Loads i T0) (q1 : Stores i T1) : scM0_0.view.read (Elt Bits) (kernelRun0_A c i arg3 harg3 arg4 harg4 arg5 harg5 arg6 harg6 arg7 harg7 T0 T1 x0 x1 x2 x3 q0 q1).2.1 = k0_pay1 (F := Bits) x1 := by
  unfold kernelRun0_A; dsimp only; unfold kernelRun0_A.sl.HS0_1
  rw [show View.whole cc0_scratch0 = scM0_0.view from rfl, View.read_writes_full, View.readAt_full, View.read_rep]

/-- Reading the weights anew leaves the second scratch buffer holding the up block, where the tile is in use. -/
theorem loadA1 (q0 : Loads i T0) (q1 : Stores i T1) : scM0_1.view.read (Elt Bits) (kernelRun0_A c i arg3 harg3 arg4 harg4 arg5 harg5 arg6 harg6 arg7 harg7 T0 T1 x0 x1 x2 x3 q0 q1).2.2.1 = k0_pay2 (F := Bits) x2 := by
  unfold kernelRun0_A; dsimp only; unfold kernelRun0_A.sl.HS1_1
  rw [show View.whole cc0_scratch1 = scM0_1.view from rfl, View.read_writes_full, View.readAt_full, View.read_rep]

/-- Reading the weights anew leaves the third scratch buffer holding the down block, where the tile is in use. -/
theorem loadA2 (q0 : Loads i T0) (q1 : Stores i T1) : scM0_2.view.read (Elt Bits) (kernelRun0_A c i arg3 harg3 arg4 harg4 arg5 harg5 arg6 harg6 arg7 harg7 T0 T1 x0 x1 x2 x3 q0 q1).2.2.2.1 = k0_pay3 (F := Bits) x3 := by
  unfold kernelRun0_A; dsimp only; unfold kernelRun0_A.sl.HS2_1
  rw [show View.whole cc0_scratch2 = scM0_2.view from rfl, View.read_writes_full, View.readAt_full, View.read_rep]

/-- Reading the weights anew leaves the first scratch buffer holding the gate block, where the tile is not in use. -/
theorem loadC0 (q0 : Loads i T0) (q1 : ¬Stores i T1) : scM0_0.view.read (Elt Bits) (kernelRun0_C c i arg3 harg3 arg4 harg4 arg5 harg5 arg6 harg6 arg7 harg7 T0 T1 x0 x1 x2 x3 q0 q1).1 = k0_pay1 (F := Bits) x1 := by
  unfold kernelRun0_C; dsimp only; unfold kernelRun0_C.sl.HS0_1
  rw [show View.whole cc0_scratch0 = scM0_0.view from rfl, View.read_writes_full, View.readAt_full, View.read_rep]

/-- Reading the weights anew leaves the second scratch buffer holding the up block, where the tile is not in use. -/
theorem loadC1 (q0 : Loads i T0) (q1 : ¬Stores i T1) : scM0_1.view.read (Elt Bits) (kernelRun0_C c i arg3 harg3 arg4 harg4 arg5 harg5 arg6 harg6 arg7 harg7 T0 T1 x0 x1 x2 x3 q0 q1).2.1 = k0_pay2 (F := Bits) x2 := by
  unfold kernelRun0_C; dsimp only; unfold kernelRun0_C.sl.HS1_1
  rw [show View.whole cc0_scratch1 = scM0_1.view from rfl, View.read_writes_full, View.readAt_full, View.read_rep]

/-- Reading the weights anew leaves the third scratch buffer holding the down block, where the tile is not in use. -/
theorem loadC2 (q0 : Loads i T0) (q1 : ¬Stores i T1) : scM0_2.view.read (Elt Bits) (kernelRun0_C c i arg3 harg3 arg4 harg4 arg5 harg5 arg6 harg6 arg7 harg7 T0 T1 x0 x1 x2 x3 q0 q1).2.2.1 = k0_pay3 (F := Bits) x3 := by
  unfold kernelRun0_C; dsimp only; unfold kernelRun0_C.sl.HS2_1
  rw [show View.whole cc0_scratch2 = scM0_2.view from rfl, View.read_writes_full, View.readAt_full, View.read_rep]

/-- The store of a point that reads the weights anew is the tile's rows through the expert. -/
theorem storeA (q0 : Loads i T0) (q1 : Stores i T1) (f : arg7.view.ty.Contents (Elt Bits)) :
    arg7.view.read (Elt Bits) (arg7.view.writes (Elt Bits) f (kernelRun0_A c i arg3 harg3 arg4 harg4 arg5 harg5 arg6 harg6 arg7 harg7 T0 T1 x0 x1 x2 x3 q0 q1).1) = tileOut x0 x1 x2 x3 := by
  unfold kernelRun0_A; dsimp only
  unfold kernelRun0_A.sl.HO4_1 kernelRun0_A.sl.v16 kernelRun0_A.sl.v18 kernelRun0_A.sl.v24 tileOut
  rw [View.read_writes_full, View.readAt_full, View.read_rep]
  unfold kernelRun0_A.sl.HS0_1 kernelRun0_A.sl.HS1_1 kernelRun0_A.sl.HS2_1
  rw [View.readCov_full, View.readCov_full, View.readCov_full]
  rw [View.readAt_full, View.read_rep, View.readAt_full, View.read_rep, View.readAt_full, View.read_rep]

/-- So is the store of a point that finds them rounded already. -/
theorem storeB (q0 : ¬Loads i T0) (q1 : Stores i T1) (f : arg7.view.ty.Contents (Elt Bits)) (h0 : scM0_0.view.read (Elt Bits) a0 = k0_pay1 (F := Bits) x1)
    (h1 : scM0_1.view.read (Elt Bits) a1 = k0_pay2 (F := Bits) x2) (h2 : scM0_2.view.read (Elt Bits) a2 = k0_pay3 (F := Bits) x3) :
    arg7.view.read (Elt Bits) (arg7.view.writes (Elt Bits) f (kernelRun0_B c i arg3 harg3 arg4 harg4 arg5 harg5 arg6 harg6 arg7 harg7 T0 T1 x0 x1 x2 x3 a0 a1 a2 q0 q1).1) = tileOut x0 x1 x2 x3 := by
  unfold kernelRun0_B; dsimp only
  unfold kernelRun0_B.sl.HO4_1 tileOut
  rw [View.read_writes_full, View.readAt_full, View.read_rep, View.readAt_full, View.readAt_full, View.readAt_full, h0, h1, h2]

/-- A point that finds them rounded already leaves the first scratch buffer be, -/
theorem keepB0 (q0 : ¬Loads i T0) (q1 : Stores i T1) : (kernelRun0_B c i arg3 harg3 arg4 harg4 arg5 harg5 arg6 harg6 arg7 harg7 T0 T1 x0 x1 x2 x3 a0 a1 a2 q0 q1).2.1 = a0 := by unfold kernelRun0_B; rfl

/-- the second, -/
theorem keepB1 (q0 : ¬Loads i T0) (q1 : Stores i T1) : (kernelRun0_B c i arg3 harg3 arg4 harg4 arg5 harg5 arg6 harg6 arg7 harg7 T0 T1 x0 x1 x2 x3 a0 a1 a2 q0 q1).2.2.1 = a1 := by unfold kernelRun0_B; rfl

/-- and the third, -/
theorem keepB2 (q0 : ¬Loads i T0) (q1 : Stores i T1) : (kernelRun0_B c i arg3 harg3 arg4 harg4 arg5 harg5 arg6 harg6 arg7 harg7 T0 T1 x0 x1 x2 x3 a0 a1 a2 q0 q1).2.2.2.1 = a2 := by unfold kernelRun0_B; rfl

/-- also where the tile is not in use: the first, -/
theorem keepD0 (q0 : ¬Loads i T0) (q1 : ¬Stores i T1) : (kernelRun0_D c i arg3 harg3 arg4 harg4 arg5 harg5 arg6 harg6 arg7 harg7 T0 T1 x0 x1 x2 x3 a0 a1 a2 q0 q1).1 = a0 := by unfold kernelRun0_D; rfl

/-- the second, -/
theorem keepD1 (q0 : ¬Loads i T0) (q1 : ¬Stores i T1) : (kernelRun0_D c i arg3 harg3 arg4 harg4 arg5 harg5 arg6 harg6 arg7 harg7 T0 T1 x0 x1 x2 x3 a0 a1 a2 q0 q1).2.1 = a1 := by unfold kernelRun0_D; rfl

/-- and the third. -/
theorem keepD2 (q0 : ¬Loads i T0) (q1 : ¬Stores i T1) : (kernelRun0_D c i arg3 harg3 arg4 harg4 arg5 harg5 arg6 harg6 arg7 harg7 T0 T1 x0 x1 x2 x3 a0 a1 a2 q0 q1).2.2.1 = a2 := by unfold kernelRun0_D; rfl

set_option maxHeartbeats 2000000 in
/-- The body at a point that reads the weights anew, its tile in use. -/
theorem bodyA (q0 : Loads i T0) (q1 : Stores i T1) (d : S256x1024.Idx → Elt Bits .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare (tileOut x0 x1 x2 x3)
        ∗ held c scM0_0 (k0_pay1 (F := Bits) x1) ∗ held c scM0_1 (k0_pay2 (F := Bits) x2) ∗ held c scM0_2 (k0_pay3 (F := Bits) x3)) -∗ K ⟨⟩))
      ⊢ wp frame (wpE (defs₀ (F := Bits)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_A c i arg3 harg3 arg4 harg4 arg5 harg5 arg6 harg6 arg7 harg7 T0 T1 x0 x1 x2 x3 q0 q1).2.2.2.2 a0 a1 a2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists d; iexact H4
  isplitl [HS0]; · iexact HS0
  isplitl [HS1]; · iexact HS1
  isplitl [HS2]; · iexact HS2
  iintro ⟨H0, H1, H2, H3, HT0, HT1, ⟨%f, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact storeA c i arg3 harg3 arg4 harg4 arg5 harg5 arg6 harg6 arg7 harg7 T0 T1 x0 x1 x2 x3 q0 q1 f
  isplitl [HS0]
  · iexists _; isplitr; swap
    · iexact HS0
    · ipureintro; exact loadA0 c i arg3 harg3 arg4 harg4 arg5 harg5 arg6 harg6 arg7 harg7 T0 T1 x0 x1 x2 x3 q0 q1
  isplitl [HS1]
  · iexists _; isplitr; swap
    · iexact HS1
    · ipureintro; exact loadA1 c i arg3 harg3 arg4 harg4 arg5 harg5 arg6 harg6 arg7 harg7 T0 T1 x0 x1 x2 x3 q0 q1
  iexists _; isplitr; swap
  · iexact HS2
  · ipureintro; exact loadA2 c i arg3 harg3 arg4 harg4 arg5 harg5 arg6 harg6 arg7 harg7 T0 T1 x0 x1 x2 x3 q0 q1

set_option maxHeartbeats 2000000 in
/-- The body at a point that finds the weights rounded already, its tile in use. -/
theorem bodyB (q0 : ¬Loads i T0) (q1 : Stores i T1)
    (h0 : scM0_0.view.read (Elt Bits) a0 = k0_pay1 (F := Bits) x1) (h1 : scM0_1.view.read (Elt Bits) a1 = k0_pay2 (F := Bits) x2)
    (h2 : scM0_2.view.read (Elt Bits) a2 = k0_pay3 (F := Bits) x3) (d : S256x1024.Idx → Elt Bits .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare (tileOut x0 x1 x2 x3)
        ∗ held c scM0_0 (k0_pay1 (F := Bits) x1) ∗ held c scM0_1 (k0_pay2 (F := Bits) x2) ∗ held c scM0_2 (k0_pay3 (F := Bits) x3)) -∗ K ⟨⟩))
      ⊢ wp frame (wpE (defs₀ (F := Bits)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_B c i arg3 harg3 arg4 harg4 arg5 harg5 arg6 harg6 arg7 harg7 T0 T1 x0 x1 x2 x3 a0 a1 a2 q0 q1).2.2.2.2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists d; iexact H4
  isplitl [HS0]; · iexact HS0
  isplitl [HS1]; · iexact HS1
  isplitl [HS2]; · iexact HS2
  iintro ⟨H0, H1, H2, H3, HT0, HT1, ⟨%f, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact storeB c i arg3 harg3 arg4 harg4 arg5 harg5 arg6 harg6 arg7 harg7 T0 T1 x0 x1 x2 x3 a0 a1 a2 q0 q1 f h0 h1 h2
  isplitl [HS0]
  · iexists _; isplitr; swap
    · iexact HS0
    · ipureintro; exact (congrArg _ (keepB0 c i arg3 harg3 arg4 harg4 arg5 harg5 arg6 harg6 arg7 harg7 T0 T1 x0 x1 x2 x3 a0 a1 a2 q0 q1)).trans h0
  isplitl [HS1]
  · iexists _; isplitr; swap
    · iexact HS1
    · ipureintro; exact (congrArg _ (keepB1 c i arg3 harg3 arg4 harg4 arg5 harg5 arg6 harg6 arg7 harg7 T0 T1 x0 x1 x2 x3 a0 a1 a2 q0 q1)).trans h1
  iexists _; isplitr; swap
  · iexact HS2
  · ipureintro; exact (congrArg _ (keepB2 c i arg3 harg3 arg4 harg4 arg5 harg5 arg6 harg6 arg7 harg7 T0 T1 x0 x1 x2 x3 a0 a1 a2 q0 q1)).trans h2

set_option maxHeartbeats 2000000 in
/-- The body at a point that reads the weights anew, its tile not in use. -/
theorem bodyC (q0 : Loads i T0) (q1 : ¬Stores i T1) (d : S256x1024.Idx → Elt Bits .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare d
        ∗ held c scM0_0 (k0_pay1 (F := Bits) x1) ∗ held c scM0_1 (k0_pay2 (F := Bits) x2) ∗ held c scM0_2 (k0_pay3 (F := Bits) x3)) -∗ K ⟨⟩))
      ⊢ wp frame (wpE (defs₀ (F := Bits)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_C c i arg3 harg3 arg4 harg4 arg5 harg5 arg6 harg6 arg7 harg7 T0 T1 x0 x1 x2 x3 q0 q1).2.2.2 d a0 a1 a2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]; · iexact H4
  isplitl [HS0]
  · iexists _; isplitr; swap
    · iexact HS0
    · ipureintro; exact loadC0 c i arg3 harg3 arg4 harg4 arg5 harg5 arg6 harg6 arg7 harg7 T0 T1 x0 x1 x2 x3 q0 q1
  isplitl [HS1]
  · iexists _; isplitr; swap
    · iexact HS1
    · ipureintro; exact loadC1 c i arg3 harg3 arg4 harg4 arg5 harg5 arg6 harg6 arg7 harg7 T0 T1 x0 x1 x2 x3 q0 q1
  iexists _; isplitr; swap
  · iexact HS2
  · ipureintro; exact loadC2 c i arg3 harg3 arg4 harg4 arg5 harg5 arg6 harg6 arg7 harg7 T0 T1 x0 x1 x2 x3 q0 q1

set_option maxHeartbeats 2000000 in
/-- The body at a point that finds the weights rounded already, its tile not in use. -/
theorem bodyD (q0 : ¬Loads i T0) (q1 : ¬Stores i T1)
    (h0 : scM0_0.view.read (Elt Bits) a0 = k0_pay1 (F := Bits) x1) (h1 : scM0_1.view.read (Elt Bits) a1 = k0_pay2 (F := Bits) x2)
    (h2 : scM0_2.view.read (Elt Bits) a2 = k0_pay3 (F := Bits) x3) (d : S256x1024.Idx → Elt Bits .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare d
        ∗ held c scM0_0 (k0_pay1 (F := Bits) x1) ∗ held c scM0_1 (k0_pay2 (F := Bits) x2) ∗ held c scM0_2 (k0_pay3 (F := Bits) x3)) -∗ K ⟨⟩))
      ⊢ wp frame (wpE (defs₀ (F := Bits)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  iapply ((kernelRun0_D c i arg3 harg3 arg4 harg4 arg5 harg5 arg6 harg6 arg7 harg7 T0 T1 x0 x1 x2 x3 a0 a1 a2 q0 q1).2.2.2 d K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]; · iexact H4
  isplitl [HS0]
  · iexists _; isplitr; swap
    · iexact HS0
    · ipureintro; exact (congrArg _ (keepD0 c i arg3 harg3 arg4 harg4 arg5 harg5 arg6 harg6 arg7 harg7 T0 T1 x0 x1 x2 x3 a0 a1 a2 q0 q1)).trans h0
  isplitl [HS1]
  · iexists _; isplitr; swap
    · iexact HS1
    · ipureintro; exact (congrArg _ (keepD1 c i arg3 harg3 arg4 harg4 arg5 harg5 arg6 harg6 arg7 harg7 T0 T1 x0 x1 x2 x3 a0 a1 a2 q0 q1)).trans h1
  iexists _; isplitr; swap
  · iexact HS2
  · ipureintro; exact (congrArg _ (keepD2 c i arg3 harg3 arg4 harg4 arg5 harg5 arg6 harg6 arg7 harg7 T0 T1 x0 x1 x2 x3 a0 a1 a2 q0 q1)).trans h2

/-- THE BODY AT A POINT, on any staging buffers: see the head of the module. -/
theorem body_run (hk : ¬Loads i T0 → scM0_0.view.read (Elt Bits) a0 = k0_pay1 (F := Bits) x1 ∧ scM0_1.view.read (Elt Bits) a1 = k0_pay2 (F := Bits) x2
      ∧ scM0_2.view.read (Elt Bits) a2 = k0_pay3 (F := Bits) x3) (d e : S256x1024.Idx → Elt Bits .bf16)
    (he : Stores i T1 → e = tileOut x0 x1 x2 x3) (he' : ¬Stores i T1 → e = d) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1) ∗ owns (c : Thread nD τ) arg7 fullShare d
        ∗ (scM0_0.view.loc (c : Thread nD τ) ↦{fullShare} a0) ∗ (scM0_1.view.loc (c : Thread nD τ) ↦{fullShare} a1)
        ∗ (scM0_2.view.loc (c : Thread nD τ) ↦{fullShare} a2)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ (tbM0_0.view.loc (c : Thread nD τ) ↦{fullShare.right} T0)
        ∗ (tbM0_1.view.loc (c : Thread nD τ) ↦{fullShare.right} T1)
        ∗ owns (c : Thread nD τ) arg7 fullShare e
        ∗ held c scM0_0 (k0_pay1 (F := Bits) x1) ∗ held c scM0_1 (k0_pay2 (F := Bits) x2) ∗ held c scM0_2 (k0_pay3 (F := Bits) x3)) -∗ K ⟨⟩))
      ⊢ wp frame (wpE (defs₀ (F := Bits)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  by_cases q0 : Loads i T0 <;> by_cases q1 : Stores i T1
  · rw [he q1]; exact bodyA c i arg3 harg3 arg4 harg4 arg5 harg5 arg6 harg6 arg7 harg7 T0 T1 x0 x1 x2 x3 a0 a1 a2 q0 q1 d K
  · rw [he' q1]; exact bodyC c i arg3 harg3 arg4 harg4 arg5 harg5 arg6 harg6 arg7 harg7 T0 T1 x0 x1 x2 x3 a0 a1 a2 q0 q1 d K
  · rw [he q1]; exact bodyB c i arg3 harg3 arg4 harg4 arg5 harg5 arg6 harg6 arg7 harg7 T0 T1 x0 x1 x2 x3 a0 a1 a2 q0 q1 (hk q0).1 (hk q0).2.1 (hk q0).2.2 d K
  · rw [he' q1]; exact bodyD c i arg3 harg3 arg4 harg4 arg5 harg5 arg6 harg6 arg7 harg7 T0 T1 x0 x1 x2 x3 a0 a1 a2 q0 q1 (hk q0).1 (hk q0).2.1 (hk q0).2.2 d K

end

end Cert.Later.Moe

end
-- ==== Proof.LaterBits.Frame.lean ====
/- The run of the second layer's experts call, at the bit-level instance, for all tables within the bounds: what every buffer holds after
   every point, that the program ends with its arguments unchanged, and what its result array then holds. -/
module

public import proofs.«01_k».proof.Proof.LaterBits.Body
public import proofs.«01_k».proof.Proof.LaterBits.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Exec
public import Idealize.ShloMosaic.Lib.Tactic
public import Idealize.ShloMosaic.Adequacy
public import Idealize.ShloMosaic.Init

@[expose] public section

set_option maxRecDepth 16384

noncomputable section

namespace Cert.Later.Moe

open Cert.Later Cert.Later.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra, embedded whole. -/
abbrev EP : Emb (UR sig nD τ) 𝕄 := emb₁

variable (T0 : S288.Idx → BitVec 32) (T1 : S1.Idx → BitVec 32) (hR : Routed T0 T1)
variable (m : (ℓ : Loc nD τ sig) → Buf (Elt Bits) ℓ) (ρ : Dev nD → PrngReg)

/-! ## A point -/

/-- A point's coordinates. -/
abbrev crd (t : Fin (cfgA T0 T1 hR).N) : (cfgA T0 T1 hR).grid.Coords := (cfgA T0 T1 hR).grid.coords t

/-- Window 0's staging buffer at a point. -/
abbrev ms0_0 (t : Fin (cfgA T0 T1 hR).N) : Memref sig .tc .vmem S256x1024 .bf16 := spec0_0.stage ((cfgA T0 T1 hR).slots t (0 : Fin 5))

/-- It is a whole buffer. -/
abbrev hs0_0 (t : Fin (cfgA T0 T1 hR).N) : (ms0_0 T0 T1 hR t).IsWhole := hstage0_0 (((cfgA T0 T1 hR).slots t (0 : Fin 5)).cast nbuf0_0)

/-- Window 1's staging buffer at a point. -/
abbrev ms0_1 (t : Fin (cfgA T0 T1 hR).N) : Memref sig .tc .vmem S1x1024x512 .f32 := spec0_1.stage ((cfgA T0 T1 hR).slots t (1 : Fin 5))

/-- It is a whole buffer. -/
abbrev hs0_1 (t : Fin (cfgA T0 T1 hR).N) : (ms0_1 T0 T1 hR t).IsWhole := hstage0_1 (((cfgA T0 T1 hR).slots t (1 : Fin 5)).cast nbuf0_1)

/-- Window 2's staging buffer at a point. -/
abbrev ms0_2 (t : Fin (cfgA T0 T1 hR).N) : Memref sig .tc .vmem S1x1024x512 .f32 := spec0_2.stage ((cfgA T0 T1 hR).slots t (2 : Fin 5))

/-- It is a whole buffer. -/
abbrev hs0_2 (t : Fin (cfgA T0 T1 hR).N) : (ms0_2 T0 T1 hR t).IsWhole := hstage0_2 (((cfgA T0 T1 hR).slots t (2 : Fin 5)).cast nbuf0_2)

/-- Window 3's staging buffer at a point. -/
abbrev ms0_3 (t : Fin (cfgA T0 T1 hR).N) : Memref sig .tc .vmem S1x512x1024 .f32 := spec0_3.stage ((cfgA T0 T1 hR).slots t (3 : Fin 5))

/-- It is a whole buffer. -/
abbrev hs0_3 (t : Fin (cfgA T0 T1 hR).N) : (ms0_3 T0 T1 hR t).IsWhole := hstage0_3 (((cfgA T0 T1 hR).slots t (3 : Fin 5)).cast nbuf0_3)

/-- Window 4's staging buffer at a point. -/
abbrev ms0_4 (t : Fin (cfgA T0 T1 hR).N) : Memref sig .tc .vmem S256x1024 .bf16 := spec0_4.stage ((cfgA T0 T1 hR).slots t (4 : Fin 5))

/-- It is a whole buffer. -/
abbrev hs0_4 (t : Fin (cfgA T0 T1 hR).N) : (ms0_4 T0 T1 hR t).IsWhole := hstage0_4 (((cfgA T0 T1 hR).slots t (4 : Fin 5)).cast nbuf0_4)

/-- Window `w`'s block at a point, read off its array at launch. -/
def iblk (c : Dev nD) (w : Fin (cfgA T0 T1 hR).W) (t : Fin (cfgA T0 T1 hR).N) : (((cfgA T0 T1 hR).win w).xblock (crd T0 T1 hR t)).Idx → Elt Bits ((cfgA T0 T1 hR).win w).elt :=
  (((cfgA T0 T1 hR).win w).blk t).view.read (Elt Bits) ((s₀ m ρ).mem (((cfgA T0 T1 hR).win w).arr.view.loc (c : Thread nD τ)))

theorem lt_288 (t : Fin (cfgA T0 T1 hR).N) : t.val < 288 := lt_of_lt_of_eq t.isLt N_0

/-- A point as a tile. -/
def tile (t : Fin (cfgA T0 T1 hR).N) : Fin 288 := ⟨t.val, lt_288 T0 T1 hR t⟩

/-- The point whose tile the output's buffer holds after a point: the point itself, or the last in use. -/
def src (t : Fin (cfgA T0 T1 hR).N) : Fin (cfgA T0 T1 hR).N := ⟨min t.val (used T1 - 1), lt_of_le_of_lt (Nat.min_le_left _ _) t.isLt⟩

/-- The point before. -/
def prv (t : Fin ((cfgA T0 T1 hR).N + 1)) (h : t.val ≠ 0) : Fin (cfgA T0 T1 hR).N := ⟨t.val - 1, by omega⟩

/-- The output block a point computes. -/
def outAt (c : Dev nD) (t : Fin (cfgA T0 T1 hR).N) : S256x1024.Idx → Elt Bits .bf16 :=
  tileOut (iblk T0 T1 hR m ρ c (0 : Fin 5) t) (iblk T0 T1 hR m ρ c (1 : Fin 5) t) (iblk T0 T1 hR m ρ c (2 : Fin 5) t) (iblk T0 T1 hR m ρ c (3 : Fin 5) t)

/-! ## What the point's two conditions say -/

/-- A point reads the weights anew when it is the first or its expert is not that of the tile before. -/
theorem loads_iff (t : Fin (cfgA T0 T1 hR).N) : Loads (crd T0 T1 hR t) T0
    ↔ t.val = 0 ∨ T0 (ix1 (tile T0 T1 hR t)) ≠ T0 (ix1 (⟨t.val - 1, by have := lt_288 T0 T1 hR t; omega⟩ : Fin 288)) := by
  have ht : t.val < 288 := lt_288 T0 T1 hR t
  have hc : ((crd T0 T1 hR t) 0).val = t.val := coord_val t
  unfold Loads
  rw [Scalar.guard_iff,
    read_tab0 T0 (k0_off1 (crd T0 T1 hR t)) (k0_off1_inb _) numel1_S1 (tile T0 T1 hR t)
      (by show (BitVec.ofNat 32 ((crd T0 T1 hR t) 0).val).toNat = t.val; rw [hc, toNat_small ht]),
    read_tab0 T0 (k0_off2 (crd T0 T1 hR t)) (k0_off2_inb _) numel1_S1 (⟨t.val - 1, by omega⟩ : Fin 288)
      (by show (Scalar.maxsi (Scalar.subi (BitVec.ofNat 32 ((crd T0 T1 hR t) 0).val) 1#32) 0#32).toNat = t.val - 1; rw [hc, before_small ht])]
  show IntOp.ori (IntOp.cmpi .eq (BitVec.ofNat 32 ((crd T0 T1 hR t) 0).val) 0#32) (IntOp.cmpi .ne _ _) = 1#1 ↔ _
  rw [IntOp.ori_eq_one, IntOp.cmpi_eq, IntOp.cmpi_ne, hc]
  refine or_congr ⟨fun h => ?_, fun h => by rw [h]⟩ Iff.rfl
  have := congrArg BitVec.toNat h
  rwa [toNat_small ht] at this

/-- A point's tile is in use below the number of tiles in use. -/
theorem stores_iff (t : Fin (cfgA T0 T1 hR).N) : Stores (crd T0 T1 hR t) T1 ↔ t.val < used T1 := by
  unfold Stores
  rw [read_tab1 T1 inb_S1_S1_0 numel1_S1]
  have h := cond2_iff T0 T1 hR (crd T0 T1 hR t)
  rwa [show ((crd T0 T1 hR t) 0).val = t.val from coord_val t] at h

/-! ## The weight blocks -/

/-- The index of a weight block is the tile's expert. -/
theorem index1 (t : Fin (cfgA T0 T1 hR).N) : ((cfgA T0 T1 hR).win (1 : Fin 5)).index t = ![expert T0 (tile T0 T1 hR t), 0, 0] :=
  (map1 T0 T1 hR (grid0.coords t)).trans (by rw [show (grid0.coords t) 0 = tile T0 T1 hR t from Fin.ext (coord_val t)])

/-- Also of the up weights'. -/
theorem index2 (t : Fin (cfgA T0 T1 hR).N) : ((cfgA T0 T1 hR).win (2 : Fin 5)).index t = ![expert T0 (tile T0 T1 hR t), 0, 0] := index1 T0 T1 hR t

/-- And of the down weights'. -/
theorem index3 (t : Fin (cfgA T0 T1 hR).N) : ((cfgA T0 T1 hR).win (3 : Fin 5)).index t = ![expert T0 (tile T0 T1 hR t), 0, 0] := index1 T0 T1 hR t

/-- The block of rows: the tile's, or that of the last in use. -/
theorem index0 (t : Fin (cfgA T0 T1 hR).N) : ((cfgA T0 T1 hR).win (0 : Fin 5)).index t = ![min t.val (used T1 - 1), 0] := by
  refine (map0 T0 T1 hR (grid0.coords t)).trans ?_
  rw [coord_val t]

/-- The gate block at a point is the gate matrix of the tile's expert. -/
theorem iblk1_at (c : Dev nD) (t : Fin (cfgA T0 T1 hR).N) (e : Fin 64) (he : e.val = expert T0 (tile T0 T1 hR t)) (a : Fin 1024) (b : Fin 512) :
    (iblk T0 T1 hR m ρ c (1 : Fin 5) t : S1x1024x512.Idx → Elt Bits .f32) (ix3 (0 : Fin 1) a b) = (m ((c : Thread nD τ).loc main_arg3) : S64x1024x512.Idx → Elt Bits .f32) (ix3 e a b) := by
  refine congrArg (m ((c : Thread nD τ).loc main_arg3) : S64x1024x512.Idx → Elt Bits .f32) (funext fun d => Fin.ext ?_)
  have h := Pipeline.Window.rect_emb_val ((cfgA T0 T1 hR).win (1 : Fin 5)) t (ix3 (0 : Fin 1) a b)
  rw [index1] at h
  fin_cases d
  · refine (h (0 : Fin 3)).trans ?_
    show expert T0 (tile T0 T1 hR t) * 1 + 0 = e.val
    omega
  · refine (h (1 : Fin 3)).trans ?_
    show 0 * 1024 + a.val = a.val
    omega
  · refine (h (2 : Fin 3)).trans ?_
    show 0 * 512 + b.val = b.val
    omega

/-- It is the block of the point before where the expert is the same. -/
theorem iblk1_eq (c : Dev nD) (t t' : Fin (cfgA T0 T1 hR).N) (h : expert T0 (tile T0 T1 hR t) = expert T0 (tile T0 T1 hR t')) :
    (iblk T0 T1 hR m ρ c (1 : Fin 5) t : S1x1024x512.Idx → Elt Bits .f32) = iblk T0 T1 hR m ρ c (1 : Fin 5) t' := by
  funext y
  have he : expert T0 (tile T0 T1 hR t) ≤ 63 := Nat.add_le_add_left (hR.expert (tile T0 T1 hR t)) 32
  have y0 : (y 0).val < 1 := (y 0).isLt
  have ey : y = ix3 (0 : Fin 1) (y 1 : Fin 1024) (y 2 : Fin 512) := by
    funext d; fin_cases d
    · exact Fin.ext (by show (y 0).val = 0; omega)
    · rfl
    · rfl
  have l : expert T0 (tile T0 T1 hR t) < 64 := lt_of_le_of_lt he (by omega)
  rw [ey]
  exact (iblk1_at T0 T1 hR m ρ c t ⟨expert T0 (tile T0 T1 hR t), l⟩ rfl _ _).trans
    (iblk1_at T0 T1 hR m ρ c t' ⟨expert T0 (tile T0 T1 hR t), l⟩ h _ _).symm

/-- The up block at a point is the up matrix of the tile's expert. -/
theorem iblk2_at (c : Dev nD) (t : Fin (cfgA T0 T1 hR).N) (e : Fin 64) (he : e.val = expert T0 (tile T0 T1 hR t)) (a : Fin 1024) (b : Fin 512) :
    (iblk T0 T1 hR m ρ c (2 : Fin 5) t : S1x1024x512.Idx → Elt Bits .f32) (ix3 (0 : Fin 1) a b) = (m ((c : Thread nD τ).loc main_arg4) : S64x1024x512.Idx → Elt Bits .f32) (ix3 e a b) := by
  refine congrArg (m ((c : Thread nD τ).loc main_arg4) : S64x1024x512.Idx → Elt Bits .f32) (funext fun d => Fin.ext ?_)
  have h := Pipeline.Window.rect_emb_val ((cfgA T0 T1 hR).win (2 : Fin 5)) t (ix3 (0 : Fin 1) a b)
  rw [index2] at h
  fin_cases d
  · refine (h (0 : Fin 3)).trans ?_
    show expert T0 (tile T0 T1 hR t) * 1 + 0 = e.val
    omega
  · refine (h (1 : Fin 3)).trans ?_
    show 0 * 1024 + a.val = a.val
    omega
  · refine (h (2 : Fin 3)).trans ?_
    show 0 * 512 + b.val = b.val
    omega

/-- It is the block of the point before where the expert is the same. -/
theorem iblk2_eq (c : Dev nD) (t t' : Fin (cfgA T0 T1 hR).N) (h : expert T0 (tile T0 T1 hR t) = expert T0 (tile T0 T1 hR t')) :
    (iblk T0 T1 hR m ρ c (2 : Fin 5) t : S1x1024x512.Idx → Elt Bits .f32) = iblk T0 T1 hR m ρ c (2 : Fin 5) t' := by
  funext y
  have he : expert T0 (tile T0 T1 hR t) ≤ 63 := Nat.add_le_add_left (hR.expert (tile T0 T1 hR t)) 32
  have y0 : (y 0).val < 1 := (y 0).isLt
  have ey : y = ix3 (0 : Fin 1) (y 1 : Fin 1024) (y 2 : Fin 512) := by
    funext d; fin_cases d
    · exact Fin.ext (by show (y 0).val = 0; omega)
    · rfl
    · rfl
  have l : expert T0 (tile T0 T1 hR t) < 64 := lt_of_le_of_lt he (by omega)
  rw [ey]
  exact (iblk2_at T0 T1 hR m ρ c t ⟨expert T0 (tile T0 T1 hR t), l⟩ rfl _ _).trans
    (iblk2_at T0 T1 hR m ρ c t' ⟨expert T0 (tile T0 T1 hR t), l⟩ h _ _).symm

/-- The down block at a point is the down matrix of the tile's expert. -/
theorem iblk3_at (c : Dev nD) (t : Fin (cfgA T0 T1 hR).N) (e : Fin 64) (he : e.val = expert T0 (tile T0 T1 hR t)) (a : Fin 512) (b : Fin 1024) :
    (iblk T0 T1 hR m ρ c (3 : Fin 5) t : S1x512x1024.Idx → Elt Bits .f32) (ix3 (0 : Fin 1) a b) = (m ((c : Thread nD τ).loc main_arg5) : S64x512x1024.Idx → Elt Bits .f32) (ix3 e a b) := by
  refine congrArg (m ((c : Thread nD τ).loc main_arg5) : S64x512x1024.Idx → Elt Bits .f32) (funext fun d => Fin.ext ?_)
  have h := Pipeline.Window.rect_emb_val ((cfgA T0 T1 hR).win (3 : Fin 5)) t (ix3 (0 : Fin 1) a b)
  rw [index3] at h
  fin_cases d
  · refine (h (0 : Fin 3)).trans ?_
    show expert T0 (tile T0 T1 hR t) * 1 + 0 = e.val
    omega
  · refine (h (1 : Fin 3)).trans ?_
    show 0 * 512 + a.val = a.val
    omega
  · refine (h (2 : Fin 3)).trans ?_
    show 0 * 1024 + b.val = b.val
    omega

/-- It is the block of the point before where the expert is the same. -/
theorem iblk3_eq (c : Dev nD) (t t' : Fin (cfgA T0 T1 hR).N) (h : expert T0 (tile T0 T1 hR t) = expert T0 (tile T0 T1 hR t')) :
    (iblk T0 T1 hR m ρ c (3 : Fin 5) t : S1x512x1024.Idx → Elt Bits .f32) = iblk T0 T1 hR m ρ c (3 : Fin 5) t' := by
  funext y
  have he : expert T0 (tile T0 T1 hR t) ≤ 63 := Nat.add_le_add_left (hR.expert (tile T0 T1 hR t)) 32
  have y0 : (y 0).val < 1 := (y 0).isLt
  have ey : y = ix3 (0 : Fin 1) (y 1 : Fin 512) (y 2 : Fin 1024) := by
    funext d; fin_cases d
    · exact Fin.ext (by show (y 0).val = 0; omega)
    · rfl
    · rfl
  have l : expert T0 (tile T0 T1 hR t) < 64 := lt_of_le_of_lt he (by omega)
  rw [ey]
  exact (iblk3_at T0 T1 hR m ρ c t ⟨expert T0 (tile T0 T1 hR t), l⟩ rfl _ _).trans
    (iblk3_at T0 T1 hR m ρ c t' ⟨expert T0 (tile T0 T1 hR t), l⟩ h _ _).symm

/-- The rows at a point of a tile in use are the tile's. -/
theorem iblk0_at (c : Dev nD) (t : Fin (cfgA T0 T1 hR).N) (ht : t.val < used T1) (a : Fin 256) (b : Fin 1024) (r : Fin 73728) (hr : r.val = t.val * 256 + a.val) :
    (iblk T0 T1 hR m ρ c (0 : Fin 5) t : S256x1024.Idx → Elt Bits .bf16) (ix2 a b) = (m ((c : Thread nD τ).loc main_arg0) : S73728x1024.Idx → Elt Bits .bf16) (ix2 r b) := by
  refine congrArg (m ((c : Thread nD τ).loc main_arg0) : S73728x1024.Idx → Elt Bits .bf16) (funext fun d => Fin.ext ?_)
  have h := Pipeline.Window.rect_emb_val ((cfgA T0 T1 hR).win (0 : Fin 5)) t (ix2 a b)
  rw [index0] at h
  fin_cases d
  · refine (h (0 : Fin 2)).trans ?_
    show min t.val (used T1 - 1) * 256 + a.val = r.val
    rw [hr, Nat.min_eq_left (by omega)]
  · refine (h (1 : Fin 2)).trans ?_
    show 0 * 1024 + b.val = b.val
    omega

/-! ## The pipeline's proof data -/

/-- Before a point: each scratch buffer holds the weights of the point before, whole; the tables are at hand. -/
def Phi (c : Dev nD) (t : Fin ((cfgA T0 T1 hR).N + 1)) : sProp 𝕄 :=
  iprop((∃ a, ⌜∀ h : t.val ≠ 0, scM0_0.view.read (Elt Bits) a = k0_pay1 (F := Bits) (iblk T0 T1 hR m ρ c (1 : Fin 5) (prv T0 T1 hR t h))⌝ ∗ (scM0_0.view.loc (c : Thread nD τ) ↦{fullShare} a))
    ∗ (∃ a, ⌜∀ h : t.val ≠ 0, scM0_1.view.read (Elt Bits) a = k0_pay2 (F := Bits) (iblk T0 T1 hR m ρ c (2 : Fin 5) (prv T0 T1 hR t h))⌝ ∗ (scM0_1.view.loc (c : Thread nD τ) ↦{fullShare} a))
    ∗ (∃ a, ⌜∀ h : t.val ≠ 0, scM0_2.view.read (Elt Bits) a = k0_pay3 (F := Bits) (iblk T0 T1 hR m ρ c (3 : Fin 5) (prv T0 T1 hR t h))⌝ ∗ (scM0_2.view.loc (c : Thread nD τ) ↦{fullShare} a))
    ∗ (tbM0_0.view.loc (c : Thread nD τ) ↦{fullShare.right} T0) ∗ (tbM0_1.view.loc (c : Thread nD τ) ↦{fullShare.right} T1))

/-- What each buffer holds after each point: an input its block, the output the last computed block. -/
def dats (_ : Fin 1) (c : Dev nD) : Dat τ (Elt Bits) Unit ℕ (UR sig nD τ) ℕ (cfgA T0 T1 hR) c where
  A w := (s₀ m ρ).mem (((cfgA T0 T1 hR).win w).arr.view.loc (c : Thread nD τ))
  after w t := match w with
    | ⟨0, _⟩ => iblk T0 T1 hR m ρ c (0 : Fin 5) t
    | ⟨1, _⟩ => iblk T0 T1 hR m ρ c (1 : Fin 5) t
    | ⟨2, _⟩ => iblk T0 T1 hR m ρ c (2 : Fin 5) t
    | ⟨3, _⟩ => iblk T0 T1 hR m ρ c (3 : Fin 5) t
    | ⟨4, _⟩ => outAt T0 T1 hR m ρ c (src T0 T1 hR t)
  Φ t := Phi T0 T1 hR m ρ c t
  q _ := fullShare
  owed _ := 0

theorem after0_0 (c : Dev nD) (t : Fin (cfgA T0 T1 hR).N) : (dats T0 T1 hR m ρ 0 c).after (0 : Fin 5) t = iblk T0 T1 hR m ρ c (0 : Fin 5) t := rfl
theorem after0_1 (c : Dev nD) (t : Fin (cfgA T0 T1 hR).N) : (dats T0 T1 hR m ρ 0 c).after (1 : Fin 5) t = iblk T0 T1 hR m ρ c (1 : Fin 5) t := rfl
theorem after0_2 (c : Dev nD) (t : Fin (cfgA T0 T1 hR).N) : (dats T0 T1 hR m ρ 0 c).after (2 : Fin 5) t = iblk T0 T1 hR m ρ c (2 : Fin 5) t := rfl
theorem after0_3 (c : Dev nD) (t : Fin (cfgA T0 T1 hR).N) : (dats T0 T1 hR m ρ 0 c).after (3 : Fin 5) t = iblk T0 T1 hR m ρ c (3 : Fin 5) t := rfl
theorem after0_4 (c : Dev nD) (t : Fin (cfgA T0 T1 hR).N) : (dats T0 T1 hR m ρ 0 c).after (4 : Fin 5) t = outAt T0 T1 hR m ρ c (src T0 T1 hR t) := rfl

/-- Input 0's buffer holds its block when the body runs. -/
theorem before0_0 (c : Dev nD) (t : Fin (cfgA T0 T1 hR).N) (d) : (dats T0 T1 hR m ρ 0 c).before (0 : Fin 5) t d = iblk T0 T1 hR m ρ c (0 : Fin 5) t :=
  ((dats T0 T1 hR m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input 1's buffer holds its block when the body runs. -/
theorem before0_1 (c : Dev nD) (t : Fin (cfgA T0 T1 hR).N) (d) : (dats T0 T1 hR m ρ 0 c).before (1 : Fin 5) t d = iblk T0 T1 hR m ρ c (1 : Fin 5) t :=
  ((dats T0 T1 hR m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input 2's buffer holds its block when the body runs. -/
theorem before0_2 (c : Dev nD) (t : Fin (cfgA T0 T1 hR).N) (d) : (dats T0 T1 hR m ρ 0 c).before (2 : Fin 5) t d = iblk T0 T1 hR m ρ c (2 : Fin 5) t :=
  ((dats T0 T1 hR m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input 3's buffer holds its block when the body runs. -/
theorem before0_3 (c : Dev nD) (t : Fin (cfgA T0 T1 hR).N) (d) : (dats T0 T1 hR m ρ 0 c).before (3 : Fin 5) t d = iblk T0 T1 hR m ρ c (3 : Fin 5) t :=
  ((dats T0 T1 hR m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- A point past the tiles in use computes no new block. -/
theorem src_idle (t : Fin (cfgA T0 T1 hR).N) (h : used T1 ≤ t.val) (ht : t.val - 1 < (cfgA T0 T1 hR).N) : src T0 T1 hR t = src T0 T1 hR ⟨t.val - 1, ht⟩ :=
  Fin.ext (by show min t.val (used T1 - 1) = min (t.val - 1) (used T1 - 1); omega)

/-- A point of a tile in use computes that tile's. -/
theorem src_live (t : Fin (cfgA T0 T1 hR).N) (h : t.val < used T1) : src T0 T1 hR t = t :=
  Fin.ext (by show min t.val (used T1 - 1) = t.val; omega)

/-- The output's buffer at a point past the tiles in use, as the point before left it. -/
theorem before0_4 (c : Dev nD) (t : Fin (cfgA T0 T1 hR).N) (h : used T1 ≤ t.val) (d) :
    (dats T0 T1 hR m ρ 0 c).before (4 : Fin 5) t d = outAt T0 T1 hR m ρ c (src T0 T1 hR t) := by
  have ht := lt_288 T0 T1 hR t
  have hp := hR.pos
  have hf : (cfgA T0 T1 hR).fresh (4 : Fin 5) t.val = false := by
    rw [fresh4 T0 T1 hR t.val (Nat.le_of_lt t.isLt)]; exact decide_eq_false (by omega)
  refine ((dats T0 T1 hR m ρ 0 c).before_out_traj (4 : Fin 5) rfl (fun _ _ => rfl) (fun t' _ hi _ => ?_) t.val t rfl d).trans ?_
  · rw [idle4 T0 T1 hR t', decide_eq_true_eq] at hi
    rw [after0_4, after0_4]
    exact congrArg (outAt T0 T1 hR m ρ c) (src_idle T0 T1 hR t' hi _)
  · rw [hf]
    show (dats T0 T1 hR m ρ 0 c).after (4 : Fin 5) ⟨t.val - 1, _⟩ = _
    rw [after0_4, ← src_idle T0 T1 hR t h]

/-- The body at a point, on its buffers. -/
abbrev bodyAt0 (t : Fin (cfgA T0 T1 hR).N) : Prog (TpuEff nD τ sig (Elt Bits) Λ₀ .tc) PUnit :=
  cc0_moe_experts (crd T0 T1 hR t) (Memref.whole main_arg1) (Memref.isWhole_whole _) (Memref.whole main_arg2) (Memref.isWhole_whole _) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) (Memref.whole cc0_scratch0) (Memref.isWhole_whole _) (Memref.whole cc0_scratch1) (Memref.isWhole_whole _) (Memref.whole cc0_scratch2) (Memref.isWhole_whole _)

/-- What a point that reads no weights anew finds in the scratch buffers: its own weights. -/
theorem kept (c : Dev nD) (t : Fin (cfgA T0 T1 hR).N) (hn : ¬Loads (crd T0 T1 hR t) T0) : ∃ h : t.castSucc.val ≠ 0,
    (iblk T0 T1 hR m ρ c (1 : Fin 5) (prv T0 T1 hR t.castSucc h) : S1x1024x512.Idx → Elt Bits .f32) = iblk T0 T1 hR m ρ c (1 : Fin 5) t
      ∧ (iblk T0 T1 hR m ρ c (2 : Fin 5) (prv T0 T1 hR t.castSucc h) : S1x1024x512.Idx → Elt Bits .f32) = iblk T0 T1 hR m ρ c (2 : Fin 5) t
      ∧ (iblk T0 T1 hR m ρ c (3 : Fin 5) (prv T0 T1 hR t.castSucc h) : S1x512x1024.Idx → Elt Bits .f32) = iblk T0 T1 hR m ρ c (3 : Fin 5) t := by
  rw [loads_iff, not_or, not_not] at hn
  have e : expert T0 (tile T0 T1 hR (prv T0 T1 hR t.castSucc hn.1)) = expert T0 (tile T0 T1 hR t) := congrArg (fun w : BitVec 32 => 32 + w.toNat) hn.2.symm
  exact ⟨hn.1, iblk1_eq T0 T1 hR m ρ c _ _ e, iblk2_eq T0 T1 hR m ρ c _ _ e, iblk3_eq T0 T1 hR m ρ c _ _ e⟩

set_option maxHeartbeats 4000000 in
/-- The body keeps the proof data at every point. -/
theorem sound_body (c : Dev nD) (t : Fin (cfgA T0 T1 hR).N) :
    iprop((dats T0 T1 hR m ρ 0 c).Φ t.castSucc ∗ (dats T0 T1 hR m ρ 0 c).owesAt () t.castSucc
        ∗ (∃ d, owns (c : Thread nD τ) (ms0_0 T0 T1 hR t) fullShare ((dats T0 T1 hR m ρ 0 c).before (0 : Fin 5) t d))
        ∗ (∃ d, owns (c : Thread nD τ) (ms0_1 T0 T1 hR t) fullShare ((dats T0 T1 hR m ρ 0 c).before (1 : Fin 5) t d))
        ∗ (∃ d, owns (c : Thread nD τ) (ms0_2 T0 T1 hR t) fullShare ((dats T0 T1 hR m ρ 0 c).before (2 : Fin 5) t d))
        ∗ (∃ d, owns (c : Thread nD τ) (ms0_3 T0 T1 hR t) fullShare ((dats T0 T1 hR m ρ 0 c).before (3 : Fin 5) t d))
        ∗ (∃ d, owns (c : Thread nD τ) (ms0_4 T0 T1 hR t) fullShare ((dats T0 T1 hR m ρ 0 c).before (4 : Fin 5) t d)))
      ⊢ wp frame (wpE (defs₀ (F := Bits)) Variants.none c none) Set.univ (bodyAt0 T0 T1 hR t) fun _ =>
          iprop((dats T0 T1 hR m ρ 0 c).Φ t.succ ∗ (dats T0 T1 hR m ρ 0 c).owesAt () t.succ
            ∗ bigSep Finset.univ fun w : Fin (cfgA T0 T1 hR).W =>
                match (cfgA T0 T1 hR).idle w ((cfgA T0 T1 hR).grid.coords t) with
                | true =>
                  match ((cfgA T0 T1 hR).win w).flush t with
                  | false => iprop(∃ d, owns (c : Thread nD τ) (((cfgA T0 T1 hR).win w).stage ((cfgA T0 T1 hR).slots t w)) fullShare ((dats T0 T1 hR m ρ 0 c).before w t d))
                  | true => owns (c : Thread nD τ) (((cfgA T0 T1 hR).win w).stage ((cfgA T0 T1 hR).slots t w)) fullShare ((dats T0 T1 hR m ρ 0 c).after w t)
                | false => owns (c : Thread nD τ) (((cfgA T0 T1 hR).win w).stage ((cfgA T0 T1 hR).slots t w)) fullShare ((dats T0 T1 hR m ρ 0 c).after w t)) := by
  rw [bigSep_W0]
  have key : ∀ a0 a1 a2, (∀ h : t.castSucc.val ≠ 0, scM0_0.view.read (Elt Bits) a0 = k0_pay1 (F := Bits) (iblk T0 T1 hR m ρ c (1 : Fin 5) (prv T0 T1 hR t.castSucc h)))
      → (∀ h : t.castSucc.val ≠ 0, scM0_1.view.read (Elt Bits) a1 = k0_pay2 (F := Bits) (iblk T0 T1 hR m ρ c (2 : Fin 5) (prv T0 T1 hR t.castSucc h)))
      → (∀ h : t.castSucc.val ≠ 0, scM0_2.view.read (Elt Bits) a2 = k0_pay3 (F := Bits) (iblk T0 T1 hR m ρ c (3 : Fin 5) (prv T0 T1 hR t.castSucc h)))
      → (¬Loads (crd T0 T1 hR t) T0 → scM0_0.view.read (Elt Bits) a0 = k0_pay1 (F := Bits) (iblk T0 T1 hR m ρ c (1 : Fin 5) t)
        ∧ scM0_1.view.read (Elt Bits) a1 = k0_pay2 (F := Bits) (iblk T0 T1 hR m ρ c (2 : Fin 5) t)
        ∧ scM0_2.view.read (Elt Bits) a2 = k0_pay3 (F := Bits) (iblk T0 T1 hR m ρ c (3 : Fin 5) t)) := by
    intro a0 a1 a2 h0 h1 h2 hn
    obtain ⟨h, e1, e2, e3⟩ := kept T0 T1 hR m ρ c t hn
    exact ⟨(h0 h).trans (congrArg _ e1), (h1 h).trans (congrArg _ e2), (h2 h).trans (congrArg _ e3)⟩
  by_cases q : t.val < used T1
  · have i4 : (cfgA T0 T1 hR).idle (4 : Fin 5) ((cfgA T0 T1 hR).grid.coords t) = false := by rw [idle4]; exact decide_eq_false (by omega)
    rewrite [i4]
    simp only [after0_4, src_live T0 T1 hR t q]
    simp only [before0_0, before0_1, before0_2, before0_3, after0_0, after0_1, after0_2, after0_3]
    rewrite [show (dats T0 T1 hR m ρ 0 c).Φ t.succ = Phi T0 T1 hR m ρ c t.succ from rfl, show (dats T0 T1 hR m ρ 0 c).Φ t.castSucc = Phi T0 T1 hR m ρ c t.castSucc from rfl,
      show (dats T0 T1 hR m ρ 0 c).owesAt () t.succ = (dats T0 T1 hR m ρ 0 c).owesAt () t.castSucc from rfl]
    unfold Phi
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply (body_run c (crd T0 T1 hR t) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) T0 T1 (iblk T0 T1 hR m ρ c (0 : Fin 5) t) (iblk T0 T1 hR m ρ c (1 : Fin 5) t) (iblk T0 T1 hR m ρ c (2 : Fin 5) t) (iblk T0 T1 hR m ρ c (3 : Fin 5) t) a0 a1 a2 (key a0 a1 a2 ha0 ha1 ha2) ((dats T0 T1 hR m ρ 0 c).before (4 : Fin 5) t d4) (outAt T0 T1 hR m ρ c t) (fun _ => rfl) (fun h => absurd ((stores_iff T0 T1 hR t).2 q) h) _)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    iintro ⟨H0, H1, H2, H3, HT0, HT1, H4, ⟨%b0, %hb0, HS0⟩, ⟨%b1, %hb1, HS1⟩, ⟨%b2, %hb2, HS2⟩⟩
    isplitl [HS0 HS1 HS2 HT0 HT1]
    · isplitl [HS0]
      · iexists b0; isplitr; swap
        · iexact HS0
        · ipureintro; exact fun _ => hb0
      isplitl [HS1]
      · iexists b1; isplitr; swap
        · iexact HS1
        · ipureintro; exact fun _ => hb1
      isplitl [HS2]
      · iexists b2; isplitr; swap
        · iexact HS2
        · ipureintro; exact fun _ => hb2
      isplitl [HT0]; · iexact HT0
      iexact HT1
    isplitl [Ho]; · iexact Ho
    isplitl [H0]; · iexact H0
    isplitl [H1]; · iexact H1
    isplitl [H2]; · iexact H2
    isplitl [H3]; · iexact H3
    iexact H4
  · have i4 : (cfgA T0 T1 hR).idle (4 : Fin 5) ((cfgA T0 T1 hR).grid.coords t) = true := by rw [idle4]; exact decide_eq_true (by omega)
    have b4 : ∀ d, (dats T0 T1 hR m ρ 0 c).before (4 : Fin 5) t d = outAt T0 T1 hR m ρ c (src T0 T1 hR t) := before0_4 T0 T1 hR m ρ c t (by omega)
    rewrite [i4]
    simp only [after0_4, b4]
    simp only [before0_0, before0_1, before0_2, before0_3, after0_0, after0_1, after0_2, after0_3]
    rewrite [show (dats T0 T1 hR m ρ 0 c).Φ t.succ = Phi T0 T1 hR m ρ c t.succ from rfl, show (dats T0 T1 hR m ρ 0 c).Φ t.castSucc = Phi T0 T1 hR m ρ c t.castSucc from rfl,
      show (dats T0 T1 hR m ρ 0 c).owesAt () t.succ = (dats T0 T1 hR m ρ 0 c).owesAt () t.castSucc from rfl]
    unfold Phi
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply (body_run c (crd T0 T1 hR t) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) T0 T1 (iblk T0 T1 hR m ρ c (0 : Fin 5) t) (iblk T0 T1 hR m ρ c (1 : Fin 5) t) (iblk T0 T1 hR m ρ c (2 : Fin 5) t) (iblk T0 T1 hR m ρ c (3 : Fin 5) t) a0 a1 a2 (key a0 a1 a2 ha0 ha1 ha2) (outAt T0 T1 hR m ρ c (src T0 T1 hR t)) (outAt T0 T1 hR m ρ c (src T0 T1 hR t)) (fun h => absurd ((stores_iff T0 T1 hR t).1 h) q) (fun _ => rfl) _)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    iintro ⟨H0, H1, H2, H3, HT0, HT1, H4, ⟨%b0, %hb0, HS0⟩, ⟨%b1, %hb1, HS1⟩, ⟨%b2, %hb2, HS2⟩⟩
    isplitl [HS0 HS1 HS2 HT0 HT1]
    · isplitl [HS0]
      · iexists b0; isplitr; swap
        · iexact HS0
        · ipureintro; exact fun _ => hb0
      isplitl [HS1]
      · iexists b1; isplitr; swap
        · iexact HS1
        · ipureintro; exact fun _ => hb1
      isplitl [HS2]
      · iexists b2; isplitr; swap
        · iexact HS2
        · ipureintro; exact fun _ => hb2
      isplitl [HT0]; · iexact HT0
      iexact HT1
    isplitl [Ho]; · iexact Ho
    isplitl [H0]; · iexact H0
    isplitl [H1]; · iexact H1
    isplitl [H2]; · iexact H2
    isplitl [H3]; · iexact H3
    cases f4 : ((cfgA T0 T1 hR).win (4 : Fin 5)).flush t
    · iexists d4; iexact H4
    · iexact H4

/-- What the pipeline asks of the body, at every point. -/
theorem body_obligation (c : Dev nD) : BodyObligation (dats T0 T1 hR m ρ 0 c) (defs₀ (F := Bits)) Variants.none () Set.univ := fun t => by
  rw [bigSep_W0]
  exact sound_body T0 T1 hR m ρ c t

/-! ## The launch -/

/-- The launch's own element. -/
def u₀ : UR sig nD τ :=
  initOf (Pipeline.cells (pcs T0 T1 hR) ((launch0 (F := Bits)).cellOf_inj fun _ => adm T0 T1 hR))
    (Pipeline.launchToks (pcs T0 T1 hR) ((launch0 (F := Bits)).cellOf_inj fun _ => adm T0 T1 hR))

/-- Every array is held whole. -/
theorem share_eq (c : Dev nD) (w : Fin (cfgA T0 T1 hR).W) : (dats T0 T1 hR m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers. -/
theorem phi0_intro (c : Dev nD) :
    iprop(BI.emp ∗ Pipeline.prefHeld pre0 c (fun _ => fullShare.right) (adm T0 T1 hR).1 ∗ Pipeline.scopedRest spec0 c) ⊢ (dats T0 T1 hR m ρ 0 c).Φ 0 := by
  rw [prefHeld_eq, scopedRest0_eq, show (dats T0 T1 hR m ρ 0 c).Φ 0 = Phi T0 T1 hR m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; exact fun h => absurd rfl h
  isplitl [HS1]
  · iexists a1; isplitr; swap
    · iexact HS1
    · ipureintro; exact fun h => absurd rfl h
  isplitl [HS2]
  · iexists a2; isplitr; swap
    · iexact HS2
    · ipureintro; exact fun h => absurd rfl h
  isplitl [HT0]; · iexact HT0
  iexact HT1

/-- At the last point it gives the scratch buffers back. -/
theorem phiN_exit (c : Dev nD) : (dats T0 T1 hR m ρ 0 c).Φ (Fin.last (cfgA T0 T1 hR).N) ⊢ iprop(BI.emp ∗ Pipeline.scopedRest spec0 c) := by
  rw [scopedRest0_eq, show (dats T0 T1 hR m ρ 0 c).Φ (Fin.last (cfgA T0 T1 hR).N) = Phi T0 T1 hR m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- What a final state holds: every array its computed contents, every table its words. -/
def QC : PUnit × MemSt nD τ sig (Elt Bits) → Prop := fun r =>
  ∀ c : Dev nD, (∀ w : Fin (cfgA T0 T1 hR).W, r.2.mem (((cfgA T0 T1 hR).win w).arr.view.loc (c : Thread nD τ)) = (dats T0 T1 hR m ρ 0 c).arrAt w (cfgA T0 T1 hR).N)
    ∧ ∀ j, r.2.mem ((c : Thread nD τ).loc (pre0.ref j)) = (adm T0 T1 hR).1 j

/-- The tables in memory are the given ones. -/
theorem V_pre (h0 : ∀ c : Dev nD, m ((c : Thread nD τ).loc main_arg1) = T0) (h1 : ∀ c : Dev nD, m ((c : Thread nD τ).loc main_arg2) = T1) (c : Dev nD) (j : Fin 2) : m ((c : Thread nD τ).loc (pre0.ref j)) = (adm T0 T1 hR).1 j := by
  fin_cases j
  · exact h0 c
  · exact h1 c

set_option backward.isDefEq.respectTransparency.types false in
set_option maxHeartbeats 4000000 in
/-- From any memory whose tables are the given ones, every run ends, with each array at its computed contents and the
    semaphore counters at zero. -/
theorem run_main_quiescent (h0 : ∀ c : Dev nD, m ((c : Thread nD τ).loc main_arg1) = T0) (h1 : ∀ c : Dev nD, m ((c : Thread nD τ).loc main_arg2) = T1) : θ_run (defs (F := Bits)) (onTc (τ := τ) (main (F := Bits))) (s₀ m ρ) (fun r => QC T0 T1 hR m ρ r ∧ r.2.sem = fun _ => 0) :=
  Pipeline.θ_run_region_noSem_pf_quiescent pcfgs (fun _ => adm T0 T1 hR) (dats T0 T1 hR m ρ) () ((launch0 (F := Bits)).cellOf_inj fun _ => adm T0 T1 hR) (0 : Fin 1)
    (launch0 (F := Bits)).win.to₀ (launch0 (F := Bits)).pre EP defs₀ Variants.none m ρ main
    (hbody := fun c => (body_obligation T0 T1 hR m ρ c).loose) (hne := (launch0 (F := Bits)).block_pos)
    (harr := (launch0 (F := Bits)).arr_whole) (hstage := (launch0 (F := Bits)).stage_whole) (howed := fun _ _ => rfl)
    (u₀ := u₀ T0 T1 hR) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hR) (dats T0 T1 hR m ρ) 0 (launch0 (F := Bits)).win.arr_inj c (launch0 (F := Bits)).arr_whole
      (share_eq T0 T1 hR m ρ c) _ _ fun _ => rfl)
    (hpf := V_pre T0 T1 hR m h0 h1)
    (X := fun _ => iprop(emp)) (Y := fun _ => iprop(emp)) (Z := fun _ => iprop(emp))
    (hX := fun c => by rw [unscopedRestP0_eq]; iintro -; isplitr <;> iempintro)
    (hin := phi0_intro T0 T1 hR m ρ)
    (hout := phiN_exit T0 T1 hR m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (h0 : ∀ c : Dev nD, m ((c : Thread nD τ).loc main_arg1) = T0) (h1 : ∀ c : Dev nD, m ((c : Thread nD τ).loc main_arg2) = T1) : θ_run (defs (F := Bits)) (onTc (τ := τ) (main (F := Bits))) (s₀ m ρ) (QC T0 T1 hR m ρ) :=
  (θ_run defs _ _).mono (fun _ h => h.1) (run_main_quiescent T0 T1 hR m ρ h0 h1)

include hR in
/-- `frame` without the counters: the argument arrays end unchanged. -/
theorem unchanged (h0 : ∀ c : Dev nD, m ((c : Thread nD τ).loc main_arg1) = T0) (h1 : ∀ c : Dev nD, m ((c : Thread nD τ).loc main_arg2) = T1) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats T0 T1 hR m ρ 0 c).arrAt_in (0 : Fin 5) rfl _), ((h c).2 0).trans (h0 c).symm, ((h c).2 1).trans (h1 c).symm, ((h c).1 (1 : Fin 5)).trans ((dats T0 T1 hR m ρ 0 c).arrAt_in (1 : Fin 5) rfl _), ((h c).1 (2 : Fin 5)).trans ((dats T0 T1 hR m ρ 0 c).arrAt_in (2 : Fin 5) rfl _), ((h c).1 (3 : Fin 5)).trans ((dats T0 T1 hR m ρ 0 c).arrAt_in (3 : Fin 5) rfl _)⟩) (run_main T0 T1 hR m ρ h0 h1)

include hR in
/-- From any memory whose tables are the given ones: every run ends, nothing faults, the arguments end unchanged and the
    semaphore counters at zero. -/
theorem frame (h0 : ∀ c : Dev nD, m ((c : Thread nD τ).loc main_arg1) = T0) (h1 : ∀ c : Dev nD, m ((c : Thread nD τ).loc main_arg2) = T1) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T0 T1 hR m ρ h0 h1) ((θ_run defs _ _).mono (fun _ h => h.2) (run_main_quiescent T0 T1 hR m ρ h0 h1))

end Cert.Later.Moe

end
-- ==== Proof.Later.Claims.lean ====
/- The claims of the second layer's experts call: its frames, its reference's, and the equality of their results on the rows of the tiles
   in use. -/
module

public import proofs.«01_k».proof.Defs
public import proofs.«01_k».proof.Proof.Gen.Pre_routed
public import proofs.«01_k».proof.Proof.Gen.On_in_use
public import proofs.«01_k».proof.Proof.Later.Value
public import proofs.«01_k».proof.Proof.Later.Reference
public import proofs.«01_k».proof.Proof.Moe.Words
public import proofs.«01_k».proof.Proof.LaterBits.Frame

@[expose] public section

set_option maxRecDepth 16384

noncomputable section

namespace Cert.Moe.LaterClaims

open Idealize.ShloMosaic Idealize.ShloMosaic.TcCoe Idealize.SL.Sem

/-- The precondition, read at the kernel's memory: the tables name experts and a count of tiles. -/
theorem routed_bits (m : (ℓ : Loc Cert.Later.nD Cert.Later.τ Cert.Later.sig) → Buf (Elt Bits) ℓ) (h : Cert.Pre_Later m) :
    Cert.Later.Moe.Routed (m (((0 : Dev Cert.Later.nD).tc : Thread Cert.Later.nD Cert.Later.τ).loc Cert.Later.main_arg1)) (m (((0 : Dev Cert.Later.nD).tc : Thread Cert.Later.nD Cert.Later.τ).loc Cert.Later.main_arg2)) :=
  have w := routed_words _ _ _ _ _ _ (h 0)
  ⟨w.1, w.2.1, w.2.2⟩

/-- The same at the exact instance. -/
theorem routed_ideal (m : (ℓ : Loc Cert.LaterIdeal.nD Cert.LaterIdeal.τ Cert.LaterIdeal.sig) → Buf (Elt Ideal) ℓ) (h : Cert.Pre_LaterIdeal m) :
    Cert.LaterIdeal.Moe.Routed (m (((0 : Dev Cert.LaterIdeal.nD).tc : Thread Cert.LaterIdeal.nD Cert.LaterIdeal.τ).loc Cert.LaterIdeal.main_arg1)) (m (((0 : Dev Cert.LaterIdeal.nD).tc : Thread Cert.LaterIdeal.nD Cert.LaterIdeal.τ).loc Cert.LaterIdeal.main_arg2)) :=
  have w := routed_words _ _ _ _ _ _ (h 0)
  ⟨w.1, w.2.1, w.2.2⟩

/-- The kernel's frame: under the precondition every run ends, nothing faults and the arguments stay. -/
theorem frame_bits : Cert.quiescent_Later := fun m g h =>
  Cert.Later.Moe.frame _ _ (routed_bits m h) m g (fun c => by rw [Subsingleton.elim c 0]) (fun c => by rw [Subsingleton.elim c 0])

/-- The frame of its idealization. -/
theorem frame_ideal : Cert.quiescent_LaterIdeal := fun m g h =>
  Cert.LaterIdeal.Moe.frame _ _ (routed_ideal m h) m g (fun c => by rw [Subsingleton.elim c 0]) (fun c => by rw [Subsingleton.elim c 0])

/-- The reference's frame: a program of host operations leaves its arguments as they were and every counter at zero. -/
theorem frame_ref : Cert.quiescent_LaterReferenceIdeal := by
  intro m g _
  exact (θ_run _ _ _).mono (fun r h => ⟨fun c => (h c).2, sem_eq_zero_of_no_sems (by decide) r.2⟩) (Cert.Moe.LaterRef.run m g)

/-- The same under the precondition. -/
theorem frame_ref_routed : Cert.quiescent_LaterReferenceIdeal_pre_routed :=
  fun m g _ => frame_ref m g trivial

/-- The array both programs end with on the rows in use: the reference's, of the kernel's arguments. -/
abbrev result (m : (ℓ : Loc Cert.LaterIdeal.nD Cert.LaterIdeal.τ Cert.LaterIdeal.sig) → Buf (Elt Ideal) ℓ) (c : Dev Cert.LaterIdeal.nD) :
    Buf (Elt Ideal) ((c.tc : Thread Cert.LaterIdeal.nD Cert.LaterIdeal.τ).loc Cert.LaterIdeal.main_v0) :=
  Cert.Moe.LaterRef.whole (m ((c.tc : Thread Cert.LaterIdeal.nD Cert.LaterIdeal.τ).loc Cert.LaterIdeal.main_arg0))
    (m ((c.tc : Thread Cert.LaterIdeal.nD Cert.LaterIdeal.τ).loc Cert.LaterIdeal.main_arg1))
    (m ((c.tc : Thread Cert.LaterIdeal.nD Cert.LaterIdeal.τ).loc Cert.LaterIdeal.main_arg3))
    (m ((c.tc : Thread Cert.LaterIdeal.nD Cert.LaterIdeal.τ).loc Cert.LaterIdeal.main_arg4))
    (m ((c.tc : Thread Cert.LaterIdeal.nD Cert.LaterIdeal.τ).loc Cert.LaterIdeal.main_arg5))

/-- THE VALUE: on the rows of the tiles in use, the kernel's result and the reference's are the same. -/
theorem algebraic : Cert.algebraic_LaterIdeal_LaterReferenceIdeal_on_in_use := by
  intro m g m' g' hpre hag
  have hR := routed_ideal m hpre
  have h0 : ∀ c : Dev Cert.LaterIdeal.nD, m ((c.tc : Thread Cert.LaterIdeal.nD Cert.LaterIdeal.τ).loc Cert.LaterIdeal.main_arg1) = m (((0 : Dev Cert.LaterIdeal.nD).tc : Thread Cert.LaterIdeal.nD Cert.LaterIdeal.τ).loc Cert.LaterIdeal.main_arg1) :=
    fun c => by rw [Subsingleton.elim c 0]
  have h1 : ∀ c : Dev Cert.LaterIdeal.nD, m ((c.tc : Thread Cert.LaterIdeal.nD Cert.LaterIdeal.τ).loc Cert.LaterIdeal.main_arg2) = m (((0 : Dev Cert.LaterIdeal.nD).tc : Thread Cert.LaterIdeal.nD Cert.LaterIdeal.τ).loc Cert.LaterIdeal.main_arg2) :=
    fun c => by rw [Subsingleton.elim c 0]
  refine ⟨result m,
    (θ_run _ _ _).mono (fun r h c => ⟨fun i hi => ?_, h.2 c⟩) (θ_run_and (Cert.LaterIdeal.Moe.run_main _ _ hR m g h0 h1) (Cert.LaterIdeal.Moe.unchanged _ _ hR m g h0 h1)),
    (θ_run _ _ _).mono (fun r h c => ⟨fun i _ => ?_, (h c).2⟩) (Cert.Moe.LaterRef.run m' g')⟩
  · obtain ⟨s, b, rfl⟩ : ∃ (s : Fin 73728) (b : Fin 1024), i = ix2 s b := ⟨i 0, i 1, by funext a; fin_cases a <;> rfl⟩
    have hs := s.isLt
    have hu := mask_words _ _ _ _ _ _ s b (by rw [h1 c]; exact hR.le) hi
    rw [h1 c] at hu
    have he := hR.expert (⟨(s : ℕ) / 256, by omega⟩ : Fin 288)
    refine (congrFun ((h.1 c).1 (4 : Fin 5)) (ix2 s b)).trans ?_
    obtain ⟨e, hee⟩ : ∃ e : Fin 64, e.val = Cert.LaterIdeal.Moe.expert (m (((0 : Dev Cert.LaterIdeal.nD).tc : Thread Cert.LaterIdeal.nD Cert.LaterIdeal.τ).loc Cert.LaterIdeal.main_arg1)) ⟨(s : ℕ) / 256, by omega⟩ :=
      ⟨⟨_, Nat.lt_of_le_of_lt (Nat.add_le_add_left he 32) (by decide)⟩, rfl⟩
    refine (Cert.LaterIdeal.Moe.final _ _ hR m g c s b ⟨(s : ℕ) / 256, by omega⟩ rfl hu e hee).trans ?_
    refine (Cert.Moe.LaterRef.whole_at _ _ _ _ _ s b ⟨(s : ℕ) / 256, by omega⟩ rfl e ?_ ?_).symm
    · rw [h0 c]; exact hee
    · rw [h0 c]; exact Nat.lt_of_le_of_lt he (by decide)
  · obtain ⟨e0, e1, _, e3, e4, e5⟩ := hag c
    rw [(h c).1, e0, e1, e3, e4, e5]

end Cert.Moe.LaterClaims

end
-- ==== Proof.Proj.Spec.lean ====
/- One token's row through the projections and the combination of the experts' outputs, on plain functions of
   extended reals: what both the kernels and the reference are shown to compute. -/
module

public import Idealize.ShloMosaic.Lib.Pointwise
public import Idealize.ShloMosaic.Lib.IdealHost

@[expose] public section

noncomputable section

namespace Cert.Proj

open Idealize.ShloMosaic

/-- A row normed by its root mean square, and gained. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- A row normed, then scaled and shifted by the conditioning. -/
def modulated (x g sh sc : Fin 1024 → EReal) (d : Fin 1024) : EReal :=
  rms x g d * (1 + sc d) + sh d

/-- A token's residual stream plus the gated, weighted outputs of its two experts. -/
def mixed (x g2 y1 y2 : Fin 1024 → EReal) (w1 w2 : EReal) (d : Fin 1024) : EReal :=
  x d + g2 d * (w1 * y1 d + w2 * y2 d)

/-- One output of a linear map of a row. -/
def lin (h w : Fin 1024 → EReal) : EReal := ∑ k, h k * w k

/-- One output of an affine map of a row. -/
def affine (h w : Fin 1024 → EReal) (b : EReal) : EReal := lin h w + b

/-- A value times the logistic function of its gate. -/
def glu (a g : EReal) : EReal := a * Ideal.logistic g

/-- A row less its mean. -/
def centred (a : Fin 1024 → EReal) (d : Fin 1024) : EReal := a d - Ideal.div (∑ k, a k) (Ideal.ofBits .f32 0x44800000#32)

/-- A row normed by its mean and its variance, gained and shifted. -/
def layerNormed (a lg lb : Fin 1024 → EReal) (d : Fin 1024) : EReal :=
  centred a d * Ideal.rsqrt (Ideal.div (∑ k, centred a k * centred a k) (Ideal.ofBits .f32 0x44800000#32) + Ideal.ofBits .f32 0x358637BD#32) * lg d + lb d

/-- A row normed and passed through `x * logistic x`. -/
def activated (a lg lb : Fin 1024 → EReal) (d : Fin 1024) : EReal := glu (layerNormed a lg lb d) (layerNormed a lg lb d)

end Cert.Proj

end
-- ==== Proof.Combine.Value.lean ====
/- The last combination's result array: block by block, every row is the specification's. -/
module

public import proofs.«01_k».proof.Proof.Gen.CombineIdeal.Frame
public import proofs.«01_k».proof.Proof.Gen.CombineIdeal.Value
public import proofs.«01_k».proof.Proof.Proj.Spec
public import Idealize.ShloMosaic.Lib.Pipeline.ValueKit
public import Idealize.ShloMosaic.Lib.Claim

@[expose] public section

set_option maxRecDepth 16384

noncomputable section

namespace Cert.Combine.Kern

open Cert.CombineIdeal Cert.CombineIdeal.Gen Idealize.ShloMosaic Idealize.ShloMosaic.TcCoe Idealize.SL.Sem
open Idealize.ShloMosaic.Pipeline (Dat)
open Cert.Proj

variable (m : (ℓ : Loc nD τ sig) → Buf (Elt Ideal) ℓ)

/-- What a block stores at one entry: its row mixed, normed and gained. -/
theorem pay_at (v0 : FVec Ideal S512x128 .f32) (v3 : FVec Ideal S512x1024 .f32) (v4 : FVec Ideal S1x1x1024 .f32) (v6 v10 : FVec Ideal S512x1024 .bf16)
    (v28 : FVec Ideal S1x1024 .f32) (r : Fin 512) (d : Fin 1024) :
    k0_pay1 (F := Ideal) v0 v3 v4 v6 v10 v28 (ix2 r d)
      = rms (mixed (fun k => v3 (ix2 r k)) (fun k => v4 (ix3 (0 : Fin 1) (0 : Fin 1) k)) (fun k => v6 (ix2 r k)) (fun k => v10 (ix2 r k)) (v0 (ix2 r (4 : Fin 128))) (v0 (ix2 r (5 : Fin 128))))
          (fun k => v28 (ix2 (0 : Fin 1) k)) d := by
  pointwise [k0_pay1]
  rfl

/-- The windows' block indices at every grid point: rows `t`, batch `t / 8`, the second experts' rows 64 blocks on. -/
theorem idx : ∀ t : Fin cfg0.N, win0_0.index t = ![t.val, 0] ∧ win0_1.index t = ![t.val / 8, 0, 0]
    ∧ win0_2.index t = ![t.val, 0] ∧ win0_3.index t = ![t.val, 0]
    ∧ win0_4.index t = ![64 + t.val, 0] ∧ win0_5.index t = ![0, 0] ∧ win0_6.index t = ![t.val, 0] :=
  (by decide +kernel : ∀ t : Fin grid0.N, _)

/-- The gain reaches the kernel as it is. -/
theorem V_g (c : Dev nD) (d : Fin 1024) : V m c main_v0 (ix2 (0 : Fin 1) d) = m ((c : Thread nD τ).loc main_arg4) (ix1 d) := by
  entry_read
  pointwise

/-- A block's row of the residual stream. -/
theorem x_blk (c : Dev nD) (t : Fin cfg0.N) (r : Fin 512) (d : Fin 1024) (r' : Fin 32768) (hr : (r' : ℕ) = t.val * 512 + r) :
    iblk m c 0 t (ix2 r d) = m ((c : Thread nD τ).loc main_arg0) (ix2 r' d) := by
  rw [← V_main_arg0 m c]
  blk_simp [iblk, idx t]
  blk_ext [idx t]

/-- A block's gate: its batch's. -/
theorem g2_blk (c : Dev nD) (t : Fin cfg0.N) (d : Fin 1024) (b : Fin 8) (hb : (b : ℕ) = t.val / 8) :
    iblk m c 1 t (ix3 (0 : Fin 1) (0 : Fin 1) d) = m ((c : Thread nD τ).loc main_arg1) (ix3 b (0 : Fin 1) d) := by
  rw [← V_main_arg1 m c]
  blk_simp [iblk, idx t]
  blk_ext [idx t]

/-- A block's row of the router's lanes. -/
theorem w_blk (c : Dev nD) (t : Fin cfg0.N) (r : Fin 512) (l : Fin 128) (r' : Fin 32768) (hr : (r' : ℕ) = t.val * 512 + r) :
    iblk m c 2 t (ix2 r l) = m ((c : Thread nD τ).loc main_arg2) (ix2 r' l) := by
  rw [← V_main_arg2 m c]
  blk_simp [iblk, idx t]
  blk_ext [idx t]

/-- A block's row of the first experts' outputs. -/
theorem y1_blk (c : Dev nD) (t : Fin cfg0.N) (r : Fin 512) (d : Fin 1024) (r' : Fin 65536) (hr : (r' : ℕ) = t.val * 512 + r) :
    iblk m c 3 t (ix2 r d) = m ((c : Thread nD τ).loc main_arg3) (ix2 r' d) := by
  rw [← V_main_arg3 m c]
  blk_simp [iblk, idx t]
  blk_ext [idx t]

/-- A block's row of the second experts' outputs: 32768 rows on. -/
theorem y2_blk (c : Dev nD) (t : Fin cfg0.N) (r : Fin 512) (d : Fin 1024) (r' : Fin 65536) (hr : (r' : ℕ) = 32768 + (t.val * 512 + r)) :
    iblk m c 4 t (ix2 r d) = m ((c : Thread nD τ).loc main_arg3) (ix2 r' d) := by
  rw [← V_main_arg3 m c]
  blk_simp [iblk, idx t]
  blk_ext [idx t]

/-- The gain's block is the gain. -/
theorem g_blk (c : Dev nD) (t : Fin cfg0.N) (d : Fin 1024) :
    iblk m c 5 t (ix2 (0 : Fin 1) d) = V m c main_v0 (ix2 (0 : Fin 1) d) := by
  blk_simp [iblk, idx t]
  blk_ext [idx t]

/-- The result at one row and column, from the argument arrays. -/
def outAt (X : FVec Ideal S32768x1024 .f32) (G : FVec Ideal S8x1x1024 .f32) (W : FVec Ideal S32768x128 .f32) (Y : FVec Ideal S65536x1024 .bf16)
    (g : FVec Ideal S1024 .f32) (r : Fin 32768) (d : Fin 1024) : EReal :=
  rms (mixed (fun k => X (ix2 r k)) (fun k => G (ix3 (⟨(r : ℕ) / 4096, by omega⟩ : Fin 8) (0 : Fin 1) k))
      (fun k => Y (ix2 (⟨r, by omega⟩ : Fin 65536) k)) (fun k => Y (ix2 (⟨32768 + r, by omega⟩ : Fin 65536) k))
      (W (ix2 r (4 : Fin 128))) (W (ix2 r (5 : Fin 128)))) (fun k => g (ix1 k)) d

/-- The whole result as one function of the arguments. -/
def G (c : Dev nD) : FVec Ideal S32768x1024 .f32 := fun j =>
  outAt (m ((c : Thread nD τ).loc main_arg0)) (m ((c : Thread nD τ).loc main_arg1)) (m ((c : Thread nD τ).loc main_arg2))
    (m ((c : Thread nD τ).loc main_arg3)) (m ((c : Thread nD τ).loc main_arg4)) (j 0) (j 1)

/-- Where a block index of the result sits in the whole array. -/
theorem emb6 (t : Fin cfg0.N) (y : S512x1024.Idx) :
    ((((cfg0.win 6).blk t).view.emb y 0 : Fin 32768) : ℕ) = t.val * 512 + (y 0 : ℕ)
      ∧ ((((cfg0.win 6).blk t).view.emb y 1 : Fin 1024) : ℕ) = (y 1 : ℕ) := by
  obtain ⟨-, -, -, -, -, -, h⟩ := idx t
  have h0 : win0_6.index t 0 = t.val := congrFun h 0
  have h1 : win0_6.index t 1 = 0 := congrFun h 1
  constructor
  · show win0_6.index t 0 * 512 + 1 * (y 0 : ℕ) = _
    rw [one_mul, h0]
  · show win0_6.index t 1 * 1024 + 1 * (y 1 : ℕ) = _
    rw [one_mul, h1, Nat.zero_mul, Nat.zero_add]

/-- A block's loads read its windows whole. -/
theorem ld_w (x : Vec Ideal S512x128 .f32) (r : Fin 512) (l : Fin 128) : (View.ld x r0_0 : Vec Ideal S512x128 .f32) (ix2 r l) = x (ix2 r l) := by
  pointwise [r0_0]

/-- The residual stream's and the outputs' loads. -/
theorem ld_x (x : Vec Ideal S512x1024 .f32) (r : Fin 512) (d : Fin 1024) : (View.ld x r0_1 : Vec Ideal S512x1024 .f32) (ix2 r d) = x (ix2 r d) := by
  pointwise [r0_1]

/-- The outputs' loads. -/
theorem ld_y (x : Vec Ideal S512x1024 .bf16) (r : Fin 512) (d : Fin 1024) : (View.ld x r0_1 : Vec Ideal S512x1024 .bf16) (ix2 r d) = x (ix2 r d) := by
  pointwise [r0_1]

/-- The gate's load. -/
theorem ld_g2 (x : Vec Ideal S1x1x1024 .f32) (d : Fin 1024) : (View.ld x r0_2 : Vec Ideal S1x1x1024 .f32) (ix3 (0 : Fin 1) (0 : Fin 1) d) = x (ix3 (0 : Fin 1) (0 : Fin 1) d) := by
  pointwise [r0_2]

/-- The gain's load. -/
theorem ld_g (x : Vec Ideal S1x1024 .f32) (d : Fin 1024) : (View.ld x r0_3 : Vec Ideal S1x1024 .f32) (ix2 (0 : Fin 1) d) = x (ix2 (0 : Fin 1) d) := by
  pointwise [r0_3]

/-- A block's entry is the specification's, when its loads are the specification's rows. -/
theorem core (X : FVec Ideal S32768x1024 .f32) (G : FVec Ideal S8x1x1024 .f32) (W : FVec Ideal S32768x128 .f32) (Y : FVec Ideal S65536x1024 .bf16)
    (g : FVec Ideal S1024 .f32) (v0 : FVec Ideal S512x128 .f32) (v3 : FVec Ideal S512x1024 .f32) (v4 : FVec Ideal S1x1x1024 .f32) (v6 v10 : FVec Ideal S512x1024 .bf16)
    (v28 : FVec Ideal S1x1024 .f32) (r : Fin 512) (R : Fin 32768) (hw : ∀ l, v0 (ix2 r l) = W (ix2 R l)) (hx : ∀ k, v3 (ix2 r k) = X (ix2 R k))
    (hg2 : ∀ k, v4 (ix3 (0 : Fin 1) (0 : Fin 1) k) = G (ix3 (⟨(R : ℕ) / 4096, by omega⟩ : Fin 8) (0 : Fin 1) k))
    (h1 : ∀ k, v6 (ix2 r k) = Y (ix2 (⟨R, by omega⟩ : Fin 65536) k)) (h2 : ∀ k, v10 (ix2 r k) = Y (ix2 (⟨32768 + R, by omega⟩ : Fin 65536) k))
    (hg : ∀ k, v28 (ix2 (0 : Fin 1) k) = g (ix1 k)) (d : Fin 1024) :
    k0_pay1 (F := Ideal) v0 v3 v4 v6 v10 v28 (ix2 r d) = outAt X G W Y g R d := by
  rw [pay_at]
  unfold outAt
  simp only [hw, hx, hg2, h1, h2, hg]

/-- The specification at an array index given by its row and column. -/
theorem G_at (c : Dev nD) (j : S32768x1024.Idx) (R : Fin 32768) (d : Fin 1024) (h0 : (j 0 : ℕ) = R) (h1 : (j 1 : ℕ) = d) :
    G m c j = outAt (m ((c : Thread nD τ).loc main_arg0)) (m ((c : Thread nD τ).loc main_arg1)) (m ((c : Thread nD τ).loc main_arg2))
      (m ((c : Thread nD τ).loc main_arg3)) (m ((c : Thread nD τ).loc main_arg4)) R d := by
  have e0 : j 0 = R := Fin.ext h0
  have e1 : j 1 = d := Fin.ext h1
  unfold G
  rw [e0, e1]

/-- POINT: what the body stores at block index `y` of point `t` is the specification at the array index `y` sits at. -/
theorem point (c : Dev nD) (t : Fin cfg0.N) (y : S512x1024.Idx) :
    out0_6 (iblk m c 0 t) (iblk m c 1 t) (iblk m c 2 t) (iblk m c 3 t) (iblk m c 4 t) (iblk m c 5 t) y = G m c (((cfg0.win 6).blk t).view.emb y) := by
  have ht : t.val < 64 := t.isLt
  obtain ⟨e0, e1⟩ := emb6 t y
  unfold out0_6
  canon_tiles x h
  obtain ⟨r, d, rfl⟩ : ∃ (r : Fin 512) (d : Fin 1024), x = ix2 r d := ⟨x 0, x 1, by funext a; fin_cases a <;> rfl⟩
  have hr := r.isLt
  replace h0 : ((y 0 : Fin 512) : ℕ) = r := h0
  replace h1 : ((y 1 : Fin 1024) : ℕ) = d := h1
  rw [G_at m c (((cfg0.win 6).blk t).view.emb y) ⟨t.val * 512 + (r : ℕ), by omega⟩ d (by rw [e0, h0]) (by rw [e1, h1])]
  refine core _ _ _ _ _ _ _ _ _ _ _ r _ (fun l => ?_) (fun k => ?_) (fun k => ?_) (fun k => ?_) (fun k => ?_) (fun k => ?_) d
  · exact (ld_w _ r l).trans (w_blk m c t r l _ rfl)
  · exact (ld_x _ r k).trans (x_blk m c t r k _ rfl)
  · exact (ld_g2 _ k).trans (g2_blk m c t k _ (by show (t.val * 512 + (r : ℕ)) / 4096 = t.val / 8; omega))
  · exact (ld_y _ r k).trans (y1_blk m c t r k _ rfl)
  · exact (ld_y _ r k).trans (y2_blk m c t r k _ rfl)
  · exact (ld_g _ k).trans ((g_blk m c t k).trans (V_g m c k))

/-- FINAL: the result array after the last grid point. -/
theorem final (c : Dev nD) : (dats m 0 c).arrAt 6 cfg0.N = G m c := by
  have key : ∀ (t : Fin cfg0.N) (y : S512x1024.Idx), (dats m 0 c).after 6 t y = G m c (((cfg0.win 6).blk t).view.emb y) := fun t y => by
    rw [after0_6]
    exact point m c t y
  exact (dats m 0 c).arrAt_eq_of_covers 6 (G m c) (by decide +kernel) fun t _ y => key t y

end Cert.Combine.Kern

end
-- ==== Proof.Combine.Claims.lean ====
/- The claims of the last combination: its reference read at one index, its reference's frame, and the equality of the two
   results. -/
module

public import proofs.«01_k».proof.Defs
public import proofs.«01_k».proof.Proof.Gen.CombineReferenceIdeal
public import proofs.«01_k».proof.Proof.Gen.CombineReferenceIdeal.Run
public import proofs.«01_k».proof.Proof.Combine.Value

@[expose] public section

set_option maxRecDepth 16384

noncomputable section

namespace Cert.Combine.Ref

open Cert.CombineReferenceIdeal Cert.CombineReferenceIdeal.Gen Idealize.ShloMosaic Idealize.ShloMosaic.TcCoe Idealize.SL.Sem
open Cert.Proj

/-- The two experts' outputs of every token, weighted and added up. -/
def weighted (W : FVec Ideal S32768x128 .f32) (Y : FVec Ideal S65536x1024 .bf16) : FVec Ideal S32768x1024 .f32 :=
  Host.reduceAdd (mulf (broadcastInDim S2x32768x1024 ![0, 1, 2] bcast_S2x32768x1_S2x32768x1024_0_1_2 (broadcastInDim S2x32768x1 ![0, 1] bcast_S2x32768_S2x32768x1_0_1 (transpose S2x32768 [1, 0] (extractStridedSlice S32768x2 ![0, 4] W slices_S32768x128_S32768x2_0_4) transposes_S32768x2_S2x32768_1_0))) (extf .f32 (shapeCast _ Y shapeCasts_S65536x1024_S2x32768x1024) bitsLt_bf16_f32)) (constant S_ .f32 0x00000000#32) reducesTo_S2x32768x1024_S32768x1024_d0 h_S_

/-- The residual stream plus the gated sum. -/
def stream (X : FVec Ideal S32768x1024 .f32) (G : FVec Ideal S8x1x1024 .f32) (y : FVec Ideal S32768x1024 .f32) : FVec Ideal S8x4096x1024 .f32 :=
  addf (shapeCast _ X shapeCasts_S32768x1024_S8x4096x1024) (mulf (broadcastInDim S8x4096x1024 ![0, 1, 2] bcast_S8x1x1024_S8x4096x1024_0_1_2 G) (shapeCast _ y shapeCasts_S32768x1024_S8x4096x1024))

/-- The norm and the gain, laid back as rows. -/
def norm (x : FVec Ideal S8x4096x1024 .f32) (g : FVec Ideal S1024 .f32) : FVec Ideal S32768x1024 .f32 :=
  shapeCast _ (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) shapeCasts_S8x4096x1024_S32768x1024

/-- A token's weighted sum at one entry: its first expert's share and its second's. -/
theorem weighted_at (W : FVec Ideal S32768x128 .f32) (Y : FVec Ideal S65536x1024 .bf16) (r : Fin 32768) (d : Fin 1024) :
    weighted W Y (ix2 r d) = W (ix2 r (4 : Fin 128)) * Y (ix2 (⟨r, by omega⟩ : Fin 65536) d) + W (ix2 r (5 : Fin 128)) * Y (ix2 (⟨32768 + r, by omega⟩ : Fin 65536) d) := by
  pointwise [weighted]
  rw [Fin.sum_univ_two]
  congr 2 <;> pointwise

/-- The stream at one entry. -/
theorem stream_at (X : FVec Ideal S32768x1024 .f32) (G : FVec Ideal S8x1x1024 .f32) (y : FVec Ideal S32768x1024 .f32) (b : Fin 8) (i : Fin 4096) (d : Fin 1024)
    (r : Fin 32768) (hr : r = ⟨b * 4096 + i, by omega⟩) :
    stream X G y (ix3 b i d) = X (ix2 r d) + G (ix3 b (0 : Fin 1) d) * y (ix2 r d) := by
  subst hr
  pointwise [stream]

/-- The normed stream at a row and a column. -/
theorem norm_at (x : FVec Ideal S8x4096x1024 .f32) (g : FVec Ideal S1024 .f32) (r : Fin 32768) (d : Fin 1024) :
    norm x g (ix2 r d) = rms (fun k => x (ix3 (⟨(r : ℕ) / 4096, by omega⟩ : Fin 8) (⟨(r : ℕ) % 4096, by omega⟩ : Fin 4096) k)) (fun k => g (ix1 k)) d := by
  pointwise [norm]
  rfl

/-- The reference's result at one row and column is the specification's. -/
theorem res_at (X : FVec Ideal S32768x1024 .f32) (G : FVec Ideal S8x1x1024 .f32) (W : FVec Ideal S32768x128 .f32) (Y : FVec Ideal S65536x1024 .bf16)
    (g : FVec Ideal S1024 .f32) (r : Fin 32768) (d : Fin 1024) :
    norm (stream X G (weighted W Y)) g (ix2 r d) = Cert.Combine.Kern.outAt X G W Y g r d := by
  rw [norm_at]
  have hs : ∀ k, stream X G (weighted W Y) (ix3 (⟨(r : ℕ) / 4096, by omega⟩ : Fin 8) (⟨(r : ℕ) % 4096, by omega⟩ : Fin 4096) k) = _ := fun k =>
    stream_at X G (weighted W Y) _ _ k r (Fin.ext (by show (r : ℕ) = (r : ℕ) / 4096 * 4096 + (r : ℕ) % 4096; omega))
  simp only [hs, weighted_at]
  rfl

end Cert.Combine.Ref

namespace Cert.Combine.Claims

open Idealize.ShloMosaic Idealize.ShloMosaic.TcCoe Idealize.SL.Sem

/-- The reference's frame: a program of host operations leaves its arguments as they were and every counter at zero. -/
theorem frame_ref : Cert.quiescent_CombineReferenceIdeal := by
  intro m g _
  exact (θ_run _ _ _).mono (fun r h => ⟨fun c => (h c).2, sem_eq_zero_of_no_sems (by decide) r.2⟩) (Cert.CombineReferenceIdeal.Value.run m g)

/-- The reference's term, of the kernel's arguments, is the array the kernel was shown to leave. -/
theorem ref_eq (m : (ℓ : Loc Cert.CombineIdeal.nD Cert.CombineIdeal.τ Cert.CombineIdeal.sig) → Buf (Elt Ideal) ℓ) (c : Dev Cert.CombineIdeal.nD) :
    Cert.Combine.Ref.norm (Cert.Combine.Ref.stream (m ((c.tc : Thread Cert.CombineIdeal.nD Cert.CombineIdeal.τ).loc Cert.CombineIdeal.main_arg0)) (m ((c.tc : Thread Cert.CombineIdeal.nD Cert.CombineIdeal.τ).loc Cert.CombineIdeal.main_arg1))
      (Cert.Combine.Ref.weighted (m ((c.tc : Thread Cert.CombineIdeal.nD Cert.CombineIdeal.τ).loc Cert.CombineIdeal.main_arg2)) (m ((c.tc : Thread Cert.CombineIdeal.nD Cert.CombineIdeal.τ).loc Cert.CombineIdeal.main_arg3))))
      (m ((c.tc : Thread Cert.CombineIdeal.nD Cert.CombineIdeal.τ).loc Cert.CombineIdeal.main_arg4)) = Cert.Combine.Kern.G m c := by
  funext j
  obtain ⟨r, d, rfl⟩ : ∃ (r : Fin 32768) (d : Fin 1024), j = ix2 r d := ⟨j 0, j 1, by funext a; fin_cases a <;> rfl⟩
  exact Cert.Combine.Ref.res_at _ _ _ _ _ r d

/-- THE VALUE: the kernel's result and the reference's are the same array. -/
theorem algebraic : Cert.algebraic_CombineIdeal_CombineReferenceIdeal := by
  intro m g m' g' _ hag
  refine ⟨fun c => Cert.Combine.Kern.G m c,
    (θ_run _ _ _).mono (fun r h c => ?_) (Cert.CombineIdeal.Value.run_blocks m g),
    (θ_run _ _ _).mono (fun r h c => ?_) (Cert.CombineReferenceIdeal.Value.run m' g')⟩
  · exact ⟨(h c).1.trans (Cert.Combine.Kern.final m c), (h c).2⟩
  · obtain ⟨h0, h1, h2, h3, h4⟩ := hag c
    refine ⟨(h c).1.trans (Eq.trans ?_ (ref_eq m c)), (h c).2⟩
    rw [← h0, ← h1, ← h2, ← h3, ← h4]
    rfl

end Cert.Combine.Claims

end
-- ==== Proof.InProj.Spec.lean ====
/- Rotary position embedding of one row of heads, on plain functions of extended reals: what both the kernel and the
   reference of the input projection are shown to compute for their queries and keys. -/
module

public import proofs.«01_k».proof.Proof.Proj.Spec

@[expose] public section

noncomputable section

namespace Cert.InProj

open Idealize.ShloMosaic

/-- A whole number as an extended real. -/
def num (n : ℕ) : EReal := FloatOps.sitofp (F := Ideal) .f32 (BitVec.ofNat 32 n)

/-- The frequency of the `i`-th of sixteen rotated pairs: `10000 ^ (-(2 i) / 32)`. -/
def freq (i : ℕ) : EReal :=
  Ideal.pow (Ideal.ofBits .f32 0x461C4000#32) (Ideal.div (-(Ideal.ofBits .f32 0x40000000#32 * num i)) (Ideal.ofBits .f32 0x42000000#32))

/-- The angle at position `p` of a 64 by 64 grid and column `l`: a head's first 32 columns turn by the position's row, its
    last 32 by the position's column. -/
def angle (p l : ℕ) : EReal := num (if l % 64 < 32 then p / 64 else p % 64) * freq (l % 16)

/-- A pair's first element, turned. -/
def turnFirst (a b t : EReal) : EReal := a * Ideal.cos t - b * Ideal.sin t

/-- A pair's second element, turned. -/
def turnSecond (a b t : EReal) : EReal := a * Ideal.sin t + b * Ideal.cos t

/-- A row of eight heads of 64 columns, turned: in every 32 columns, column `l` of the first sixteen is paired with column
    `l + 16`. -/
def roped (p : ℕ) (f : Fin 512 → EReal) (l : Fin 512) : EReal :=
  if h : (l : ℕ) % 32 < 16 then turnFirst (f l) (f ⟨l + 16, by omega⟩) (angle p l)
  else turnSecond (f ⟨l - 16, by omega⟩) (f l) (angle p l)

end Cert.InProj

end
-- ==== Proof.InProj.Tables.lean ====
/- The tables of cosines and sines the input projection's kernel reads, computed before it by host operations: every
   entry is the cosine or the signed sine of the specification's angle. -/
module

public import proofs.«01_k».proof.Proof.Gen.InProjIdeal.Frame
public import proofs.«01_k».proof.Proof.InProj.Spec
public import Idealize.ShloMosaic.Lib.Pipeline.ValueKit
public import Idealize.ShloMosaic.Lib.StableHlo.RunRead
public import Idealize.ShloMosaic.Lib.Claim

@[expose] public section

set_option maxRecDepth 16384

noncomputable section

namespace Cert.InProj.Kern

open Cert.InProjIdeal Cert.InProjIdeal.Gen Idealize.ShloMosaic Idealize.ShloMosaic.TcCoe Idealize.SL.Sem

variable (m : (ℓ : Loc nD τ sig) → Buf (Elt Ideal) ℓ)

/-- The grid's row of every position, as computed. -/
def rows (c : Dev nD) : IVec S4096 32 := V m c main_v1

/-- The grid's column of every position, as computed. -/
def cols (c : Dev nD) : IVec S4096 32 := V m c main_v3

/-- The pair of every column of a head, as computed. -/
def pairsOf (c : Dev nD) : IVec S64 32 := V m c main_v27

/-- The sign of every column's sine, as computed. -/
def signs (c : Dev nD) : FVec Ideal S64 .f32 := V m c main_v36

/-- The frequencies, as computed. -/
def freqs (c : Dev nD) : FVec Ideal S16 .f32 := V m c main_v14

/-- The angles, as computed. -/
def angles (c : Dev nD) : FVec Ideal S4096x64 .f32 := V m c main_v32

/-- The table of cosines, as computed. -/
def cosines (c : Dev nD) : FVec Ideal S4096x256 .f32 := V m c main_v41

/-- The table of signed sines, as computed. -/
def sines (c : Dev nD) : FVec Ideal S4096x256 .f32 := V m c main_v48

/-- The first layer's gain, as the kernel is given it. -/
def gains (c : Dev nD) : FVec Ideal S1x1024 .f32 := V m c main_v51

/-- The weights, as the kernel is given them. -/
def weights (c : Dev nD) : FVec Ideal S1024x3072 .bf16 := V m c main_v53

/-- A position's row of the grid: its number divided by 64. -/
theorem row_at (c : Dev nD) (p : Fin 4096) : (rows m c) (ix1 p) = BitVec.ofNat 32 (p / 64) := by
  unfold rows
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_reads_simp
  pointwise
  revert p
  decide +kernel

/-- A position's column of the grid: the remainder by 64. -/
theorem col_at (c : Dev nD) (p : Fin 4096) : (cols m c) (ix1 p) = BitVec.ofNat 32 (p % 64) := by
  unfold cols
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_reads_simp
  pointwise
  revert p
  decide +kernel

/-- A column's pair: the remainder by 16. -/
theorem pair_at (c : Dev nD) (l : Fin 64) : (pairsOf m c) (ix1 l) = BitVec.ofNat 32 (l % 16) := by
  unfold pairsOf
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_reads_simp
  pointwise
  revert l
  decide +kernel

/-- The constant minus one is minus one. -/
theorem minus_one : Ideal.ofBits .f32 0xBF800000#32 = (-1 : EReal) := by
  have h : ((-1 : ℝ) : EReal) = -1 := by rw [EReal.coe_neg, EReal.coe_one]
  rw [← h]
  simp [Ideal.ofBits, Ideal.ieee, -EReal.coe_mul, -EReal.coe_neg]
  norm_num

/-- The sign of a column's sine: negative in the first sixteen of every 32 columns. -/
theorem sign_at (c : Dev nD) (l : Fin 64) : (signs m c) (ix1 l) = if (l : ℕ) % 32 < 16 then (-1 : EReal) else (1 : EReal) := by
  unfold signs
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_reads_simp
  pointwise
  refine (congrArg (fun q => Scalar.select q (Ideal.ofBits .f32 0xBF800000#32) (1 : EReal)) (?_ : _ = if (l : ℕ) % 32 < 16 then 1#1 else 0#1)).trans ?_
  · revert l
    decide +kernel
  · by_cases h : (l : ℕ) % 32 < 16
    · rw [if_pos h, if_pos h]
      exact minus_one
    · rw [if_neg h, if_neg h]
      rfl

/-- The sixteen frequencies. -/
theorem freq_at (c : Dev nD) (i : Fin 16) : (freqs m c) (ix1 i) = freq i := by
  unfold freqs
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_reads_simp
  pointwise
  rfl

/-- The pair of every column of a head, as the frequencies are looked up. -/
def pairs : IVec S64x1 32 := fun j => BitVec.ofNat 32 ((j 0 : ℕ) % 16)

/-- The frequency looked up for a column is its pair's. -/
theorem lookup (f : FVec Ideal S16 .f32) (l : Fin 64) : Host.gather gather_S16_S64x1_S64_n_0_n_n_0_1_1 f pairs (ix1 l) = f (ix1 (⟨(l : ℕ) % 16, by omega⟩ : Fin 16)) := by
  have h : ∀ l : Fin 64, gather_S16_S64x1_S64_n_0_n_n_0_1_1.operandIdx (ix1 l) pairs = ix1 (⟨(l : ℕ) % 16, by omega⟩ : Fin 16) := by
    decide +kernel
  exact congrArg f (h l)

/-- The table of angles, of the tables it is computed from. -/
theorem angles_eq (c : Dev nD) : (angles m c) =
    mulf (select (broadcastInDim S4096x64 ![0, 1] bcast_S1x64_S4096x64_0_1 (broadcastInDim S1x64 ![1] bcast_S64_S1x64_1 (cmpi .slt (iotaInDim S64 32 0) (broadcastInDim S64 ![] bcast_S_S64 (constantI S_ 32 32#32)))))
        (broadcastInDim S4096x64 ![0, 1] bcast_S4096x1_S4096x64_0_1 (broadcastInDim S4096x1 ![0] bcast_S4096_S4096x1_0 (sitofp .f32 (rows m c))))
        (broadcastInDim S4096x64 ![0, 1] bcast_S4096x1_S4096x64_0_1 (broadcastInDim S4096x1 ![0] bcast_S4096_S4096x1_0 (sitofp .f32 (cols m c)))))
      (broadcastInDim S4096x64 ![0, 1] bcast_S1x64_S4096x64_0_1 (broadcastInDim S1x64 ![1] bcast_S64_S1x64_1 (Host.gather gather_S16_S64x1_S64_n_0_n_n_0_1_1 (freqs m c) (broadcastInDim S64x1 ![0] bcast_S64_S64x1_0 (pairsOf m c))))) := by
  unfold rows cols pairsOf freqs angles
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_reads_simp
  try rfl

/-- The angle at a position and a column of a head. -/
theorem angle_at (c : Dev nD) (p : Fin 4096) (l : Fin 64) : (angles m c) (ix2 p l) = angle p l := by
  have hp : broadcastInDim S64x1 ![0] bcast_S64_S64x1_0 (pairsOf m c) = pairs := by
    funext j
    obtain ⟨a, b, rfl⟩ : ∃ (a : Fin 64) (b : Fin 1), j = ix2 a b := ⟨j 0, j 1, by funext a; fin_cases a <;> rfl⟩
    have e := pair_at m c a
    generalize (pairsOf m c) = v at e ⊢
    pointwise
    rw [e]
    rfl
  have h1 := row_at m c p
  have h2 := col_at m c p
  have h3 := freq_at m c (⟨(l : ℕ) % 16, by omega⟩ : Fin 16)
  rw [angles_eq, hp]
  have h4 := lookup (freqs m c) l
  generalize Host.gather gather_S16_S64x1_S64_n_0_n_n_0_1_1 (freqs m c) pairs = w at h4 ⊢
  generalize (rows m c) = v1 at h1 ⊢
  generalize (cols m c) = v3 at h2 ⊢
  generalize (freqs m c) = v14 at h3 h4
  pointwise
  rw [h4, h3, h1, h2]
  have hl : ∀ l : Fin 64, IntOp.cmpi CmpIPredicate.slt (BitVec.ofNat 32 ↑l) 32#32 = if (l : ℕ) % 64 < 32 then 1#1 else 0#1 := by decide +kernel
  rw [hl]
  unfold angle
  by_cases h : (l : ℕ) % 64 < 32
  · rw [if_pos h, if_pos h]
    rfl
  · rw [if_neg h, if_neg h]
    rfl

/-- The table of cosines, of the table of angles. -/
theorem cos_eq (c : Dev nD) : (cosines m c) =
    shapeCast _ (broadcastInDim S1x4096x4x64 ![0, 1, 2, 3] bcast_S1x4096x1x64_S1x4096x4x64_0_1_2_3 (shapeCast _ (Host.cos (angles m c)) shapeCasts_S4096x64_S1x4096x1x64)) shapeCasts_S1x4096x4x64_S4096x256 := by
  unfold angles cosines
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_reads_simp
  try rfl

/-- The table of sines, of the table of angles and the signs. -/
theorem sin_eq (c : Dev nD) : (sines m c) =
    shapeCast _ (broadcastInDim S1x4096x4x64 ![0, 1, 2, 3] bcast_S1x4096x1x64_S1x4096x4x64_0_1_2_3 (shapeCast _ (mulf (Host.sin (angles m c)) (broadcastInDim S4096x64 ![0, 1] bcast_S1x64_S4096x64_0_1 (broadcastInDim S1x64 ![1] bcast_S64_S1x64_1 (signs m c)))) shapeCasts_S4096x64_S1x4096x1x64)) shapeCasts_S1x4096x4x64_S4096x256 := by
  unfold signs angles sines
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_reads_simp
  try rfl

/-- An angle depends on a column's place in its head only. -/
theorem angle_head (p l : ℕ) : angle p (l % 64) = angle p l := by
  unfold angle
  rw [Nat.mod_mod, show l % 64 % 16 = l % 16 by omega]

/-- The cosine at a position and a column. -/
theorem cos_at (c : Dev nD) (p : Fin 4096) (l : Fin 256) : (cosines m c) (ix2 p l) = Ideal.cos (angle p l) := by
  have h := angle_at m c p (⟨(l : ℕ) % 64, by omega⟩ : Fin 64)
  rw [cos_eq]
  generalize (angles m c) = v at h ⊢
  pointwise
  rw [h]
  exact congrArg Ideal.cos (angle_head p l)

/-- The signed sine at a position and a column. -/
theorem sin_at (c : Dev nD) (p : Fin 4096) (l : Fin 256) :
    (sines m c) (ix2 p l) = Ideal.sin (angle p l) * (if (l : ℕ) % 32 < 16 then (-1 : EReal) else (1 : EReal)) := by
  have h := angle_at m c p (⟨(l : ℕ) % 64, by omega⟩ : Fin 64)
  have hs := sign_at m c (⟨(l : ℕ) % 64, by omega⟩ : Fin 64)
  rw [sin_eq]
  generalize (angles m c) = v at h ⊢
  generalize (signs m c) = w at hs ⊢
  pointwise
  rw [h, hs]
  show Ideal.sin (angle p ((l : ℕ) % 64)) * (if (l : ℕ) % 64 % 32 < 16 then (-1 : EReal) else (1 : EReal)) = _
  rw [angle_head, show (l : ℕ) % 64 % 32 = (l : ℕ) % 32 by omega]

/-- The gain is the first layer's. -/
theorem gain_at (c : Dev nD) (d : Fin 1024) : (gains m c) (ix2 (0 : Fin 1) d) = m ((c : Thread nD τ).loc main_arg1) (ix2 (0 : Fin 2) d) := by
  unfold gains
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_reads_simp
  pointwise

/-- The weights the kernel reads are the weights. -/
theorem weight_at (c : Dev nD) (k : Fin 1024) (d : Fin 3072) : (weights m c) (ix2 k d) = m ((c : Thread nD τ).loc main_arg4) (ix3 (0 : Fin 1) k d) := by
  unfold weights
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_reads_simp
  pointwise

end Cert.InProj.Kern

end
-- ==== Proof.InProj.Value.lean ====
/- The input projection: block by block, every row of its queries, keys, values and remaining columns is the
   specification's. -/
module

public import proofs.«01_k».proof.Proof.Gen.InProjIdeal.Frame
public import proofs.«01_k».proof.Proof.Gen.InProjIdeal.Value
public import proofs.«01_k».proof.Proof.InProj.Tables
public import Idealize.ShloMosaic.Lib.Pipeline.ValueKit
public import Idealize.ShloMosaic.Lib.Claim

@[expose] public section

set_option maxRecDepth 16384

noncomputable section

namespace Cert.InProj.Kern

open Cert.InProjIdeal Cert.InProjIdeal.Gen Idealize.ShloMosaic Idealize.ShloMosaic.TcCoe Idealize.SL.Sem
open Idealize.ShloMosaic.Pipeline (Dat)
open Cert.Proj

variable (m : (ℓ : Loc nD τ sig) → Buf (Elt Ideal) ℓ)

/-- A row of 256 columns as the kernel turns it: each element times its cosine, plus its partner in the row rotated one way
    or the other times its signed sine. -/
def rotated (f : Fin 256 → EReal) (a b : EReal) (l : Fin 256) : EReal :=
  f l * a + (if (l : ℕ) % 32 < 16 then f ⟨((l : ℕ) + 256 - 240) % 256, by omega⟩ else f ⟨((l : ℕ) + 256 - 16) % 256, by omega⟩) * b

/-- Turned so with the cosine and the signed sine of its angle, a column is the specification's. -/
theorem rotated_eq (p : ℕ) (f : Fin 256 → EReal) (F : Fin 512 → EReal) (a b : EReal) (l : Fin 256) (L : Fin 512) (o : ℕ) (ho : o = 0 ∨ o = 256)
    (hL : (L : ℕ) = o + l) (hf : ∀ (i : Fin 256) (j : Fin 512), (j : ℕ) = o + i → f i = F j) (ha : a = Ideal.cos (angle p l))
    (hb : b = Ideal.sin (angle p l) * (if (l : ℕ) % 32 < 16 then (-1 : EReal) else (1 : EReal))) : rotated f a b l = roped p F L := by
  have hang : angle p L = angle p l := by
    unfold angle
    rw [hL, show (o + (l : ℕ)) % 64 = (l : ℕ) % 64 by omega, show (o + (l : ℕ)) % 16 = (l : ℕ) % 16 by omega]
  have hmod : (L : ℕ) % 32 = (l : ℕ) % 32 := by omega
  subst ha
  subst hb
  unfold rotated roped
  by_cases h : (l : ℕ) % 32 < 16
  · have h' : (L : ℕ) % 32 < 16 := by omega
    rw [dif_pos h', if_pos h, if_pos h, hang, hf l L hL, hf _ (⟨(L : ℕ) + 16, by omega⟩ : Fin 512) (by show (L : ℕ) + 16 = o + ((l : ℕ) + 256 - 240) % 256; omega)]
    unfold turnFirst
    rw [mul_neg_one, mul_neg, sub_eq_add_neg]
  · have h' : ¬ (L : ℕ) % 32 < 16 := by omega
    rw [dif_neg h', if_neg h, if_neg h, hang, hf l L hL, hf _ (⟨(L : ℕ) - 16, by omega⟩ : Fin 512) (by show (L : ℕ) - 16 = o + ((l : ℕ) + 256 - 16) % 256; omega)]
    unfold turnSecond
    rw [mul_one, add_comm]

/-- A block's rows, normed and modulated. -/
theorem pay3_at (v0 : FVec Ideal S512x1024 .f32) (v1 : FVec Ideal S1x1024 .f32) (v3 v5 : FVec Ideal S1x1x1024 .f32) (r : Fin 512) (d : Fin 1024) :
    k0_pay3 (F := Ideal) v0 v1 v3 v5 (ix2 r d) = modulated (fun k => v0 (ix2 r k)) (fun k => v1 (ix2 (0 : Fin 1) k)) (fun k => v3 (ix3 (0 : Fin 1) (0 : Fin 1) k)) (fun k => v5 (ix3 (0 : Fin 1) (0 : Fin 1) k)) d := by
  pointwise [k0_pay3]
  rfl

/-- Which way a column's partner lies: ahead in the first sixteen of every 32 columns. -/
theorem mask_at (r : Fin 512) (l : Fin 256) :
    k0_pay8 (Scalar.select (Scalar.cmpi .eq 32#32 0#32) 1#32 32#32) k0_pay6 k0_pay7 (ix2 r l) = if (l : ℕ) % 32 < 16 then 1#1 else 0#1 := by
  pointwise [k0_pay8, k0_pay7, k0_pay6]
  revert l
  decide +kernel

/-- A choice by a column's mask. -/
theorem select_mask (l : ℕ) (a b : EReal) : Scalar.select (if l % 32 < 16 then 1#1 else 0#1) a b = if l % 32 < 16 then a else b := by
  by_cases h : l % 32 < 16
  · rw [if_pos h, if_pos h]
    rfl
  · rw [if_neg h, if_neg h]
    rfl

/-- Queries of a block's second four heads, at one entry. -/
theorem pay12_at (h : FVec Ideal S512x1024 .bf16) (a b : FVec Ideal S512x256 .f32) (s : IVec S512x256 1) (w : FVec Ideal S1024x256 .bf16) (r : Fin 512) (l : Fin 256)
    (hs : s (ix2 r l) = if (l : ℕ) % 32 < 16 then 1#1 else 0#1) :
    k0_pay12 (F := Ideal) h a b s w (ix2 r l) = rotated (fun i => lin (fun k => h (ix2 r k)) (fun k => w (ix2 k i))) (a (ix2 r l)) (b (ix2 r l)) l * Ideal.ofBits .f32 0x3E000000#32 := by
  pointwise [k0_pay12]
  rw [hs, select_mask]
  rfl

/-- Keys of a block's second four heads, at one entry. -/
theorem pay13_at (h : FVec Ideal S512x1024 .bf16) (a b : FVec Ideal S512x256 .f32) (s : IVec S512x256 1) (w : FVec Ideal S1024x256 .bf16) (r : Fin 512) (l : Fin 256)
    (hs : s (ix2 r l) = if (l : ℕ) % 32 < 16 then 1#1 else 0#1) :
    k0_pay13 (F := Ideal) h a b s w (ix2 r l) = rotated (fun i => lin (fun k => h (ix2 r k)) (fun k => w (ix2 k i))) (a (ix2 r l)) (b (ix2 r l)) l := by
  pointwise [k0_pay13]
  rw [hs, select_mask]
  rfl

/-- Queries of a block's first four heads, at one entry. -/
theorem pay9_at (h : FVec Ideal S512x1024 .bf16) (a b : FVec Ideal S512x256 .f32) (w : FVec Ideal S1024x256 .bf16) (r : Fin 512) (l : Fin 256) :
    k0_pay9 (F := Ideal) h a b (Scalar.select (Scalar.cmpi .eq 32#32 0#32) 1#32 32#32) k0_pay6 k0_pay7 w (ix2 r l) = rotated (fun i => lin (fun k => h (ix2 r k)) (fun k => w (ix2 k i))) (a (ix2 r l)) (b (ix2 r l)) l * Ideal.ofBits .f32 0x3E000000#32 := by
  have hs := mask_at r l
  unfold k0_pay9
  generalize k0_pay8 (Scalar.select (Scalar.cmpi .eq 32#32 0#32) 1#32 32#32) k0_pay6 k0_pay7 = s at hs ⊢
  pointwise
  rw [hs, select_mask]
  rfl

/-- Keys of a block's first four heads, at one entry. -/
theorem pay10_at (h : FVec Ideal S512x1024 .bf16) (a b : FVec Ideal S512x256 .f32) (w : FVec Ideal S1024x256 .bf16) (r : Fin 512) (l : Fin 256) :
    k0_pay10 (F := Ideal) h a b (Scalar.select (Scalar.cmpi .eq 32#32 0#32) 1#32 32#32) k0_pay6 k0_pay7 w (ix2 r l) = rotated (fun i => lin (fun k => h (ix2 r k)) (fun k => w (ix2 k i))) (a (ix2 r l)) (b (ix2 r l)) l := by
  have hs := mask_at r l
  unfold k0_pay10
  generalize k0_pay8 (Scalar.select (Scalar.cmpi .eq 32#32 0#32) 1#32 32#32) k0_pay6 k0_pay7 = s at hs ⊢
  pointwise
  rw [hs, select_mask]
  rfl

/-- The values of a block, at one entry. -/
theorem pay14_at (h : FVec Ideal S512x1024 .bf16) (w : FVec Ideal S1024x512 .bf16) (r : Fin 512) (l : Fin 512) :
    k0_pay14 (F := Ideal) h w (ix2 r l) = lin (fun k => h (ix2 r k)) (fun k => w (ix2 k l)) := by
  pointwise [k0_pay14]
  rfl

/-- A third of the remaining columns of a block, at one entry. -/
theorem pay15_at (h : FVec Ideal S512x1024 .bf16) (w : FVec Ideal S1024x512 .bf16) (r : Fin 512) (l : Fin 512) :
    k0_pay15 (F := Ideal) h w (ix2 r l) = lin (fun k => h (ix2 r k)) (fun k => w (ix2 k l)) := by
  pointwise [k0_pay15]
  rfl

/-- A third of the remaining columns of a block, at one entry. -/
theorem pay1_at (h : FVec Ideal S512x1024 .bf16) (w : FVec Ideal S1024x512 .bf16) (r : Fin 512) (l : Fin 512) :
    k0_pay1 (F := Ideal) h w (ix2 r l) = lin (fun k => h (ix2 r k)) (fun k => w (ix2 k l)) := by
  pointwise [k0_pay1]
  rfl

/-- A third of the remaining columns of a block, at one entry. -/
theorem pay2_at (h : FVec Ideal S512x1024 .bf16) (w : FVec Ideal S1024x512 .bf16) (r : Fin 512) (l : Fin 512) :
    k0_pay2 (F := Ideal) h w (ix2 r l) = lin (fun k => h (ix2 r k)) (fun k => w (ix2 k l)) := by
  pointwise [k0_pay2]
  rfl

/-- The cosines, as loaded. -/
theorem pay4_at (v : FVec Ideal S512x256 .f32) (r : Fin 512) (l : Fin 256) : k0_pay4 (F := Ideal) v (ix2 r l) = v (ix2 r l) := by
  pointwise [k0_pay4]

/-- The signed sines, as loaded. -/
theorem pay5_at (v : FVec Ideal S512x256 .f32) (r : Fin 512) (l : Fin 256) : k0_pay5 (F := Ideal) v (ix2 r l) = v (ix2 r l) := by
  pointwise [k0_pay5]

/-- The weights, as loaded. -/
theorem pay11_at (v : FVec Ideal S1024x256 .bf16) (k : Fin 1024) (l : Fin 256) : k0_pay11 (F := Ideal) v (ix2 k l) = v (ix2 k l) := by
  pointwise [k0_pay11]

/-- The windows' block indices at every grid point: rows `t`, batch `t / 8`, the tables' rows `t % 8`. -/
theorem idx : ∀ t : Fin cfg0.N, win0_0.index t = ![t.val, 0] ∧ win0_1.index t = ![0, 0] ∧ win0_2.index t = ![t.val / 8, 0, 0]
    ∧ win0_3.index t = ![t.val / 8, 0, 0] ∧ win0_4.index t = ![t.val % 8, 0] ∧ win0_5.index t = ![t.val % 8, 0] ∧ win0_6.index t = ![0, 0]
    ∧ win0_7.index t = ![t.val, 0] ∧ win0_8.index t = ![t.val, 0] ∧ win0_9.index t = ![t.val, 0] ∧ win0_10.index t = ![t.val, 0] :=
  (by decide +kernel : ∀ t : Fin grid0.N, _)

/-- A block's row of the residual stream. -/
theorem x_blk (c : Dev nD) (t : Fin cfg0.N) (r : Fin 512) (d : Fin 1024) (r' : Fin 32768) (hr : (r' : ℕ) = t.val * 512 + r) :
    iblk m c 0 t (ix2 r d) = m ((c : Thread nD τ).loc main_arg0) (ix2 r' d) := by
  rw [← V_main_arg0 m c]
  blk_simp [iblk, idx t]
  blk_ext [idx t]

/-- The gain's block is the first layer's gain. -/
theorem g_blk (c : Dev nD) (t : Fin cfg0.N) (d : Fin 1024) :
    iblk m c 1 t (ix2 (0 : Fin 1) d) = m ((c : Thread nD τ).loc main_arg1) (ix2 (0 : Fin 2) d) := by
  have e : V m c main_v51 (ix2 (0 : Fin 1) d) = m ((c : Thread nD τ).loc main_arg1) (ix2 (0 : Fin 2) d) := gain_at m c d
  refine Eq.trans ?_ e
  blk_simp [iblk, idx t]
  blk_ext [idx t]

/-- A block's shift: its batch's. -/
theorem sh_blk (c : Dev nD) (t : Fin cfg0.N) (d : Fin 1024) (b : Fin 8) (hb : (b : ℕ) = t.val / 8) :
    iblk m c 2 t (ix3 (0 : Fin 1) (0 : Fin 1) d) = m ((c : Thread nD τ).loc main_arg2) (ix3 b (0 : Fin 1) d) := by
  rw [← V_main_arg2 m c]
  blk_simp [iblk, idx t]
  blk_ext [idx t]

/-- A block's scale: its batch's. -/
theorem sc_blk (c : Dev nD) (t : Fin cfg0.N) (d : Fin 1024) (b : Fin 8) (hb : (b : ℕ) = t.val / 8) :
    iblk m c 3 t (ix3 (0 : Fin 1) (0 : Fin 1) d) = m ((c : Thread nD τ).loc main_arg3) (ix3 b (0 : Fin 1) d) := by
  rw [← V_main_arg3 m c]
  blk_simp [iblk, idx t]
  blk_ext [idx t]

/-- A block's cosines: its positions'. -/
theorem cos_blk (c : Dev nD) (t : Fin cfg0.N) (r : Fin 512) (l : Fin 256) (p : Fin 4096) (hp : (p : ℕ) = t.val % 8 * 512 + r) :
    iblk m c 4 t (ix2 r l) = Ideal.cos (angle p l) := by
  have e : V m c main_v41 (ix2 p l) = Ideal.cos (angle p l) := cos_at m c p l
  refine Eq.trans ?_ e
  blk_simp [iblk, idx t]
  blk_ext [idx t]

/-- A block's signed sines: its positions'. -/
theorem sin_blk (c : Dev nD) (t : Fin cfg0.N) (r : Fin 512) (l : Fin 256) (p : Fin 4096) (hp : (p : ℕ) = t.val % 8 * 512 + r) :
    iblk m c 5 t (ix2 r l) = Ideal.sin (angle p l) * (if (l : ℕ) % 32 < 16 then (-1 : EReal) else (1 : EReal)) := by
  have e : V m c main_v48 (ix2 p l) = Ideal.sin (angle p l) * (if (l : ℕ) % 32 < 16 then (-1 : EReal) else (1 : EReal)) := sin_at m c p l
  refine Eq.trans ?_ e
  blk_simp [iblk, idx t]
  blk_ext [idx t]

/-- The weights' block is the weights. -/
theorem w_blk (c : Dev nD) (t : Fin cfg0.N) (k : Fin 1024) (d : Fin 3072) :
    iblk m c 6 t (ix2 k d) = m ((c : Thread nD τ).loc main_arg4) (ix3 (0 : Fin 1) k d) := by
  have e : V m c main_v53 (ix2 k d) = m ((c : Thread nD τ).loc main_arg4) (ix3 (0 : Fin 1) k d) := weight_at m c k d
  refine Eq.trans ?_ e
  blk_simp [iblk, idx t]
  blk_ext [idx t]

/-- A token's row, normed, gained and modulated. -/
def hiddenOf (X : FVec Ideal S32768x1024 .f32) (g : FVec Ideal S2x1024 .f32) (sh sc : FVec Ideal S8x1x1024 .f32) (r : Fin 32768) : Fin 1024 → EReal :=
  modulated (fun k => X (ix2 r k)) (fun k => g (ix2 (0 : Fin 2) k)) (fun k => sh (ix3 (⟨(r : ℕ) / 4096, by omega⟩ : Fin 8) (0 : Fin 1) k)) (fun k => sc (ix3 (⟨(r : ℕ) / 4096, by omega⟩ : Fin 8) (0 : Fin 1) k))

/-- One column of a token's projection. -/
def projOf (X : FVec Ideal S32768x1024 .f32) (g : FVec Ideal S2x1024 .f32) (sh sc : FVec Ideal S8x1x1024 .f32) (W : FVec Ideal S1x1024x3072 .f32) (r : Fin 32768) (n : Fin 3072) : EReal :=
  lin (hiddenOf X g sh sc r) (fun k => W (ix3 (0 : Fin 1) k n))

/-- A query at one row and column: the first 512 columns, turned and scaled. -/
def qAt (X : FVec Ideal S32768x1024 .f32) (g : FVec Ideal S2x1024 .f32) (sh sc : FVec Ideal S8x1x1024 .f32) (W : FVec Ideal S1x1024x3072 .f32) (r : Fin 32768) (l : Fin 512) : EReal :=
  roped ((r : ℕ) % 4096) (fun i => projOf X g sh sc W r (⟨i, by omega⟩ : Fin 3072)) l * Ideal.ofBits .f32 0x3E000000#32

/-- A key at one row and column: the second 512 columns, turned. -/
def kAt (X : FVec Ideal S32768x1024 .f32) (g : FVec Ideal S2x1024 .f32) (sh sc : FVec Ideal S8x1x1024 .f32) (W : FVec Ideal S1x1024x3072 .f32) (r : Fin 32768) (l : Fin 512) : EReal :=
  roped ((r : ℕ) % 4096) (fun i => projOf X g sh sc W r (⟨512 + i, by omega⟩ : Fin 3072)) l

/-- A value at one row and column: the third 512 columns. -/
def vAt (X : FVec Ideal S32768x1024 .f32) (g : FVec Ideal S2x1024 .f32) (sh sc : FVec Ideal S8x1x1024 .f32) (W : FVec Ideal S1x1024x3072 .f32) (r : Fin 32768) (l : Fin 512) : EReal := projOf X g sh sc W r (⟨1024 + l, by omega⟩ : Fin 3072)

/-- The remaining 1536 columns. -/
def uAt (X : FVec Ideal S32768x1024 .f32) (g : FVec Ideal S2x1024 .f32) (sh sc : FVec Ideal S8x1x1024 .f32) (W : FVec Ideal S1x1024x3072 .f32) (r : Fin 32768) (l : Fin 1536) : EReal := projOf X g sh sc W r (⟨1536 + l, by omega⟩ : Fin 3072)

/-- The queries, whole, as a function of the arguments. -/
def qG (c : Dev nD) : FVec Ideal S32768x512 .bf16 := fun j =>
  qAt (m ((c : Thread nD τ).loc main_arg0)) (m ((c : Thread nD τ).loc main_arg1)) (m ((c : Thread nD τ).loc main_arg2)) (m ((c : Thread nD τ).loc main_arg3)) (m ((c : Thread nD τ).loc main_arg4)) (j 0) (j 1)

/-- The queries at an array index given by its row and column. -/
theorem qG_at (c : Dev nD) (j : S32768x512.Idx) (R : Fin 32768) (d : Fin 512) (h0 : (j 0 : ℕ) = R) (h1 : (j 1 : ℕ) = d) :
    qG m c j = qAt (m ((c : Thread nD τ).loc main_arg0)) (m ((c : Thread nD τ).loc main_arg1)) (m ((c : Thread nD τ).loc main_arg2)) (m ((c : Thread nD τ).loc main_arg3)) (m ((c : Thread nD τ).loc main_arg4)) R d := by
  have e0 : j 0 = R := Fin.ext h0
  have e1 : j 1 = d := Fin.ext h1
  unfold qG
  rw [e0, e1]

/-- The keys, whole, as a function of the arguments. -/
def kG (c : Dev nD) : FVec Ideal S32768x512 .bf16 := fun j =>
  kAt (m ((c : Thread nD τ).loc main_arg0)) (m ((c : Thread nD τ).loc main_arg1)) (m ((c : Thread nD τ).loc main_arg2)) (m ((c : Thread nD τ).loc main_arg3)) (m ((c : Thread nD τ).loc main_arg4)) (j 0) (j 1)

/-- The keys at an array index given by its row and column. -/
theorem kG_at (c : Dev nD) (j : S32768x512.Idx) (R : Fin 32768) (d : Fin 512) (h0 : (j 0 : ℕ) = R) (h1 : (j 1 : ℕ) = d) :
    kG m c j = kAt (m ((c : Thread nD τ).loc main_arg0)) (m ((c : Thread nD τ).loc main_arg1)) (m ((c : Thread nD τ).loc main_arg2)) (m ((c : Thread nD τ).loc main_arg3)) (m ((c : Thread nD τ).loc main_arg4)) R d := by
  have e0 : j 0 = R := Fin.ext h0
  have e1 : j 1 = d := Fin.ext h1
  unfold kG
  rw [e0, e1]

/-- The values, whole, as a function of the arguments. -/
def vG (c : Dev nD) : FVec Ideal S32768x512 .bf16 := fun j =>
  vAt (m ((c : Thread nD τ).loc main_arg0)) (m ((c : Thread nD τ).loc main_arg1)) (m ((c : Thread nD τ).loc main_arg2)) (m ((c : Thread nD τ).loc main_arg3)) (m ((c : Thread nD τ).loc main_arg4)) (j 0) (j 1)

/-- The values at an array index given by its row and column. -/
theorem vG_at (c : Dev nD) (j : S32768x512.Idx) (R : Fin 32768) (d : Fin 512) (h0 : (j 0 : ℕ) = R) (h1 : (j 1 : ℕ) = d) :
    vG m c j = vAt (m ((c : Thread nD τ).loc main_arg0)) (m ((c : Thread nD τ).loc main_arg1)) (m ((c : Thread nD τ).loc main_arg2)) (m ((c : Thread nD τ).loc main_arg3)) (m ((c : Thread nD τ).loc main_arg4)) R d := by
  have e0 : j 0 = R := Fin.ext h0
  have e1 : j 1 = d := Fin.ext h1
  unfold vG
  rw [e0, e1]

/-- The remaining columns, whole, as a function of the arguments. -/
def uG (c : Dev nD) : FVec Ideal S32768x1536 .f32 := fun j =>
  uAt (m ((c : Thread nD τ).loc main_arg0)) (m ((c : Thread nD τ).loc main_arg1)) (m ((c : Thread nD τ).loc main_arg2)) (m ((c : Thread nD τ).loc main_arg3)) (m ((c : Thread nD τ).loc main_arg4)) (j 0) (j 1)

/-- The remaining columns at an array index given by its row and column. -/
theorem uG_at (c : Dev nD) (j : S32768x1536.Idx) (R : Fin 32768) (d : Fin 1536) (h0 : (j 0 : ℕ) = R) (h1 : (j 1 : ℕ) = d) :
    uG m c j = uAt (m ((c : Thread nD τ).loc main_arg0)) (m ((c : Thread nD τ).loc main_arg1)) (m ((c : Thread nD τ).loc main_arg2)) (m ((c : Thread nD τ).loc main_arg3)) (m ((c : Thread nD τ).loc main_arg4)) R d := by
  have e0 : j 0 = R := Fin.ext h0
  have e1 : j 1 = d := Fin.ext h1
  unfold uG
  rw [e0, e1]

/-- Where a block index of result window 7 sits in the whole array. -/
theorem emb7 (t : Fin cfg0.N) (y : S512x512.Idx) :
    ((((cfg0.win 7).blk t).view.emb y 0 : Fin 32768) : ℕ) = t.val * 512 + (y 0 : ℕ)
      ∧ ((((cfg0.win 7).blk t).view.emb y 1 : Fin 512) : ℕ) = (y 1 : ℕ) := by
  obtain ⟨-, -, -, -, -, -, -, h7, h8, h9, h10⟩ := idx t
  have h0 : win0_7.index t 0 = t.val := congrFun h7 0
  have h1 : win0_7.index t 1 = 0 := congrFun h7 1
  constructor
  · show win0_7.index t 0 * 512 + 1 * (y 0 : ℕ) = _
    rw [one_mul, h0]
  · show win0_7.index t 1 * 512 + 1 * (y 1 : ℕ) = _
    rw [one_mul, h1, Nat.zero_mul, Nat.zero_add]

/-- Where a block index of result window 8 sits in the whole array. -/
theorem emb8 (t : Fin cfg0.N) (y : S512x512.Idx) :
    ((((cfg0.win 8).blk t).view.emb y 0 : Fin 32768) : ℕ) = t.val * 512 + (y 0 : ℕ)
      ∧ ((((cfg0.win 8).blk t).view.emb y 1 : Fin 512) : ℕ) = (y 1 : ℕ) := by
  obtain ⟨-, -, -, -, -, -, -, h7, h8, h9, h10⟩ := idx t
  have h0 : win0_8.index t 0 = t.val := congrFun h8 0
  have h1 : win0_8.index t 1 = 0 := congrFun h8 1
  constructor
  · show win0_8.index t 0 * 512 + 1 * (y 0 : ℕ) = _
    rw [one_mul, h0]
  · show win0_8.index t 1 * 512 + 1 * (y 1 : ℕ) = _
    rw [one_mul, h1, Nat.zero_mul, Nat.zero_add]

/-- Where a block index of result window 9 sits in the whole array. -/
theorem emb9 (t : Fin cfg0.N) (y : S512x512.Idx) :
    ((((cfg0.win 9).blk t).view.emb y 0 : Fin 32768) : ℕ) = t.val * 512 + (y 0 : ℕ)
      ∧ ((((cfg0.win 9).blk t).view.emb y 1 : Fin 512) : ℕ) = (y 1 : ℕ) := by
  obtain ⟨-, -, -, -, -, -, -, h7, h8, h9, h10⟩ := idx t
  have h0 : win0_9.index t 0 = t.val := congrFun h9 0
  have h1 : win0_9.index t 1 = 0 := congrFun h9 1
  constructor
  · show win0_9.index t 0 * 512 + 1 * (y 0 : ℕ) = _
    rw [one_mul, h0]
  · show win0_9.index t 1 * 512 + 1 * (y 1 : ℕ) = _
    rw [one_mul, h1, Nat.zero_mul, Nat.zero_add]

/-- Where a block index of result window 10 sits in the whole array. -/
theorem emb10 (t : Fin cfg0.N) (y : S512x1536.Idx) :
    ((((cfg0.win 10).blk t).view.emb y 0 : Fin 32768) : ℕ) = t.val * 512 + (y 0 : ℕ)
      ∧ ((((cfg0.win 10).blk t).view.emb y 1 : Fin 1536) : ℕ) = (y 1 : ℕ) := by
  obtain ⟨-, -, -, -, -, -, -, h7, h8, h9, h10⟩ := idx t
  have h0 : win0_10.index t 0 = t.val := congrFun h10 0
  have h1 : win0_10.index t 1 = 0 := congrFun h10 1
  constructor
  · show win0_10.index t 0 * 512 + 1 * (y 0 : ℕ) = _
    rw [one_mul, h0]
  · show win0_10.index t 1 * 1536 + 1 * (y 1 : ℕ) = _
    rw [one_mul, h1, Nat.zero_mul, Nat.zero_add]

/-- The residual stream, whole. -/
theorem ld_x (x : Vec Ideal S512x1024 .f32) (r : Fin 512) (d : Fin 1024) : (View.ld x r0_0 : Vec Ideal S512x1024 .f32) (ix2 r d) = x (ix2 r d) := by
  pointwise [r0_0]

/-- The gain, whole. -/
theorem ld_g (x : Vec Ideal S1x1024 .f32) (d : Fin 1024) : (View.ld x r0_1 : Vec Ideal S1x1024 .f32) (ix2 (0 : Fin 1) d) = x (ix2 (0 : Fin 1) d) := by
  pointwise [r0_1]

/-- The shift or the scale, whole. -/
theorem ld_m (x : Vec Ideal S1x1x1024 .f32) (d : Fin 1024) : (View.ld x r0_2 : Vec Ideal S1x1x1024 .f32) (ix3 (0 : Fin 1) (0 : Fin 1) d) = x (ix3 (0 : Fin 1) (0 : Fin 1) d) := by
  pointwise [r0_2]

/-- A table's block, whole. -/
theorem ld_t (x : Vec Ideal S512x256 .f32) (r : Fin 512) (l : Fin 256) : (View.ld x r0_3 : Vec Ideal S512x256 .f32) (ix2 r l) = x (ix2 r l) := by
  pointwise [r0_3]

/-- The weights' 256 columns from 0. -/
theorem ld_w0 (x : Vec Ideal S1024x3072 .bf16) (k : Fin 1024) (d : Fin 256) : (View.ld x r0_4 : Vec Ideal S1024x256 .bf16) (ix2 k d) = x (ix2 k (⟨d, by omega⟩ : Fin 3072)) := by
  pointwise [r0_4]

/-- The weights' 256 columns from 512. -/
theorem ld_w512 (x : Vec Ideal S1024x3072 .bf16) (k : Fin 1024) (d : Fin 256) : (View.ld x r0_6 : Vec Ideal S1024x256 .bf16) (ix2 k d) = x (ix2 k (⟨512 + d, by omega⟩ : Fin 3072)) := by
  pointwise [r0_6]

/-- The weights' 256 columns from 256. -/
theorem ld_w256 (x : Vec Ideal S1024x3072 .bf16) (k : Fin 1024) (d : Fin 256) : (View.ld x r0_7 : Vec Ideal S1024x256 .bf16) (ix2 k d) = x (ix2 k (⟨256 + d, by omega⟩ : Fin 3072)) := by
  pointwise [r0_7]

/-- The weights' 256 columns from 768. -/
theorem ld_w768 (x : Vec Ideal S1024x3072 .bf16) (k : Fin 1024) (d : Fin 256) : (View.ld x r0_9 : Vec Ideal S1024x256 .bf16) (ix2 k d) = x (ix2 k (⟨768 + d, by omega⟩ : Fin 3072)) := by
  pointwise [r0_9]

/-- The weights' 512 columns from 1024. -/
theorem ld_w1024 (x : Vec Ideal S1024x3072 .bf16) (k : Fin 1024) (d : Fin 512) : (View.ld x r0_10 : Vec Ideal S1024x512 .bf16) (ix2 k d) = x (ix2 k (⟨1024 + d, by omega⟩ : Fin 3072)) := by
  pointwise [r0_10]

/-- The weights' 512 columns from 1536. -/
theorem ld_w1536 (x : Vec Ideal S1024x3072 .bf16) (k : Fin 1024) (d : Fin 512) : (View.ld x r0_12 : Vec Ideal S1024x512 .bf16) (ix2 k d) = x (ix2 k (⟨1536 + d, by omega⟩ : Fin 3072)) := by
  pointwise [r0_12]

/-- The weights' 512 columns from 2048. -/
theorem ld_w2048 (x : Vec Ideal S1024x3072 .bf16) (k : Fin 1024) (d : Fin 512) : (View.ld x r0_14 : Vec Ideal S1024x512 .bf16) (ix2 k d) = x (ix2 k (⟨2048 + d, by omega⟩ : Fin 3072)) := by
  pointwise [r0_14]

/-- The weights' 512 columns from 2560. -/
theorem ld_w2560 (x : Vec Ideal S1024x3072 .bf16) (k : Fin 1024) (d : Fin 512) : (View.ld x r0_16 : Vec Ideal S1024x512 .bf16) (ix2 k d) = x (ix2 k (⟨2560 + d, by omega⟩ : Fin 3072)) := by
  pointwise [r0_16]

/-- A block's modulated row is its token's. -/
theorem hid (c : Dev nD) (t : Fin cfg0.N) (r : Fin 512) (R : Fin 32768) (hR : (R : ℕ) = t.val * 512 + r) :
    (fun k => k0_pay16 (iblk m c 0 t) (iblk m c 1 t) (iblk m c 2 t) (iblk m c 3 t) (iblk m c 4 t) (iblk m c 5 t) (iblk m c 6 t) (ix2 r k)) = hiddenOf (m ((c : Thread nD τ).loc main_arg0)) (m ((c : Thread nD τ).loc main_arg1)) (m ((c : Thread nD τ).loc main_arg2)) (m ((c : Thread nD τ).loc main_arg3)) R := by
  have ht : t.val < 64 := t.isLt
  funext d
  have e0 : (fun k => (View.ld (iblk m c 0 t) r0_0 : Vec Ideal S512x1024 .f32) (ix2 r k)) = fun k => m ((c : Thread nD τ).loc main_arg0) (ix2 R k) :=
    funext fun k => (ld_x _ r k).trans (x_blk m c t r k R hR)
  have e1 : (fun k => (View.ld (iblk m c 1 t) r0_1 : Vec Ideal S1x1024 .f32) (ix2 (0 : Fin 1) k)) = fun k => m ((c : Thread nD τ).loc main_arg1) (ix2 (0 : Fin 2) k) :=
    funext fun k => (ld_g _ k).trans (g_blk m c t k)
  have e2 : (fun k => (View.ld (iblk m c 2 t) r0_2 : Vec Ideal S1x1x1024 .f32) (ix3 (0 : Fin 1) (0 : Fin 1) k)) = fun k => m ((c : Thread nD τ).loc main_arg2) (ix3 (⟨(R : ℕ) / 4096, by omega⟩ : Fin 8) (0 : Fin 1) k) :=
    funext fun k => (ld_m _ k).trans (sh_blk m c t k _ (by show (R : ℕ) / 4096 = t.val / 8; omega))
  have e3 : (fun k => (View.ld (iblk m c 3 t) r0_2 : Vec Ideal S1x1x1024 .f32) (ix3 (0 : Fin 1) (0 : Fin 1) k)) = fun k => m ((c : Thread nD τ).loc main_arg3) (ix3 (⟨(R : ℕ) / 4096, by omega⟩ : Fin 8) (0 : Fin 1) k) :=
    funext fun k => (ld_m _ k).trans (sc_blk m c t k _ (by show (R : ℕ) / 4096 = t.val / 8; omega))
  unfold k0_pay16 hiddenOf
  rw [pay3_at, e0, e1, e2, e3]

/-- A block's column through loaded weights is the token's projection at the column the weights were loaded from. -/
theorem proj_eq (c : Dev nD) (t : Fin cfg0.N) (r : Fin 512) (R : Fin 32768) (hR : (R : ℕ) = t.val * 512 + r) (w : Fin 1024 → EReal) (n : Fin 3072)
    (hw : ∀ k, w k = iblk m c 6 t (ix2 k n)) :
    lin (fun k => k0_pay16 (iblk m c 0 t) (iblk m c 1 t) (iblk m c 2 t) (iblk m c 3 t) (iblk m c 4 t) (iblk m c 5 t) (iblk m c 6 t) (ix2 r k)) w = projOf (m ((c : Thread nD τ).loc main_arg0)) (m ((c : Thread nD τ).loc main_arg1)) (m ((c : Thread nD τ).loc main_arg2)) (m ((c : Thread nD τ).loc main_arg3)) (m ((c : Thread nD τ).loc main_arg4)) R n := by
  rw [hid m c t r R hR, show w = fun k => m ((c : Thread nD τ).loc main_arg4) (ix3 (0 : Fin 1) k n) from funext fun k => (hw k).trans (w_blk m c t k n)]
  rfl

/-- A block's turned columns are the specification's, the weights loaded from column `b + o` on. -/
theorem turned_eq (c : Dev nD) (t : Fin cfg0.N) (r : Fin 512) (R : Fin 32768) (hR : (R : ℕ) = t.val * 512 + r) (w : FVec Ideal S1024x256 .bf16) (l : Fin 256) (L : Fin 512)
    (o b : ℕ) (ho : o = 0 ∨ o = 256) (hL : (L : ℕ) = o + l) (hb : b ≤ 2560)
    (hw : ∀ (k : Fin 1024) (i : Fin 256) (n : Fin 3072), (n : ℕ) = b + (o + i) → w (ix2 k i) = iblk m c 6 t (ix2 k n)) :
    rotated (fun i => lin (fun k => k0_pay16 (iblk m c 0 t) (iblk m c 1 t) (iblk m c 2 t) (iblk m c 3 t) (iblk m c 4 t) (iblk m c 5 t) (iblk m c 6 t) (ix2 r k)) (fun k => w (ix2 k i))) (k0_pay17 (iblk m c 0 t) (iblk m c 1 t) (iblk m c 2 t) (iblk m c 3 t) (iblk m c 4 t) (iblk m c 5 t) (iblk m c 6 t) (ix2 r l)) (k0_pay18 (iblk m c 0 t) (iblk m c 1 t) (iblk m c 2 t) (iblk m c 3 t) (iblk m c 4 t) (iblk m c 5 t) (iblk m c 6 t) (ix2 r l)) l
      = roped ((R : ℕ) % 4096) (fun i => projOf (m ((c : Thread nD τ).loc main_arg0)) (m ((c : Thread nD τ).loc main_arg1)) (m ((c : Thread nD τ).loc main_arg2)) (m ((c : Thread nD τ).loc main_arg3)) (m ((c : Thread nD τ).loc main_arg4)) R (⟨b + i, by omega⟩ : Fin 3072)) L := by
  have ht : t.val < 64 := t.isLt
  have hr := r.isLt
  have hp : (R : ℕ) % 4096 = t.val % 8 * 512 + r := by omega
  refine rotated_eq _ _ _ _ _ l L o ho hL (fun i j hj => ?_) ?_ ?_
  · exact proj_eq m c t r R hR _ _ (fun k => hw k i _ (by show b + (j : ℕ) = b + (o + i); omega))
  · unfold k0_pay17
    exact (pay4_at _ r l).trans ((ld_t _ r l).trans (cos_blk m c t r l (⟨(R : ℕ) % 4096, by omega⟩ : Fin 4096) hp))
  · unfold k0_pay18
    exact (pay5_at _ r l).trans ((ld_t _ r l).trans (sin_blk m c t r l (⟨(R : ℕ) % 4096, by omega⟩ : Fin 4096) hp))

/-- POINT: the queries the body stores at block index `y` of point `t` are the specification's at the array index `y` sits at. -/
theorem q_point (c : Dev nD) (t : Fin cfg0.N) (y : S512x512.Idx) :
    out0_7 (iblk m c 0 t) (iblk m c 1 t) (iblk m c 2 t) (iblk m c 3 t) (iblk m c 4 t) (iblk m c 5 t) (iblk m c 6 t) y = qG m c (((cfg0.win 7).blk t).view.emb y) := by
  have ht : t.val < 64 := t.isLt
  obtain ⟨e0, e1⟩ := emb7 t y
  unfold out0_7
  canon_tiles x h
  · obtain ⟨r, d, rfl⟩ : ∃ (r : Fin 512) (d : Fin 256), x = ix2 r d := ⟨x 0, x 1, by funext a; fin_cases a <;> rfl⟩
    have hr := r.isLt
    have hd := d.isLt
    replace h0 : ((y 0 : Fin 512) : ℕ) = r := h0
    replace h1 : ((y 1 : Fin 512) : ℕ) = 256 + (d : ℕ) := h1
    rw [qG_at m c (((cfg0.win 7).blk t).view.emb y) ⟨t.val * 512 + (r : ℕ), by omega⟩ ⟨256 + (d : ℕ), by omega⟩ (by rw [e0, h0]) (by rw [e1, h1])]
    refine (pay12_at _ _ _ _ _ r d (mask_at r d)).trans ?_
    have e := turned_eq m c t r ⟨t.val * 512 + (r : ℕ), by omega⟩ rfl (k0_pay11 (View.ld (iblk m c 6 t) r0_7)) d ⟨256 + (d : ℕ), by omega⟩ 256 0 (by omega) (by show 256 + (d : ℕ) = 256 + (d : ℕ); omega) (by omega)
      (fun k i n hn => (pay11_at _ k i).trans ((ld_w256 _ k i).trans (congrArg (fun j : Fin 3072 => iblk m c 6 t (ix2 k j)) (Fin.ext (by rw [hn]; show _ = 0 + (256 + (i : ℕ)); simp only [] <;> omega)))))
    unfold qAt
    refine congrArg (· * Ideal.ofBits .f32 0x3E000000#32) ?_
    refine e.trans ?_
    simp only [Nat.zero_add]
  · obtain ⟨r, d, rfl⟩ : ∃ (r : Fin 512) (d : Fin 256), x = ix2 r d := ⟨x 0, x 1, by funext a; fin_cases a <;> rfl⟩
    have hr := r.isLt
    have hd := d.isLt
    replace h0 : ((y 0 : Fin 512) : ℕ) = r := h0
    replace h1 : ((y 1 : Fin 512) : ℕ) = (d : ℕ) := h1
    rw [qG_at m c (((cfg0.win 7).blk t).view.emb y) ⟨t.val * 512 + (r : ℕ), by omega⟩ ⟨(d : ℕ), by omega⟩ (by rw [e0, h0]) (by rw [e1, h1])]
    refine (pay9_at _ _ _ _ r d).trans ?_
    have e := turned_eq m c t r ⟨t.val * 512 + (r : ℕ), by omega⟩ rfl (View.ld (iblk m c 6 t) r0_4) d ⟨(d : ℕ), by omega⟩ 0 0 (by omega) (by show (d : ℕ) = 0 + (d : ℕ); omega) (by omega)
      (fun k i n hn => ((ld_w0 _ k i).trans (congrArg (fun j : Fin 3072 => iblk m c 6 t (ix2 k j)) (Fin.ext (by rw [hn]; show _ = 0 + (0 + (i : ℕ)); simp only [] <;> omega)))))
    unfold qAt
    refine congrArg (· * Ideal.ofBits .f32 0x3E000000#32) ?_
    refine e.trans ?_
    simp only [Nat.zero_add]

/-- FINAL: the queries after the last grid point. -/
theorem q_final (c : Dev nD) : (dats m 0 c).arrAt 7 cfg0.N = qG m c := by
  have key : ∀ (t : Fin cfg0.N) (y : S512x512.Idx), (dats m 0 c).after 7 t y = qG m c (((cfg0.win 7).blk t).view.emb y) := fun t y => by
    rw [after0_7]
    exact q_point m c t y
  exact (dats m 0 c).arrAt_eq_of_covers 7 (qG m c) (by decide +kernel) fun t _ y => key t y

/-- POINT: the keys the body stores at block index `y` of point `t` are the specification's at the array index `y` sits at. -/
theorem k_point (c : Dev nD) (t : Fin cfg0.N) (y : S512x512.Idx) :
    out0_8 (iblk m c 0 t) (iblk m c 1 t) (iblk m c 2 t) (iblk m c 3 t) (iblk m c 4 t) (iblk m c 5 t) (iblk m c 6 t) y = kG m c (((cfg0.win 8).blk t).view.emb y) := by
  have ht : t.val < 64 := t.isLt
  obtain ⟨e0, e1⟩ := emb8 t y
  unfold out0_8
  canon_tiles x h
  · obtain ⟨r, d, rfl⟩ : ∃ (r : Fin 512) (d : Fin 256), x = ix2 r d := ⟨x 0, x 1, by funext a; fin_cases a <;> rfl⟩
    have hr := r.isLt
    have hd := d.isLt
    replace h0 : ((y 0 : Fin 512) : ℕ) = r := h0
    replace h1 : ((y 1 : Fin 512) : ℕ) = 256 + (d : ℕ) := h1
    rw [kG_at m c (((cfg0.win 8).blk t).view.emb y) ⟨t.val * 512 + (r : ℕ), by omega⟩ ⟨256 + (d : ℕ), by omega⟩ (by rw [e0, h0]) (by rw [e1, h1])]
    refine (pay13_at _ _ _ _ _ r d (mask_at r d)).trans ?_
    have e := turned_eq m c t r ⟨t.val * 512 + (r : ℕ), by omega⟩ rfl (View.ld (iblk m c 6 t) r0_9) d ⟨256 + (d : ℕ), by omega⟩ 256 512 (by omega) (by show 256 + (d : ℕ) = 256 + (d : ℕ); omega) (by omega)
      (fun k i n hn => ((ld_w768 _ k i).trans (congrArg (fun j : Fin 3072 => iblk m c 6 t (ix2 k j)) (Fin.ext (by rw [hn]; show _ = 512 + (256 + (i : ℕ)); simp only [] <;> omega)))))
    unfold kAt
    refine e.trans ?_
    rfl
  · obtain ⟨r, d, rfl⟩ : ∃ (r : Fin 512) (d : Fin 256), x = ix2 r d := ⟨x 0, x 1, by funext a; fin_cases a <;> rfl⟩
    have hr := r.isLt
    have hd := d.isLt
    replace h0 : ((y 0 : Fin 512) : ℕ) = r := h0
    replace h1 : ((y 1 : Fin 512) : ℕ) = (d : ℕ) := h1
    rw [kG_at m c (((cfg0.win 8).blk t).view.emb y) ⟨t.val * 512 + (r : ℕ), by omega⟩ ⟨(d : ℕ), by omega⟩ (by rw [e0, h0]) (by rw [e1, h1])]
    refine (pay10_at _ _ _ _ r d).trans ?_
    have e := turned_eq m c t r ⟨t.val * 512 + (r : ℕ), by omega⟩ rfl (View.ld (iblk m c 6 t) r0_6) d ⟨(d : ℕ), by omega⟩ 0 512 (by omega) (by show (d : ℕ) = 0 + (d : ℕ); omega) (by omega)
      (fun k i n hn => ((ld_w512 _ k i).trans (congrArg (fun j : Fin 3072 => iblk m c 6 t (ix2 k j)) (Fin.ext (by rw [hn]; show _ = 512 + (0 + (i : ℕ)); simp only [] <;> omega)))))
    unfold kAt
    refine e.trans ?_
    rfl

/-- FINAL: the keys after the last grid point. -/
theorem k_final (c : Dev nD) : (dats m 0 c).arrAt 8 cfg0.N = kG m c := by
  have key : ∀ (t : Fin cfg0.N) (y : S512x512.Idx), (dats m 0 c).after 8 t y = kG m c (((cfg0.win 8).blk t).view.emb y) := fun t y => by
    rw [after0_8]
    exact k_point m c t y
  exact (dats m 0 c).arrAt_eq_of_covers 8 (kG m c) (by decide +kernel) fun t _ y => key t y

/-- POINT: the values the body stores at block index `y` of point `t` are the specification's at the array index `y` sits at. -/
theorem v_point (c : Dev nD) (t : Fin cfg0.N) (y : S512x512.Idx) :
    out0_9 (iblk m c 0 t) (iblk m c 1 t) (iblk m c 2 t) (iblk m c 3 t) (iblk m c 4 t) (iblk m c 5 t) (iblk m c 6 t) y = vG m c (((cfg0.win 9).blk t).view.emb y) := by
  have ht : t.val < 64 := t.isLt
  obtain ⟨e0, e1⟩ := emb9 t y
  unfold out0_9
  canon_tiles x h
  · obtain ⟨r, d, rfl⟩ : ∃ (r : Fin 512) (d : Fin 512), x = ix2 r d := ⟨x 0, x 1, by funext a; fin_cases a <;> rfl⟩
    have hr := r.isLt
    have hd := d.isLt
    replace h0 : ((y 0 : Fin 512) : ℕ) = r := h0
    replace h1 : ((y 1 : Fin 512) : ℕ) = (d : ℕ) := h1
    rw [vG_at m c (((cfg0.win 9).blk t).view.emb y) ⟨t.val * 512 + (r : ℕ), by omega⟩ ⟨(d : ℕ), by omega⟩ (by rw [e0, h0]) (by rw [e1, h1])]
    refine (pay14_at _ _ r d).trans ?_
    unfold vAt
    exact proj_eq m c t r ⟨t.val * 512 + (r : ℕ), by omega⟩ rfl _ _ (fun k => (ld_w1024 _ k d).trans (congrArg (fun j : Fin 3072 => iblk m c 6 t (ix2 k j)) (Fin.ext (by simp only [] <;> omega))))

/-- FINAL: the values after the last grid point. -/
theorem v_final (c : Dev nD) : (dats m 0 c).arrAt 9 cfg0.N = vG m c := by
  have key : ∀ (t : Fin cfg0.N) (y : S512x512.Idx), (dats m 0 c).after 9 t y = vG m c (((cfg0.win 9).blk t).view.emb y) := fun t y => by
    rw [after0_9]
    exact v_point m c t y
  exact (dats m 0 c).arrAt_eq_of_covers 9 (vG m c) (by decide +kernel) fun t _ y => key t y

/-- POINT: the remaining columns the body stores at block index `y` of point `t` are the specification's at the array index `y` sits at. -/
theorem u_point (c : Dev nD) (t : Fin cfg0.N) (y : S512x1536.Idx) :
    out0_10 (iblk m c 0 t) (iblk m c 1 t) (iblk m c 2 t) (iblk m c 3 t) (iblk m c 4 t) (iblk m c 5 t) (iblk m c 6 t) y = uG m c (((cfg0.win 10).blk t).view.emb y) := by
  have ht : t.val < 64 := t.isLt
  obtain ⟨e0, e1⟩ := emb10 t y
  unfold out0_10
  canon_tiles x h
  · obtain ⟨r, d, rfl⟩ : ∃ (r : Fin 512) (d : Fin 512), x = ix2 r d := ⟨x 0, x 1, by funext a; fin_cases a <;> rfl⟩
    have hr := r.isLt
    have hd := d.isLt
    replace h0 : ((y 0 : Fin 512) : ℕ) = r := h0
    replace h1 : ((y 1 : Fin 1536) : ℕ) = 1024 + (d : ℕ) := h1
    rw [uG_at m c (((cfg0.win 10).blk t).view.emb y) ⟨t.val * 512 + (r : ℕ), by omega⟩ ⟨1024 + (d : ℕ), by omega⟩ (by rw [e0, h0]) (by rw [e1, h1])]
    refine (pay2_at _ _ r d).trans ?_
    unfold uAt
    exact proj_eq m c t r ⟨t.val * 512 + (r : ℕ), by omega⟩ rfl _ _ (fun k => (ld_w2560 _ k d).trans (congrArg (fun j : Fin 3072 => iblk m c 6 t (ix2 k j)) (Fin.ext (by simp only [] <;> omega))))
  · obtain ⟨r, d, rfl⟩ : ∃ (r : Fin 512) (d : Fin 512), x = ix2 r d := ⟨x 0, x 1, by funext a; fin_cases a <;> rfl⟩
    have hr := r.isLt
    have hd := d.isLt
    replace h0 : ((y 0 : Fin 512) : ℕ) = r := h0
    replace h1 : ((y 1 : Fin 1536) : ℕ) = 512 + (d : ℕ) := h1
    rw [uG_at m c (((cfg0.win 10).blk t).view.emb y) ⟨t.val * 512 + (r : ℕ), by omega⟩ ⟨512 + (d : ℕ), by omega⟩ (by rw [e0, h0]) (by rw [e1, h1])]
    refine (pay1_at _ _ r d).trans ?_
    unfold uAt
    exact proj_eq m c t r ⟨t.val * 512 + (r : ℕ), by omega⟩ rfl _ _ (fun k => (ld_w2048 _ k d).trans (congrArg (fun j : Fin 3072 => iblk m c 6 t (ix2 k j)) (Fin.ext (by simp only [] <;> omega))))
  · obtain ⟨r, d, rfl⟩ : ∃ (r : Fin 512) (d : Fin 512), x = ix2 r d := ⟨x 0, x 1, by funext a; fin_cases a <;> rfl⟩
    have hr := r.isLt
    have hd := d.isLt
    replace h0 : ((y 0 : Fin 512) : ℕ) = r := h0
    replace h1 : ((y 1 : Fin 1536) : ℕ) = (d : ℕ) := h1
    rw [uG_at m c (((cfg0.win 10).blk t).view.emb y) ⟨t.val * 512 + (r : ℕ), by omega⟩ ⟨(d : ℕ), by omega⟩ (by rw [e0, h0]) (by rw [e1, h1])]
    refine (pay15_at _ _ r d).trans ?_
    unfold uAt
    exact proj_eq m c t r ⟨t.val * 512 + (r : ℕ), by omega⟩ rfl _ _ (fun k => (ld_w1536 _ k d).trans (congrArg (fun j : Fin 3072 => iblk m c 6 t (ix2 k j)) (Fin.ext (by simp only [] <;> omega))))

/-- FINAL: the remaining columns after the last grid point. -/
theorem u_final (c : Dev nD) : (dats m 0 c).arrAt 10 cfg0.N = uG m c := by
  have key : ∀ (t : Fin cfg0.N) (y : S512x1536.Idx), (dats m 0 c).after 10 t y = uG m c (((cfg0.win 10).blk t).view.emb y) := fun t y => by
    rw [after0_10]
    exact u_point m c t y
  exact (dats m 0 c).arrAt_eq_of_covers 10 (uG m c) (by decide +kernel) fun t _ y => key t y

end Cert.InProj.Kern

end
-- ==== Proof.InProj.Claims.lean ====
/- The claims of the input projection: its reference read at one index, its reference's frame, and the equality of the two
   results. -/
module

public import proofs.«01_k».proof.Defs
public import proofs.«01_k».proof.Proof.Gen.InProjReferenceIdeal
public import proofs.«01_k».proof.Proof.Gen.InProjReferenceIdeal.Run
public import proofs.«01_k».proof.Proof.InProj.Value

@[expose] public section

set_option maxRecDepth 16384

noncomputable section

namespace Cert.InProj.Ref

open Cert.InProjReferenceIdeal Cert.InProjReferenceIdeal.Gen Idealize.ShloMosaic Idealize.ShloMosaic.TcCoe Idealize.SL.Sem
open Cert.Proj Cert.InProj

/-- The residual stream by batch and position. -/
def stream (X : FVec Ideal S32768x1024 .f32) : FVec Ideal S8x4096x1024 .f32 := shapeCast _ X shapeCasts_S32768x1024_S8x4096x1024

/-- The rows normed, gained and modulated. -/
def hidden (x : FVec Ideal S8x4096x1024 .f32) (g : FVec Ideal S2x1024 .f32) (sh sc : FVec Ideal S8x1x1024 .f32) : FVec Ideal S8x4096x1024 .f32 :=
  (addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] g slices_S2x1024_S1x1024_0_0) shapeCasts_S1x1024_S1024)))) (broadcastInDim S8x4096x1024 ![0, 1, 2] bcast_S8x1x1024_S8x4096x1024_0_1_2 (addf (broadcastInDim S8x1x1024 ![] bcast_S_S8x1x1024 (constant S_ .f32 0x3F800000#32)) sc))) (broadcastInDim S8x4096x1024 ![0, 1, 2] bcast_S8x1x1024_S8x4096x1024_0_1_2 sh))

/-- The stream at one entry. -/
theorem stream_at (X : FVec Ideal S32768x1024 .f32) (b : Fin 8) (i : Fin 4096) (d : Fin 1024) (r : Fin 32768) (hr : r = ⟨b * 4096 + i, by omega⟩) :
    stream X (ix3 b i d) = X (ix2 r d) := by
  subst hr
  pointwise [stream]

/-- The modulated rows at one entry. -/
theorem hidden_at (x : FVec Ideal S8x4096x1024 .f32) (g : FVec Ideal S2x1024 .f32) (sh sc : FVec Ideal S8x1x1024 .f32) (b : Fin 8) (i : Fin 4096) (d : Fin 1024) :
    hidden x g sh sc (ix3 b i d) = modulated (fun k => x (ix3 b i k)) (fun k => g (ix2 (0 : Fin 2) k)) (fun k => sh (ix3 b (0 : Fin 1) k)) (fun k => sc (ix3 b (0 : Fin 1) k)) d := by
  pointwise [hidden]
  rfl

/-- The rows through the weights. -/
def dense (h : FVec Ideal S8x4096x1024 .f32) (W : FVec Ideal S1x1024x3072 .f32) : FVec Ideal S8x4096x3072 .f32 :=
  Host.dotGeneral (φ₁ := .f32) (φ₂ := .f32) dot_S8x4096x1024_S1024x3072_S8x4096x3072_2_0_01_1_n_n none h (shapeCast _ W shapeCasts_S1x1024x3072_S1024x3072)

/-- Columns as eight heads of 64. -/
def heads (y : FVec Ideal S8x4096x512 .f32) : FVec Ideal S8x8x4096x64 .f32 :=
  transpose S8x8x4096x64 [0, 2, 1, 3] (shapeCast _ y shapeCasts_S8x4096x512_S8x4096x8x64) transposes_S8x4096x8x64_S8x8x4096x64_0_2_1_3

/-- Heads as columns again, laid back as rows. -/
def merged (x : FVec Ideal S8x8x4096x64 .f32) : FVec Ideal S32768x512 .f32 :=
  shapeCast _ (transpose S8x4096x8x64 [0, 2, 1, 3] x transposes_S8x8x4096x64_S8x4096x8x64_0_2_1_3) shapeCasts_S8x4096x8x64_S32768x512

/-- The sixteen frequencies. -/
def inv : FVec Ideal S16 .f32 :=
  Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

/-- The angles of every position's row of the grid. -/
def rowAngles : FVec Ideal S4096x16 .f32 :=
  mulf (broadcastInDim S4096x16 ![0, 1] bcast_S4096x1_S4096x16_0_1 (broadcastInDim S4096x1 ![0] bcast_S4096_S4096x1_0 (shapeCast _ (broadcastInDim S64x64 ![0] bcast_S64_S64x64_0 (sitofp .f32 (iotaInDim S64 32 0))) shapeCasts_S64x64_S4096))) (broadcastInDim S4096x16 ![0, 1] bcast_S1x16_S4096x16_0_1 (broadcastInDim S1x16 ![1] bcast_S16_S1x16_1 inv))

/-- The angles of every position's column of the grid. -/
def colAngles : FVec Ideal S4096x16 .f32 :=
  mulf (broadcastInDim S4096x16 ![0, 1] bcast_S4096x1_S4096x16_0_1 (broadcastInDim S4096x1 ![0] bcast_S4096_S4096x1_0 (shapeCast _ (broadcastInDim S64x64 ![0, 1] bcast_S1x64_S64x64_0_1 (shapeCast _ (sitofp .f32 (iotaInDim S64 32 0)) shapeCasts_S64_S1x64)) shapeCasts_S64x64_S4096))) (broadcastInDim S4096x16 ![0, 1] bcast_S1x16_S4096x16_0_1 (broadcastInDim S1x16 ![1] bcast_S16_S1x16_1 inv))

/-- Half a head, its two quarters turned as pairs. -/
def pair (x : FVec Ideal S8x8x4096x32 .f32) (cs sn : FVec Ideal S4096x16 .f32) : FVec Ideal S8x8x4096x32 .f32 :=
  concatenate S8x8x4096x32 3 [⟨S8x8x4096x16, (subf (mulf (extractStridedSlice S8x8x4096x16 ![0, 0, 0, 0] x slices_S8x8x4096x32_S8x8x4096x16_0_0_0_0) (broadcastInDim S8x8x4096x16 ![0, 1, 2, 3] bcast_S1x1x4096x16_S8x8x4096x16_0_1_2_3 (broadcastInDim S1x1x4096x16 ![2, 3] bcast_S4096x16_S1x1x4096x16_2_3 cs))) (mulf (extractStridedSlice S8x8x4096x16 ![0, 0, 0, 16] x slices_S8x8x4096x32_S8x8x4096x16_0_0_0_16) (broadcastInDim S8x8x4096x16 ![0, 1, 2, 3] bcast_S1x1x4096x16_S8x8x4096x16_0_1_2_3 (broadcastInDim S1x1x4096x16 ![2, 3] bcast_S4096x16_S1x1x4096x16_2_3 sn))))⟩, ⟨S8x8x4096x16, (addf (mulf (extractStridedSlice S8x8x4096x16 ![0, 0, 0, 0] x slices_S8x8x4096x32_S8x8x4096x16_0_0_0_0) (broadcastInDim S8x8x4096x16 ![0, 1, 2, 3] bcast_S1x1x4096x16_S8x8x4096x16_0_1_2_3 (broadcastInDim S1x1x4096x16 ![2, 3] bcast_S4096x16_S1x1x4096x16_2_3 sn))) (mulf (extractStridedSlice S8x8x4096x16 ![0, 0, 0, 16] x slices_S8x8x4096x32_S8x8x4096x16_0_0_0_16) (broadcastInDim S8x8x4096x16 ![0, 1, 2, 3] bcast_S1x1x4096x16_S8x8x4096x16_0_1_2_3 (broadcastInDim S1x1x4096x16 ![2, 3] bcast_S4096x16_S1x1x4096x16_2_3 cs))))⟩] concatenates_S8x8x4096x16_S8x8x4096x16_S8x8x4096x32_d3

/-- A head, its first half turned by the row and its second by the column. -/
def turned (x : FVec Ideal S8x8x4096x64 .f32) : FVec Ideal S8x8x4096x64 .f32 :=
  concatenate S8x8x4096x64 3 [⟨S8x8x4096x32, pair (extractStridedSlice S8x8x4096x32 ![0, 0, 0, 0] x slices_S8x8x4096x64_S8x8x4096x32_0_0_0_0) (Host.cos rowAngles) (Host.sin rowAngles)⟩, ⟨S8x8x4096x32, pair (extractStridedSlice S8x8x4096x32 ![0, 0, 0, 32] x slices_S8x8x4096x64_S8x8x4096x32_0_0_0_32) (Host.cos colAngles) (Host.sin colAngles)⟩] concatenates_S8x8x4096x32_S8x8x4096x32_S8x8x4096x64_d3

/-- The reference's queries, of its projection. -/
def resQ (y : FVec Ideal S8x4096x3072 .f32) : FVec Ideal S32768x512 .bf16 :=
  truncf .bf16 (mulf (merged (turned (heads (extractStridedSlice S8x4096x512 ![0, 0, 0] y slices_S8x4096x3072_S8x4096x512_0_0_0)))) (broadcastInDim S32768x512 ![] bcast_S_S32768x512 (constant S_ .f32 0x3E000000#32))) bitsLt_bf16_f32

/-- The reference's keys, of its projection. -/
def resK (y : FVec Ideal S8x4096x3072 .f32) : FVec Ideal S32768x512 .bf16 :=
  truncf .bf16 (merged (turned (heads (extractStridedSlice S8x4096x512 ![0, 0, 512] y slices_S8x4096x3072_S8x4096x512_0_0_512)))) bitsLt_bf16_f32

/-- The reference's values, of its projection. -/
def resV (y : FVec Ideal S8x4096x3072 .f32) : FVec Ideal S32768x512 .bf16 :=
  truncf .bf16 (shapeCast _ (extractStridedSlice S8x4096x512 ![0, 0, 1024] y slices_S8x4096x3072_S8x4096x512_0_0_1024) shapeCasts_S8x4096x512_S32768x512) bitsLt_bf16_f32

/-- The reference's remaining columns, of its projection. -/
def resU (y : FVec Ideal S8x4096x3072 .f32) : FVec Ideal S32768x1536 .f32 :=
  shapeCast _ (extractStridedSlice S8x4096x1536 ![0, 0, 1536] y slices_S8x4096x3072_S8x4096x1536_0_0_1536) shapeCasts_S8x4096x1536_S32768x1536

/-- The projection at one entry. -/
theorem dense_at (h : FVec Ideal S8x4096x1024 .f32) (W : FVec Ideal S1x1024x3072 .f32) (b : Fin 8) (i : Fin 4096) (d : Fin 3072) :
    dense h W (ix3 b i d) = lin (fun k => h (ix3 b i k)) (fun k => W (ix3 (0 : Fin 1) k d)) := by
  pointwise [dense]
  rfl

/-- The heads at one entry. -/
theorem heads_at (y : FVec Ideal S8x4096x512 .f32) (b n : Fin 8) (p : Fin 4096) (l : Fin 64) :
    heads y (ix4 b n p l) = y (ix3 b p (⟨(n : ℕ) * 64 + l, by omega⟩ : Fin 512)) := by
  pointwise [heads]

/-- The merged heads at a row and a column. -/
theorem merged_at (x : FVec Ideal S8x8x4096x64 .f32) (r : Fin 32768) (l : Fin 512) :
    merged x (ix2 r l) = x (ix4 (⟨(r : ℕ) / 4096, by omega⟩ : Fin 8) (⟨(l : ℕ) / 64, by omega⟩ : Fin 8) (⟨(r : ℕ) % 4096, by omega⟩ : Fin 4096) (⟨(l : ℕ) % 64, by omega⟩ : Fin 64)) := by
  pointwise [merged]

/-- A frequency. -/
theorem inv_at (i : Fin 16) : inv (ix1 i) = freq i := by
  pointwise [inv]
  rfl

/-- A row's angle. -/
theorem rowAngles_at (p : Fin 4096) (i : Fin 16) : rowAngles (ix2 p i) = num ((p : ℕ) / 64) * freq i := by
  rw [← inv_at]
  unfold rowAngles
  generalize inv = v
  pointwise
  rfl

/-- A column's angle. -/
theorem colAngles_at (p : Fin 4096) (i : Fin 16) : colAngles (ix2 p i) = num ((p : ℕ) % 64) * freq i := by
  rw [← inv_at]
  unfold colAngles
  generalize inv = v
  pointwise
  rfl

/-- A column of the first quarter of a pair. -/
theorem pair_first (x : FVec Ideal S8x8x4096x32 .f32) (cs sn : FVec Ideal S4096x16 .f32) (b n : Fin 8) (p : Fin 4096) (i : Fin 32) (h : (i : ℕ) < 16) :
    pair x cs sn (ix4 b n p i) = x (ix4 b n p i) * cs (ix2 p (⟨i, h⟩ : Fin 16)) - x (ix4 b n p (⟨16 + (i : ℕ), by omega⟩ : Fin 32)) * sn (ix2 p (⟨i, h⟩ : Fin 16)) := by
  pointwise [pair]
  exact dif_pos h

/-- A column of the second quarter of a pair. -/
theorem pair_second (x : FVec Ideal S8x8x4096x32 .f32) (cs sn : FVec Ideal S4096x16 .f32) (b n : Fin 8) (p : Fin 4096) (i : Fin 32) (h : ¬ (i : ℕ) < 16) :
    pair x cs sn (ix4 b n p i) = x (ix4 b n p (⟨(i : ℕ) - 16, by omega⟩ : Fin 32)) * sn (ix2 p (⟨(i : ℕ) - 16, by omega⟩ : Fin 16)) + x (ix4 b n p i) * cs (ix2 p (⟨(i : ℕ) - 16, by omega⟩ : Fin 16)) := by
  pointwise [pair]
  rw [dif_neg h, show (⟨16 + ((i : ℕ) - 16), by omega⟩ : Fin 32) = i from Fin.ext (by simp only []; omega)]

/-- A column of the first half of a head. -/
theorem turned_first (x : FVec Ideal S8x8x4096x64 .f32) (b n : Fin 8) (p : Fin 4096) (l : Fin 64) (h : (l : ℕ) < 32) :
    turned x (ix4 b n p l) = pair (extractStridedSlice S8x8x4096x32 ![0, 0, 0, 0] x slices_S8x8x4096x64_S8x8x4096x32_0_0_0_0) (Host.cos rowAngles) (Host.sin rowAngles) (ix4 b n p (⟨l, h⟩ : Fin 32)) := by
  unfold turned
  generalize pair _ (Host.cos rowAngles) (Host.sin rowAngles) = v
  generalize pair _ (Host.cos colAngles) (Host.sin colAngles) = w
  pointwise
  exact dif_pos h

/-- A column of the second half of a head. -/
theorem turned_second (x : FVec Ideal S8x8x4096x64 .f32) (b n : Fin 8) (p : Fin 4096) (l : Fin 64) (h : ¬ (l : ℕ) < 32) :
    turned x (ix4 b n p l) = pair (extractStridedSlice S8x8x4096x32 ![0, 0, 0, 32] x slices_S8x8x4096x64_S8x8x4096x32_0_0_0_32) (Host.cos colAngles) (Host.sin colAngles) (ix4 b n p (⟨(l : ℕ) - 32, by omega⟩ : Fin 32)) := by
  unfold turned
  generalize pair _ (Host.cos rowAngles) (Host.sin rowAngles) = v
  generalize pair _ (Host.cos colAngles) (Host.sin colAngles) = w
  pointwise
  exact dif_neg h

/-- A half head's columns, read from the head. -/
theorem low_at (x : FVec Ideal S8x8x4096x64 .f32) (b n : Fin 8) (p : Fin 4096) (i : Fin 32) :
    extractStridedSlice S8x8x4096x32 ![0, 0, 0, 0] x slices_S8x8x4096x64_S8x8x4096x32_0_0_0_0 (ix4 b n p i) = x (ix4 b n p (⟨i, by omega⟩ : Fin 64)) := by
  pointwise

/-- The other half head's columns, read from the head. -/
theorem high_at (x : FVec Ideal S8x8x4096x64 .f32) (b n : Fin 8) (p : Fin 4096) (i : Fin 32) :
    extractStridedSlice S8x8x4096x32 ![0, 0, 0, 32] x slices_S8x8x4096x64_S8x8x4096x32_0_0_0_32 (ix4 b n p i) = x (ix4 b n p (⟨32 + (i : ℕ), by omega⟩ : Fin 64)) := by
  pointwise

/-- A head's column, read from the columns. -/
theorem heads_flat (y : FVec Ideal S8x4096x512 .f32) (b n : Fin 8) (p : Fin 4096) (i : Fin 64) (l : Fin 512) (h : (n : ℕ) * 64 + i = l) :
    heads y (ix4 b n p i) = y (ix3 b p l) := by
  rw [heads_at]
  congr 2
  exact Fin.ext h

/-- The cosine of a row's angle. -/
theorem cos_row (p : Fin 4096) (i : Fin 16) : Host.cos rowAngles (ix2 p i) = Ideal.cos (num ((p : ℕ) / 64) * freq i) := by
  rw [← rowAngles_at]
  rfl

/-- The sine of a row's angle. -/
theorem sin_row (p : Fin 4096) (i : Fin 16) : Host.sin rowAngles (ix2 p i) = Ideal.sin (num ((p : ℕ) / 64) * freq i) := by
  rw [← rowAngles_at]
  rfl

/-- The cosine of a column's angle. -/
theorem cos_col (p : Fin 4096) (i : Fin 16) : Host.cos colAngles (ix2 p i) = Ideal.cos (num ((p : ℕ) % 64) * freq i) := by
  rw [← colAngles_at]
  rfl

/-- The sine of a column's angle. -/
theorem sin_col (p : Fin 4096) (i : Fin 16) : Host.sin colAngles (ix2 p i) = Ideal.sin (num ((p : ℕ) % 64) * freq i) := by
  rw [← colAngles_at]
  rfl

/-- The turned heads of 512 columns, at a row and a column. -/
theorem roped_at (y : FVec Ideal S8x4096x512 .f32) (r : Fin 32768) (l : Fin 512) :
    merged (turned (heads y)) (ix2 r l) = roped ((r : ℕ) % 4096) (fun i => y (ix3 (⟨(r : ℕ) / 4096, by omega⟩ : Fin 8) (⟨(r : ℕ) % 4096, by omega⟩ : Fin 4096) i)) l := by
  rw [merged_at]
  unfold roped turnFirst turnSecond angle
  by_cases h1 : (l : ℕ) % 64 < 32
  · rw [turned_first _ _ _ _ _ h1, if_pos h1]
    by_cases h2 : (l : ℕ) % 64 < 16
    · have e : (l : ℕ) % 16 = (l : ℕ) % 64 := by omega
      rw [pair_first _ _ _ _ _ _ _ h2, dif_pos (show (l : ℕ) % 32 < 16 by omega), e]
      simp only [low_at, cos_row, sin_row]
      rw [heads_flat _ _ _ _ _ l (by first | omega | (simp only []; omega)), heads_flat _ _ _ _ _ (⟨(l : ℕ) + 16, by omega⟩ : Fin 512) (by first | omega | (simp only []; omega))]
    · have e : (l : ℕ) % 16 = (l : ℕ) % 64 - 16 := by omega
      rw [pair_second _ _ _ _ _ _ _ h2, dif_neg (show ¬ (l : ℕ) % 32 < 16 by omega), e]
      simp only [low_at, cos_row, sin_row]
      rw [heads_flat _ _ _ _ _ (⟨(l : ℕ) - 16, by omega⟩ : Fin 512) (by first | omega | (simp only []; omega)), heads_flat _ _ _ _ _ l (by first | omega | (simp only []; omega))]
  · rw [turned_second _ _ _ _ _ h1, if_neg h1]
    by_cases h2 : (l : ℕ) % 64 - 32 < 16
    · have e : (l : ℕ) % 16 = (l : ℕ) % 64 - 32 := by omega
      rw [pair_first _ _ _ _ _ _ _ h2, dif_pos (show (l : ℕ) % 32 < 16 by omega), e]
      simp only [high_at, cos_col, sin_col]
      rw [heads_flat _ _ _ _ _ l (by first | omega | (simp only []; omega)), heads_flat _ _ _ _ _ (⟨(l : ℕ) + 16, by omega⟩ : Fin 512) (by first | omega | (simp only []; omega))]
    · have e : (l : ℕ) % 16 = (l : ℕ) % 64 - 32 - 16 := by omega
      rw [pair_second _ _ _ _ _ _ _ h2, dif_neg (show ¬ (l : ℕ) % 32 < 16 by omega), e]
      simp only [high_at, cos_col, sin_col]
      rw [heads_flat _ _ _ _ _ (⟨(l : ℕ) - 16, by omega⟩ : Fin 512) (by first | omega | (simp only []; omega)), heads_flat _ _ _ _ _ l (by first | omega | (simp only []; omega))]

/-- The reference's projection. -/
def projected (X : FVec Ideal S32768x1024 .f32) (g : FVec Ideal S2x1024 .f32) (sh sc : FVec Ideal S8x1x1024 .f32) (W : FVec Ideal S1x1024x3072 .f32) : FVec Ideal S8x4096x3072 .f32 := dense (hidden (stream X) g sh sc) W

/-- The reference's projection of a row is the specification's. -/
theorem projected_at (X : FVec Ideal S32768x1024 .f32) (g : FVec Ideal S2x1024 .f32) (sh sc : FVec Ideal S8x1x1024 .f32) (W : FVec Ideal S1x1024x3072 .f32) (r : Fin 32768) (n : Fin 3072) :
    projected X g sh sc W (ix3 (⟨(r : ℕ) / 4096, by omega⟩ : Fin 8) (⟨(r : ℕ) % 4096, by omega⟩ : Fin 4096) n) = Cert.InProj.Kern.projOf X g sh sc W r n := by
  have hs : ∀ k, stream X (ix3 (⟨(r : ℕ) / 4096, by omega⟩ : Fin 8) (⟨(r : ℕ) % 4096, by omega⟩ : Fin 4096) k) = X (ix2 r k) := fun k =>
    stream_at X _ _ k r (Fin.ext (by show (r : ℕ) = (r : ℕ) / 4096 * 4096 + (r : ℕ) % 4096; omega))
  unfold projected
  rw [dense_at]
  simp only [hidden_at, hs]
  rfl

/-- The first 512 columns. -/
theorem cols0_at (y : FVec Ideal S8x4096x3072 .f32) (b : Fin 8) (p : Fin 4096) (i : Fin 512) :
    extractStridedSlice S8x4096x512 ![0, 0, 0] y slices_S8x4096x3072_S8x4096x512_0_0_0 (ix3 b p i) = y (ix3 b p (⟨i, by omega⟩ : Fin 3072)) := by
  pointwise

/-- The second 512 columns. -/
theorem cols512_at (y : FVec Ideal S8x4096x3072 .f32) (b : Fin 8) (p : Fin 4096) (i : Fin 512) :
    extractStridedSlice S8x4096x512 ![0, 0, 512] y slices_S8x4096x3072_S8x4096x512_0_0_512 (ix3 b p i) = y (ix3 b p (⟨512 + i, by omega⟩ : Fin 3072)) := by
  pointwise

/-- The reference's queries at a row and a column. -/
theorem resQ_at (X : FVec Ideal S32768x1024 .f32) (g : FVec Ideal S2x1024 .f32) (sh sc : FVec Ideal S8x1x1024 .f32) (W : FVec Ideal S1x1024x3072 .f32) (r : Fin 32768) (l : Fin 512) :
    resQ (projected X g sh sc W) (ix2 r l) = Cert.InProj.Kern.qAt X g sh sc W r l := by
  have h : ∀ x : FVec Ideal S32768x512 .f32, truncf .bf16 (mulf x (broadcastInDim S32768x512 ![] bcast_S_S32768x512 (constant S_ .f32 0x3E000000#32))) bitsLt_bf16_f32 (ix2 r l) = x (ix2 r l) * Ideal.ofBits .f32 0x3E000000#32 := fun x => by
    pointwise
  unfold resQ Cert.InProj.Kern.qAt
  rw [h, roped_at]
  simp only [cols0_at, projected_at]

/-- The reference's keys at a row and a column. -/
theorem resK_at (X : FVec Ideal S32768x1024 .f32) (g : FVec Ideal S2x1024 .f32) (sh sc : FVec Ideal S8x1x1024 .f32) (W : FVec Ideal S1x1024x3072 .f32) (r : Fin 32768) (l : Fin 512) :
    resK (projected X g sh sc W) (ix2 r l) = Cert.InProj.Kern.kAt X g sh sc W r l := by
  have h : ∀ x : FVec Ideal S32768x512 .f32, truncf .bf16 x bitsLt_bf16_f32 (ix2 r l) = x (ix2 r l) := fun _ => rfl
  unfold resK Cert.InProj.Kern.kAt
  rw [h, roped_at]
  simp only [cols512_at, projected_at]

/-- The reference's values at a row and a column. -/
theorem resV_at (X : FVec Ideal S32768x1024 .f32) (g : FVec Ideal S2x1024 .f32) (sh sc : FVec Ideal S8x1x1024 .f32) (W : FVec Ideal S1x1024x3072 .f32) (r : Fin 32768) (l : Fin 512) :
    resV (projected X g sh sc W) (ix2 r l) = Cert.InProj.Kern.vAt X g sh sc W r l := by
  unfold Cert.InProj.Kern.vAt
  rw [← projected_at]
  generalize projected X g sh sc W = y
  pointwise [resV]

/-- The reference's remaining columns at a row and a column. -/
theorem resU_at (X : FVec Ideal S32768x1024 .f32) (g : FVec Ideal S2x1024 .f32) (sh sc : FVec Ideal S8x1x1024 .f32) (W : FVec Ideal S1x1024x3072 .f32) (r : Fin 32768) (l : Fin 1536) :
    resU (projected X g sh sc W) (ix2 r l) = Cert.InProj.Kern.uAt X g sh sc W r l := by
  unfold Cert.InProj.Kern.uAt
  rw [← projected_at]
  generalize projected X g sh sc W = y
  pointwise [resU]

end Cert.InProj.Ref

namespace Cert.InProj.Claims

open Idealize.ShloMosaic Idealize.ShloMosaic.TcCoe Idealize.SL.Sem

/-- The reference's frame: a program of host operations leaves its arguments as they were and every counter at zero. -/
theorem frame_ref : Cert.quiescent_InProjReferenceIdeal := by
  intro m g _
  exact (θ_run _ _ _).mono (fun r h => ⟨fun c => (h c).2.2.2.2, sem_eq_zero_of_no_sems (by decide) r.2⟩) (Cert.InProjReferenceIdeal.Value.run m g)

/-- The reference's queries, of the kernel's arguments, are the array the kernel was shown to leave. -/
theorem refQ_eq (m : (ℓ : Loc Cert.InProjIdeal.nD Cert.InProjIdeal.τ Cert.InProjIdeal.sig) → Buf (Elt Ideal) ℓ) (c : Dev Cert.InProjIdeal.nD) :
    Cert.InProj.Ref.resQ (Cert.InProj.Ref.projected (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = Cert.InProj.Kern.qG m c := by
  funext j
  obtain ⟨r, d, rfl⟩ : ∃ (r : Fin 32768) (d : Fin 512), j = ix2 r d := ⟨j 0, j 1, by funext a; fin_cases a <;> rfl⟩
  exact Cert.InProj.Ref.resQ_at _ _ _ _ _ r d

/-- The reference's keys, of the kernel's arguments, are the array the kernel was shown to leave. -/
theorem refK_eq (m : (ℓ : Loc Cert.InProjIdeal.nD Cert.InProjIdeal.τ Cert.InProjIdeal.sig) → Buf (Elt Ideal) ℓ) (c : Dev Cert.InProjIdeal.nD) :
    Cert.InProj.Ref.resK (Cert.InProj.Ref.projected (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = Cert.InProj.Kern.kG m c := by
  funext j
  obtain ⟨r, d, rfl⟩ : ∃ (r : Fin 32768) (d : Fin 512), j = ix2 r d := ⟨j 0, j 1, by funext a; fin_cases a <;> rfl⟩
  exact Cert.InProj.Ref.resK_at _ _ _ _ _ r d

/-- The reference's values, of the kernel's arguments, are the array the kernel was shown to leave. -/
theorem refV_eq (m : (ℓ : Loc Cert.InProjIdeal.nD Cert.InProjIdeal.τ Cert.InProjIdeal.sig) → Buf (Elt Ideal) ℓ) (c : Dev Cert.InProjIdeal.nD) :
    Cert.InProj.Ref.resV (Cert.InProj.Ref.projected (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = Cert.InProj.Kern.vG m c := by
  funext j
  obtain ⟨r, d, rfl⟩ : ∃ (r : Fin 32768) (d : Fin 512), j = ix2 r d := ⟨j 0, j 1, by funext a; fin_cases a <;> rfl⟩
  exact Cert.InProj.Ref.resV_at _ _ _ _ _ r d

/-- The reference's remaining columns, of the kernel's arguments, are the array the kernel was shown to leave. -/
theorem refU_eq (m : (ℓ : Loc Cert.InProjIdeal.nD Cert.InProjIdeal.τ Cert.InProjIdeal.sig) → Buf (Elt Ideal) ℓ) (c : Dev Cert.InProjIdeal.nD) :
    Cert.InProj.Ref.resU (Cert.InProj.Ref.projected (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = Cert.InProj.Kern.uG m c := by
  funext j
  obtain ⟨r, d, rfl⟩ : ∃ (r : Fin 32768) (d : Fin 1536), j = ix2 r d := ⟨j 0, j 1, by funext a; fin_cases a <;> rfl⟩
  exact Cert.InProj.Ref.resU_at _ _ _ _ _ r d

/-- THE VALUE: the kernel's four results and the reference's are the same arrays. -/
theorem algebraic : Cert.algebraic_InProjIdeal_InProjReferenceIdeal := by
  intro m g m' g' _ hag
  refine ⟨fun c => Cert.InProj.Kern.qG m c, fun c => Cert.InProj.Kern.kG m c, fun c => Cert.InProj.Kern.vG m c, fun c => Cert.InProj.Kern.uG m c,
    (θ_run _ _ _).mono (fun r h c => ?_) (Cert.InProjIdeal.Value.run_blocks m g),
    (θ_run _ _ _).mono (fun r h c => ?_) (Cert.InProjReferenceIdeal.Value.run m' g')⟩
  · obtain ⟨hq, hk, hv, hu, kept⟩ := h c
    exact ⟨hq.trans (Cert.InProj.Kern.q_final m c), hk.trans (Cert.InProj.Kern.k_final m c), hv.trans (Cert.InProj.Kern.v_final m c), hu.trans (Cert.InProj.Kern.u_final m c), kept⟩
  · obtain ⟨hq, hk, hv, hu, kept⟩ := h c
    obtain ⟨h0, h1, h2, h3, h4⟩ := hag c
    refine ⟨hq.trans (Eq.trans ?_ (refQ_eq m c)), hk.trans (Eq.trans ?_ (refK_eq m c)), hv.trans (Eq.trans ?_ (refV_eq m c)), hu.trans (Eq.trans ?_ (refU_eq m c)), kept⟩
    · rw [← h0, ← h1, ← h2, ← h3, ← h4]
      rfl
    · rw [← h0, ← h1, ← h2, ← h3, ← h4]
      rfl
    · rw [← h0, ← h1, ← h2, ← h3, ← h4]
      rfl
    · rw [← h0, ← h1, ← h2, ← h3, ← h4]
      rfl

end Cert.InProj.Claims

end
-- ==== Proof.OutProj.Value.lean ====
/- The first layer's output projection: block by block, every row of the result is the specification's. -/
module

public import proofs.«01_k».proof.Proof.Gen.OutProjIdeal.Frame
public import proofs.«01_k».proof.Proof.Gen.OutProjIdeal.Value
public import proofs.«01_k».proof.Proof.Proj.Spec
public import Idealize.ShloMosaic.Lib.Pipeline.ValueKit
public import Idealize.ShloMosaic.Lib.Claim

@[expose] public section

set_option maxRecDepth 16384

noncomputable section

namespace Cert.OutProj.Kern

open Cert.OutProjIdeal Cert.OutProjIdeal.Gen Idealize.ShloMosaic Idealize.ShloMosaic.TcCoe Idealize.SL.Sem
open Idealize.ShloMosaic.Pipeline (Dat)
open Cert.Proj

variable (m : (ℓ : Loc nD τ sig) → Buf (Elt Ideal) ℓ)

/-- A block's rows of the attention's output through the upper weights. -/
theorem pay2_at (a : FVec Ideal S512x512 .f32) (w : FVec Ideal S512x1024 .bf16) (r : Fin 512) (d : Fin 1024) :
    k0_pay2 (F := Ideal) a w (ix2 r d) = ∑ k : Fin 512, a (ix2 r k) * w (ix2 k d) := by
  pointwise [k0_pay2]

/-- One position of 128 of the mixer's output, channels first, through the lower weights. -/
def part (z : FVec Ideal S64x1x8x128 .f32) (w : FVec Ideal S512x1024 .bf16) (p : Fin 128) (d : Fin 1024) : EReal :=
  ∑ k : Fin 512, z (ix4 (⟨(k : ℕ) / 8, by omega⟩ : Fin 64) (0 : Fin 1) (⟨(k : ℕ) % 8, by omega⟩ : Fin 8) p) * w (ix2 k d)

/-- The first 128 rows of a block through the lower weights: the mixer's channels summed out. -/
theorem pay3_at (z : FVec Ideal S64x1x8x128 .f32) (w : FVec Ideal S512x1024 .bf16) (p : Fin 128) (d : Fin 1024) :
    k0_pay3 (F := Ideal) z w (ix2 p d) = part z w p d := by
  pointwise [k0_pay3]
  rfl

/-- The second 128 rows of a block through the lower weights: the mixer's channels summed out. -/
theorem pay4_at (z : FVec Ideal S64x1x8x128 .f32) (w : FVec Ideal S512x1024 .bf16) (p : Fin 128) (d : Fin 1024) :
    k0_pay4 (F := Ideal) z w (ix2 p d) = part z w p d := by
  pointwise [k0_pay4]
  rfl

/-- The third 128 rows of a block through the lower weights: the mixer's channels summed out. -/
theorem pay5_at (z : FVec Ideal S64x1x8x128 .f32) (w : FVec Ideal S512x1024 .bf16) (p : Fin 128) (d : Fin 1024) :
    k0_pay5 (F := Ideal) z w (ix2 p d) = part z w p d := by
  pointwise [k0_pay5]
  rfl

/-- What a block stores: the stream plus the gated sum of the two halves, the lower half taken 128 rows at a time. -/
theorem pay1_at (ya : FVec Ideal S512x1024 .f32) (p0 p1 p2 : FVec Ideal S128x1024 .f32) (z : FVec Ideal S64x1x8x128 .f32) (w : FVec Ideal S512x1024 .bf16) (x : FVec Ideal S512x1024 .f32)
    (g : FVec Ideal S1x1x1024 .f32) (r : Fin 512) (d : Fin 1024) :
    k0_pay1 (F := Ideal) ya p0 p1 p2 z w x g (ix2 r d) = x (ix2 r d) + g (ix3 (0 : Fin 1) (0 : Fin 1) d) * (ya (ix2 r d)
      + (if h : (r : ℕ) < 128 then p0 (ix2 (⟨r, h⟩ : Fin 128) d) else if h1 : (r : ℕ) - 128 < 128 then p1 (ix2 (⟨r - 128, by omega⟩ : Fin 128) d)
          else if h2 : (r : ℕ) - 128 - 128 < 128 then p2 (ix2 (⟨r - 128 - 128, h2⟩ : Fin 128) d) else part z w (⟨r - 128 - 128 - 128, by omega⟩ : Fin 128) d)) := by
  pointwise [k0_pay1]
  rfl

/-- The windows' block indices at every grid point: rows `t`, batch `t / 8`, positions `t % 8`. -/
theorem idx : ∀ t : Fin cfg0.N, win0_0.index t = ![t.val, 0] ∧ win0_1.index t = ![t.val / 8, 0, 0] ∧ win0_2.index t = ![t.val, 0]
    ∧ win0_3.index t = ![0, t.val % 8, t.val / 8, 0] ∧ win0_4.index t = ![0, 0] ∧ win0_5.index t = ![t.val, 0] :=
  (by decide +kernel : ∀ t : Fin grid0.N, _)

/-- A block's row of the residual stream. -/
theorem x_blk (c : Dev nD) (t : Fin cfg0.N) (r : Fin 512) (d : Fin 1024) (r' : Fin 32768) (hr : (r' : ℕ) = t.val * 512 + r) :
    iblk m c 0 t (ix2 r d) = m ((c : Thread nD τ).loc main_arg0) (ix2 r' d) := by
  rw [← V_main_arg0 m c]
  blk_simp [iblk, idx t]
  blk_ext [idx t]

/-- A block's gate: its batch's. -/
theorem g1_blk (c : Dev nD) (t : Fin cfg0.N) (d : Fin 1024) (b : Fin 8) (hb : (b : ℕ) = t.val / 8) :
    iblk m c 1 t (ix3 (0 : Fin 1) (0 : Fin 1) d) = m ((c : Thread nD τ).loc main_arg1) (ix3 b (0 : Fin 1) d) := by
  rw [← V_main_arg1 m c]
  blk_simp [iblk, idx t]
  blk_ext [idx t]

/-- A block's row of the attention's output. -/
theorem a_blk (c : Dev nD) (t : Fin cfg0.N) (r : Fin 512) (d : Fin 512) (r' : Fin 32768) (hr : (r' : ℕ) = t.val * 512 + r) :
    iblk m c 2 t (ix2 r d) = m ((c : Thread nD τ).loc main_arg2) (ix2 r' d) := by
  rw [← V_main_arg2 m c]
  blk_simp [iblk, idx t]
  blk_ext [idx t]

/-- A block's piece of the mixer's output: four runs of 128 positions, its batch's eight rows. -/
theorem z_blk (c : Dev nD) (t : Fin cfg0.N) (q : Fin 64) (n : Fin 4) (s : Fin 8) (p : Fin 128) (n' : Fin 32) (s' : Fin 64)
    (hn : (n' : ℕ) = t.val % 8 * 4 + n) (hs : (s' : ℕ) = t.val / 8 * 8 + s) :
    iblk m c 3 t (ix4 q n s p) = m ((c : Thread nD τ).loc main_arg3) (ix4 q n' s' p) := by
  rw [← V_main_arg3 m c]
  blk_simp [iblk, idx t]
  blk_ext [idx t]

/-- The weights' block is the weights. -/
theorem w_blk (c : Dev nD) (t : Fin cfg0.N) (k : Fin 1024) (d : Fin 1024) :
    iblk m c 4 t (ix2 k d) = m ((c : Thread nD τ).loc main_arg4) (ix3 (0 : Fin 1) k d) := by
  have e : V m c main_v1 (ix2 k d) = m ((c : Thread nD τ).loc main_arg4) (ix3 (0 : Fin 1) k d) := by
    entry_read
    pointwise
  refine Eq.trans ?_ e
  blk_simp [iblk, idx t]
  blk_ext [idx t]

/-- The two halves of a row summed out, from the argument arrays: the attention's 512 columns, then the mixer's 512 channels. -/
def halves (A : FVec Ideal S32768x512 .f32) (Z : FVec Ideal S64x32x64x128 .f32) (W : FVec Ideal S1x1024x1024 .f32) (r : Fin 32768) (d : Fin 1024) : EReal :=
  (∑ k : Fin 512, A (ix2 r k) * W (ix3 (0 : Fin 1) (⟨k, by omega⟩ : Fin 1024) d))
    + ∑ k : Fin 512, Z (ix4 (⟨(k : ℕ) / 8, by omega⟩ : Fin 64) (⟨(r : ℕ) % 4096 / 128, by omega⟩ : Fin 32) (⟨(r : ℕ) / 4096 * 8 + (k : ℕ) % 8, by omega⟩ : Fin 64) (⟨(r : ℕ) % 128, by omega⟩ : Fin 128))
        * W (ix3 (0 : Fin 1) (⟨512 + k, by omega⟩ : Fin 1024) d)

/-- The result at one row and column, from the argument arrays. -/
def outAt (X : FVec Ideal S32768x1024 .f32) (G : FVec Ideal S8x1x1024 .f32) (A : FVec Ideal S32768x512 .f32) (Z : FVec Ideal S64x32x64x128 .f32) (W : FVec Ideal S1x1024x1024 .f32)
    (r : Fin 32768) (d : Fin 1024) : EReal :=
  X (ix2 r d) + G (ix3 (⟨(r : ℕ) / 4096, by omega⟩ : Fin 8) (0 : Fin 1) d) * halves A Z W r d

/-- One run of 128 positions is the specification's lower half, when its loads are the specification's. -/
theorem part_eq (Z : FVec Ideal S64x32x64x128 .f32) (W : FVec Ideal S1x1024x1024 .f32) (z : FVec Ideal S64x1x8x128 .f32) (w : FVec Ideal S512x1024 .bf16) (R : Fin 32768) (p : Fin 128) (d : Fin 1024)
    (hp : (p : ℕ) = (R : ℕ) % 128)
    (hz : ∀ (q : Fin 64) (s : Fin 8) (s' : Fin 64), (s' : ℕ) = (R : ℕ) / 4096 * 8 + s → z (ix4 q (0 : Fin 1) s p) = Z (ix4 q (⟨(R : ℕ) % 4096 / 128, by omega⟩ : Fin 32) s' p))
    (hw : ∀ k : Fin 512, w (ix2 k d) = W (ix3 (0 : Fin 1) (⟨512 + k, by omega⟩ : Fin 1024) d)) :
    part z w p d = ∑ k : Fin 512, Z (ix4 (⟨(k : ℕ) / 8, by omega⟩ : Fin 64) (⟨(R : ℕ) % 4096 / 128, by omega⟩ : Fin 32) (⟨(R : ℕ) / 4096 * 8 + (k : ℕ) % 8, by omega⟩ : Fin 64) (⟨(R : ℕ) % 128, by omega⟩ : Fin 128))
        * W (ix3 (0 : Fin 1) (⟨512 + k, by omega⟩ : Fin 1024) d) := by
  have e : (⟨(R : ℕ) % 128, by omega⟩ : Fin 128) = p := Fin.ext hp.symm
  unfold part
  rw [e]
  refine Finset.sum_congr rfl fun k _ => ?_
  rw [hw, hz _ _ (⟨(R : ℕ) / 4096 * 8 + (k : ℕ) % 8, by omega⟩ : Fin 64) rfl]

/-- A block's entry is the specification's, when its loads are the specification's rows. -/
theorem core (X : FVec Ideal S32768x1024 .f32) (G : FVec Ideal S8x1x1024 .f32) (A : FVec Ideal S32768x512 .f32) (Z : FVec Ideal S64x32x64x128 .f32) (W : FVec Ideal S1x1024x1024 .f32)
    (a : FVec Ideal S512x512 .f32) (wa wb : FVec Ideal S512x1024 .bf16) (z : Fin 4 → FVec Ideal S64x1x8x128 .f32) (x : FVec Ideal S512x1024 .f32) (g : FVec Ideal S1x1x1024 .f32)
    (r : Fin 512) (R : Fin 32768) (d : Fin 1024) (hR : (R : ℕ) % 512 = r)
    (hx : ∀ k, x (ix2 r k) = X (ix2 R k)) (hG : ∀ k, g (ix3 (0 : Fin 1) (0 : Fin 1) k) = G (ix3 (⟨(R : ℕ) / 4096, by omega⟩ : Fin 8) (0 : Fin 1) k))
    (ha : ∀ k, a (ix2 r k) = A (ix2 R k)) (hwa : ∀ k : Fin 512, wa (ix2 k d) = W (ix3 (0 : Fin 1) (⟨k, by omega⟩ : Fin 1024) d))
    (hwb : ∀ k : Fin 512, wb (ix2 k d) = W (ix3 (0 : Fin 1) (⟨512 + k, by omega⟩ : Fin 1024) d))
    (hz : ∀ (n : Fin 4) (q : Fin 64) (s : Fin 8) (p : Fin 128) (n' : Fin 32) (s' : Fin 64), (n' : ℕ) = (R : ℕ) % 4096 / 512 * 4 + n → (s' : ℕ) = (R : ℕ) / 4096 * 8 + s →
      z n (ix4 q (0 : Fin 1) s p) = Z (ix4 q n' s' p)) :
    k0_pay1 (F := Ideal) (k0_pay2 a wa) (k0_pay3 (z 0) wb) (k0_pay4 (z 1) wb) (k0_pay5 (z 2) wb) (z 3) wb x g (ix2 r d) = outAt X G A Z W R d := by
  have hr := r.isLt
  rw [pay1_at, pay2_at]
  unfold outAt halves
  rw [hx, hG]
  refine congrArg (fun e => _ + _ * e) (congrArg₂ (· + ·) (Finset.sum_congr rfl fun k _ => by rw [ha, hwa]) ?_)
  split_ifs with h h1 h2
  · rw [pay3_at]
    exact part_eq Z W (z 0) wb R _ d (by show (r : ℕ) = (R : ℕ) % 128; omega) (fun q s s' hs => hz 0 q s _ _ s' (by show (R : ℕ) % 4096 / 128 = (R : ℕ) % 4096 / 512 * 4 + 0; omega) hs) hwb
  · rw [pay4_at]
    exact part_eq Z W (z 1) wb R _ d (by show (r : ℕ) - 128 = (R : ℕ) % 128; omega) (fun q s s' hs => hz 1 q s _ _ s' (by show (R : ℕ) % 4096 / 128 = (R : ℕ) % 4096 / 512 * 4 + 1; omega) hs) hwb
  · rw [pay5_at]
    exact part_eq Z W (z 2) wb R _ d (by show (r : ℕ) - 128 - 128 = (R : ℕ) % 128; omega) (fun q s s' hs => hz 2 q s _ _ s' (by show (R : ℕ) % 4096 / 128 = (R : ℕ) % 4096 / 512 * 4 + 2; omega) hs) hwb
  · exact part_eq Z W (z 3) wb R _ d (by show (r : ℕ) - 128 - 128 - 128 = (R : ℕ) % 128; omega) (fun q s s' hs => hz 3 q s _ _ s' (by show (R : ℕ) % 4096 / 128 = (R : ℕ) % 4096 / 512 * 4 + 3; omega) hs) hwb

/-- The whole result as one function of the arguments. -/
def G (c : Dev nD) : FVec Ideal S32768x1024 .f32 := fun j =>
  outAt (m ((c : Thread nD τ).loc main_arg0)) (m ((c : Thread nD τ).loc main_arg1)) (m ((c : Thread nD τ).loc main_arg2)) (m ((c : Thread nD τ).loc main_arg3)) (m ((c : Thread nD τ).loc main_arg4)) (j 0) (j 1)

/-- The specification at an array index given by its row and column. -/
theorem G_at (c : Dev nD) (j : S32768x1024.Idx) (R : Fin 32768) (d : Fin 1024) (h0 : (j 0 : ℕ) = R) (h1 : (j 1 : ℕ) = d) :
    G m c j = outAt (m ((c : Thread nD τ).loc main_arg0)) (m ((c : Thread nD τ).loc main_arg1)) (m ((c : Thread nD τ).loc main_arg2)) (m ((c : Thread nD τ).loc main_arg3)) (m ((c : Thread nD τ).loc main_arg4)) R d := by
  have e0 : j 0 = R := Fin.ext h0
  have e1 : j 1 = d := Fin.ext h1
  unfold G
  rw [e0, e1]

/-- Where a block index of the result sits in the whole array. -/
theorem emb5 (t : Fin cfg0.N) (y : S512x1024.Idx) :
    ((((cfg0.win 5).blk t).view.emb y 0 : Fin 32768) : ℕ) = t.val * 512 + (y 0 : ℕ)
      ∧ ((((cfg0.win 5).blk t).view.emb y 1 : Fin 1024) : ℕ) = (y 1 : ℕ) := by
  obtain ⟨-, -, -, -, -, h⟩ := idx t
  have h0 : win0_5.index t 0 = t.val := congrFun h 0
  have h1 : win0_5.index t 1 = 0 := congrFun h 1
  constructor
  · show win0_5.index t 0 * 512 + 1 * (y 0 : ℕ) = _
    rw [one_mul, h0]
  · show win0_5.index t 1 * 1024 + 1 * (y 1 : ℕ) = _
    rw [one_mul, h1, Nat.zero_mul, Nat.zero_add]

/-- The attention's output, whole. -/
theorem ld_a (x : Vec Ideal S512x512 .f32) (r d : Fin 512) : (View.ld x r0_0 : Vec Ideal S512x512 .f32) (ix2 r d) = x (ix2 r d) := by
  pointwise [r0_0]

/-- The upper half of the weights. -/
theorem ld_wa (x : Vec Ideal S1024x1024 .bf16) (k : Fin 512) (d : Fin 1024) : (View.ld x r0_1 : Vec Ideal S512x1024 .bf16) (ix2 k d) = x (ix2 (⟨k, by omega⟩ : Fin 1024) d) := by
  pointwise [r0_1]

/-- The lower half of the weights. -/
theorem ld_wb (x : Vec Ideal S1024x1024 .bf16) (k : Fin 512) (d : Fin 1024) : (View.ld x r0_3 : Vec Ideal S512x1024 .bf16) (ix2 k d) = x (ix2 (⟨512 + k, by omega⟩ : Fin 1024) d) := by
  pointwise [r0_3]

/-- The first run of 128 positions of the mixer's output. -/
theorem ld_z0 (x : Vec Ideal S64x4x8x128 .f32) (q : Fin 64) (s : Fin 8) (p : Fin 128) : (View.ld x r0_2 : Vec Ideal S64x1x8x128 .f32) (ix4 q (0 : Fin 1) s p) = x (ix4 q (0 : Fin 4) s p) := by
  pointwise [r0_2]

/-- The second run of 128 positions of the mixer's output. -/
theorem ld_z1 (x : Vec Ideal S64x4x8x128 .f32) (q : Fin 64) (s : Fin 8) (p : Fin 128) : (View.ld x r0_4 : Vec Ideal S64x1x8x128 .f32) (ix4 q (0 : Fin 1) s p) = x (ix4 q (1 : Fin 4) s p) := by
  pointwise [r0_4]

/-- The third run of 128 positions of the mixer's output. -/
theorem ld_z2 (x : Vec Ideal S64x4x8x128 .f32) (q : Fin 64) (s : Fin 8) (p : Fin 128) : (View.ld x r0_5 : Vec Ideal S64x1x8x128 .f32) (ix4 q (0 : Fin 1) s p) = x (ix4 q (2 : Fin 4) s p) := by
  pointwise [r0_5]

/-- The fourth run of 128 positions of the mixer's output. -/
theorem ld_z3 (x : Vec Ideal S64x4x8x128 .f32) (q : Fin 64) (s : Fin 8) (p : Fin 128) : (View.ld x r0_6 : Vec Ideal S64x1x8x128 .f32) (ix4 q (0 : Fin 1) s p) = x (ix4 q (3 : Fin 4) s p) := by
  pointwise [r0_6]

/-- The residual stream, whole. -/
theorem ld_x (x : Vec Ideal S512x1024 .f32) (r : Fin 512) (d : Fin 1024) : (View.ld x r0_7 : Vec Ideal S512x1024 .f32) (ix2 r d) = x (ix2 r d) := by
  pointwise [r0_7]

/-- The gate, whole. -/
theorem ld_m (x : Vec Ideal S1x1x1024 .f32) (d : Fin 1024) : (View.ld x r0_8 : Vec Ideal S1x1x1024 .f32) (ix3 (0 : Fin 1) (0 : Fin 1) d) = x (ix3 (0 : Fin 1) (0 : Fin 1) d) := by
  pointwise [r0_8]

/-- POINT: what the body stores at block index `y` of point `t` is the specification at the array index `y` sits at. -/
theorem point (c : Dev nD) (t : Fin cfg0.N) (y : S512x1024.Idx) :
    out0_5 (iblk m c 0 t) (iblk m c 1 t) (iblk m c 2 t) (iblk m c 3 t) (iblk m c 4 t) y = G m c (((cfg0.win 5).blk t).view.emb y) := by
  have ht : t.val < 64 := t.isLt
  obtain ⟨e0, e1⟩ := emb5 t y
  unfold out0_5
  canon_tiles x h
  obtain ⟨r, d, rfl⟩ : ∃ (r : Fin 512) (d : Fin 1024), x = ix2 r d := ⟨x 0, x 1, by funext a; fin_cases a <;> rfl⟩
  have hr := r.isLt
  replace h0 : ((y 0 : Fin 512) : ℕ) = r := h0
  replace h1 : ((y 1 : Fin 1024) : ℕ) = d := h1
  rw [G_at m c (((cfg0.win 5).blk t).view.emb y) ⟨t.val * 512 + (r : ℕ), by omega⟩ d (by rw [e0, h0]) (by rw [e1, h1])]
  refine core _ _ _ _ _ _ _ _ ![View.ld (iblk m c 3 t) r0_2, View.ld (iblk m c 3 t) r0_4, View.ld (iblk m c 3 t) r0_5, View.ld (iblk m c 3 t) r0_6] _ _ r _ d
    (by show (t.val * 512 + (r : ℕ)) % 512 = r; omega) (fun k => ?_) (fun k => ?_) (fun k => ?_) (fun k => ?_) (fun k => ?_) ?_
  · exact (ld_x _ r k).trans (x_blk m c t r k _ rfl)
  · exact (ld_m _ k).trans (g1_blk m c t k _ (by show (t.val * 512 + (r : ℕ)) / 4096 = t.val / 8; omega))
  · exact (ld_a _ r k).trans (a_blk m c t r k _ rfl)
  · exact (ld_wa _ k d).trans (w_blk m c t _ d)
  · exact (ld_wb _ k d).trans (w_blk m c t _ d)
  · intro n q s p n' s' hn hs
    have hn' : (n' : ℕ) = t.val % 8 * 4 + n := by rw [hn]; show (t.val * 512 + (r : ℕ)) % 4096 / 512 * 4 + (n : ℕ) = _; omega
    have hs' : (s' : ℕ) = t.val / 8 * 8 + s := by rw [hs]; show (t.val * 512 + (r : ℕ)) / 4096 * 8 + (s : ℕ) = _; omega
    refine Eq.trans ?_ (z_blk m c t q n s p n' s' hn' hs')
    fin_cases n
    · exact ld_z0 (iblk m c 3 t) q s p
    · exact ld_z1 (iblk m c 3 t) q s p
    · exact ld_z2 (iblk m c 3 t) q s p
    · exact ld_z3 (iblk m c 3 t) q s p

/-- FINAL: the result array after the last grid point. -/
theorem final (c : Dev nD) : (dats m 0 c).arrAt 5 cfg0.N = G m c := by
  have key : ∀ (t : Fin cfg0.N) (y : S512x1024.Idx), (dats m 0 c).after 5 t y = G m c (((cfg0.win 5).blk t).view.emb y) := fun t y => by
    rw [after0_5]
    exact point m c t y
  exact (dats m 0 c).arrAt_eq_of_covers 5 (G m c) (by decide +kernel) fun t _ y => key t y

end Cert.OutProj.Kern

end
-- ==== Proof.OutProj.Claims.lean ====
/- The claims of the first layer's output projection: its reference read at one index, its reference's frame, and the equality of the two
   results. -/
module

public import proofs.«01_k».proof.Defs
public import proofs.«01_k».proof.Proof.Gen.OutProjReferenceIdeal
public import proofs.«01_k».proof.Proof.Gen.OutProjReferenceIdeal.Run
public import proofs.«01_k».proof.Proof.OutProj.Value

@[expose] public section

set_option maxRecDepth 16384

noncomputable section

namespace Cert.OutProj.Ref

open Cert.OutProjReferenceIdeal Cert.OutProjReferenceIdeal.Gen Idealize.ShloMosaic Idealize.ShloMosaic.TcCoe Idealize.SL.Sem
open Cert.Proj

/-- The two mixers' outputs side by side: the attention's rows, then the convolution's, brought from channels-first. -/
def both (A : FVec Ideal S32768x512 .f32) (Z : FVec Ideal S64x32x64x128 .f32) : FVec Ideal S8x4096x1024 .f32 :=
  concatenate S8x4096x1024 2 [⟨S8x4096x512, (shapeCast _ A shapeCasts_S32768x512_S8x4096x512)⟩, ⟨S8x4096x512, (shapeCast _ (transpose S8x32x128x64x8 [2, 1, 4, 0, 3] (shapeCast _ Z shapeCasts_S64x32x64x128_S64x32x8x8x128) transposes_S64x32x8x8x128_S8x32x128x64x8_2_1_4_0_3) shapeCasts_S8x32x128x64x8_S8x4096x512)⟩] concatenates_S8x4096x512_S8x4096x512_S8x4096x1024_d2

/-- The stream plus the gated projection, laid back as rows. -/
def added (X : FVec Ideal S32768x1024 .f32) (G : FVec Ideal S8x1x1024 .f32) (o : FVec Ideal S8x4096x1024 .f32) (W : FVec Ideal S1x1024x1024 .f32) : FVec Ideal S32768x1024 .f32 :=
  shapeCast _ (addf (shapeCast _ X shapeCasts_S32768x1024_S8x4096x1024) (mulf (broadcastInDim S8x4096x1024 ![0, 1, 2] bcast_S8x1x1024_S8x4096x1024_0_1_2 G) (Host.dotGeneral (φ₁ := .f32) (φ₂ := .f32) dot_S8x4096x1024_S1024x1024_S8x4096x1024_2_0_01_1_n_n none o (shapeCast _ W shapeCasts_S1x1024x1024_S1024x1024)))) shapeCasts_S8x4096x1024_S32768x1024

/-- The reference's result, of its arguments. -/
def res (X : FVec Ideal S32768x1024 .f32) (G : FVec Ideal S8x1x1024 .f32) (A : FVec Ideal S32768x512 .f32) (Z : FVec Ideal S64x32x64x128 .f32) (W : FVec Ideal S1x1024x1024 .f32) : FVec Ideal S32768x1024 .f32 :=
  added X G (both A Z) W

/-- The sum at a row and a column. -/
theorem added_at (X : FVec Ideal S32768x1024 .f32) (G : FVec Ideal S8x1x1024 .f32) (o : FVec Ideal S8x4096x1024 .f32) (W : FVec Ideal S1x1024x1024 .f32) (r : Fin 32768) (d : Fin 1024) :
    added X G o W (ix2 r d) = X (ix2 r d) + G (ix3 (⟨(r : ℕ) / 4096, by omega⟩ : Fin 8) (0 : Fin 1) d) * ∑ k : Fin 1024, o (ix3 (⟨(r : ℕ) / 4096, by omega⟩ : Fin 8) (⟨(r : ℕ) % 4096, by omega⟩ : Fin 4096) k) * W (ix3 (0 : Fin 1) k d) := by
  pointwise [added]

/-- The first 512 columns are the attention's. -/
theorem both_left (A : FVec Ideal S32768x512 .f32) (Z : FVec Ideal S64x32x64x128 .f32) (r : Fin 32768) (k : Fin 512) :
    both A Z (ix3 (⟨(r : ℕ) / 4096, by omega⟩ : Fin 8) (⟨(r : ℕ) % 4096, by omega⟩ : Fin 4096) (⟨k, by omega⟩ : Fin 1024)) = A (ix2 r k) := by
  pointwise [both]

/-- The last 512 columns are the convolution's channels. -/
theorem both_right (A : FVec Ideal S32768x512 .f32) (Z : FVec Ideal S64x32x64x128 .f32) (r : Fin 32768) (k : Fin 512) :
    both A Z (ix3 (⟨(r : ℕ) / 4096, by omega⟩ : Fin 8) (⟨(r : ℕ) % 4096, by omega⟩ : Fin 4096) (⟨512 + k, by omega⟩ : Fin 1024))
      = Z (ix4 (⟨(k : ℕ) / 8, by omega⟩ : Fin 64) (⟨(r : ℕ) % 4096 / 128, by omega⟩ : Fin 32) (⟨(r : ℕ) / 4096 * 8 + (k : ℕ) % 8, by omega⟩ : Fin 64) (⟨(r : ℕ) % 128, by omega⟩ : Fin 128)) := by
  have e : (⟨(r : ℕ) % 4096 % 128, by omega⟩ : Fin 128) = ⟨(r : ℕ) % 128, by omega⟩ := Fin.ext (by show (r : ℕ) % 4096 % 128 = (r : ℕ) % 128; omega)
  pointwise [both]
  exact congrArg (fun p => Z (ix4 _ _ _ p)) e

/-- A sum over 1024 columns is the sum over the first 512 and the sum over the last. -/
theorem sum_halves (f : Fin 1024 → EReal) : (∑ k, f k) = (∑ k : Fin 512, f ⟨k, by omega⟩) + ∑ k : Fin 512, f ⟨512 + k, by omega⟩ :=
  Fin.sum_univ_add (a := 512) (b := 512) f

/-- The reference's result at one row and column is the specification's. -/
theorem res_at (X : FVec Ideal S32768x1024 .f32) (G : FVec Ideal S8x1x1024 .f32) (A : FVec Ideal S32768x512 .f32) (Z : FVec Ideal S64x32x64x128 .f32) (W : FVec Ideal S1x1024x1024 .f32) (r : Fin 32768) (d : Fin 1024) :
    res X G A Z W (ix2 r d) = Cert.OutProj.Kern.outAt X G A Z W r d := by
  unfold res
  rw [added_at, sum_halves]
  simp only [both_left, both_right]
  rfl

end Cert.OutProj.Ref

namespace Cert.OutProj.Claims

open Idealize.ShloMosaic Idealize.ShloMosaic.TcCoe Idealize.SL.Sem

/-- The reference's frame: a program of host operations leaves its arguments as they were and every counter at zero. -/
theorem frame_ref : Cert.quiescent_OutProjReferenceIdeal := by
  intro m g _
  exact (θ_run _ _ _).mono (fun r h => ⟨fun c => (h c).2, sem_eq_zero_of_no_sems (by decide) r.2⟩) (Cert.OutProjReferenceIdeal.Value.run m g)

/-- The reference's term, of the kernel's arguments, is the array the kernel was shown to leave. -/
theorem ref_eq (m : (ℓ : Loc Cert.OutProjIdeal.nD Cert.OutProjIdeal.τ Cert.OutProjIdeal.sig) → Buf (Elt Ideal) ℓ) (c : Dev Cert.OutProjIdeal.nD) :
    Cert.OutProj.Ref.res (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) = Cert.OutProj.Kern.G m c := by
  funext j
  obtain ⟨r, d, rfl⟩ : ∃ (r : Fin 32768) (d : Fin 1024), j = ix2 r d := ⟨j 0, j 1, by funext a; fin_cases a <;> rfl⟩
  exact Cert.OutProj.Ref.res_at _ _ _ _ _ r d

/-- THE VALUE: the kernel's result and the reference's are the same array. -/
theorem algebraic : Cert.algebraic_OutProjIdeal_OutProjReferenceIdeal := by
  intro m g m' g' _ hag
  refine ⟨fun c => Cert.OutProj.Kern.G m c,
    (θ_run _ _ _).mono (fun r h c => ?_) (Cert.OutProjIdeal.Value.run_blocks m g),
    (θ_run _ _ _).mono (fun r h c => ?_) (Cert.OutProjReferenceIdeal.Value.run m' g')⟩
  · exact ⟨(h c).1.trans (Cert.OutProj.Kern.final m c), (h c).2⟩
  · obtain ⟨h0, h1, h2, h3, h4⟩ := hag c
    refine ⟨(h c).1.trans (Eq.trans ?_ (ref_eq m c)), (h c).2⟩
    rw [← h0, ← h1, ← h2, ← h3, ← h4]
    rfl

end Cert.OutProj.Claims

end
-- ==== Proof.ConfIn.Value.lean ====
/- The Conformer module's first projection and gate: block by block, every row of the result is the specification's. -/
module

public import proofs.«01_k».proof.Proof.Gen.ConfInIdeal.Frame
public import proofs.«01_k».proof.Proof.Gen.ConfInIdeal.Value
public import proofs.«01_k».proof.Proof.Proj.Spec
public import Idealize.ShloMosaic.Lib.Pipeline.ValueKit
public import Idealize.ShloMosaic.Lib.Claim

@[expose] public section

set_option maxRecDepth 16384

noncomputable section

namespace Cert.ConfIn.Kern

open Cert.ConfInIdeal Cert.ConfInIdeal.Gen Idealize.ShloMosaic Idealize.ShloMosaic.TcCoe Idealize.SL.Sem
open Idealize.ShloMosaic.Pipeline (Dat)
open Cert.Proj

variable (m : (ℓ : Loc nD τ sig) → Buf (Elt Ideal) ℓ)

/-- A block's rows, normed and modulated. -/
theorem pay2_at (v0 : FVec Ideal S512x1024 .f32) (v1 : FVec Ideal S1x1024 .f32) (v3 v5 : FVec Ideal S1x1x1024 .f32) (r : Fin 512) (d : Fin 1024) :
    k0_pay2 (F := Ideal) v0 v1 v3 v5 (ix2 r d) = modulated (fun k => v0 (ix2 r k)) (fun k => v1 (ix2 (0 : Fin 1) k)) (fun k => v3 (ix3 (0 : Fin 1) (0 : Fin 1) k)) (fun k => v5 (ix3 (0 : Fin 1) (0 : Fin 1) k)) d := by
  pointwise [k0_pay2]
  rfl

/-- A block's values: the rows through the first half of the weights and biases. -/
theorem pay3_at (v0 : FVec Ideal S512x1024 .f32) (v1 : FVec Ideal S1x1024 .f32) (v3 v5 : FVec Ideal S1x1x1024 .f32) (w : FVec Ideal S1024x1024 .bf16) (b : FVec Ideal S1x1024 .f32) (r : Fin 512) (d : Fin 1024) :
    k0_pay3 (F := Ideal) v0 v1 v3 v5 w b (ix2 r d) = affine (fun k => k0_pay2 (F := Ideal) v0 v1 v3 v5 (ix2 r k)) (fun k => w (ix2 k d)) (b (ix2 (0 : Fin 1) d)) := by
  pointwise [k0_pay3]
  rfl

/-- A block's gates before their biases: the rows through the second half of the weights. -/
theorem pay4_at (v0 : FVec Ideal S512x1024 .f32) (v1 : FVec Ideal S1x1024 .f32) (v3 v5 : FVec Ideal S1x1x1024 .f32) (w : FVec Ideal S1024x1024 .bf16) (r : Fin 512) (d : Fin 1024) :
    k0_pay4 (F := Ideal) v0 v1 v3 v5 w (ix2 r d) = lin (fun k => k0_pay2 (F := Ideal) v0 v1 v3 v5 (ix2 r k)) (fun k => w (ix2 k d)) := by
  pointwise [k0_pay4]
  rfl

/-- What a block stores: the values, gated. -/
theorem pay1_at (a b : FVec Ideal S512x1024 .f32) (c : FVec Ideal S1x1024 .f32) (r : Fin 512) (d : Fin 1024) :
    k0_pay1 (F := Ideal) a b c (ix2 r d) = glu (a (ix2 r d)) (b (ix2 r d) + c (ix2 (0 : Fin 1) d)) := by
  pointwise [k0_pay1]
  rfl

/-- The windows' block indices at every grid point: rows `t`, batch `t / 8`. -/
theorem idx : ∀ t : Fin cfg0.N, win0_0.index t = ![t.val, 0] ∧ win0_1.index t = ![0, 0] ∧ win0_2.index t = ![t.val / 8, 0, 0]
    ∧ win0_3.index t = ![t.val / 8, 0, 0] ∧ win0_4.index t = ![0, 0] ∧ win0_5.index t = ![0, 0] ∧ win0_6.index t = ![t.val, 0] :=
  (by decide +kernel : ∀ t : Fin grid0.N, _)

/-- A block's row of the residual stream. -/
theorem x_blk (c : Dev nD) (t : Fin cfg0.N) (r : Fin 512) (d : Fin 1024) (r' : Fin 32768) (hr : (r' : ℕ) = t.val * 512 + r) :
    iblk m c 0 t (ix2 r d) = m ((c : Thread nD τ).loc main_arg0) (ix2 r' d) := by
  rw [← V_main_arg0 m c]
  blk_simp [iblk, idx t]
  blk_ext [idx t]

/-- The gain's block is the second layer's gain. -/
theorem g_blk (c : Dev nD) (t : Fin cfg0.N) (d : Fin 1024) :
    iblk m c 1 t (ix2 (0 : Fin 1) d) = m ((c : Thread nD τ).loc main_arg1) (ix2 (1 : Fin 2) d) := by
  have e : V m c main_v2 (ix2 (0 : Fin 1) d) = m ((c : Thread nD τ).loc main_arg1) (ix2 (1 : Fin 2) d) := by
    entry_read
    pointwise
  refine Eq.trans ?_ e
  blk_simp [iblk, idx t]
  blk_ext [idx t]

/-- A block's shift: its batch's. -/
theorem sh_blk (c : Dev nD) (t : Fin cfg0.N) (d : Fin 1024) (b : Fin 8) (hb : (b : ℕ) = t.val / 8) :
    iblk m c 2 t (ix3 (0 : Fin 1) (0 : Fin 1) d) = m ((c : Thread nD τ).loc main_arg2) (ix3 b (0 : Fin 1) d) := by
  rw [← V_main_arg2 m c]
  blk_simp [iblk, idx t]
  blk_ext [idx t]

/-- A block's scale: its batch's. -/
theorem sc_blk (c : Dev nD) (t : Fin cfg0.N) (d : Fin 1024) (b : Fin 8) (hb : (b : ℕ) = t.val / 8) :
    iblk m c 3 t (ix3 (0 : Fin 1) (0 : Fin 1) d) = m ((c : Thread nD τ).loc main_arg3) (ix3 b (0 : Fin 1) d) := by
  rw [← V_main_arg3 m c]
  blk_simp [iblk, idx t]
  blk_ext [idx t]

/-- The weights' block is the weights. -/
theorem w_blk (c : Dev nD) (t : Fin cfg0.N) (k : Fin 1024) (d : Fin 2048) :
    iblk m c 4 t (ix2 k d) = m ((c : Thread nD τ).loc main_arg4) (ix3 (0 : Fin 1) k d) := by
  have e : V m c main_v4 (ix2 k d) = m ((c : Thread nD τ).loc main_arg4) (ix3 (0 : Fin 1) k d) := by
    entry_read
    pointwise
  refine Eq.trans ?_ e
  blk_simp [iblk, idx t]
  blk_ext [idx t]

/-- The biases' block is the biases. -/
theorem b_blk (c : Dev nD) (t : Fin cfg0.N) (d : Fin 2048) :
    iblk m c 5 t (ix2 (0 : Fin 1) d) = m ((c : Thread nD τ).loc main_arg5) (ix2 (0 : Fin 1) d) := by
  have e : V m c main_v6 (ix2 (0 : Fin 1) d) = m ((c : Thread nD τ).loc main_arg5) (ix2 (0 : Fin 1) d) := by
    entry_read
    pointwise
  refine Eq.trans ?_ e
  blk_simp [iblk, idx t]
  blk_ext [idx t]

/-- The result at one row and column, from the argument arrays. -/
def outAt (X : FVec Ideal S32768x1024 .f32) (g : FVec Ideal S2x1024 .f32) (sh sc : FVec Ideal S8x1x1024 .f32) (W : FVec Ideal S1x1024x2048 .f32)
    (B : FVec Ideal S1x2048 .f32) (r : Fin 32768) (d : Fin 1024) : EReal :=
  let h := modulated (fun k => X (ix2 r k)) (fun k => g (ix2 (1 : Fin 2) k)) (fun k => sh (ix3 (⟨(r : ℕ) / 4096, by omega⟩ : Fin 8) (0 : Fin 1) k)) (fun k => sc (ix3 (⟨(r : ℕ) / 4096, by omega⟩ : Fin 8) (0 : Fin 1) k))
  glu (affine h (fun k => W (ix3 (0 : Fin 1) k (⟨d, by omega⟩ : Fin 2048))) (B (ix2 (0 : Fin 1) (⟨d, by omega⟩ : Fin 2048))))
    (affine h (fun k => W (ix3 (0 : Fin 1) k (⟨1024 + d, by omega⟩ : Fin 2048))) (B (ix2 (0 : Fin 1) (⟨1024 + d, by omega⟩ : Fin 2048))))

/-- A block's entry is the specification's, when its loads are the specification's rows. -/
theorem core (X : FVec Ideal S32768x1024 .f32) (g : FVec Ideal S2x1024 .f32) (sh sc : FVec Ideal S8x1x1024 .f32) (W : FVec Ideal S1x1024x2048 .f32)
    (B : FVec Ideal S1x2048 .f32) (v0 : FVec Ideal S512x1024 .f32) (v1 : FVec Ideal S1x1024 .f32) (v3 v5 : FVec Ideal S1x1x1024 .f32)
    (w1 w2 : FVec Ideal S1024x1024 .bf16) (b1 b2 : FVec Ideal S1x1024 .f32) (r : Fin 512) (R : Fin 32768) (d : Fin 1024)
    (hx : ∀ k, v0 (ix2 r k) = X (ix2 R k)) (hg : ∀ k, v1 (ix2 (0 : Fin 1) k) = g (ix2 (1 : Fin 2) k))
    (hsh : ∀ k, v3 (ix3 (0 : Fin 1) (0 : Fin 1) k) = sh (ix3 (⟨(R : ℕ) / 4096, by omega⟩ : Fin 8) (0 : Fin 1) k))
    (hsc : ∀ k, v5 (ix3 (0 : Fin 1) (0 : Fin 1) k) = sc (ix3 (⟨(R : ℕ) / 4096, by omega⟩ : Fin 8) (0 : Fin 1) k))
    (hw1 : ∀ k, w1 (ix2 k d) = W (ix3 (0 : Fin 1) k (⟨d, by omega⟩ : Fin 2048))) (hw2 : ∀ k, w2 (ix2 k d) = W (ix3 (0 : Fin 1) k (⟨1024 + d, by omega⟩ : Fin 2048)))
    (hb1 : b1 (ix2 (0 : Fin 1) d) = B (ix2 (0 : Fin 1) (⟨d, by omega⟩ : Fin 2048))) (hb2 : b2 (ix2 (0 : Fin 1) d) = B (ix2 (0 : Fin 1) (⟨1024 + d, by omega⟩ : Fin 2048))) :
    k0_pay1 (F := Ideal) (k0_pay3 v0 v1 v3 v5 w1 b1) (k0_pay4 v0 v1 v3 v5 w2) b2 (ix2 r d) = outAt X g sh sc W B R d := by
  rw [pay1_at, pay3_at, pay4_at]
  simp only [pay2_at, hx, hg, hsh, hsc, hw1, hw2, hb1, hb2]
  rfl

/-- The whole result as one function of the arguments. -/
def G (c : Dev nD) : FVec Ideal S32768x1024 .f32 := fun j =>
  outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (j 0) (j 1)

/-- The specification at an array index given by its row and column. -/
theorem G_at (c : Dev nD) (j : S32768x1024.Idx) (R : Fin 32768) (d : Fin 1024) (h0 : (j 0 : ℕ) = R) (h1 : (j 1 : ℕ) = d) :
    G m c j = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R d := by
  have e0 : j 0 = R := Fin.ext h0
  have e1 : j 1 = d := Fin.ext h1
  unfold G
  rw [e0, e1]

/-- Where a block index of the result sits in the whole array. -/
theorem emb6 (t : Fin cfg0.N) (y : S512x1024.Idx) :
    ((((cfg0.win 6).blk t).view.emb y 0 : Fin 32768) : ℕ) = t.val * 512 + (y 0 : ℕ)
      ∧ ((((cfg0.win 6).blk t).view.emb y 1 : Fin 1024) : ℕ) = (y 1 : ℕ) := by
  obtain ⟨-, -, -, -, -, -, h⟩ := idx t
  have h0 : win0_6.index t 0 = t.val := congrFun h 0
  have h1 : win0_6.index t 1 = 0 := congrFun h 1
  constructor
  · show win0_6.index t 0 * 512 + 1 * (y 0 : ℕ) = _
    rw [one_mul, h0]
  · show win0_6.index t 1 * 1024 + 1 * (y 1 : ℕ) = _
    rw [one_mul, h1, Nat.zero_mul, Nat.zero_add]

/-- The residual stream, whole. -/
theorem ld_x (x : Vec Ideal S512x1024 .f32) (r : Fin 512) (d : Fin 1024) : (View.ld x r0_0 : Vec Ideal S512x1024 .f32) (ix2 r d) = x (ix2 r d) := by
  pointwise [r0_0]

/-- The gain, whole. -/
theorem ld_g (x : Vec Ideal S1x1024 .f32) (d : Fin 1024) : (View.ld x r0_1 : Vec Ideal S1x1024 .f32) (ix2 (0 : Fin 1) d) = x (ix2 (0 : Fin 1) d) := by
  pointwise [r0_1]

/-- The shift or the scale, whole. -/
theorem ld_m (x : Vec Ideal S1x1x1024 .f32) (d : Fin 1024) : (View.ld x r0_2 : Vec Ideal S1x1x1024 .f32) (ix3 (0 : Fin 1) (0 : Fin 1) d) = x (ix3 (0 : Fin 1) (0 : Fin 1) d) := by
  pointwise [r0_2]

/-- The weights' first half of columns. -/
theorem ld_w1 (x : Vec Ideal S1024x2048 .bf16) (k d : Fin 1024) : (View.ld x r0_3 : Vec Ideal S1024x1024 .bf16) (ix2 k d) = x (ix2 k (⟨d, by omega⟩ : Fin 2048)) := by
  pointwise [r0_3]

/-- The biases' first half. -/
theorem ld_b1 (x : Vec Ideal S1x2048 .f32) (d : Fin 1024) : (View.ld x r0_4 : Vec Ideal S1x1024 .f32) (ix2 (0 : Fin 1) d) = x (ix2 (0 : Fin 1) (⟨d, by omega⟩ : Fin 2048)) := by
  pointwise [r0_4]

/-- The weights' second half of columns. -/
theorem ld_w2 (x : Vec Ideal S1024x2048 .bf16) (k d : Fin 1024) : (View.ld x r0_5 : Vec Ideal S1024x1024 .bf16) (ix2 k d) = x (ix2 k (⟨1024 + d, by omega⟩ : Fin 2048)) := by
  pointwise [r0_5]

/-- The biases' second half. -/
theorem ld_b2 (x : Vec Ideal S1x2048 .f32) (d : Fin 1024) : (View.ld x r0_6 : Vec Ideal S1x1024 .f32) (ix2 (0 : Fin 1) d) = x (ix2 (0 : Fin 1) (⟨1024 + d, by omega⟩ : Fin 2048)) := by
  pointwise [r0_6]

/-- POINT: what the body stores at block index `y` of point `t` is the specification at the array index `y` sits at. -/
theorem point (c : Dev nD) (t : Fin cfg0.N) (y : S512x1024.Idx) :
    out0_6 (iblk m c 0 t) (iblk m c 1 t) (iblk m c 2 t) (iblk m c 3 t) (iblk m c 4 t) (iblk m c 5 t) y = G m c (((cfg0.win 6).blk t).view.emb y) := by
  have ht : t.val < 64 := t.isLt
  obtain ⟨e0, e1⟩ := emb6 t y
  unfold out0_6
  canon_tiles x h
  obtain ⟨r, d, rfl⟩ : ∃ (r : Fin 512) (d : Fin 1024), x = ix2 r d := ⟨x 0, x 1, by funext a; fin_cases a <;> rfl⟩
  have hr := r.isLt
  replace h0 : ((y 0 : Fin 512) : ℕ) = r := h0
  replace h1 : ((y 1 : Fin 1024) : ℕ) = d := h1
  rw [G_at m c (((cfg0.win 6).blk t).view.emb y) ⟨t.val * 512 + (r : ℕ), by omega⟩ d (by rw [e0, h0]) (by rw [e1, h1])]
  refine core _ _ _ _ _ _ _ _ _ _ _ _ _ _ r _ d (fun k => ?_) (fun k => ?_) (fun k => ?_) (fun k => ?_) (fun k => ?_) (fun k => ?_) ?_ ?_
  · exact (ld_x _ r k).trans (x_blk m c t r k _ rfl)
  · exact (ld_g _ k).trans (g_blk m c t k)
  · exact (ld_m _ k).trans (sh_blk m c t k _ (by show (t.val * 512 + (r : ℕ)) / 4096 = t.val / 8; omega))
  · exact (ld_m _ k).trans (sc_blk m c t k _ (by show (t.val * 512 + (r : ℕ)) / 4096 = t.val / 8; omega))
  · exact (ld_w1 _ k d).trans (w_blk m c t k _)
  · exact (ld_w2 _ k d).trans (w_blk m c t k _)
  · exact (ld_b1 _ d).trans (b_blk m c t _)
  · exact (ld_b2 _ d).trans (b_blk m c t _)

/-- FINAL: the result array after the last grid point. -/
theorem final (c : Dev nD) : (dats m 0 c).arrAt 6 cfg0.N = G m c := by
  have key : ∀ (t : Fin cfg0.N) (y : S512x1024.Idx), (dats m 0 c).after 6 t y = G m c (((cfg0.win 6).blk t).view.emb y) := fun t y => by
    rw [after0_6]
    exact point m c t y
  exact (dats m 0 c).arrAt_eq_of_covers 6 (G m c) (by decide +kernel) fun t _ y => key t y

end Cert.ConfIn.Kern

end
-- ==== Proof.ConfIn.Claims.lean ====
/- The claims of the Conformer module's first projection and gate: its reference read at one index, its reference's frame, and the equality of the two
   results. -/
module

public import proofs.«01_k».proof.Defs
public import proofs.«01_k».proof.Proof.Gen.ConfInReferenceIdeal
public import proofs.«01_k».proof.Proof.Gen.ConfInReferenceIdeal.Run
public import proofs.«01_k».proof.Proof.ConfIn.Value

@[expose] public section

set_option maxRecDepth 16384

noncomputable section

namespace Cert.ConfIn.Ref

open Cert.ConfInReferenceIdeal Cert.ConfInReferenceIdeal.Gen Idealize.ShloMosaic Idealize.ShloMosaic.TcCoe Idealize.SL.Sem
open Cert.Proj

/-- The residual stream by batch and position. -/
def stream (X : FVec Ideal S32768x1024 .f32) : FVec Ideal S8x4096x1024 .f32 := shapeCast _ X shapeCasts_S32768x1024_S8x4096x1024

/-- The rows normed, gained and modulated. -/
def hidden (x : FVec Ideal S8x4096x1024 .f32) (g : FVec Ideal S2x1024 .f32) (sh sc : FVec Ideal S8x1x1024 .f32) : FVec Ideal S8x4096x1024 .f32 :=
  (addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![1, 0] g slices_S2x1024_S1x1024_1_0) shapeCasts_S1x1024_S1024)))) (broadcastInDim S8x4096x1024 ![0, 1, 2] bcast_S8x1x1024_S8x4096x1024_0_1_2 (addf (broadcastInDim S8x1x1024 ![] bcast_S_S8x1x1024 (constant S_ .f32 0x3F800000#32)) sc))) (broadcastInDim S8x4096x1024 ![0, 1, 2] bcast_S8x1x1024_S8x4096x1024_0_1_2 sh))

/-- The stream at one entry. -/
theorem stream_at (X : FVec Ideal S32768x1024 .f32) (b : Fin 8) (i : Fin 4096) (d : Fin 1024) (r : Fin 32768) (hr : r = ⟨b * 4096 + i, by omega⟩) :
    stream X (ix3 b i d) = X (ix2 r d) := by
  subst hr
  pointwise [stream]

/-- The modulated rows at one entry. -/
theorem hidden_at (x : FVec Ideal S8x4096x1024 .f32) (g : FVec Ideal S2x1024 .f32) (sh sc : FVec Ideal S8x1x1024 .f32) (b : Fin 8) (i : Fin 4096) (d : Fin 1024) :
    hidden x g sh sc (ix3 b i d) = modulated (fun k => x (ix3 b i k)) (fun k => g (ix2 (1 : Fin 2) k)) (fun k => sh (ix3 b (0 : Fin 1) k)) (fun k => sc (ix3 b (0 : Fin 1) k)) d := by
  pointwise [hidden]
  rfl

/-- The rows through the weights, with the biases. -/
def dense (h : FVec Ideal S8x4096x1024 .f32) (W : FVec Ideal S1x1024x2048 .f32) (B : FVec Ideal S1x2048 .f32) : FVec Ideal S8x4096x2048 .f32 :=
  addf (Host.dotGeneral (φ₁ := .f32) (φ₂ := .f32) dot_S8x4096x1024_S1024x2048_S8x4096x2048_2_0_01_1_n_n none h (shapeCast _ W shapeCasts_S1x1024x2048_S1024x2048)) (broadcastInDim S8x4096x2048 ![0, 1, 2] bcast_S1x1x2048_S8x4096x2048_0_1_2 (broadcastInDim S1x1x2048 ![2] bcast_S2048_S1x1x2048_2 (shapeCast _ B shapeCasts_S1x2048_S2048)))

/-- The first half of the columns times the logistic function of the second, laid back as rows. -/
def gated (y : FVec Ideal S8x4096x2048 .f32) : FVec Ideal S32768x1024 .f32 :=
  shapeCast _ (mulf (extractStridedSlice S8x4096x1024 ![0, 0, 0] y slices_S8x4096x2048_S8x4096x1024_0_0_0) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 1024] y slices_S8x4096x2048_S8x4096x1024_0_0_1024)))))) shapeCasts_S8x4096x1024_S32768x1024

/-- The reference's result, of its arguments. -/
def res (X : FVec Ideal S32768x1024 .f32) (g : FVec Ideal S2x1024 .f32) (sh sc : FVec Ideal S8x1x1024 .f32) (W : FVec Ideal S1x1024x2048 .f32) (B : FVec Ideal S1x2048 .f32) : FVec Ideal S32768x1024 .f32 :=
  gated (dense (hidden (stream X) g sh sc) W B)

/-- The projection at one entry. -/
theorem dense_at (h : FVec Ideal S8x4096x1024 .f32) (W : FVec Ideal S1x1024x2048 .f32) (B : FVec Ideal S1x2048 .f32) (b : Fin 8) (i : Fin 4096) (d : Fin 2048) :
    dense h W B (ix3 b i d) = affine (fun k => h (ix3 b i k)) (fun k => W (ix3 (0 : Fin 1) k d)) (B (ix2 (0 : Fin 1) d)) := by
  pointwise [dense]
  rfl

/-- The gated columns at a row and a column. -/
theorem gated_at (y : FVec Ideal S8x4096x2048 .f32) (r : Fin 32768) (d : Fin 1024) :
    gated y (ix2 r d) = glu (y (ix3 (⟨(r : ℕ) / 4096, by omega⟩ : Fin 8) (⟨(r : ℕ) % 4096, by omega⟩ : Fin 4096) (⟨d, by omega⟩ : Fin 2048))) (y (ix3 (⟨(r : ℕ) / 4096, by omega⟩ : Fin 8) (⟨(r : ℕ) % 4096, by omega⟩ : Fin 4096) (⟨1024 + d, by omega⟩ : Fin 2048))) := by
  pointwise [gated]
  rfl

/-- The reference's result at one row and column is the specification's. -/
theorem res_at (X : FVec Ideal S32768x1024 .f32) (g : FVec Ideal S2x1024 .f32) (sh sc : FVec Ideal S8x1x1024 .f32) (W : FVec Ideal S1x1024x2048 .f32) (B : FVec Ideal S1x2048 .f32) (r : Fin 32768) (d : Fin 1024) :
    res X g sh sc W B (ix2 r d) = Cert.ConfIn.Kern.outAt X g sh sc W B r d := by
  unfold res
  have hs : ∀ k, stream X (ix3 (⟨(r : ℕ) / 4096, by omega⟩ : Fin 8) (⟨(r : ℕ) % 4096, by omega⟩ : Fin 4096) k) = X (ix2 r k) := fun k =>
    stream_at X _ _ k r (Fin.ext (by show (r : ℕ) = (r : ℕ) / 4096 * 4096 + (r : ℕ) % 4096; omega))
  rw [gated_at]
  simp only [dense_at, hidden_at, hs]
  rfl

end Cert.ConfIn.Ref

namespace Cert.ConfIn.Claims

open Idealize.ShloMosaic Idealize.ShloMosaic.TcCoe Idealize.SL.Sem

/-- The reference's frame: a program of host operations leaves its arguments as they were and every counter at zero. -/
theorem frame_ref : Cert.quiescent_ConfInReferenceIdeal := by
  intro m g _
  exact (θ_run _ _ _).mono (fun r h => ⟨fun c => (h c).2, sem_eq_zero_of_no_sems (by decide) r.2⟩) (Cert.ConfInReferenceIdeal.Value.run m g)

/-- The reference's term, of the kernel's arguments, is the array the kernel was shown to leave. -/
theorem ref_eq (m : (ℓ : Loc Cert.ConfInIdeal.nD Cert.ConfInIdeal.τ Cert.ConfInIdeal.sig) → Buf (Elt Ideal) ℓ) (c : Dev Cert.ConfInIdeal.nD) :
    Cert.ConfIn.Ref.res (m ((c.tc : Thread Cert.ConfInIdeal.nD Cert.ConfInIdeal.τ).loc Cert.ConfInIdeal.main_arg0)) (m ((c.tc : Thread Cert.ConfInIdeal.nD Cert.ConfInIdeal.τ).loc Cert.ConfInIdeal.main_arg1)) (m ((c.tc : Thread Cert.ConfInIdeal.nD Cert.ConfInIdeal.τ).loc Cert.ConfInIdeal.main_arg2)) (m ((c.tc : Thread Cert.ConfInIdeal.nD Cert.ConfInIdeal.τ).loc Cert.ConfInIdeal.main_arg3)) (m ((c.tc : Thread Cert.ConfInIdeal.nD Cert.ConfInIdeal.τ).loc Cert.ConfInIdeal.main_arg4)) (m ((c.tc : Thread Cert.ConfInIdeal.nD Cert.ConfInIdeal.τ).loc Cert.ConfInIdeal.main_arg5)) = Cert.ConfIn.Kern.G m c := by
  funext j
  obtain ⟨r, d, rfl⟩ : ∃ (r : Fin 32768) (d : Fin 1024), j = ix2 r d := ⟨j 0, j 1, by funext a; fin_cases a <;> rfl⟩
  exact Cert.ConfIn.Ref.res_at _ _ _ _ _ _ r d

/-- THE VALUE: the kernel's result and the reference's are the same array. -/
theorem algebraic : Cert.algebraic_ConfInIdeal_ConfInReferenceIdeal := by
  intro m g m' g' _ hag
  refine ⟨fun c => Cert.ConfIn.Kern.G m c,
    (θ_run _ _ _).mono (fun r h c => ?_) (Cert.ConfInIdeal.Value.run_blocks m g),
    (θ_run _ _ _).mono (fun r h c => ?_) (Cert.ConfInReferenceIdeal.Value.run m' g')⟩
  · exact ⟨(h c).1.trans (Cert.ConfIn.Kern.final m c), (h c).2⟩
  · obtain ⟨h0, h1, h2, h3, h4, h5⟩ := hag c
    refine ⟨(h c).1.trans (Eq.trans ?_ (ref_eq m c)), (h c).2⟩
    rw [← h0, ← h1, ← h2, ← h3, ← h4, ← h5]
    rfl

end Cert.ConfIn.Claims

end
-- ==== Proof.ConfOut.Value.lean ====
/- The Conformer module's last projection: block by block, every row of the result is the specification's. -/
module

public import proofs.«01_k».proof.Proof.Gen.ConfOutIdeal.Frame
public import proofs.«01_k».proof.Proof.Gen.ConfOutIdeal.Value
public import proofs.«01_k».proof.Proof.Proj.Spec
public import Idealize.ShloMosaic.Lib.Pipeline.ValueKit
public import Idealize.ShloMosaic.Lib.Claim

@[expose] public section

set_option maxRecDepth 16384

noncomputable section

namespace Cert.ConfOut.Kern

open Cert.ConfOutIdeal Cert.ConfOutIdeal.Gen Idealize.ShloMosaic Idealize.ShloMosaic.TcCoe Idealize.SL.Sem
open Idealize.ShloMosaic.Pipeline (Dat)
open Cert.Proj

variable (m : (ℓ : Loc nD τ sig) → Buf (Elt Ideal) ℓ)

/-- A block's rows normed, activated, through the weights and the biases. -/
theorem pay3_at (v0 : FVec Ideal S512x1024 .f32) (lg lb : FVec Ideal S1x1024 .f32) (w : FVec Ideal S1024x1024 .bf16) (b : FVec Ideal S1x1024 .f32) (r : Fin 512) (d : Fin 1024) :
    k0_pay3 (F := Ideal) v0 lg lb w b (ix2 r d) = affine (activated (fun k => v0 (ix2 r k)) (fun k => lg (ix2 (0 : Fin 1) k)) (fun k => lb (ix2 (0 : Fin 1) k))) (fun k => w (ix2 k d)) (b (ix2 (0 : Fin 1) d)) := by
  pointwise [k0_pay3]
  rfl

/-- What a block stores: the stream plus the gated rows. -/
theorem pay1_at (x y : FVec Ideal S512x1024 .f32) (g : FVec Ideal S1x1x1024 .f32) (r : Fin 512) (d : Fin 1024) :
    k0_pay1 (F := Ideal) x (k0_pay2 g) y (ix2 r d) = x (ix2 r d) + g (ix3 (0 : Fin 1) (0 : Fin 1) d) * y (ix2 r d) := by
  pointwise [k0_pay1, k0_pay2]

/-- The windows' block indices at every grid point: rows `t`, batch `t / 8`. -/
theorem idx : ∀ t : Fin cfg0.N, win0_0.index t = ![t.val, 0] ∧ win0_1.index t = ![t.val / 8, 0, 0] ∧ win0_2.index t = ![t.val, 0]
    ∧ win0_3.index t = ![0, 0] ∧ win0_4.index t = ![0, 0] ∧ win0_5.index t = ![0, 0] ∧ win0_6.index t = ![0, 0] ∧ win0_7.index t = ![t.val, 0] :=
  (by decide +kernel : ∀ t : Fin grid0.N, _)

/-- A block's row of the residual stream. -/
theorem x_blk (c : Dev nD) (t : Fin cfg0.N) (r : Fin 512) (d : Fin 1024) (r' : Fin 32768) (hr : (r' : ℕ) = t.val * 512 + r) :
    iblk m c 0 t (ix2 r d) = m ((c : Thread nD τ).loc main_arg0) (ix2 r' d) := by
  rw [← V_main_arg0 m c]
  blk_simp [iblk, idx t]
  blk_ext [idx t]

/-- A block's gate: its batch's. -/
theorem g1_blk (c : Dev nD) (t : Fin cfg0.N) (d : Fin 1024) (b : Fin 8) (hb : (b : ℕ) = t.val / 8) :
    iblk m c 1 t (ix3 (0 : Fin 1) (0 : Fin 1) d) = m ((c : Thread nD τ).loc main_arg1) (ix3 b (0 : Fin 1) d) := by
  rw [← V_main_arg1 m c]
  blk_simp [iblk, idx t]
  blk_ext [idx t]

/-- A block's row of the convolution's output. -/
theorem a_blk (c : Dev nD) (t : Fin cfg0.N) (r : Fin 512) (d : Fin 1024) (r' : Fin 32768) (hr : (r' : ℕ) = t.val * 512 + r) :
    iblk m c 2 t (ix2 r d) = m ((c : Thread nD τ).loc main_arg2) (ix2 r' d) := by
  rw [← V_main_arg2 m c]
  blk_simp [iblk, idx t]
  blk_ext [idx t]

/-- The gain's block is the gain. -/
theorem lg_blk (c : Dev nD) (t : Fin cfg0.N) (d : Fin 1024) :
    iblk m c 3 t (ix2 (0 : Fin 1) d) = m ((c : Thread nD τ).loc main_arg3) (ix2 (0 : Fin 1) d) := by
  have e : V m c main_v5 (ix2 (0 : Fin 1) d) = m ((c : Thread nD τ).loc main_arg3) (ix2 (0 : Fin 1) d) := by
    entry_read
    pointwise
  refine Eq.trans ?_ e
  blk_simp [iblk, idx t]
  blk_ext [idx t]

/-- The shift's block is the shift. -/
theorem lb_blk (c : Dev nD) (t : Fin cfg0.N) (d : Fin 1024) :
    iblk m c 4 t (ix2 (0 : Fin 1) d) = m ((c : Thread nD τ).loc main_arg4) (ix2 (0 : Fin 1) d) := by
  have e : V m c main_v6 (ix2 (0 : Fin 1) d) = m ((c : Thread nD τ).loc main_arg4) (ix2 (0 : Fin 1) d) := by
    entry_read
    pointwise
  refine Eq.trans ?_ e
  blk_simp [iblk, idx t]
  blk_ext [idx t]

/-- The weights' block is the weights. -/
theorem w_blk (c : Dev nD) (t : Fin cfg0.N) (k : Fin 1024) (d : Fin 1024) :
    iblk m c 5 t (ix2 k d) = m ((c : Thread nD τ).loc main_arg5) (ix3 (0 : Fin 1) k d) := by
  have e : V m c main_v3 (ix2 k d) = m ((c : Thread nD τ).loc main_arg5) (ix3 (0 : Fin 1) k d) := by
    entry_read
    pointwise
  refine Eq.trans ?_ e
  blk_simp [iblk, idx t]
  blk_ext [idx t]

/-- The biases' block is the biases. -/
theorem b_blk (c : Dev nD) (t : Fin cfg0.N) (d : Fin 1024) :
    iblk m c 6 t (ix2 (0 : Fin 1) d) = m ((c : Thread nD τ).loc main_arg6) (ix2 (0 : Fin 1) d) := by
  have e : V m c main_v7 (ix2 (0 : Fin 1) d) = m ((c : Thread nD τ).loc main_arg6) (ix2 (0 : Fin 1) d) := by
    entry_read
    pointwise
  refine Eq.trans ?_ e
  blk_simp [iblk, idx t]
  blk_ext [idx t]

/-- The result at one row and column, from the argument arrays. -/
def outAt (X : FVec Ideal S32768x1024 .f32) (G : FVec Ideal S8x1x1024 .f32) (A : FVec Ideal S32768x1024 .f32) (lg lb : FVec Ideal S1x1024 .f32) (W : FVec Ideal S1x1024x1024 .f32)
    (B : FVec Ideal S1x1024 .f32) (r : Fin 32768) (d : Fin 1024) : EReal :=
  X (ix2 r d) + G (ix3 (⟨(r : ℕ) / 4096, by omega⟩ : Fin 8) (0 : Fin 1) d)
    * affine (activated (fun k => A (ix2 r k)) (fun k => lg (ix2 (0 : Fin 1) k)) (fun k => lb (ix2 (0 : Fin 1) k))) (fun k => W (ix3 (0 : Fin 1) k d)) (B (ix2 (0 : Fin 1) d))

/-- A block's entry is the specification's, when its loads are the specification's rows. -/
theorem core (X : FVec Ideal S32768x1024 .f32) (G : FVec Ideal S8x1x1024 .f32) (A : FVec Ideal S32768x1024 .f32) (lg lb : FVec Ideal S1x1024 .f32) (W : FVec Ideal S1x1024x1024 .f32)
    (B : FVec Ideal S1x1024 .f32) (x : FVec Ideal S512x1024 .f32) (g : FVec Ideal S1x1x1024 .f32) (a : FVec Ideal S512x1024 .f32) (vg vb : FVec Ideal S1x1024 .f32)
    (w : FVec Ideal S1024x1024 .bf16) (b : FVec Ideal S1x1024 .f32) (r : Fin 512) (R : Fin 32768) (d : Fin 1024)
    (hx : ∀ k, x (ix2 r k) = X (ix2 R k)) (hG : ∀ k, g (ix3 (0 : Fin 1) (0 : Fin 1) k) = G (ix3 (⟨(R : ℕ) / 4096, by omega⟩ : Fin 8) (0 : Fin 1) k))
    (ha : ∀ k, a (ix2 r k) = A (ix2 R k)) (hg : ∀ k, vg (ix2 (0 : Fin 1) k) = lg (ix2 (0 : Fin 1) k)) (hb : ∀ k, vb (ix2 (0 : Fin 1) k) = lb (ix2 (0 : Fin 1) k))
    (hw : ∀ k, w (ix2 k d) = W (ix3 (0 : Fin 1) k d)) (hB : b (ix2 (0 : Fin 1) d) = B (ix2 (0 : Fin 1) d)) :
    k0_pay1 (F := Ideal) x (k0_pay2 g) (k0_pay3 a vg vb w b) (ix2 r d) = outAt X G A lg lb W B R d := by
  rw [pay1_at, pay3_at]
  simp only [hx, hG, ha, hg, hb, hw, hB]
  rfl

/-- The whole result as one function of the arguments. -/
def G (c : Dev nD) : FVec Ideal S32768x1024 .f32 := fun j =>
  outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (j 0) (j 1)

/-- The specification at an array index given by its row and column. -/
theorem G_at (c : Dev nD) (j : S32768x1024.Idx) (R : Fin 32768) (d : Fin 1024) (h0 : (j 0 : ℕ) = R) (h1 : (j 1 : ℕ) = d) :
    G m c j = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R d := by
  have e0 : j 0 = R := Fin.ext h0
  have e1 : j 1 = d := Fin.ext h1
  unfold G
  rw [e0, e1]

/-- Where a block index of the result sits in the whole array. -/
theorem emb7 (t : Fin cfg0.N) (y : S512x1024.Idx) :
    ((((cfg0.win 7).blk t).view.emb y 0 : Fin 32768) : ℕ) = t.val * 512 + (y 0 : ℕ)
      ∧ ((((cfg0.win 7).blk t).view.emb y 1 : Fin 1024) : ℕ) = (y 1 : ℕ) := by
  obtain ⟨-, -, -, -, -, -, -, h⟩ := idx t
  have h0 : win0_7.index t 0 = t.val := congrFun h 0
  have h1 : win0_7.index t 1 = 0 := congrFun h 1
  constructor
  · show win0_7.index t 0 * 512 + 1 * (y 0 : ℕ) = _
    rw [one_mul, h0]
  · show win0_7.index t 1 * 1024 + 1 * (y 1 : ℕ) = _
    rw [one_mul, h1, Nat.zero_mul, Nat.zero_add]

/-- The residual stream and the convolution's output, whole. -/
theorem ld_x (x : Vec Ideal S512x1024 .f32) (r : Fin 512) (d : Fin 1024) : (View.ld x r0_0 : Vec Ideal S512x1024 .f32) (ix2 r d) = x (ix2 r d) := by
  pointwise [r0_0]

/-- The gain, the shift and the biases, whole. -/
theorem ld_g (x : Vec Ideal S1x1024 .f32) (d : Fin 1024) : (View.ld x r0_1 : Vec Ideal S1x1024 .f32) (ix2 (0 : Fin 1) d) = x (ix2 (0 : Fin 1) d) := by
  pointwise [r0_1]

/-- The gate, whole. -/
theorem ld_m (x : Vec Ideal S1x1x1024 .f32) (d : Fin 1024) : (View.ld x r0_2 : Vec Ideal S1x1x1024 .f32) (ix3 (0 : Fin 1) (0 : Fin 1) d) = x (ix3 (0 : Fin 1) (0 : Fin 1) d) := by
  pointwise [r0_2]

/-- The weights, whole. -/
theorem ld_w (x : Vec Ideal S1024x1024 .bf16) (k d : Fin 1024) : (View.ld x r0_3 : Vec Ideal S1024x1024 .bf16) (ix2 k d) = x (ix2 k d) := by
  pointwise [r0_3]

/-- POINT: what the body stores at block index `y` of point `t` is the specification at the array index `y` sits at. -/
theorem point (c : Dev nD) (t : Fin cfg0.N) (y : S512x1024.Idx) :
    out0_7 (iblk m c 0 t) (iblk m c 1 t) (iblk m c 2 t) (iblk m c 3 t) (iblk m c 4 t) (iblk m c 5 t) (iblk m c 6 t) y = G m c (((cfg0.win 7).blk t).view.emb y) := by
  have ht : t.val < 64 := t.isLt
  obtain ⟨e0, e1⟩ := emb7 t y
  unfold out0_7
  canon_tiles x h
  obtain ⟨r, d, rfl⟩ : ∃ (r : Fin 512) (d : Fin 1024), x = ix2 r d := ⟨x 0, x 1, by funext a; fin_cases a <;> rfl⟩
  have hr := r.isLt
  replace h0 : ((y 0 : Fin 512) : ℕ) = r := h0
  replace h1 : ((y 1 : Fin 1024) : ℕ) = d := h1
  rw [G_at m c (((cfg0.win 7).blk t).view.emb y) ⟨t.val * 512 + (r : ℕ), by omega⟩ d (by rw [e0, h0]) (by rw [e1, h1])]
  refine core _ _ _ _ _ _ _ _ _ _ _ _ _ _ r _ d (fun k => ?_) (fun k => ?_) (fun k => ?_) (fun k => ?_) (fun k => ?_) (fun k => ?_) ?_
  · exact (ld_x _ r k).trans (x_blk m c t r k _ rfl)
  · exact (ld_m _ k).trans (g1_blk m c t k _ (by show (t.val * 512 + (r : ℕ)) / 4096 = t.val / 8; omega))
  · exact (ld_x _ r k).trans (a_blk m c t r k _ rfl)
  · exact (ld_g _ k).trans (lg_blk m c t k)
  · exact (ld_g _ k).trans (lb_blk m c t k)
  · exact (ld_w _ k d).trans (w_blk m c t k d)
  · exact (ld_g _ d).trans (b_blk m c t d)

/-- FINAL: the result array after the last grid point. -/
theorem final (c : Dev nD) : (dats m 0 c).arrAt 7 cfg0.N = G m c := by
  have key : ∀ (t : Fin cfg0.N) (y : S512x1024.Idx), (dats m 0 c).after 7 t y = G m c (((cfg0.win 7).blk t).view.emb y) := fun t y => by
    rw [after0_7]
    exact point m c t y
  exact (dats m 0 c).arrAt_eq_of_covers 7 (G m c) (by decide +kernel) fun t _ y => key t y

end Cert.ConfOut.Kern

end
-- ==== Proof.ConfOut.Claims.lean ====
/- The claims of the Conformer module's last projection: its reference read at one index, its reference's frame, and the equality of the two
   results. -/
module

public import proofs.«01_k».proof.Defs
public import proofs.«01_k».proof.Proof.Gen.ConfOutReferenceIdeal
public import proofs.«01_k».proof.Proof.Gen.ConfOutReferenceIdeal.Run
public import proofs.«01_k».proof.Proof.ConfOut.Value

@[expose] public section

set_option maxRecDepth 16384

noncomputable section

namespace Cert.ConfOut.Ref

open Cert.ConfOutReferenceIdeal Cert.ConfOutReferenceIdeal.Gen Idealize.ShloMosaic Idealize.ShloMosaic.TcCoe Idealize.SL.Sem
open Cert.Proj

/-- Rows by batch and position. -/
def stream (X : FVec Ideal S32768x1024 .f32) : FVec Ideal S8x4096x1024 .f32 := shapeCast _ X shapeCasts_S32768x1024_S8x4096x1024

/-- The rows less their means. -/
def centre (a : FVec Ideal S8x4096x1024 .f32) : FVec Ideal S8x4096x1024 .f32 :=
  subf a (broadcastInDim S8x4096x1024 ![0, 1, 2] bcast_S8x4096x1_S8x4096x1024_0_1_2 (Host.divf (broadcastInDim S8x4096x1 ![0, 1] bcast_S8x4096_S8x4096x1_0_1 (Host.reduceAdd a (constant S_ .f32 0x00000000#32) reducesTo_S8x4096x1024_S8x4096_d2 h_S_)) (broadcastInDim S8x4096x1 ![] bcast_S_S8x4096x1 (constant S_ .f32 0x44800000#32))))

/-- Centred rows over the root of their variance, gained and shifted. -/
def norm (x : FVec Ideal S8x4096x1024 .f32) (lg lb : FVec Ideal S1x1024 .f32) : FVec Ideal S8x4096x1024 .f32 :=
  addf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ lg shapeCasts_S1x1024_S1024)))) (broadcastInDim S8x4096x1024 ![0, 1, 2] bcast_S1x1x1024_S8x4096x1024_0_1_2 (broadcastInDim S1x1x1024 ![2] bcast_S1024_S1x1x1024_2 (shapeCast _ lb shapeCasts_S1x1024_S1024)))

/-- `x * logistic x`. -/
def act (x : FVec Ideal S8x4096x1024 .f32) : FVec Ideal S8x4096x1024 .f32 :=
  mulf x (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf x))))

/-- The rows through the weights, with the biases. -/
def dense (h : FVec Ideal S8x4096x1024 .f32) (W : FVec Ideal S1x1024x1024 .f32) (B : FVec Ideal S1x1024 .f32) : FVec Ideal S8x4096x1024 .f32 :=
  addf (Host.dotGeneral (φ₁ := .f32) (φ₂ := .f32) dot_S8x4096x1024_S1024x1024_S8x4096x1024_2_0_01_1_n_n none h (shapeCast _ W shapeCasts_S1x1024x1024_S1024x1024)) (broadcastInDim S8x4096x1024 ![0, 1, 2] bcast_S1x1x1024_S8x4096x1024_0_1_2 (broadcastInDim S1x1x1024 ![2] bcast_S1024_S1x1x1024_2 (shapeCast _ B shapeCasts_S1x1024_S1024)))

/-- The stream plus the gated rows, laid back as rows. -/
def added (x : FVec Ideal S8x4096x1024 .f32) (G : FVec Ideal S8x1x1024 .f32) (y : FVec Ideal S8x4096x1024 .f32) : FVec Ideal S32768x1024 .f32 :=
  shapeCast _ (addf x (mulf (broadcastInDim S8x4096x1024 ![0, 1, 2] bcast_S8x1x1024_S8x4096x1024_0_1_2 G) y)) shapeCasts_S8x4096x1024_S32768x1024

/-- The reference's result, of its arguments. -/
def res (X : FVec Ideal S32768x1024 .f32) (G : FVec Ideal S8x1x1024 .f32) (A : FVec Ideal S32768x1024 .f32) (lg lb : FVec Ideal S1x1024 .f32) (W : FVec Ideal S1x1024x1024 .f32) (B : FVec Ideal S1x1024 .f32) : FVec Ideal S32768x1024 .f32 :=
  added (stream X) G (dense (act (norm (centre (stream A)) lg lb)) W B)

/-- The rows at one entry. -/
theorem stream_at (X : FVec Ideal S32768x1024 .f32) (b : Fin 8) (i : Fin 4096) (d : Fin 1024) (r : Fin 32768) (hr : r = ⟨b * 4096 + i, by omega⟩) :
    stream X (ix3 b i d) = X (ix2 r d) := by
  subst hr
  pointwise [stream]

/-- The centred rows at one entry. -/
theorem centre_at (a : FVec Ideal S8x4096x1024 .f32) (b : Fin 8) (i : Fin 4096) (d : Fin 1024) :
    centre a (ix3 b i d) = centred (fun k => a (ix3 b i k)) d := by
  pointwise [centre]
  rfl

/-- The normed rows at one entry. -/
theorem norm_at (x : FVec Ideal S8x4096x1024 .f32) (lg lb : FVec Ideal S1x1024 .f32) (b : Fin 8) (i : Fin 4096) (d : Fin 1024) :
    norm x lg lb (ix3 b i d) = x (ix3 b i d) * Ideal.rsqrt (Ideal.div (∑ k : Fin 1024, x (ix3 b i k) * x (ix3 b i k)) (Ideal.ofBits .f32 0x44800000#32) + Ideal.ofBits .f32 0x358637BD#32) * lg (ix2 (0 : Fin 1) d) + lb (ix2 (0 : Fin 1) d) := by
  pointwise [norm]

/-- The activation at one entry. -/
theorem act_at (x : FVec Ideal S8x4096x1024 .f32) (b : Fin 8) (i : Fin 4096) (d : Fin 1024) : act x (ix3 b i d) = glu (x (ix3 b i d)) (x (ix3 b i d)) := by
  pointwise [act]
  rfl

/-- The projection at one entry. -/
theorem dense_at (h : FVec Ideal S8x4096x1024 .f32) (W : FVec Ideal S1x1024x1024 .f32) (B : FVec Ideal S1x1024 .f32) (b : Fin 8) (i : Fin 4096) (d : Fin 1024) :
    dense h W B (ix3 b i d) = affine (fun k => h (ix3 b i k)) (fun k => W (ix3 (0 : Fin 1) k d)) (B (ix2 (0 : Fin 1) d)) := by
  pointwise [dense]
  rfl

/-- The sum at a row and a column. -/
theorem added_at (x : FVec Ideal S8x4096x1024 .f32) (G : FVec Ideal S8x1x1024 .f32) (y : FVec Ideal S8x4096x1024 .f32) (r : Fin 32768) (d : Fin 1024) :
    added x G y (ix2 r d) = x (ix3 (⟨(r : ℕ) / 4096, by omega⟩ : Fin 8) (⟨(r : ℕ) % 4096, by omega⟩ : Fin 4096) d) + G (ix3 (⟨(r : ℕ) / 4096, by omega⟩ : Fin 8) (0 : Fin 1) d) * y (ix3 (⟨(r : ℕ) / 4096, by omega⟩ : Fin 8) (⟨(r : ℕ) % 4096, by omega⟩ : Fin 4096) d) := by
  pointwise [added]

/-- The reference's result at one row and column is the specification's. -/
theorem res_at (X : FVec Ideal S32768x1024 .f32) (G : FVec Ideal S8x1x1024 .f32) (A : FVec Ideal S32768x1024 .f32) (lg lb : FVec Ideal S1x1024 .f32) (W : FVec Ideal S1x1024x1024 .f32) (B : FVec Ideal S1x1024 .f32) (r : Fin 32768) (d : Fin 1024) :
    res X G A lg lb W B (ix2 r d) = Cert.ConfOut.Kern.outAt X G A lg lb W B r d := by
  unfold res
  have hs : ∀ (X : FVec Ideal S32768x1024 .f32) (k : Fin 1024), stream X (ix3 (⟨(r : ℕ) / 4096, by omega⟩ : Fin 8) (⟨(r : ℕ) % 4096, by omega⟩ : Fin 4096) k) = X (ix2 r k) := fun X k =>
    stream_at X _ _ k r (Fin.ext (by show (r : ℕ) = (r : ℕ) / 4096 * 4096 + (r : ℕ) % 4096; omega))
  rw [added_at]
  simp only [dense_at, act_at, norm_at, centre_at, hs]
  rfl

end Cert.ConfOut.Ref

namespace Cert.ConfOut.Claims

open Idealize.ShloMosaic Idealize.ShloMosaic.TcCoe Idealize.SL.Sem

/-- The reference's frame: a program of host operations leaves its arguments as they were and every counter at zero. -/
theorem frame_ref : Cert.quiescent_ConfOutReferenceIdeal := by
  intro m g _
  exact (θ_run _ _ _).mono (fun r h => ⟨fun c => (h c).2, sem_eq_zero_of_no_sems (by decide) r.2⟩) (Cert.ConfOutReferenceIdeal.Value.run m g)

/-- The reference's term, of the kernel's arguments, is the array the kernel was shown to leave. -/
theorem ref_eq (m : (ℓ : Loc Cert.ConfOutIdeal.nD Cert.ConfOutIdeal.τ Cert.ConfOutIdeal.sig) → Buf (Elt Ideal) ℓ) (c : Dev Cert.ConfOutIdeal.nD) :
    Cert.ConfOut.Ref.res (m ((c.tc : Thread Cert.ConfOutIdeal.nD Cert.ConfOutIdeal.τ).loc Cert.ConfOutIdeal.main_arg0)) (m ((c.tc : Thread Cert.ConfOutIdeal.nD Cert.ConfOutIdeal.τ).loc Cert.ConfOutIdeal.main_arg1)) (m ((c.tc : Thread Cert.ConfOutIdeal.nD Cert.ConfOutIdeal.τ).loc Cert.ConfOutIdeal.main_arg2)) (m ((c.tc : Thread Cert.ConfOutIdeal.nD Cert.ConfOutIdeal.τ).loc Cert.ConfOutIdeal.main_arg3)) (m ((c.tc : Thread Cert.ConfOutIdeal.nD Cert.ConfOutIdeal.τ).loc Cert.ConfOutIdeal.main_arg4)) (m ((c.tc : Thread Cert.ConfOutIdeal.nD Cert.ConfOutIdeal.τ).loc Cert.ConfOutIdeal.main_arg5)) (m ((c.tc : Thread Cert.ConfOutIdeal.nD Cert.ConfOutIdeal.τ).loc Cert.ConfOutIdeal.main_arg6)) = Cert.ConfOut.Kern.G m c := by
  funext j
  obtain ⟨r, d, rfl⟩ : ∃ (r : Fin 32768) (d : Fin 1024), j = ix2 r d := ⟨j 0, j 1, by funext a; fin_cases a <;> rfl⟩
  exact Cert.ConfOut.Ref.res_at _ _ _ _ _ _ _ r d

/-- THE VALUE: the kernel's result and the reference's are the same array. -/
theorem algebraic : Cert.algebraic_ConfOutIdeal_ConfOutReferenceIdeal := by
  intro m g m' g' _ hag
  refine ⟨fun c => Cert.ConfOut.Kern.G m c,
    (θ_run _ _ _).mono (fun r h c => ?_) (Cert.ConfOutIdeal.Value.run_blocks m g),
    (θ_run _ _ _).mono (fun r h c => ?_) (Cert.ConfOutReferenceIdeal.Value.run m' g')⟩
  · exact ⟨(h c).1.trans (Cert.ConfOut.Kern.final m c), (h c).2⟩
  · obtain ⟨h0, h1, h2, h3, h4, h5, h6⟩ := hag c
    refine ⟨(h c).1.trans (Eq.trans ?_ (ref_eq m c)), (h c).2⟩
    rw [← h0, ← h1, ← h2, ← h3, ← h4, ← h5, ← h6]
    rfl

end Cert.ConfOut.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Experts
public import proofs.«01_k».proof.Proof.Gen.Experts.Skeleton
public import proofs.«01_k».proof.Proof.Gen.Experts.Launch
public import proofs.«01_k».proof.Proof.Gen.Experts.Flash.Runs
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash.Runs
public import proofs.«01_k».proof.Proof.Gen.ExpertsReferenceIdeal
public import proofs.«01_k».proof.Proof.Gen.ExpertsReferenceIdeal.Run
public import proofs.«01_k».proof.Proof.Gen.Later
public import proofs.«01_k».proof.Proof.Gen.Later.Skeleton
public import proofs.«01_k».proof.Proof.Gen.Later.Launch
public import proofs.«01_k».proof.Proof.Gen.Later.Flash.Runs
public import proofs.«01_k».proof.Proof.Gen.LaterIdeal
public import proofs.«01_k».proof.Proof.Gen.LaterIdeal.Skeleton
public import proofs.«01_k».proof.Proof.Gen.LaterIdeal.Launch
public import proofs.«01_k».proof.Proof.Gen.LaterIdeal.Flash.Runs
public import proofs.«01_k».proof.Proof.Gen.LaterReferenceIdeal
public import proofs.«01_k».proof.Proof.Gen.LaterReferenceIdeal.Run
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Frame
public import proofs.«01_k».proof.Proof.Gen.CombineIdeal.Value
public import proofs.«01_k».proof.Proof.Gen.CombineReferenceIdeal
public import proofs.«01_k».proof.Proof.Gen.CombineReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.ConfIn
public import proofs.«01_k».proof.Proof.Gen.ConfIn.Skeleton
public import proofs.«01_k».proof.Proof.Gen.ConfIn.Launch
public import proofs.«01_k».proof.Proof.Gen.ConfIn.Points
public import proofs.«01_k».proof.Proof.Gen.ConfIn.Frame
public import proofs.«01_k».proof.Proof.Gen.ConfInIdeal
public import proofs.«01_k».proof.Proof.Gen.ConfInIdeal.Frame
public import proofs.«01_k».proof.Proof.Gen.ConfInIdeal.Value
public import proofs.«01_k».proof.Proof.Gen.ConfInReferenceIdeal
public import proofs.«01_k».proof.Proof.Gen.ConfInReferenceIdeal.Run
public import proofs.«01_k».proof.Proof.Gen.ConfOut
public import proofs.«01_k».proof.Proof.Gen.ConfOut.Skeleton
public import proofs.«01_k».proof.Proof.Gen.ConfOut.Launch
public import proofs.«01_k».proof.Proof.Gen.ConfOut.Points
public import proofs.«01_k».proof.Proof.Gen.ConfOut.Frame
public import proofs.«01_k».proof.Proof.Gen.ConfOutIdeal
public import proofs.«01_k».proof.Proof.Gen.ConfOutIdeal.Frame
public import proofs.«01_k».proof.Proof.Gen.ConfOutIdeal.Value
public import proofs.«01_k».proof.Proof.Gen.ConfOutReferenceIdeal
public import proofs.«01_k».proof.Proof.Gen.ConfOutReferenceIdeal.Run
public import proofs.«01_k».proof.Proof.Gen.Pre_finite_scores
public import proofs.«01_k».proof.Proof.Gen.Pre_routed
public import proofs.«01_k».proof.Proof.Gen.On_in_use
public import proofs.«01_k».proof.Proof.Attn.Value
public import proofs.«01_k».proof.Proof.Attn.Reference
public import proofs.«01_k».proof.Proof.Moe.Claims
public import proofs.«01_k».proof.Proof.Later.Claims
public import proofs.«01_k».proof.Proof.Combine.Claims
public import proofs.«01_k».proof.Proof.InProj.Claims
public import proofs.«01_k».proof.Proof.OutProj.Claims
public import proofs.«01_k».proof.Proof.ConfIn.Claims
public import proofs.«01_k».proof.Proof.ConfOut.Claims
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- The precondition's stated shape facts. -/
instance preFacts : Cert.Pre_finite_scores.Facts := ⟨by decide, by decide⟩

/-- A comparison `|x| < ∞` that came out true: `x` is a real number. -/
theorem finite_of_lt (x : EReal) (h : Ideal.cmp .olt (max x (-x)) (Ideal.ofBits .f32 0x7F800000#32) = 1#1) : x ≠ ⊤ ∧ x ≠ ⊥ := by
  have hlt : max x (-x) < Ideal.ofBits .f32 0x7F800000#32 := by
    by_contra hn
    simp [Ideal.cmp, hn] at h
  have hx : x < Ideal.ofBits .f32 0x7F800000#32 := lt_of_le_of_lt (le_max_left _ _) hlt
  have hy : -x < Ideal.ofBits .f32 0x7F800000#32 := lt_of_le_of_lt (le_max_right _ _) hlt
  refine ⟨ne_top_of_lt hx, fun e => ?_⟩
  rw [e, EReal.neg_bot] at hy
  exact not_top_lt hy

/-- The precondition, read: every query and every key is a real number. -/
theorem pre_finite (X0 X1 X2 : FVec Ideal Cert.Attn.SeqS .f32) (X3 X4 : FVec Ideal Cert.Attn.CtxS .f32) (X5 X6 X7 X8 : FVec Ideal ⟨2, ![1, 64]⟩ .f32)
    (X9 : FVec Ideal ⟨2, ![1, 128]⟩ .f32)
    (h : (Cert.Pre_finite_scores.fn (F := Ideal) X0 X1 X2 X3 X4 X5 X6 X7 X8 X9).1 = (fun _ => 1#1)
      ∧ (Cert.Pre_finite_scores.fn (F := Ideal) X0 X1 X2 X3 X4 X5 X6 X7 X8 X9).2.1 = (fun _ => 1#1)
      ∧ (Cert.Pre_finite_scores.fn (F := Ideal) X0 X1 X2 X3 X4 X5 X6 X7 X8 X9).2.2 = (fun _ => 1#1)) :
    (∀ i, X0 i ≠ ⊤ ∧ X0 i ≠ ⊥) ∧ (∀ i, X1 i ≠ ⊤ ∧ X1 i ≠ ⊥) ∧ (∀ i, X3 i ≠ ⊤ ∧ X3 i ≠ ⊥) :=
  ⟨fun i => finite_of_lt _ (congrFun h.1 i), fun i => finite_of_lt _ (congrFun h.2.1 i), fun i => finite_of_lt _ (congrFun h.2.2 i)⟩

/-- The reference's term is the specification the kernel was shown to compute. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v69 m' c = Cert.Attn.Kern.G m c := by
  rw [show Cert.ReferenceIdeal.Value.res_main_v69 m' c = _ from Cert.Attn.Ref.res_eq m' c, h0, h1, h2, h3, h4, h5, h6, h7, h8, h9]
  funext j
  obtain ⟨r, l, rfl⟩ : ∃ (r : Fin 32768) (l : Fin 512), j = ix2 r l := ⟨j 0, j 1, by funext a; fin_cases a <;> rfl⟩
  refine (Cert.Attn.Ref.res_at _ _ _ _ _ _ _ _ _ _ r l ⟨(r : ℕ) / 4096, by omega⟩ ⟨(l : ℕ) / 128, by omega⟩ ⟨(r : ℕ) % 4096, by omega⟩ ⟨(l : ℕ) % 128, by omega⟩
    (by show (r : ℕ) = (r : ℕ) / 4096 * 4096 + (r : ℕ) % 4096; omega) (by show (l : ℕ) = (l : ℕ) / 128 * 128 + (l : ℕ) % 128; omega)).trans ?_
  rfl

/-- The reference's frame: a program of host operations leaves its arguments as they were and every counter at zero. -/
theorem quiescent_ref : Cert.quiescent_ReferenceIdeal := by
  intro m g _
  exact (θ_run _ _ _).mono (fun r h => ⟨fun c => (h c).2, sem_eq_zero_of_no_sems (by decide) r.2⟩) (Cert.ReferenceIdeal.Value.run m g)

/-- The same under the precondition. -/
theorem quiescent_ref_pre : Cert.quiescent_ReferenceIdeal_pre_finite_scores (hPre_finite_scores := preFacts) :=
  fun m g _ => quiescent_ref m g trivial

/-- THE VALUE: from finite queries and keys, the kernel's result and the reference's are the same array. -/
theorem algebraic : Cert.algebraic_KernelIdeal_ReferenceIdeal_pre_finite_scores (hPre_finite_scores := preFacts) := by
  intro m g m' g' hpre hag
  refine ⟨fun c => Cert.Attn.Kern.G m c,
    (θ_run _ _ _).mono (fun r h c => ?_) (Cert.KernelIdeal.Value.run_blocks m g),
    (θ_run _ _ _).mono (fun r h c => ?_) (Cert.ReferenceIdeal.Value.run m' g')⟩
  · obtain ⟨f0, f1, f3⟩ := pre_finite _ _ _ _ _ _ _ _ _ _ (hpre c)
    exact ⟨(h c).1.trans (Cert.Attn.Kern.final m c f0 f1 f3), (h c).2⟩
  · obtain ⟨h0, h1, h2, h3, h4, h5, h6, h7, h8, h9⟩ := hag c
    exact ⟨(h c).1.trans (ref_eq m m' c h0 h1 h2 h3 h4 h5 h6 h7 h8 h9), (h c).2⟩

/-- Everything claimed of the eight calls. -/
theorem claim : Cert.Claim := ⟨Cert.Kernel.Gen.facts, Cert.KernelIdeal.Gen.facts, Cert.ReferenceIdeal.Gen.facts, Cert.Experts.Gen.facts, Cert.ExpertsIdeal.Gen.facts,
  Cert.ExpertsReferenceIdeal.Gen.facts, Cert.Later.Gen.facts, Cert.LaterIdeal.Gen.facts, Cert.LaterReferenceIdeal.Gen.facts,
  Cert.Combine.Gen.facts, Cert.CombineIdeal.Gen.facts, Cert.CombineReferenceIdeal.Gen.facts,
  Cert.InProj.Gen.facts, Cert.InProjIdeal.Gen.facts, Cert.InProjReferenceIdeal.Gen.facts,
  Cert.OutProj.Gen.facts, Cert.OutProjIdeal.Gen.facts, Cert.OutProjReferenceIdeal.Gen.facts,
  Cert.ConfIn.Gen.facts, Cert.ConfInIdeal.Gen.facts, Cert.ConfInReferenceIdeal.Gen.facts,
  Cert.ConfOut.Gen.facts, Cert.ConfOutIdeal.Gen.facts, Cert.ConfOutReferenceIdeal.Gen.facts,
  preFacts, Cert.Pre_routed.Gen.facts, Cert.On_in_use.Gen.facts,
  fun m g _ => Cert.Kernel.Gen.frame m g, fun m g _ => Cert.KernelIdeal.Gen.frame m g, fun m g _ => Cert.KernelIdeal.Gen.frame m g,
  quiescent_ref, quiescent_ref_pre,
  Cert.Moe.Claims.frame_bits, Cert.Moe.Claims.frame_ideal, Cert.Moe.Claims.frame_ref, Cert.Moe.Claims.frame_ref_routed,
  Cert.Moe.LaterClaims.frame_bits, Cert.Moe.LaterClaims.frame_ideal, Cert.Moe.LaterClaims.frame_ref, Cert.Moe.LaterClaims.frame_ref_routed,
  fun m g _ => Cert.Combine.Gen.frame m g, fun m g _ => Cert.CombineIdeal.Gen.frame m g, Cert.Combine.Claims.frame_ref,
  fun m g _ => Cert.InProj.Gen.frame m g, fun m g _ => Cert.InProjIdeal.Gen.frame m g, Cert.InProj.Claims.frame_ref,
  fun m g _ => Cert.OutProj.Gen.frame m g, fun m g _ => Cert.OutProjIdeal.Gen.frame m g, Cert.OutProj.Claims.frame_ref,
  fun m g _ => Cert.ConfIn.Gen.frame m g, fun m g _ => Cert.ConfInIdeal.Gen.frame m g, Cert.ConfIn.Claims.frame_ref,
  fun m g _ => Cert.ConfOut.Gen.frame m g, fun m g _ => Cert.ConfOutIdeal.Gen.frame m g, Cert.ConfOut.Claims.frame_ref,
  trivial, algebraic, trivial, Cert.Moe.Claims.algebraic, trivial, Cert.Moe.LaterClaims.algebraic,
  trivial, Cert.Combine.Claims.algebraic, trivial, Cert.InProj.Claims.algebraic, trivial, Cert.OutProj.Claims.algebraic, trivial, Cert.ConfIn.Claims.algebraic, trivial, Cert.ConfOut.Claims.algebraic⟩

end Cert.Proof

end
